-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel) (hPre_ids_in_range := hPre_ids_in_range)
    ∧ quiescent_KernelIdeal (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ preserves_Kernel_KernelIdeal
    ∧ algebraic_KernelIdeal_ReferenceIdeal (hKernelIdeal := hKernelIdeal) (hReferenceIdeal := hReferenceIdeal) (hPre_ids_in_range := hPre_ids_in_range)
-- ==== Pre_ids_in_range.lean ====
abbrev S16x128 : Shape := ⟨2, ![16, 128]⟩
abbrev S16384x128 : Shape := ⟨2, ![16384, 128]⟩
abbrev S16384 : Shape := ⟨1, ![16384]⟩
abbrev S16 : Shape := ⟨1, ![16]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S16x128 .f32) (main_arg1 : FVec F S16384x128 .f32) (main_arg2 : IVec S16384 32) (main_arg3 : IVec S16 32) : IVec S_ 1 :=
  let main_c : IVec S_ 32 := constantI S_ 32 0#32
  let main_v0 : IVec S16384 32 := broadcastInDim S16384 ![] bcast_S_S16384 main_c
  let main_v1 : IVec S16384 1 := cmpi .sge main_arg2 main_v0
  let main_c_0 : IVec S_ 1 := constantI S_ 1 1#1
  let main_v2 : IVec S_ 1 := (fun x v => Host.reduce IntOp.andi x v reducesTo_S16384_S_d0 h_S_) main_v1 main_c_0
  let main_c_1 : IVec S_ 32 := constantI S_ 32 16#32
  let main_v3 : IVec S16384 32 := broadcastInDim S16384 ![] bcast_S_S16384 main_c_1
  let main_v4 : IVec S16384 1 := cmpi .slt main_arg2 main_v3
  let main_c_2 : IVec S_ 1 := constantI S_ 1 1#1
  let main_v5 : IVec S_ 1 := (fun x v => Host.reduce IntOp.andi x v reducesTo_S16384_S_d0 h_S_) main_v4 main_c_2
  let main_v6 : IVec S_ 1 := andi main_v2 main_v5
  let main_c_3 : IVec S_ 32 := constantI S_ 32 0#32
  let main_v7 : IVec S16 32 := broadcastInDim S16 ![] bcast_S_S16 main_c_3
  let main_v8 : IVec S16 1 := cmpi .sge main_arg3 main_v7
  let main_c_4 : IVec S_ 1 := constantI S_ 1 1#1
  let main_v9 : IVec S_ 1 := (fun x v => Host.reduce IntOp.andi x v reducesTo_S16_S_d0 h_S_) main_v8 main_c_4
  let main_v10 : IVec S_ 1 := andi main_v6 main_v9
  let main_c_5 : IVec S_ 32 := constantI S_ 32 16384#32
  let main_v11 : IVec S16 32 := broadcastInDim S16 ![] bcast_S_S16 main_c_5
  let main_v12 : IVec S16 1 := cmpi .slt main_arg3 main_v11
  let main_c_6 : IVec S_ 1 := constantI S_ 1 1#1
  let main_v13 : IVec S_ 1 := (fun x v => Host.reduce IntOp.andi x v reducesTo_S16_S_d0 h_S_) main_v12 main_c_6
  let main_v14 : IVec S_ 1 := andi main_v10 main_v13
  main_v14
-- ==== Kernel.lean ====
abbrev S16x128 : Shape := ⟨2, ![16, 128]⟩
abbrev S16384x128 : Shape := ⟨2, ![16384, 128]⟩
abbrev S16384 : Shape := ⟨1, ![16384]⟩
abbrev S16 : Shape := ⟨1, ![16]⟩
abbrev S1x16 : Shape := ⟨2, ![1, 16]⟩
abbrev S2048 : Shape := ⟨1, ![2048]⟩
abbrev S32x16 : Shape := ⟨2, ![32, 16]⟩
abbrev S512x128 : Shape := ⟨2, ![512, 128]⟩
abbrev S512 : Shape := ⟨1, ![512]⟩
abbrev S_ : Shape := ⟨0, ![]⟩
abbrev S128x128 : Shape := ⟨2, ![128, 128]⟩
abbrev S1 : Shape := ⟨1, ![1]⟩
abbrev S16x16 : Shape := ⟨2, ![16, 16]⟩
abbrev S16x1 : Shape := ⟨2, ![16, 1]⟩

abbrev nBuf : Table → Nat
  | .hbm => 14
  | .local .tc .vmem => 7
  | .local .scVector .vmem => 7
  | _ => 0

abbrev bufTy : (tb : Table) → Fin (nBuf tb) → BufTy
  | .hbm, ⟨0, _⟩ => ⟨S16x128, .f32⟩
  | .hbm, ⟨1, _⟩ => ⟨S16384x128, .f32⟩
  | .hbm, ⟨2, _⟩ => ⟨S16384, .i32⟩
  | .hbm, ⟨3, _⟩ => ⟨S16, .i32⟩
  | .hbm, ⟨4, _⟩ => ⟨S1x16, .i32⟩
  | .hbm, ⟨5, _⟩ => ⟨S2048, .f32⟩
  | .hbm, ⟨6, _⟩ => ⟨S16384, .f32⟩
  | .hbm, ⟨7, _⟩ => ⟨S32x16, .f32⟩
  | .hbm, ⟨8, _⟩ => ⟨S32x16, .f32⟩
  | .hbm, ⟨9, _⟩ => ⟨S32x16, .f32⟩
  | .hbm, ⟨10, _⟩ => ⟨S128x128, .f32⟩
  | .hbm, ⟨11, _⟩ => ⟨S128x128, .i32⟩
  | .hbm, ⟨12, _⟩ => ⟨S1x16, .f32⟩
  | .hbm, ⟨13, _⟩ => ⟨S16, .f32⟩
  | .local .tc .vmem, ⟨0, _⟩ => ⟨S128x128, .f32⟩
  | .local .tc .vmem, ⟨1, _⟩ => ⟨S128x128, .i32⟩
  | .local .tc .vmem, ⟨2, _⟩ => ⟨S32x16, .f32⟩
  | .local .tc .vmem, ⟨3, _⟩ => ⟨S32x16, .f32⟩
  | .local .tc .vmem, ⟨4, _⟩ => ⟨S32x16, .f32⟩
  | .local .tc .vmem, ⟨5, _⟩ => ⟨S1x16, .i32⟩
  | .local .tc .vmem, ⟨6, _⟩ => ⟨S1x16, .f32⟩
  | .local .scVector .vmem, ⟨0, _⟩ => ⟨S2048, .f32⟩
  | .local .scVector .vmem, ⟨1, _⟩ => ⟨S512x128, .f32⟩
  | .local .scVector .vmem, ⟨2, _⟩ => ⟨S512, .i32⟩
  | .local .scVector .vmem, ⟨3, _⟩ => ⟨S512, .f32⟩
  | .local .scVector .vmem, ⟨4, _⟩ => ⟨S16, .f32⟩
  | .local .scVector .vmem, ⟨5, _⟩ => ⟨S16, .f32⟩
  | .local .scVector .vmem, ⟨6, _⟩ => ⟨S16, .f32⟩
  | _, _ => ⟨S16x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v1_scv : Ref sig .scVector := ⟨.hbm, 5, rfl⟩
abbrev main_arg1_scv : Ref sig .scVector := ⟨.hbm, 1, rfl⟩
abbrev main_arg2_scv : Ref sig .scVector := ⟨.hbm, 2, rfl⟩
abbrev main_v2_0_scv : Ref sig .scVector := ⟨.hbm, 6, rfl⟩
abbrev main_v2_1_scv : Ref sig .scVector := ⟨.hbm, 7, rfl⟩
abbrev main_v2_2_scv : Ref sig .scVector := ⟨.hbm, 8, rfl⟩
abbrev main_v2_3_scv : Ref sig .scVector := ⟨.hbm, 9, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc1_stg6_0 : Ref sig .tc := ⟨.vmem, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc1_sem0_0 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := Scalar.addi v2 c0_i32
  let c0_i32_2 : BitVec 32 := 0#32
  ![v3.toNat, 0]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k0_t1_loop : Scf.Loop 32 :=
  let c0_i32_32 : BitVec 32 := 0#32
  let c32_i32_33 : BitVec 32 := 32#32
  let v44 : BitVec 32 := Scalar.addi c0_i32_32 c32_i32_33
  let c1_i32 : BitVec 32 := 1#32
  ⟨c0_i32_32, v44, c1_i32⟩
def k0_cond1 (k0_t1 : Fin k0_t1_loop.trips) : BitVec 1 :=
  let c0_i32_32 : BitVec 32 := 0#32
  let c1_i32 : BitVec 32 := 1#32
  let arg20 : BitVec 32 := Scf.iv c0_i32_32 c1_i32 k0_t1
  let c8_i32_130 : BitVec 32 := 8#32
  let v2551 : BitVec 1 := Scalar.cmpi .eq arg20 c8_i32_130
  let v2552 : BitVec 32 := Scalar.extui v2551
  let c0_i32_131 : BitVec 32 := 0#32
  let v2553 : BitVec 1 := Scalar.cmpi .ne v2552 c0_i32_131
  v2553

def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c128_i32 : BitVec 32 := 128#32
  let v8 : BitVec 32 := Scalar.addi v2 c128_i32
  let c0_i32_142 : BitVec 32 := 0#32
  ![v8.toNat, 0]
def k0_cond2 (k0_t1 : Fin k0_t1_loop.trips) : BitVec 1 :=
  let c0_i32_32 : BitVec 32 := 0#32
  let c1_i32 : BitVec 32 := 1#32
  let arg20 : BitVec 32 := Scf.iv c0_i32_32 c1_i32 k0_t1
  let c16_i32_132 : BitVec 32 := 16#32
  let v2554 : BitVec 1 := Scalar.cmpi .eq arg20 c16_i32_132
  let v2555 : BitVec 32 := Scalar.extui v2554
  let c0_i32_133 : BitVec 32 := 0#32
  let v2556 : BitVec 1 := Scalar.cmpi .ne v2555 c0_i32_133
  v2556

def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c256_i32 : BitVec 32 := 256#32
  let v13 : BitVec 32 := Scalar.addi v2 c256_i32
  let c0_i32_142 : BitVec 32 := 0#32
  ![v13.toNat, 0]
def k0_cond3 (k0_t1 : Fin k0_t1_loop.trips) : BitVec 1 :=
  let c0_i32_32 : BitVec 32 := 0#32
  let c1_i32 : BitVec 32 := 1#32
  let arg20 : BitVec 32 := Scf.iv c0_i32_32 c1_i32 k0_t1
  let c24_i32 : BitVec 32 := 24#32
  let v2557 : BitVec 1 := Scalar.cmpi .eq arg20 c24_i32
  let v2558 : BitVec 32 := Scalar.extui v2557
  let c0_i32_134 : BitVec 32 := 0#32
  let v2559 : BitVec 1 := Scalar.cmpi .ne v2558 c0_i32_134
  v2559

def k0_off5 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c384_i32 : BitVec 32 := 384#32
  let v18 : BitVec 32 := Scalar.addi v2 c384_i32
  let c0_i32_142 : BitVec 32 := 0#32
  ![v18.toNat, 0]
def k0_off6 (k0_t1 : Fin k0_t1_loop.trips) : Fin 1 → Nat :=
  let c0_i32_32 : BitVec 32 := 0#32
  let c1_i32 : BitVec 32 := 1#32
  let arg20 : BitVec 32 := Scf.iv c0_i32_32 c1_i32 k0_t1
  let c16_i32_135 : BitVec 32 := 16#32
  let v2560 : BitVec 32 := Scalar.muli arg20 c16_i32_135
  let v2561 : Index := Scalar.indexCast v2560
  ![v2561.toNat]
def k0_cond4 (v2570 : BitVec 32) (v2576 : BitVec 32) : BitVec 1 :=
  let v2577 : BitVec 1 := Scalar.cmpi .eq v2570 v2576
  let v2578 : BitVec 32 := Scalar.extui v2577
  let c0_i32_139 : BitVec 32 := 0#32
  let v2579 : BitVec 1 := Scalar.cmpi .ne v2578 c0_i32_139
  v2579

def k0_chk1 (v2570 : BitVec 32) (v2576 : BitVec 32) (v2584 : IVec S16 32) : Prop :=
  (∀ (k0_h4 : k0_cond4 v2570 v2576 = 1#1), ∀ a x, ((![v2584] : Fin 1 → IVec S16 32) a x).toNat < S2048.size a)
theorem k0_idx1_inb : ∀ (v2570 : BitVec 32) (v2576 : BitVec 32) (v2584 : IVec S16 32) (k0_hw1 : k0_chk1 v2570 v2576 v2584), ∀ (k0_h4 : k0_cond4 v2570 v2576 = 1#1), ∀ a x, ((![v2584] : Fin 1 → IVec S16 32) a x).toNat < S2048.size a := fun v2570 v2576 v2584 k0_hw1 k0_h4 => k0_hw1 k0_h4

def k0_chk2 (v2570 : BitVec 32) (v2576 : BitVec 32) (v2587 : IVec S16 32) : Prop :=
  (∀ (k0_h4 : k0_cond4 v2570 v2576 = 1#1), ∀ a x, ((![v2587] : Fin 1 → IVec S16 32) a x).toNat < S2048.size a)
theorem k0_idx2_inb : ∀ (v2570 : BitVec 32) (v2576 : BitVec 32) (v2587 : IVec S16 32) (k0_hw2 : k0_chk2 v2570 v2576 v2587), ∀ (k0_h4 : k0_cond4 v2570 v2576 = 1#1), ∀ a x, ((![v2587] : Fin 1 → IVec S16 32) a x).toNat < S2048.size a := fun v2570 v2576 v2587 k0_hw2 k0_h4 => k0_hw2 k0_h4

def k0_chk3 (v2570 : BitVec 32) (v2576 : BitVec 32) (v2590 : IVec S16 32) : Prop :=
  (∀ (k0_h4 : k0_cond4 v2570 v2576 = 1#1), ∀ a x, ((![v2590] : Fin 1 → IVec S16 32) a x).toNat < S2048.size a)
theorem k0_idx3_inb : ∀ (v2570 : BitVec 32) (v2576 : BitVec 32) (v2590 : IVec S16 32) (k0_hw3 : k0_chk3 v2570 v2576 v2590), ∀ (k0_h4 : k0_cond4 v2570 v2576 = 1#1), ∀ a x, ((![v2590] : Fin 1 → IVec S16 32) a x).toNat < S2048.size a := fun v2570 v2576 v2590 k0_hw3 k0_h4 => k0_hw3 k0_h4

def k0_chk4 (v2570 : BitVec 32) (v2576 : BitVec 32) (v2593 : IVec S16 32) : Prop :=
  (∀ (k0_h4 : k0_cond4 v2570 v2576 = 1#1), ∀ a x, ((![v2593] : Fin 1 → IVec S16 32) a x).toNat < S2048.size a)
theorem k0_idx4_inb : ∀ (v2570 : BitVec 32) (v2576 : BitVec 32) (v2593 : IVec S16 32) (k0_hw4 : k0_chk4 v2570 v2576 v2593), ∀ (k0_h4 : k0_cond4 v2570 v2576 = 1#1), ∀ a x, ((![v2593] : Fin 1 → IVec S16 32) a x).toNat < S2048.size a := fun v2570 v2576 v2593 k0_hw4 k0_h4 => k0_hw4 k0_h4

def k0_chk5 (v2570 : BitVec 32) (v2576 : BitVec 32) (v2596 : IVec S16 32) : Prop :=
  (∀ (k0_h4 : k0_cond4 v2570 v2576 = 1#1), ∀ a x, ((![v2596] : Fin 1 → IVec S16 32) a x).toNat < S2048.size a)
theorem k0_idx5_inb : ∀ (v2570 : BitVec 32) (v2576 : BitVec 32) (v2596 : IVec S16 32) (k0_hw5 : k0_chk5 v2570 v2576 v2596), ∀ (k0_h4 : k0_cond4 v2570 v2576 = 1#1), ∀ a x, ((![v2596] : Fin 1 → IVec S16 32) a x).toNat < S2048.size a := fun v2570 v2576 v2596 k0_hw5 k0_h4 => k0_hw5 k0_h4

def k0_chk6 (v2570 : BitVec 32) (v2576 : BitVec 32) (v2599 : IVec S16 32) : Prop :=
  (∀ (k0_h4 : k0_cond4 v2570 v2576 = 1#1), ∀ a x, ((![v2599] : Fin 1 → IVec S16 32) a x).toNat < S2048.size a)
theorem k0_idx6_inb : ∀ (v2570 : BitVec 32) (v2576 : BitVec 32) (v2599 : IVec S16 32) (k0_hw6 : k0_chk6 v2570 v2576 v2599), ∀ (k0_h4 : k0_cond4 v2570 v2576 = 1#1), ∀ a x, ((![v2599] : Fin 1 → IVec S16 32) a x).toNat < S2048.size a := fun v2570 v2576 v2599 k0_hw6 k0_h4 => k0_hw6 k0_h4

def k0_chk7 (v2570 : BitVec 32) (v2576 : BitVec 32) (v2602 : IVec S16 32) : Prop :=
  (∀ (k0_h4 : k0_cond4 v2570 v2576 = 1#1), ∀ a x, ((![v2602] : Fin 1 → IVec S16 32) a x).toNat < S2048.size a)
theorem k0_idx7_inb : ∀ (v2570 : BitVec 32) (v2576 : BitVec 32) (v2602 : IVec S16 32) (k0_hw7 : k0_chk7 v2570 v2576 v2602), ∀ (k0_h4 : k0_cond4 v2570 v2576 = 1#1), ∀ a x, ((![v2602] : Fin 1 → IVec S16 32) a x).toNat < S2048.size a := fun v2570 v2576 v2602 k0_hw7 k0_h4 => k0_hw7 k0_h4

def k0_chk8 (v2570 : BitVec 32) (v2576 : BitVec 32) (v2605 : IVec S16 32) : Prop :=
  (∀ (k0_h4 : k0_cond4 v2570 v2576 = 1#1), ∀ a x, ((![v2605] : Fin 1 → IVec S16 32) a x).toNat < S2048.size a)
theorem k0_idx8_inb : ∀ (v2570 : BitVec 32) (v2576 : BitVec 32) (v2605 : IVec S16 32) (k0_hw8 : k0_chk8 v2570 v2576 v2605), ∀ (k0_h4 : k0_cond4 v2570 v2576 = 1#1), ∀ a x, ((![v2605] : Fin 1 → IVec S16 32) a x).toNat < S2048.size a := fun v2570 v2576 v2605 k0_hw8 k0_h4 => k0_hw8 k0_h4
def k0_off7 (k0_t1 : Fin k0_t1_loop.trips) (c0_i32_143 : BitVec 32) : Fin 2 → Nat :=
  let c0_i32_32 : BitVec 32 := 0#32
  let c1_i32 : BitVec 32 := 1#32
  let arg20 : BitVec 32 := Scf.iv c0_i32_32 c1_i32 k0_t1
  let c16_i32_135 : BitVec 32 := 16#32
  let v2560 : BitVec 32 := Scalar.muli arg20 c16_i32_135
  let v2610 : BitVec 32 := Scalar.addi v2560 c0_i32_143
  let v2611 : Index := Scalar.indexCast v2610
  let c0_144 : Index := 0#32
  ![v2611.toNat, 0]
def k0_off8 (k0_t1 : Fin k0_t1_loop.trips) (c0_i32_145 : BitVec 32) : Fin 2 → Nat :=
  let c0_i32_32 : BitVec 32 := 0#32
  let c1_i32 : BitVec 32 := 1#32
  let arg20 : BitVec 32 := Scf.iv c0_i32_32 c1_i32 k0_t1
  let c16_i32_135 : BitVec 32 := 16#32
  let v2560 : BitVec 32 := Scalar.muli arg20 c16_i32_135
  let v2615 : BitVec 32 := Scalar.addi v2560 c0_i32_145
  let v2616 : Index := Scalar.indexCast v2615
  let c16 : Index := 16#32
  ![v2616.toNat, 16]
def k0_off9 (k0_t1 : Fin k0_t1_loop.trips) (c0_i32_146 : BitVec 32) : Fin 2 → Nat :=
  let c0_i32_32 : BitVec 32 := 0#32
  let c1_i32 : BitVec 32 := 1#32
  let arg20 : BitVec 32 := Scf.iv c0_i32_32 c1_i32 k0_t1
  let c16_i32_135 : BitVec 32 := 16#32
  let v2560 : BitVec 32 := Scalar.muli arg20 c16_i32_135
  let v2620 : BitVec 32 := Scalar.addi v2560 c0_i32_146
  let v2621 : Index := Scalar.indexCast v2620
  let c32 : Index := 32#32
  ![v2621.toNat, 32]
def k0_off10 (k0_t1 : Fin k0_t1_loop.trips) (c0_i32_147 : BitVec 32) : Fin 2 → Nat :=
  let c0_i32_32 : BitVec 32 := 0#32
  let c1_i32 : BitVec 32 := 1#32
  let arg20 : BitVec 32 := Scf.iv c0_i32_32 c1_i32 k0_t1
  let c16_i32_135 : BitVec 32 := 16#32
  let v2560 : BitVec 32 := Scalar.muli arg20 c16_i32_135
  let v2625 : BitVec 32 := Scalar.addi v2560 c0_i32_147
  let v2626 : Index := Scalar.indexCast v2625
  let c48 : Index := 48#32
  ![v2626.toNat, 48]
def k0_off11 (k0_t1 : Fin k0_t1_loop.trips) (c0_i32_148 : BitVec 32) : Fin 2 → Nat :=
  let c0_i32_32 : BitVec 32 := 0#32
  let c1_i32 : BitVec 32 := 1#32
  let arg20 : BitVec 32 := Scf.iv c0_i32_32 c1_i32 k0_t1
  let c16_i32_135 : BitVec 32 := 16#32
  let v2560 : BitVec 32 := Scalar.muli arg20 c16_i32_135
  let v2630 : BitVec 32 := Scalar.addi v2560 c0_i32_148
  let v2631 : Index := Scalar.indexCast v2630
  let c64 : Index := 64#32
  ![v2631.toNat, 64]
def k0_off12 (k0_t1 : Fin k0_t1_loop.trips) (c0_i32_149 : BitVec 32) : Fin 2 → Nat :=
  let c0_i32_32 : BitVec 32 := 0#32
  let c1_i32 : BitVec 32 := 1#32
  let arg20 : BitVec 32 := Scf.iv c0_i32_32 c1_i32 k0_t1
  let c16_i32_135 : BitVec 32 := 16#32
  let v2560 : BitVec 32 := Scalar.muli arg20 c16_i32_135
  let v2635 : BitVec 32 := Scalar.addi v2560 c0_i32_149
  let v2636 : Index := Scalar.indexCast v2635
  let c80 : Index := 80#32
  ![v2636.toNat, 80]
def k0_off13 (k0_t1 : Fin k0_t1_loop.trips) (c0_i32_150 : BitVec 32) : Fin 2 → Nat :=
  let c0_i32_32 : BitVec 32 := 0#32
  let c1_i32 : BitVec 32 := 1#32
  let arg20 : BitVec 32 := Scf.iv c0_i32_32 c1_i32 k0_t1
  let c16_i32_135 : BitVec 32 := 16#32
  let v2560 : BitVec 32 := Scalar.muli arg20 c16_i32_135
  let v2640 : BitVec 32 := Scalar.addi v2560 c0_i32_150
  let v2641 : Index := Scalar.indexCast v2640
  let c96 : Index := 96#32
  ![v2641.toNat, 96]
def k0_off14 (k0_t1 : Fin k0_t1_loop.trips) (c0_i32_151 : BitVec 32) : Fin 2 → Nat :=
  let c0_i32_32 : BitVec 32 := 0#32
  let c1_i32 : BitVec 32 := 1#32
  let arg20 : BitVec 32 := Scf.iv c0_i32_32 c1_i32 k0_t1
  let c16_i32_135 : BitVec 32 := 16#32
  let v2560 : BitVec 32 := Scalar.muli arg20 c16_i32_135
  let v2645 : BitVec 32 := Scalar.addi v2560 c0_i32_151
  let v2646 : Index := Scalar.indexCast v2645
  let c112 : Index := 112#32
  ![v2646.toNat, 112]

def k0_chk9 (v2570 : BitVec 32) (v2576 : BitVec 32) (v2584 : IVec S16 32) (v2589 : IVec S16 32) : Prop :=
  (∀ (k0_h4 : ¬(k0_cond4 v2570 v2576 = 1#1)), ∀ a x, ((![v2584, v2589] : Fin 2 → IVec S16 32) a x).toNat < S512x128.size a)
theorem k0_idx9_inb : ∀ (v2570 : BitVec 32) (v2576 : BitVec 32) (v2584 : IVec S16 32) (v2589 : IVec S16 32) (k0_hw9 : k0_chk9 v2570 v2576 v2584 v2589), ∀ (k0_h4 : ¬(k0_cond4 v2570 v2576 = 1#1)), ∀ a x, ((![v2584, v2589] : Fin 2 → IVec S16 32) a x).toNat < S512x128.size a := fun v2570 v2576 v2584 v2589 k0_hw9 k0_h4 => k0_hw9 k0_h4

def k0_chk10 (v2570 : BitVec 32) (v2576 : BitVec 32) (v2592 : IVec S16 32) : Prop :=
  (∀ (k0_h4 : ¬(k0_cond4 v2570 v2576 = 1#1)), ∀ a x, ((![v2592] : Fin 1 → IVec S16 32) a x).toNat < S2048.size a)
theorem k0_idx10_inb : ∀ (v2570 : BitVec 32) (v2576 : BitVec 32) (v2592 : IVec S16 32) (k0_hw10 : k0_chk10 v2570 v2576 v2592), ∀ (k0_h4 : ¬(k0_cond4 v2570 v2576 = 1#1)), ∀ a x, ((![v2592] : Fin 1 → IVec S16 32) a x).toNat < S2048.size a := fun v2570 v2576 v2592 k0_hw10 k0_h4 => k0_hw10 k0_h4

def k0_chk11 (v2570 : BitVec 32) (v2576 : BitVec 32) (v2584 : IVec S16 32) (v2596 : IVec S16 32) : Prop :=
  (∀ (k0_h4 : ¬(k0_cond4 v2570 v2576 = 1#1)), ∀ a x, ((![v2584, v2596] : Fin 2 → IVec S16 32) a x).toNat < S512x128.size a)
theorem k0_idx11_inb : ∀ (v2570 : BitVec 32) (v2576 : BitVec 32) (v2584 : IVec S16 32) (v2596 : IVec S16 32) (k0_hw11 : k0_chk11 v2570 v2576 v2584 v2596), ∀ (k0_h4 : ¬(k0_cond4 v2570 v2576 = 1#1)), ∀ a x, ((![v2584, v2596] : Fin 2 → IVec S16 32) a x).toNat < S512x128.size a := fun v2570 v2576 v2584 v2596 k0_hw11 k0_h4 => k0_hw11 k0_h4

def k0_chk12 (v2570 : BitVec 32) (v2576 : BitVec 32) (v2599 : IVec S16 32) : Prop :=
  (∀ (k0_h4 : ¬(k0_cond4 v2570 v2576 = 1#1)), ∀ a x, ((![v2599] : Fin 1 → IVec S16 32) a x).toNat < S2048.size a)
theorem k0_idx12_inb : ∀ (v2570 : BitVec 32) (v2576 : BitVec 32) (v2599 : IVec S16 32) (k0_hw12 : k0_chk12 v2570 v2576 v2599), ∀ (k0_h4 : ¬(k0_cond4 v2570 v2576 = 1#1)), ∀ a x, ((![v2599] : Fin 1 → IVec S16 32) a x).toNat < S2048.size a := fun v2570 v2576 v2599 k0_hw12 k0_h4 => k0_hw12 k0_h4

def k0_chk13 (v2570 : BitVec 32) (v2576 : BitVec 32) (v2584 : IVec S16 32) (v2603 : IVec S16 32) : Prop :=
  (∀ (k0_h4 : ¬(k0_cond4 v2570 v2576 = 1#1)), ∀ a x, ((![v2584, v2603] : Fin 2 → IVec S16 32) a x).toNat < S512x128.size a)
theorem k0_idx13_inb : ∀ (v2570 : BitVec 32) (v2576 : BitVec 32) (v2584 : IVec S16 32) (v2603 : IVec S16 32) (k0_hw13 : k0_chk13 v2570 v2576 v2584 v2603), ∀ (k0_h4 : ¬(k0_cond4 v2570 v2576 = 1#1)), ∀ a x, ((![v2584, v2603] : Fin 2 → IVec S16 32) a x).toNat < S512x128.size a := fun v2570 v2576 v2584 v2603 k0_hw13 k0_h4 => k0_hw13 k0_h4

def k0_chk14 (v2570 : BitVec 32) (v2576 : BitVec 32) (v2606 : IVec S16 32) : Prop :=
  (∀ (k0_h4 : ¬(k0_cond4 v2570 v2576 = 1#1)), ∀ a x, ((![v2606] : Fin 1 → IVec S16 32) a x).toNat < S2048.size a)
theorem k0_idx14_inb : ∀ (v2570 : BitVec 32) (v2576 : BitVec 32) (v2606 : IVec S16 32) (k0_hw14 : k0_chk14 v2570 v2576 v2606), ∀ (k0_h4 : ¬(k0_cond4 v2570 v2576 = 1#1)), ∀ a x, ((![v2606] : Fin 1 → IVec S16 32) a x).toNat < S2048.size a := fun v2570 v2576 v2606 k0_hw14 k0_h4 => k0_hw14 k0_h4

def k0_chk15 (v2570 : BitVec 32) (v2576 : BitVec 32) (v2584 : IVec S16 32) (v2610 : IVec S16 32) : Prop :=
  (∀ (k0_h4 : ¬(k0_cond4 v2570 v2576 = 1#1)), ∀ a x, ((![v2584, v2610] : Fin 2 → IVec S16 32) a x).toNat < S512x128.size a)
theorem k0_idx15_inb : ∀ (v2570 : BitVec 32) (v2576 : BitVec 32) (v2584 : IVec S16 32) (v2610 : IVec S16 32) (k0_hw15 : k0_chk15 v2570 v2576 v2584 v2610), ∀ (k0_h4 : ¬(k0_cond4 v2570 v2576 = 1#1)), ∀ a x, ((![v2584, v2610] : Fin 2 → IVec S16 32) a x).toNat < S512x128.size a := fun v2570 v2576 v2584 v2610 k0_hw15 k0_h4 => k0_hw15 k0_h4

def k0_chk16 (v2570 : BitVec 32) (v2576 : BitVec 32) (v2613 : IVec S16 32) : Prop :=
  (∀ (k0_h4 : ¬(k0_cond4 v2570 v2576 = 1#1)), ∀ a x, ((![v2613] : Fin 1 → IVec S16 32) a x).toNat < S2048.size a)
theorem k0_idx16_inb : ∀ (v2570 : BitVec 32) (v2576 : BitVec 32) (v2613 : IVec S16 32) (k0_hw16 : k0_chk16 v2570 v2576 v2613), ∀ (k0_h4 : ¬(k0_cond4 v2570 v2576 = 1#1)), ∀ a x, ((![v2613] : Fin 1 → IVec S16 32) a x).toNat < S2048.size a := fun v2570 v2576 v2613 k0_hw16 k0_h4 => k0_hw16 k0_h4

def k0_chk17 (v2570 : BitVec 32) (v2576 : BitVec 32) (v2584 : IVec S16 32) (v2617 : IVec S16 32) : Prop :=
  (∀ (k0_h4 : ¬(k0_cond4 v2570 v2576 = 1#1)), ∀ a x, ((![v2584, v2617] : Fin 2 → IVec S16 32) a x).toNat < S512x128.size a)
theorem k0_idx17_inb : ∀ (v2570 : BitVec 32) (v2576 : BitVec 32) (v2584 : IVec S16 32) (v2617 : IVec S16 32) (k0_hw17 : k0_chk17 v2570 v2576 v2584 v2617), ∀ (k0_h4 : ¬(k0_cond4 v2570 v2576 = 1#1)), ∀ a x, ((![v2584, v2617] : Fin 2 → IVec S16 32) a x).toNat < S512x128.size a := fun v2570 v2576 v2584 v2617 k0_hw17 k0_h4 => k0_hw17 k0_h4

def k0_chk18 (v2570 : BitVec 32) (v2576 : BitVec 32) (v2620 : IVec S16 32) : Prop :=
  (∀ (k0_h4 : ¬(k0_cond4 v2570 v2576 = 1#1)), ∀ a x, ((![v2620] : Fin 1 → IVec S16 32) a x).toNat < S2048.size a)
theorem k0_idx18_inb : ∀ (v2570 : BitVec 32) (v2576 : BitVec 32) (v2620 : IVec S16 32) (k0_hw18 : k0_chk18 v2570 v2576 v2620), ∀ (k0_h4 : ¬(k0_cond4 v2570 v2576 = 1#1)), ∀ a x, ((![v2620] : Fin 1 → IVec S16 32) a x).toNat < S2048.size a := fun v2570 v2576 v2620 k0_hw18 k0_h4 => k0_hw18 k0_h4

def k0_chk19 (v2570 : BitVec 32) (v2576 : BitVec 32) (v2584 : IVec S16 32) (v2624 : IVec S16 32) : Prop :=
  (∀ (k0_h4 : ¬(k0_cond4 v2570 v2576 = 1#1)), ∀ a x, ((![v2584, v2624] : Fin 2 → IVec S16 32) a x).toNat < S512x128.size a)
theorem k0_idx19_inb : ∀ (v2570 : BitVec 32) (v2576 : BitVec 32) (v2584 : IVec S16 32) (v2624 : IVec S16 32) (k0_hw19 : k0_chk19 v2570 v2576 v2584 v2624), ∀ (k0_h4 : ¬(k0_cond4 v2570 v2576 = 1#1)), ∀ a x, ((![v2584, v2624] : Fin 2 → IVec S16 32) a x).toNat < S512x128.size a := fun v2570 v2576 v2584 v2624 k0_hw19 k0_h4 => k0_hw19 k0_h4

def k0_chk20 (v2570 : BitVec 32) (v2576 : BitVec 32) (v2627 : IVec S16 32) : Prop :=
  (∀ (k0_h4 : ¬(k0_cond4 v2570 v2576 = 1#1)), ∀ a x, ((![v2627] : Fin 1 → IVec S16 32) a x).toNat < S2048.size a)
theorem k0_idx20_inb : ∀ (v2570 : BitVec 32) (v2576 : BitVec 32) (v2627 : IVec S16 32) (k0_hw20 : k0_chk20 v2570 v2576 v2627), ∀ (k0_h4 : ¬(k0_cond4 v2570 v2576 = 1#1)), ∀ a x, ((![v2627] : Fin 1 → IVec S16 32) a x).toNat < S2048.size a := fun v2570 v2576 v2627 k0_hw20 k0_h4 => k0_hw20 k0_h4

def k0_chk21 (v2570 : BitVec 32) (v2576 : BitVec 32) (v2584 : IVec S16 32) (v2631 : IVec S16 32) : Prop :=
  (∀ (k0_h4 : ¬(k0_cond4 v2570 v2576 = 1#1)), ∀ a x, ((![v2584, v2631] : Fin 2 → IVec S16 32) a x).toNat < S512x128.size a)
theorem k0_idx21_inb : ∀ (v2570 : BitVec 32) (v2576 : BitVec 32) (v2584 : IVec S16 32) (v2631 : IVec S16 32) (k0_hw21 : k0_chk21 v2570 v2576 v2584 v2631), ∀ (k0_h4 : ¬(k0_cond4 v2570 v2576 = 1#1)), ∀ a x, ((![v2584, v2631] : Fin 2 → IVec S16 32) a x).toNat < S512x128.size a := fun v2570 v2576 v2584 v2631 k0_hw21 k0_h4 => k0_hw21 k0_h4

def k0_chk22 (v2570 : BitVec 32) (v2576 : BitVec 32) (v2634 : IVec S16 32) : Prop :=
  (∀ (k0_h4 : ¬(k0_cond4 v2570 v2576 = 1#1)), ∀ a x, ((![v2634] : Fin 1 → IVec S16 32) a x).toNat < S2048.size a)
theorem k0_idx22_inb : ∀ (v2570 : BitVec 32) (v2576 : BitVec 32) (v2634 : IVec S16 32) (k0_hw22 : k0_chk22 v2570 v2576 v2634), ∀ (k0_h4 : ¬(k0_cond4 v2570 v2576 = 1#1)), ∀ a x, ((![v2634] : Fin 1 → IVec S16 32) a x).toNat < S2048.size a := fun v2570 v2576 v2634 k0_hw22 k0_h4 => k0_hw22 k0_h4

def k0_chk23 (v2570 : BitVec 32) (v2576 : BitVec 32) (v2584 : IVec S16 32) (v2638 : IVec S16 32) : Prop :=
  (∀ (k0_h4 : ¬(k0_cond4 v2570 v2576 = 1#1)), ∀ a x, ((![v2584, v2638] : Fin 2 → IVec S16 32) a x).toNat < S512x128.size a)
theorem k0_idx23_inb : ∀ (v2570 : BitVec 32) (v2576 : BitVec 32) (v2584 : IVec S16 32) (v2638 : IVec S16 32) (k0_hw23 : k0_chk23 v2570 v2576 v2584 v2638), ∀ (k0_h4 : ¬(k0_cond4 v2570 v2576 = 1#1)), ∀ a x, ((![v2584, v2638] : Fin 2 → IVec S16 32) a x).toNat < S512x128.size a := fun v2570 v2576 v2584 v2638 k0_hw23 k0_h4 => k0_hw23 k0_h4

def k0_chk24 (v2570 : BitVec 32) (v2576 : BitVec 32) (v2641 : IVec S16 32) : Prop :=
  (∀ (k0_h4 : ¬(k0_cond4 v2570 v2576 = 1#1)), ∀ a x, ((![v2641] : Fin 1 → IVec S16 32) a x).toNat < S2048.size a)
theorem k0_idx24_inb : ∀ (v2570 : BitVec 32) (v2576 : BitVec 32) (v2641 : IVec S16 32) (k0_hw24 : k0_chk24 v2570 v2576 v2641), ∀ (k0_h4 : ¬(k0_cond4 v2570 v2576 = 1#1)), ∀ a x, ((![v2641] : Fin 1 → IVec S16 32) a x).toNat < S2048.size a := fun v2570 v2576 v2641 k0_hw24 k0_h4 => k0_hw24 k0_h4

def k0_chk25 (v2570 : BitVec 32) (v2576 : BitVec 32) (v2584 : IVec S16 32) (v2645 : IVec S16 32) : Prop :=
  (∀ (k0_h4 : ¬(k0_cond4 v2570 v2576 = 1#1)), ∀ a x, ((![v2584, v2645] : Fin 2 → IVec S16 32) a x).toNat < S512x128.size a)
theorem k0_idx25_inb : ∀ (v2570 : BitVec 32) (v2576 : BitVec 32) (v2584 : IVec S16 32) (v2645 : IVec S16 32) (k0_hw25 : k0_chk25 v2570 v2576 v2584 v2645), ∀ (k0_h4 : ¬(k0_cond4 v2570 v2576 = 1#1)), ∀ a x, ((![v2584, v2645] : Fin 2 → IVec S16 32) a x).toNat < S512x128.size a := fun v2570 v2576 v2584 v2645 k0_hw25 k0_h4 => k0_hw25 k0_h4

def k0_chk26 (v2570 : BitVec 32) (v2576 : BitVec 32) (v2648 : IVec S16 32) : Prop :=
  (∀ (k0_h4 : ¬(k0_cond4 v2570 v2576 = 1#1)), ∀ a x, ((![v2648] : Fin 1 → IVec S16 32) a x).toNat < S2048.size a)
theorem k0_idx26_inb : ∀ (v2570 : BitVec 32) (v2576 : BitVec 32) (v2648 : IVec S16 32) (k0_hw26 : k0_chk26 v2570 v2576 v2648), ∀ (k0_h4 : ¬(k0_cond4 v2570 v2576 = 1#1)), ∀ a x, ((![v2648] : Fin 1 → IVec S16 32) a x).toNat < S2048.size a := fun v2570 v2576 v2648 k0_hw26 k0_h4 => k0_hw26 k0_h4

def k0_chk27 (v2570 : BitVec 32) (v2576 : BitVec 32) (v2584 : IVec S16 32) (v2652 : IVec S16 32) : Prop :=
  (∀ (k0_h4 : ¬(k0_cond4 v2570 v2576 = 1#1)), ∀ a x, ((![v2584, v2652] : Fin 2 → IVec S16 32) a x).toNat < S512x128.size a)
theorem k0_idx27_inb : ∀ (v2570 : BitVec 32) (v2576 : BitVec 32) (v2584 : IVec S16 32) (v2652 : IVec S16 32) (k0_hw27 : k0_chk27 v2570 v2576 v2584 v2652), ∀ (k0_h4 : ¬(k0_cond4 v2570 v2576 = 1#1)), ∀ a x, ((![v2584, v2652] : Fin 2 → IVec S16 32) a x).toNat < S512x128.size a := fun v2570 v2576 v2584 v2652 k0_hw27 k0_h4 => k0_hw27 k0_h4

def k0_chk28 (v2570 : BitVec 32) (v2576 : BitVec 32) (v2655 : IVec S16 32) : Prop :=
  (∀ (k0_h4 : ¬(k0_cond4 v2570 v2576 = 1#1)), ∀ a x, ((![v2655] : Fin 1 → IVec S16 32) a x).toNat < S2048.size a)
theorem k0_idx28_inb : ∀ (v2570 : BitVec 32) (v2576 : BitVec 32) (v2655 : IVec S16 32) (k0_hw28 : k0_chk28 v2570 v2576 v2655), ∀ (k0_h4 : ¬(k0_cond4 v2570 v2576 = 1#1)), ∀ a x, ((![v2655] : Fin 1 → IVec S16 32) a x).toNat < S2048.size a := fun v2570 v2576 v2655 k0_hw28 k0_h4 => k0_hw28 k0_h4

def k0_chk29 (v2570 : BitVec 32) (v2576 : BitVec 32) (v2584 : IVec S16 32) (v2659 : IVec S16 32) : Prop :=
  (∀ (k0_h4 : ¬(k0_cond4 v2570 v2576 = 1#1)), ∀ a x, ((![v2584, v2659] : Fin 2 → IVec S16 32) a x).toNat < S512x128.size a)
theorem k0_idx29_inb : ∀ (v2570 : BitVec 32) (v2576 : BitVec 32) (v2584 : IVec S16 32) (v2659 : IVec S16 32) (k0_hw29 : k0_chk29 v2570 v2576 v2584 v2659), ∀ (k0_h4 : ¬(k0_cond4 v2570 v2576 = 1#1)), ∀ a x, ((![v2584, v2659] : Fin 2 → IVec S16 32) a x).toNat < S512x128.size a := fun v2570 v2576 v2584 v2659 k0_hw29 k0_h4 => k0_hw29 k0_h4

def k0_chk30 (v2570 : BitVec 32) (v2576 : BitVec 32) (v2662 : IVec S16 32) : Prop :=
  (∀ (k0_h4 : ¬(k0_cond4 v2570 v2576 = 1#1)), ∀ a x, ((![v2662] : Fin 1 → IVec S16 32) a x).toNat < S2048.size a)
theorem k0_idx30_inb : ∀ (v2570 : BitVec 32) (v2576 : BitVec 32) (v2662 : IVec S16 32) (k0_hw30 : k0_chk30 v2570 v2576 v2662), ∀ (k0_h4 : ¬(k0_cond4 v2570 v2576 = 1#1)), ∀ a x, ((![v2662] : Fin 1 → IVec S16 32) a x).toNat < S2048.size a := fun v2570 v2576 v2662 k0_hw30 k0_h4 => k0_hw30 k0_h4

def k0_chk31 (v2570 : BitVec 32) (v2576 : BitVec 32) (v2584 : IVec S16 32) (v2666 : IVec S16 32) : Prop :=
  (∀ (k0_h4 : ¬(k0_cond4 v2570 v2576 = 1#1)), ∀ a x, ((![v2584, v2666] : Fin 2 → IVec S16 32) a x).toNat < S512x128.size a)
theorem k0_idx31_inb : ∀ (v2570 : BitVec 32) (v2576 : BitVec 32) (v2584 : IVec S16 32) (v2666 : IVec S16 32) (k0_hw31 : k0_chk31 v2570 v2576 v2584 v2666), ∀ (k0_h4 : ¬(k0_cond4 v2570 v2576 = 1#1)), ∀ a x, ((![v2584, v2666] : Fin 2 → IVec S16 32) a x).toNat < S512x128.size a := fun v2570 v2576 v2584 v2666 k0_hw31 k0_h4 => k0_hw31 k0_h4

def k0_chk32 (v2570 : BitVec 32) (v2576 : BitVec 32) (v2669 : IVec S16 32) : Prop :=
  (∀ (k0_h4 : ¬(k0_cond4 v2570 v2576 = 1#1)), ∀ a x, ((![v2669] : Fin 1 → IVec S16 32) a x).toNat < S2048.size a)
theorem k0_idx32_inb : ∀ (v2570 : BitVec 32) (v2576 : BitVec 32) (v2669 : IVec S16 32) (k0_hw32 : k0_chk32 v2570 v2576 v2669), ∀ (k0_h4 : ¬(k0_cond4 v2570 v2576 = 1#1)), ∀ a x, ((![v2669] : Fin 1 → IVec S16 32) a x).toNat < S2048.size a := fun v2570 v2576 v2669 k0_hw32 k0_h4 => k0_hw32 k0_h4

def k0_chk33 (v2570 : BitVec 32) (v2576 : BitVec 32) (v2584 : IVec S16 32) (v2673 : IVec S16 32) : Prop :=
  (∀ (k0_h4 : ¬(k0_cond4 v2570 v2576 = 1#1)), ∀ a x, ((![v2584, v2673] : Fin 2 → IVec S16 32) a x).toNat < S512x128.size a)
theorem k0_idx33_inb : ∀ (v2570 : BitVec 32) (v2576 : BitVec 32) (v2584 : IVec S16 32) (v2673 : IVec S16 32) (k0_hw33 : k0_chk33 v2570 v2576 v2584 v2673), ∀ (k0_h4 : ¬(k0_cond4 v2570 v2576 = 1#1)), ∀ a x, ((![v2584, v2673] : Fin 2 → IVec S16 32) a x).toNat < S512x128.size a := fun v2570 v2576 v2584 v2673 k0_hw33 k0_h4 => k0_hw33 k0_h4

def k0_chk34 (v2570 : BitVec 32) (v2576 : BitVec 32) (v2676 : IVec S16 32) : Prop :=
  (∀ (k0_h4 : ¬(k0_cond4 v2570 v2576 = 1#1)), ∀ a x, ((![v2676] : Fin 1 → IVec S16 32) a x).toNat < S2048.size a)
theorem k0_idx34_inb : ∀ (v2570 : BitVec 32) (v2576 : BitVec 32) (v2676 : IVec S16 32) (k0_hw34 : k0_chk34 v2570 v2576 v2676), ∀ (k0_h4 : ¬(k0_cond4 v2570 v2576 = 1#1)), ∀ a x, ((![v2676] : Fin 1 → IVec S16 32) a x).toNat < S2048.size a := fun v2570 v2576 v2676 k0_hw34 k0_h4 => k0_hw34 k0_h4

def k0_chk35 (v2570 : BitVec 32) (v2576 : BitVec 32) (v2584 : IVec S16 32) (v2680 : IVec S16 32) : Prop :=
  (∀ (k0_h4 : ¬(k0_cond4 v2570 v2576 = 1#1)), ∀ a x, ((![v2584, v2680] : Fin 2 → IVec S16 32) a x).toNat < S512x128.size a)
theorem k0_idx35_inb : ∀ (v2570 : BitVec 32) (v2576 : BitVec 32) (v2584 : IVec S16 32) (v2680 : IVec S16 32) (k0_hw35 : k0_chk35 v2570 v2576 v2584 v2680), ∀ (k0_h4 : ¬(k0_cond4 v2570 v2576 = 1#1)), ∀ a x, ((![v2584, v2680] : Fin 2 → IVec S16 32) a x).toNat < S512x128.size a := fun v2570 v2576 v2584 v2680 k0_hw35 k0_h4 => k0_hw35 k0_h4

def k0_chk36 (v2570 : BitVec 32) (v2576 : BitVec 32) (v2683 : IVec S16 32) : Prop :=
  (∀ (k0_h4 : ¬(k0_cond4 v2570 v2576 = 1#1)), ∀ a x, ((![v2683] : Fin 1 → IVec S16 32) a x).toNat < S2048.size a)
theorem k0_idx36_inb : ∀ (v2570 : BitVec 32) (v2576 : BitVec 32) (v2683 : IVec S16 32) (k0_hw36 : k0_chk36 v2570 v2576 v2683), ∀ (k0_h4 : ¬(k0_cond4 v2570 v2576 = 1#1)), ∀ a x, ((![v2683] : Fin 1 → IVec S16 32) a x).toNat < S2048.size a := fun v2570 v2576 v2683 k0_hw36 k0_h4 => k0_hw36 k0_h4

def k0_chk37 (v2570 : BitVec 32) (v2576 : BitVec 32) (v2584 : IVec S16 32) (v2687 : IVec S16 32) : Prop :=
  (∀ (k0_h4 : ¬(k0_cond4 v2570 v2576 = 1#1)), ∀ a x, ((![v2584, v2687] : Fin 2 → IVec S16 32) a x).toNat < S512x128.size a)
theorem k0_idx37_inb : ∀ (v2570 : BitVec 32) (v2576 : BitVec 32) (v2584 : IVec S16 32) (v2687 : IVec S16 32) (k0_hw37 : k0_chk37 v2570 v2576 v2584 v2687), ∀ (k0_h4 : ¬(k0_cond4 v2570 v2576 = 1#1)), ∀ a x, ((![v2584, v2687] : Fin 2 → IVec S16 32) a x).toNat < S512x128.size a := fun v2570 v2576 v2584 v2687 k0_hw37 k0_h4 => k0_hw37 k0_h4

def k0_chk38 (v2570 : BitVec 32) (v2576 : BitVec 32) (v2690 : IVec S16 32) : Prop :=
  (∀ (k0_h4 : ¬(k0_cond4 v2570 v2576 = 1#1)), ∀ a x, ((![v2690] : Fin 1 → IVec S16 32) a x).toNat < S2048.size a)
theorem k0_idx38_inb : ∀ (v2570 : BitVec 32) (v2576 : BitVec 32) (v2690 : IVec S16 32) (k0_hw38 : k0_chk38 v2570 v2576 v2690), ∀ (k0_h4 : ¬(k0_cond4 v2570 v2576 = 1#1)), ∀ a x, ((![v2690] : Fin 1 → IVec S16 32) a x).toNat < S2048.size a := fun v2570 v2576 v2690 k0_hw38 k0_h4 => k0_hw38 k0_h4

def k0_chk39 (v2570 : BitVec 32) (v2576 : BitVec 32) (v2584 : IVec S16 32) (v2694 : IVec S16 32) : Prop :=
  (∀ (k0_h4 : ¬(k0_cond4 v2570 v2576 = 1#1)), ∀ a x, ((![v2584, v2694] : Fin 2 → IVec S16 32) a x).toNat < S512x128.size a)
theorem k0_idx39_inb : ∀ (v2570 : BitVec 32) (v2576 : BitVec 32) (v2584 : IVec S16 32) (v2694 : IVec S16 32) (k0_hw39 : k0_chk39 v2570 v2576 v2584 v2694), ∀ (k0_h4 : ¬(k0_cond4 v2570 v2576 = 1#1)), ∀ a x, ((![v2584, v2694] : Fin 2 → IVec S16 32) a x).toNat < S512x128.size a := fun v2570 v2576 v2584 v2694 k0_hw39 k0_h4 => k0_hw39 k0_h4

def k0_chk40 (v2570 : BitVec 32) (v2576 : BitVec 32) (v2697 : IVec S16 32) : Prop :=
  (∀ (k0_h4 : ¬(k0_cond4 v2570 v2576 = 1#1)), ∀ a x, ((![v2697] : Fin 1 → IVec S16 32) a x).toNat < S2048.size a)
theorem k0_idx40_inb : ∀ (v2570 : BitVec 32) (v2576 : BitVec 32) (v2697 : IVec S16 32) (k0_hw40 : k0_chk40 v2570 v2576 v2697), ∀ (k0_h4 : ¬(k0_cond4 v2570 v2576 = 1#1)), ∀ a x, ((![v2697] : Fin 1 → IVec S16 32) a x).toNat < S2048.size a := fun v2570 v2576 v2697 k0_hw40 k0_h4 => k0_hw40 k0_h4

def k0_chk41 (v2570 : BitVec 32) (v2576 : BitVec 32) (v2584 : IVec S16 32) (v2701 : IVec S16 32) : Prop :=
  (∀ (k0_h4 : ¬(k0_cond4 v2570 v2576 = 1#1)), ∀ a x, ((![v2584, v2701] : Fin 2 → IVec S16 32) a x).toNat < S512x128.size a)
theorem k0_idx41_inb : ∀ (v2570 : BitVec 32) (v2576 : BitVec 32) (v2584 : IVec S16 32) (v2701 : IVec S16 32) (k0_hw41 : k0_chk41 v2570 v2576 v2584 v2701), ∀ (k0_h4 : ¬(k0_cond4 v2570 v2576 = 1#1)), ∀ a x, ((![v2584, v2701] : Fin 2 → IVec S16 32) a x).toNat < S512x128.size a := fun v2570 v2576 v2584 v2701 k0_hw41 k0_h4 => k0_hw41 k0_h4

def k0_chk42 (v2570 : BitVec 32) (v2576 : BitVec 32) (v2704 : IVec S16 32) : Prop :=
  (∀ (k0_h4 : ¬(k0_cond4 v2570 v2576 = 1#1)), ∀ a x, ((![v2704] : Fin 1 → IVec S16 32) a x).toNat < S2048.size a)
theorem k0_idx42_inb : ∀ (v2570 : BitVec 32) (v2576 : BitVec 32) (v2704 : IVec S16 32) (k0_hw42 : k0_chk42 v2570 v2576 v2704), ∀ (k0_h4 : ¬(k0_cond4 v2570 v2576 = 1#1)), ∀ a x, ((![v2704] : Fin 1 → IVec S16 32) a x).toNat < S2048.size a := fun v2570 v2576 v2704 k0_hw42 k0_h4 => k0_hw42 k0_h4

def k0_chk43 (v2570 : BitVec 32) (v2576 : BitVec 32) (v2584 : IVec S16 32) (v2708 : IVec S16 32) : Prop :=
  (∀ (k0_h4 : ¬(k0_cond4 v2570 v2576 = 1#1)), ∀ a x, ((![v2584, v2708] : Fin 2 → IVec S16 32) a x).toNat < S512x128.size a)
theorem k0_idx43_inb : ∀ (v2570 : BitVec 32) (v2576 : BitVec 32) (v2584 : IVec S16 32) (v2708 : IVec S16 32) (k0_hw43 : k0_chk43 v2570 v2576 v2584 v2708), ∀ (k0_h4 : ¬(k0_cond4 v2570 v2576 = 1#1)), ∀ a x, ((![v2584, v2708] : Fin 2 → IVec S16 32) a x).toNat < S512x128.size a := fun v2570 v2576 v2584 v2708 k0_hw43 k0_h4 => k0_hw43 k0_h4

def k0_chk44 (v2570 : BitVec 32) (v2576 : BitVec 32) (v2711 : IVec S16 32) : Prop :=
  (∀ (k0_h4 : ¬(k0_cond4 v2570 v2576 = 1#1)), ∀ a x, ((![v2711] : Fin 1 → IVec S16 32) a x).toNat < S2048.size a)
theorem k0_idx44_inb : ∀ (v2570 : BitVec 32) (v2576 : BitVec 32) (v2711 : IVec S16 32) (k0_hw44 : k0_chk44 v2570 v2576 v2711), ∀ (k0_h4 : ¬(k0_cond4 v2570 v2576 = 1#1)), ∀ a x, ((![v2711] : Fin 1 → IVec S16 32) a x).toNat < S2048.size a := fun v2570 v2576 v2711 k0_hw44 k0_h4 => k0_hw44 k0_h4

def k0_chk45 (v2570 : BitVec 32) (v2576 : BitVec 32) (v2584 : IVec S16 32) (v2715 : IVec S16 32) : Prop :=
  (∀ (k0_h4 : ¬(k0_cond4 v2570 v2576 = 1#1)), ∀ a x, ((![v2584, v2715] : Fin 2 → IVec S16 32) a x).toNat < S512x128.size a)
theorem k0_idx45_inb : ∀ (v2570 : BitVec 32) (v2576 : BitVec 32) (v2584 : IVec S16 32) (v2715 : IVec S16 32) (k0_hw45 : k0_chk45 v2570 v2576 v2584 v2715), ∀ (k0_h4 : ¬(k0_cond4 v2570 v2576 = 1#1)), ∀ a x, ((![v2584, v2715] : Fin 2 → IVec S16 32) a x).toNat < S512x128.size a := fun v2570 v2576 v2584 v2715 k0_hw45 k0_h4 => k0_hw45 k0_h4

def k0_chk46 (v2570 : BitVec 32) (v2576 : BitVec 32) (v2718 : IVec S16 32) : Prop :=
  (∀ (k0_h4 : ¬(k0_cond4 v2570 v2576 = 1#1)), ∀ a x, ((![v2718] : Fin 1 → IVec S16 32) a x).toNat < S2048.size a)
theorem k0_idx46_inb : ∀ (v2570 : BitVec 32) (v2576 : BitVec 32) (v2718 : IVec S16 32) (k0_hw46 : k0_chk46 v2570 v2576 v2718), ∀ (k0_h4 : ¬(k0_cond4 v2570 v2576 = 1#1)), ∀ a x, ((![v2718] : Fin 1 → IVec S16 32) a x).toNat < S2048.size a := fun v2570 v2576 v2718 k0_hw46 k0_h4 => k0_hw46 k0_h4

def k0_chk47 (v2570 : BitVec 32) (v2576 : BitVec 32) (v2584 : IVec S16 32) (v2722 : IVec S16 32) : Prop :=
  (∀ (k0_h4 : ¬(k0_cond4 v2570 v2576 = 1#1)), ∀ a x, ((![v2584, v2722] : Fin 2 → IVec S16 32) a x).toNat < S512x128.size a)
theorem k0_idx47_inb : ∀ (v2570 : BitVec 32) (v2576 : BitVec 32) (v2584 : IVec S16 32) (v2722 : IVec S16 32) (k0_hw47 : k0_chk47 v2570 v2576 v2584 v2722), ∀ (k0_h4 : ¬(k0_cond4 v2570 v2576 = 1#1)), ∀ a x, ((![v2584, v2722] : Fin 2 → IVec S16 32) a x).toNat < S512x128.size a := fun v2570 v2576 v2584 v2722 k0_hw47 k0_h4 => k0_hw47 k0_h4

def k0_chk48 (v2570 : BitVec 32) (v2576 : BitVec 32) (v2725 : IVec S16 32) : Prop :=
  (∀ (k0_h4 : ¬(k0_cond4 v2570 v2576 = 1#1)), ∀ a x, ((![v2725] : Fin 1 → IVec S16 32) a x).toNat < S2048.size a)
theorem k0_idx48_inb : ∀ (v2570 : BitVec 32) (v2576 : BitVec 32) (v2725 : IVec S16 32) (k0_hw48 : k0_chk48 v2570 v2576 v2725), ∀ (k0_h4 : ¬(k0_cond4 v2570 v2576 = 1#1)), ∀ a x, ((![v2725] : Fin 1 → IVec S16 32) a x).toNat < S2048.size a := fun v2570 v2576 v2725 k0_hw48 k0_h4 => k0_hw48 k0_h4

def k0_chk49 (v2570 : BitVec 32) (v2576 : BitVec 32) (v2584 : IVec S16 32) (v2729 : IVec S16 32) : Prop :=
  (∀ (k0_h4 : ¬(k0_cond4 v2570 v2576 = 1#1)), ∀ a x, ((![v2584, v2729] : Fin 2 → IVec S16 32) a x).toNat < S512x128.size a)
theorem k0_idx49_inb : ∀ (v2570 : BitVec 32) (v2576 : BitVec 32) (v2584 : IVec S16 32) (v2729 : IVec S16 32) (k0_hw49 : k0_chk49 v2570 v2576 v2584 v2729), ∀ (k0_h4 : ¬(k0_cond4 v2570 v2576 = 1#1)), ∀ a x, ((![v2584, v2729] : Fin 2 → IVec S16 32) a x).toNat < S512x128.size a := fun v2570 v2576 v2584 v2729 k0_hw49 k0_h4 => k0_hw49 k0_h4

def k0_chk50 (v2570 : BitVec 32) (v2576 : BitVec 32) (v2732 : IVec S16 32) : Prop :=
  (∀ (k0_h4 : ¬(k0_cond4 v2570 v2576 = 1#1)), ∀ a x, ((![v2732] : Fin 1 → IVec S16 32) a x).toNat < S2048.size a)
theorem k0_idx50_inb : ∀ (v2570 : BitVec 32) (v2576 : BitVec 32) (v2732 : IVec S16 32) (k0_hw50 : k0_chk50 v2570 v2576 v2732), ∀ (k0_h4 : ¬(k0_cond4 v2570 v2576 = 1#1)), ∀ a x, ((![v2732] : Fin 1 → IVec S16 32) a x).toNat < S2048.size a := fun v2570 v2576 v2732 k0_hw50 k0_h4 => k0_hw50 k0_h4

def k0_chk51 (v2570 : BitVec 32) (v2576 : BitVec 32) (v2584 : IVec S16 32) (v2736 : IVec S16 32) : Prop :=
  (∀ (k0_h4 : ¬(k0_cond4 v2570 v2576 = 1#1)), ∀ a x, ((![v2584, v2736] : Fin 2 → IVec S16 32) a x).toNat < S512x128.size a)
theorem k0_idx51_inb : ∀ (v2570 : BitVec 32) (v2576 : BitVec 32) (v2584 : IVec S16 32) (v2736 : IVec S16 32) (k0_hw51 : k0_chk51 v2570 v2576 v2584 v2736), ∀ (k0_h4 : ¬(k0_cond4 v2570 v2576 = 1#1)), ∀ a x, ((![v2584, v2736] : Fin 2 → IVec S16 32) a x).toNat < S512x128.size a := fun v2570 v2576 v2584 v2736 k0_hw51 k0_h4 => k0_hw51 k0_h4

def k0_chk52 (v2570 : BitVec 32) (v2576 : BitVec 32) (v2739 : IVec S16 32) : Prop :=
  (∀ (k0_h4 : ¬(k0_cond4 v2570 v2576 = 1#1)), ∀ a x, ((![v2739] : Fin 1 → IVec S16 32) a x).toNat < S2048.size a)
theorem k0_idx52_inb : ∀ (v2570 : BitVec 32) (v2576 : BitVec 32) (v2739 : IVec S16 32) (k0_hw52 : k0_chk52 v2570 v2576 v2739), ∀ (k0_h4 : ¬(k0_cond4 v2570 v2576 = 1#1)), ∀ a x, ((![v2739] : Fin 1 → IVec S16 32) a x).toNat < S2048.size a := fun v2570 v2576 v2739 k0_hw52 k0_h4 => k0_hw52 k0_h4

def k0_chk53 (v2570 : BitVec 32) (v2576 : BitVec 32) (v2584 : IVec S16 32) (v2743 : IVec S16 32) : Prop :=
  (∀ (k0_h4 : ¬(k0_cond4 v2570 v2576 = 1#1)), ∀ a x, ((![v2584, v2743] : Fin 2 → IVec S16 32) a x).toNat < S512x128.size a)
theorem k0_idx53_inb : ∀ (v2570 : BitVec 32) (v2576 : BitVec 32) (v2584 : IVec S16 32) (v2743 : IVec S16 32) (k0_hw53 : k0_chk53 v2570 v2576 v2584 v2743), ∀ (k0_h4 : ¬(k0_cond4 v2570 v2576 = 1#1)), ∀ a x, ((![v2584, v2743] : Fin 2 → IVec S16 32) a x).toNat < S512x128.size a := fun v2570 v2576 v2584 v2743 k0_hw53 k0_h4 => k0_hw53 k0_h4

def k0_chk54 (v2570 : BitVec 32) (v2576 : BitVec 32) (v2746 : IVec S16 32) : Prop :=
  (∀ (k0_h4 : ¬(k0_cond4 v2570 v2576 = 1#1)), ∀ a x, ((![v2746] : Fin 1 → IVec S16 32) a x).toNat < S2048.size a)
theorem k0_idx54_inb : ∀ (v2570 : BitVec 32) (v2576 : BitVec 32) (v2746 : IVec S16 32) (k0_hw54 : k0_chk54 v2570 v2576 v2746), ∀ (k0_h4 : ¬(k0_cond4 v2570 v2576 = 1#1)), ∀ a x, ((![v2746] : Fin 1 → IVec S16 32) a x).toNat < S2048.size a := fun v2570 v2576 v2746 k0_hw54 k0_h4 => k0_hw54 k0_h4

def k0_chk55 (v2570 : BitVec 32) (v2576 : BitVec 32) (v2584 : IVec S16 32) (v2750 : IVec S16 32) : Prop :=
  (∀ (k0_h4 : ¬(k0_cond4 v2570 v2576 = 1#1)), ∀ a x, ((![v2584, v2750] : Fin 2 → IVec S16 32) a x).toNat < S512x128.size a)
theorem k0_idx55_inb : ∀ (v2570 : BitVec 32) (v2576 : BitVec 32) (v2584 : IVec S16 32) (v2750 : IVec S16 32) (k0_hw55 : k0_chk55 v2570 v2576 v2584 v2750), ∀ (k0_h4 : ¬(k0_cond4 v2570 v2576 = 1#1)), ∀ a x, ((![v2584, v2750] : Fin 2 → IVec S16 32) a x).toNat < S512x128.size a := fun v2570 v2576 v2584 v2750 k0_hw55 k0_h4 => k0_hw55 k0_h4

def k0_chk56 (v2570 : BitVec 32) (v2576 : BitVec 32) (v2753 : IVec S16 32) : Prop :=
  (∀ (k0_h4 : ¬(k0_cond4 v2570 v2576 = 1#1)), ∀ a x, ((![v2753] : Fin 1 → IVec S16 32) a x).toNat < S2048.size a)
theorem k0_idx56_inb : ∀ (v2570 : BitVec 32) (v2576 : BitVec 32) (v2753 : IVec S16 32) (k0_hw56 : k0_chk56 v2570 v2576 v2753), ∀ (k0_h4 : ¬(k0_cond4 v2570 v2576 = 1#1)), ∀ a x, ((![v2753] : Fin 1 → IVec S16 32) a x).toNat < S2048.size a := fun v2570 v2576 v2753 k0_hw56 k0_h4 => k0_hw56 k0_h4

def k0_chk57 (v2570 : BitVec 32) (v2576 : BitVec 32) (v2584 : IVec S16 32) (v2757 : IVec S16 32) : Prop :=
  (∀ (k0_h4 : ¬(k0_cond4 v2570 v2576 = 1#1)), ∀ a x, ((![v2584, v2757] : Fin 2 → IVec S16 32) a x).toNat < S512x128.size a)
theorem k0_idx57_inb : ∀ (v2570 : BitVec 32) (v2576 : BitVec 32) (v2584 : IVec S16 32) (v2757 : IVec S16 32) (k0_hw57 : k0_chk57 v2570 v2576 v2584 v2757), ∀ (k0_h4 : ¬(k0_cond4 v2570 v2576 = 1#1)), ∀ a x, ((![v2584, v2757] : Fin 2 → IVec S16 32) a x).toNat < S512x128.size a := fun v2570 v2576 v2584 v2757 k0_hw57 k0_h4 => k0_hw57 k0_h4

def k0_chk58 (v2570 : BitVec 32) (v2576 : BitVec 32) (v2760 : IVec S16 32) : Prop :=
  (∀ (k0_h4 : ¬(k0_cond4 v2570 v2576 = 1#1)), ∀ a x, ((![v2760] : Fin 1 → IVec S16 32) a x).toNat < S2048.size a)
theorem k0_idx58_inb : ∀ (v2570 : BitVec 32) (v2576 : BitVec 32) (v2760 : IVec S16 32) (k0_hw58 : k0_chk58 v2570 v2576 v2760), ∀ (k0_h4 : ¬(k0_cond4 v2570 v2576 = 1#1)), ∀ a x, ((![v2760] : Fin 1 → IVec S16 32) a x).toNat < S2048.size a := fun v2570 v2576 v2760 k0_hw58 k0_h4 => k0_hw58 k0_h4

def k0_chk59 (v2570 : BitVec 32) (v2576 : BitVec 32) (v2584 : IVec S16 32) (v2764 : IVec S16 32) : Prop :=
  (∀ (k0_h4 : ¬(k0_cond4 v2570 v2576 = 1#1)), ∀ a x, ((![v2584, v2764] : Fin 2 → IVec S16 32) a x).toNat < S512x128.size a)
theorem k0_idx59_inb : ∀ (v2570 : BitVec 32) (v2576 : BitVec 32) (v2584 : IVec S16 32) (v2764 : IVec S16 32) (k0_hw59 : k0_chk59 v2570 v2576 v2584 v2764), ∀ (k0_h4 : ¬(k0_cond4 v2570 v2576 = 1#1)), ∀ a x, ((![v2584, v2764] : Fin 2 → IVec S16 32) a x).toNat < S512x128.size a := fun v2570 v2576 v2584 v2764 k0_hw59 k0_h4 => k0_hw59 k0_h4

def k0_chk60 (v2570 : BitVec 32) (v2576 : BitVec 32) (v2767 : IVec S16 32) : Prop :=
  (∀ (k0_h4 : ¬(k0_cond4 v2570 v2576 = 1#1)), ∀ a x, ((![v2767] : Fin 1 → IVec S16 32) a x).toNat < S2048.size a)
theorem k0_idx60_inb : ∀ (v2570 : BitVec 32) (v2576 : BitVec 32) (v2767 : IVec S16 32) (k0_hw60 : k0_chk60 v2570 v2576 v2767), ∀ (k0_h4 : ¬(k0_cond4 v2570 v2576 = 1#1)), ∀ a x, ((![v2767] : Fin 1 → IVec S16 32) a x).toNat < S2048.size a := fun v2570 v2576 v2767 k0_hw60 k0_h4 => k0_hw60 k0_h4

def k0_chk61 (v2570 : BitVec 32) (v2576 : BitVec 32) (v2584 : IVec S16 32) (v2771 : IVec S16 32) : Prop :=
  (∀ (k0_h4 : ¬(k0_cond4 v2570 v2576 = 1#1)), ∀ a x, ((![v2584, v2771] : Fin 2 → IVec S16 32) a x).toNat < S512x128.size a)
theorem k0_idx61_inb : ∀ (v2570 : BitVec 32) (v2576 : BitVec 32) (v2584 : IVec S16 32) (v2771 : IVec S16 32) (k0_hw61 : k0_chk61 v2570 v2576 v2584 v2771), ∀ (k0_h4 : ¬(k0_cond4 v2570 v2576 = 1#1)), ∀ a x, ((![v2584, v2771] : Fin 2 → IVec S16 32) a x).toNat < S512x128.size a := fun v2570 v2576 v2584 v2771 k0_hw61 k0_h4 => k0_hw61 k0_h4

def k0_chk62 (v2570 : BitVec 32) (v2576 : BitVec 32) (v2774 : IVec S16 32) : Prop :=
  (∀ (k0_h4 : ¬(k0_cond4 v2570 v2576 = 1#1)), ∀ a x, ((![v2774] : Fin 1 → IVec S16 32) a x).toNat < S2048.size a)
theorem k0_idx62_inb : ∀ (v2570 : BitVec 32) (v2576 : BitVec 32) (v2774 : IVec S16 32) (k0_hw62 : k0_chk62 v2570 v2576 v2774), ∀ (k0_h4 : ¬(k0_cond4 v2570 v2576 = 1#1)), ∀ a x, ((![v2774] : Fin 1 → IVec S16 32) a x).toNat < S2048.size a := fun v2570 v2576 v2774 k0_hw62 k0_h4 => k0_hw62 k0_h4

def k0_chk63 (v2570 : BitVec 32) (v2576 : BitVec 32) (v2584 : IVec S16 32) (v2778 : IVec S16 32) : Prop :=
  (∀ (k0_h4 : ¬(k0_cond4 v2570 v2576 = 1#1)), ∀ a x, ((![v2584, v2778] : Fin 2 → IVec S16 32) a x).toNat < S512x128.size a)
theorem k0_idx63_inb : ∀ (v2570 : BitVec 32) (v2576 : BitVec 32) (v2584 : IVec S16 32) (v2778 : IVec S16 32) (k0_hw63 : k0_chk63 v2570 v2576 v2584 v2778), ∀ (k0_h4 : ¬(k0_cond4 v2570 v2576 = 1#1)), ∀ a x, ((![v2584, v2778] : Fin 2 → IVec S16 32) a x).toNat < S512x128.size a := fun v2570 v2576 v2584 v2778 k0_hw63 k0_h4 => k0_hw63 k0_h4

def k0_chk64 (v2570 : BitVec 32) (v2576 : BitVec 32) (v2781 : IVec S16 32) : Prop :=
  (∀ (k0_h4 : ¬(k0_cond4 v2570 v2576 = 1#1)), ∀ a x, ((![v2781] : Fin 1 → IVec S16 32) a x).toNat < S2048.size a)
theorem k0_idx64_inb : ∀ (v2570 : BitVec 32) (v2576 : BitVec 32) (v2781 : IVec S16 32) (k0_hw64 : k0_chk64 v2570 v2576 v2781), ∀ (k0_h4 : ¬(k0_cond4 v2570 v2576 = 1#1)), ∀ a x, ((![v2781] : Fin 1 → IVec S16 32) a x).toNat < S2048.size a := fun v2570 v2576 v2781 k0_hw64 k0_h4 => k0_hw64 k0_h4

def k0_chk65 (v2570 : BitVec 32) (v2576 : BitVec 32) (v2584 : IVec S16 32) (v2785 : IVec S16 32) : Prop :=
  (∀ (k0_h4 : ¬(k0_cond4 v2570 v2576 = 1#1)), ∀ a x, ((![v2584, v2785] : Fin 2 → IVec S16 32) a x).toNat < S512x128.size a)
theorem k0_idx65_inb : ∀ (v2570 : BitVec 32) (v2576 : BitVec 32) (v2584 : IVec S16 32) (v2785 : IVec S16 32) (k0_hw65 : k0_chk65 v2570 v2576 v2584 v2785), ∀ (k0_h4 : ¬(k0_cond4 v2570 v2576 = 1#1)), ∀ a x, ((![v2584, v2785] : Fin 2 → IVec S16 32) a x).toNat < S512x128.size a := fun v2570 v2576 v2584 v2785 k0_hw65 k0_h4 => k0_hw65 k0_h4

def k0_chk66 (v2570 : BitVec 32) (v2576 : BitVec 32) (v2788 : IVec S16 32) : Prop :=
  (∀ (k0_h4 : ¬(k0_cond4 v2570 v2576 = 1#1)), ∀ a x, ((![v2788] : Fin 1 → IVec S16 32) a x).toNat < S2048.size a)
theorem k0_idx66_inb : ∀ (v2570 : BitVec 32) (v2576 : BitVec 32) (v2788 : IVec S16 32) (k0_hw66 : k0_chk66 v2570 v2576 v2788), ∀ (k0_h4 : ¬(k0_cond4 v2570 v2576 = 1#1)), ∀ a x, ((![v2788] : Fin 1 → IVec S16 32) a x).toNat < S2048.size a := fun v2570 v2576 v2788 k0_hw66 k0_h4 => k0_hw66 k0_h4

def k0_chk67 (v2570 : BitVec 32) (v2576 : BitVec 32) (v2584 : IVec S16 32) (v2792 : IVec S16 32) : Prop :=
  (∀ (k0_h4 : ¬(k0_cond4 v2570 v2576 = 1#1)), ∀ a x, ((![v2584, v2792] : Fin 2 → IVec S16 32) a x).toNat < S512x128.size a)
theorem k0_idx67_inb : ∀ (v2570 : BitVec 32) (v2576 : BitVec 32) (v2584 : IVec S16 32) (v2792 : IVec S16 32) (k0_hw67 : k0_chk67 v2570 v2576 v2584 v2792), ∀ (k0_h4 : ¬(k0_cond4 v2570 v2576 = 1#1)), ∀ a x, ((![v2584, v2792] : Fin 2 → IVec S16 32) a x).toNat < S512x128.size a := fun v2570 v2576 v2584 v2792 k0_hw67 k0_h4 => k0_hw67 k0_h4

def k0_chk68 (v2570 : BitVec 32) (v2576 : BitVec 32) (v2795 : IVec S16 32) : Prop :=
  (∀ (k0_h4 : ¬(k0_cond4 v2570 v2576 = 1#1)), ∀ a x, ((![v2795] : Fin 1 → IVec S16 32) a x).toNat < S2048.size a)
theorem k0_idx68_inb : ∀ (v2570 : BitVec 32) (v2576 : BitVec 32) (v2795 : IVec S16 32) (k0_hw68 : k0_chk68 v2570 v2576 v2795), ∀ (k0_h4 : ¬(k0_cond4 v2570 v2576 = 1#1)), ∀ a x, ((![v2795] : Fin 1 → IVec S16 32) a x).toNat < S2048.size a := fun v2570 v2576 v2795 k0_hw68 k0_h4 => k0_hw68 k0_h4

def k0_chk69 (v2570 : BitVec 32) (v2576 : BitVec 32) (v2584 : IVec S16 32) (v2799 : IVec S16 32) : Prop :=
  (∀ (k0_h4 : ¬(k0_cond4 v2570 v2576 = 1#1)), ∀ a x, ((![v2584, v2799] : Fin 2 → IVec S16 32) a x).toNat < S512x128.size a)
theorem k0_idx69_inb : ∀ (v2570 : BitVec 32) (v2576 : BitVec 32) (v2584 : IVec S16 32) (v2799 : IVec S16 32) (k0_hw69 : k0_chk69 v2570 v2576 v2584 v2799), ∀ (k0_h4 : ¬(k0_cond4 v2570 v2576 = 1#1)), ∀ a x, ((![v2584, v2799] : Fin 2 → IVec S16 32) a x).toNat < S512x128.size a := fun v2570 v2576 v2584 v2799 k0_hw69 k0_h4 => k0_hw69 k0_h4

def k0_chk70 (v2570 : BitVec 32) (v2576 : BitVec 32) (v2802 : IVec S16 32) : Prop :=
  (∀ (k0_h4 : ¬(k0_cond4 v2570 v2576 = 1#1)), ∀ a x, ((![v2802] : Fin 1 → IVec S16 32) a x).toNat < S2048.size a)
theorem k0_idx70_inb : ∀ (v2570 : BitVec 32) (v2576 : BitVec 32) (v2802 : IVec S16 32) (k0_hw70 : k0_chk70 v2570 v2576 v2802), ∀ (k0_h4 : ¬(k0_cond4 v2570 v2576 = 1#1)), ∀ a x, ((![v2802] : Fin 1 → IVec S16 32) a x).toNat < S2048.size a := fun v2570 v2576 v2802 k0_hw70 k0_h4 => k0_hw70 k0_h4

def k0_chk71 (v2570 : BitVec 32) (v2576 : BitVec 32) (v2584 : IVec S16 32) (v2806 : IVec S16 32) : Prop :=
  (∀ (k0_h4 : ¬(k0_cond4 v2570 v2576 = 1#1)), ∀ a x, ((![v2584, v2806] : Fin 2 → IVec S16 32) a x).toNat < S512x128.size a)
theorem k0_idx71_inb : ∀ (v2570 : BitVec 32) (v2576 : BitVec 32) (v2584 : IVec S16 32) (v2806 : IVec S16 32) (k0_hw71 : k0_chk71 v2570 v2576 v2584 v2806), ∀ (k0_h4 : ¬(k0_cond4 v2570 v2576 = 1#1)), ∀ a x, ((![v2584, v2806] : Fin 2 → IVec S16 32) a x).toNat < S512x128.size a := fun v2570 v2576 v2584 v2806 k0_hw71 k0_h4 => k0_hw71 k0_h4

def k0_chk72 (v2570 : BitVec 32) (v2576 : BitVec 32) (v2809 : IVec S16 32) : Prop :=
  (∀ (k0_h4 : ¬(k0_cond4 v2570 v2576 = 1#1)), ∀ a x, ((![v2809] : Fin 1 → IVec S16 32) a x).toNat < S2048.size a)
theorem k0_idx72_inb : ∀ (v2570 : BitVec 32) (v2576 : BitVec 32) (v2809 : IVec S16 32) (k0_hw72 : k0_chk72 v2570 v2576 v2809), ∀ (k0_h4 : ¬(k0_cond4 v2570 v2576 = 1#1)), ∀ a x, ((![v2809] : Fin 1 → IVec S16 32) a x).toNat < S2048.size a := fun v2570 v2576 v2809 k0_hw72 k0_h4 => k0_hw72 k0_h4

def k0_chk73 (v2570 : BitVec 32) (v2576 : BitVec 32) (v2584 : IVec S16 32) (v2813 : IVec S16 32) : Prop :=
  (∀ (k0_h4 : ¬(k0_cond4 v2570 v2576 = 1#1)), ∀ a x, ((![v2584, v2813] : Fin 2 → IVec S16 32) a x).toNat < S512x128.size a)
theorem k0_idx73_inb : ∀ (v2570 : BitVec 32) (v2576 : BitVec 32) (v2584 : IVec S16 32) (v2813 : IVec S16 32) (k0_hw73 : k0_chk73 v2570 v2576 v2584 v2813), ∀ (k0_h4 : ¬(k0_cond4 v2570 v2576 = 1#1)), ∀ a x, ((![v2584, v2813] : Fin 2 → IVec S16 32) a x).toNat < S512x128.size a := fun v2570 v2576 v2584 v2813 k0_hw73 k0_h4 => k0_hw73 k0_h4

def k0_chk74 (v2570 : BitVec 32) (v2576 : BitVec 32) (v2816 : IVec S16 32) : Prop :=
  (∀ (k0_h4 : ¬(k0_cond4 v2570 v2576 = 1#1)), ∀ a x, ((![v2816] : Fin 1 → IVec S16 32) a x).toNat < S2048.size a)
theorem k0_idx74_inb : ∀ (v2570 : BitVec 32) (v2576 : BitVec 32) (v2816 : IVec S16 32) (k0_hw74 : k0_chk74 v2570 v2576 v2816), ∀ (k0_h4 : ¬(k0_cond4 v2570 v2576 = 1#1)), ∀ a x, ((![v2816] : Fin 1 → IVec S16 32) a x).toNat < S2048.size a := fun v2570 v2576 v2816 k0_hw74 k0_h4 => k0_hw74 k0_h4

def k0_chk75 (v2570 : BitVec 32) (v2576 : BitVec 32) (v2584 : IVec S16 32) (v2820 : IVec S16 32) : Prop :=
  (∀ (k0_h4 : ¬(k0_cond4 v2570 v2576 = 1#1)), ∀ a x, ((![v2584, v2820] : Fin 2 → IVec S16 32) a x).toNat < S512x128.size a)
theorem k0_idx75_inb : ∀ (v2570 : BitVec 32) (v2576 : BitVec 32) (v2584 : IVec S16 32) (v2820 : IVec S16 32) (k0_hw75 : k0_chk75 v2570 v2576 v2584 v2820), ∀ (k0_h4 : ¬(k0_cond4 v2570 v2576 = 1#1)), ∀ a x, ((![v2584, v2820] : Fin 2 → IVec S16 32) a x).toNat < S512x128.size a := fun v2570 v2576 v2584 v2820 k0_hw75 k0_h4 => k0_hw75 k0_h4

def k0_chk76 (v2570 : BitVec 32) (v2576 : BitVec 32) (v2823 : IVec S16 32) : Prop :=
  (∀ (k0_h4 : ¬(k0_cond4 v2570 v2576 = 1#1)), ∀ a x, ((![v2823] : Fin 1 → IVec S16 32) a x).toNat < S2048.size a)
theorem k0_idx76_inb : ∀ (v2570 : BitVec 32) (v2576 : BitVec 32) (v2823 : IVec S16 32) (k0_hw76 : k0_chk76 v2570 v2576 v2823), ∀ (k0_h4 : ¬(k0_cond4 v2570 v2576 = 1#1)), ∀ a x, ((![v2823] : Fin 1 → IVec S16 32) a x).toNat < S2048.size a := fun v2570 v2576 v2823 k0_hw76 k0_h4 => k0_hw76 k0_h4

def k0_chk77 (v2570 : BitVec 32) (v2576 : BitVec 32) (v2584 : IVec S16 32) (v2827 : IVec S16 32) : Prop :=
  (∀ (k0_h4 : ¬(k0_cond4 v2570 v2576 = 1#1)), ∀ a x, ((![v2584, v2827] : Fin 2 → IVec S16 32) a x).toNat < S512x128.size a)
theorem k0_idx77_inb : ∀ (v2570 : BitVec 32) (v2576 : BitVec 32) (v2584 : IVec S16 32) (v2827 : IVec S16 32) (k0_hw77 : k0_chk77 v2570 v2576 v2584 v2827), ∀ (k0_h4 : ¬(k0_cond4 v2570 v2576 = 1#1)), ∀ a x, ((![v2584, v2827] : Fin 2 → IVec S16 32) a x).toNat < S512x128.size a := fun v2570 v2576 v2584 v2827 k0_hw77 k0_h4 => k0_hw77 k0_h4

def k0_chk78 (v2570 : BitVec 32) (v2576 : BitVec 32) (v2830 : IVec S16 32) : Prop :=
  (∀ (k0_h4 : ¬(k0_cond4 v2570 v2576 = 1#1)), ∀ a x, ((![v2830] : Fin 1 → IVec S16 32) a x).toNat < S2048.size a)
theorem k0_idx78_inb : ∀ (v2570 : BitVec 32) (v2576 : BitVec 32) (v2830 : IVec S16 32) (k0_hw78 : k0_chk78 v2570 v2576 v2830), ∀ (k0_h4 : ¬(k0_cond4 v2570 v2576 = 1#1)), ∀ a x, ((![v2830] : Fin 1 → IVec S16 32) a x).toNat < S2048.size a := fun v2570 v2576 v2830 k0_hw78 k0_h4 => k0_hw78 k0_h4

def k0_chk79 (v2570 : BitVec 32) (v2576 : BitVec 32) (v2584 : IVec S16 32) (v2834 : IVec S16 32) : Prop :=
  (∀ (k0_h4 : ¬(k0_cond4 v2570 v2576 = 1#1)), ∀ a x, ((![v2584, v2834] : Fin 2 → IVec S16 32) a x).toNat < S512x128.size a)
theorem k0_idx79_inb : ∀ (v2570 : BitVec 32) (v2576 : BitVec 32) (v2584 : IVec S16 32) (v2834 : IVec S16 32) (k0_hw79 : k0_chk79 v2570 v2576 v2584 v2834), ∀ (k0_h4 : ¬(k0_cond4 v2570 v2576 = 1#1)), ∀ a x, ((![v2584, v2834] : Fin 2 → IVec S16 32) a x).toNat < S512x128.size a := fun v2570 v2576 v2584 v2834 k0_hw79 k0_h4 => k0_hw79 k0_h4

def k0_chk80 (v2570 : BitVec 32) (v2576 : BitVec 32) (v2837 : IVec S16 32) : Prop :=
  (∀ (k0_h4 : ¬(k0_cond4 v2570 v2576 = 1#1)), ∀ a x, ((![v2837] : Fin 1 → IVec S16 32) a x).toNat < S2048.size a)
theorem k0_idx80_inb : ∀ (v2570 : BitVec 32) (v2576 : BitVec 32) (v2837 : IVec S16 32) (k0_hw80 : k0_chk80 v2570 v2576 v2837), ∀ (k0_h4 : ¬(k0_cond4 v2570 v2576 = 1#1)), ∀ a x, ((![v2837] : Fin 1 → IVec S16 32) a x).toNat < S2048.size a := fun v2570 v2576 v2837 k0_hw80 k0_h4 => k0_hw80 k0_h4

def k0_chk81 (v2570 : BitVec 32) (v2576 : BitVec 32) (v2584 : IVec S16 32) (v2841 : IVec S16 32) : Prop :=
  (∀ (k0_h4 : ¬(k0_cond4 v2570 v2576 = 1#1)), ∀ a x, ((![v2584, v2841] : Fin 2 → IVec S16 32) a x).toNat < S512x128.size a)
theorem k0_idx81_inb : ∀ (v2570 : BitVec 32) (v2576 : BitVec 32) (v2584 : IVec S16 32) (v2841 : IVec S16 32) (k0_hw81 : k0_chk81 v2570 v2576 v2584 v2841), ∀ (k0_h4 : ¬(k0_cond4 v2570 v2576 = 1#1)), ∀ a x, ((![v2584, v2841] : Fin 2 → IVec S16 32) a x).toNat < S512x128.size a := fun v2570 v2576 v2584 v2841 k0_hw81 k0_h4 => k0_hw81 k0_h4

def k0_chk82 (v2570 : BitVec 32) (v2576 : BitVec 32) (v2844 : IVec S16 32) : Prop :=
  (∀ (k0_h4 : ¬(k0_cond4 v2570 v2576 = 1#1)), ∀ a x, ((![v2844] : Fin 1 → IVec S16 32) a x).toNat < S2048.size a)
theorem k0_idx82_inb : ∀ (v2570 : BitVec 32) (v2576 : BitVec 32) (v2844 : IVec S16 32) (k0_hw82 : k0_chk82 v2570 v2576 v2844), ∀ (k0_h4 : ¬(k0_cond4 v2570 v2576 = 1#1)), ∀ a x, ((![v2844] : Fin 1 → IVec S16 32) a x).toNat < S2048.size a := fun v2570 v2576 v2844 k0_hw82 k0_h4 => k0_hw82 k0_h4

def k0_chk83 (v2570 : BitVec 32) (v2576 : BitVec 32) (v2584 : IVec S16 32) (v2848 : IVec S16 32) : Prop :=
  (∀ (k0_h4 : ¬(k0_cond4 v2570 v2576 = 1#1)), ∀ a x, ((![v2584, v2848] : Fin 2 → IVec S16 32) a x).toNat < S512x128.size a)
theorem k0_idx83_inb : ∀ (v2570 : BitVec 32) (v2576 : BitVec 32) (v2584 : IVec S16 32) (v2848 : IVec S16 32) (k0_hw83 : k0_chk83 v2570 v2576 v2584 v2848), ∀ (k0_h4 : ¬(k0_cond4 v2570 v2576 = 1#1)), ∀ a x, ((![v2584, v2848] : Fin 2 → IVec S16 32) a x).toNat < S512x128.size a := fun v2570 v2576 v2584 v2848 k0_hw83 k0_h4 => k0_hw83 k0_h4

def k0_chk84 (v2570 : BitVec 32) (v2576 : BitVec 32) (v2851 : IVec S16 32) : Prop :=
  (∀ (k0_h4 : ¬(k0_cond4 v2570 v2576 = 1#1)), ∀ a x, ((![v2851] : Fin 1 → IVec S16 32) a x).toNat < S2048.size a)
theorem k0_idx84_inb : ∀ (v2570 : BitVec 32) (v2576 : BitVec 32) (v2851 : IVec S16 32) (k0_hw84 : k0_chk84 v2570 v2576 v2851), ∀ (k0_h4 : ¬(k0_cond4 v2570 v2576 = 1#1)), ∀ a x, ((![v2851] : Fin 1 → IVec S16 32) a x).toNat < S2048.size a := fun v2570 v2576 v2851 k0_hw84 k0_h4 => k0_hw84 k0_h4

def k0_chk85 (v2570 : BitVec 32) (v2576 : BitVec 32) (v2584 : IVec S16 32) (v2855 : IVec S16 32) : Prop :=
  (∀ (k0_h4 : ¬(k0_cond4 v2570 v2576 = 1#1)), ∀ a x, ((![v2584, v2855] : Fin 2 → IVec S16 32) a x).toNat < S512x128.size a)
theorem k0_idx85_inb : ∀ (v2570 : BitVec 32) (v2576 : BitVec 32) (v2584 : IVec S16 32) (v2855 : IVec S16 32) (k0_hw85 : k0_chk85 v2570 v2576 v2584 v2855), ∀ (k0_h4 : ¬(k0_cond4 v2570 v2576 = 1#1)), ∀ a x, ((![v2584, v2855] : Fin 2 → IVec S16 32) a x).toNat < S512x128.size a := fun v2570 v2576 v2584 v2855 k0_hw85 k0_h4 => k0_hw85 k0_h4

def k0_chk86 (v2570 : BitVec 32) (v2576 : BitVec 32) (v2858 : IVec S16 32) : Prop :=
  (∀ (k0_h4 : ¬(k0_cond4 v2570 v2576 = 1#1)), ∀ a x, ((![v2858] : Fin 1 → IVec S16 32) a x).toNat < S2048.size a)
theorem k0_idx86_inb : ∀ (v2570 : BitVec 32) (v2576 : BitVec 32) (v2858 : IVec S16 32) (k0_hw86 : k0_chk86 v2570 v2576 v2858), ∀ (k0_h4 : ¬(k0_cond4 v2570 v2576 = 1#1)), ∀ a x, ((![v2858] : Fin 1 → IVec S16 32) a x).toNat < S2048.size a := fun v2570 v2576 v2858 k0_hw86 k0_h4 => k0_hw86 k0_h4

def k0_chk87 (v2570 : BitVec 32) (v2576 : BitVec 32) (v2584 : IVec S16 32) (v2862 : IVec S16 32) : Prop :=
  (∀ (k0_h4 : ¬(k0_cond4 v2570 v2576 = 1#1)), ∀ a x, ((![v2584, v2862] : Fin 2 → IVec S16 32) a x).toNat < S512x128.size a)
theorem k0_idx87_inb : ∀ (v2570 : BitVec 32) (v2576 : BitVec 32) (v2584 : IVec S16 32) (v2862 : IVec S16 32) (k0_hw87 : k0_chk87 v2570 v2576 v2584 v2862), ∀ (k0_h4 : ¬(k0_cond4 v2570 v2576 = 1#1)), ∀ a x, ((![v2584, v2862] : Fin 2 → IVec S16 32) a x).toNat < S512x128.size a := fun v2570 v2576 v2584 v2862 k0_hw87 k0_h4 => k0_hw87 k0_h4

def k0_chk88 (v2570 : BitVec 32) (v2576 : BitVec 32) (v2865 : IVec S16 32) : Prop :=
  (∀ (k0_h4 : ¬(k0_cond4 v2570 v2576 = 1#1)), ∀ a x, ((![v2865] : Fin 1 → IVec S16 32) a x).toNat < S2048.size a)
theorem k0_idx88_inb : ∀ (v2570 : BitVec 32) (v2576 : BitVec 32) (v2865 : IVec S16 32) (k0_hw88 : k0_chk88 v2570 v2576 v2865), ∀ (k0_h4 : ¬(k0_cond4 v2570 v2576 = 1#1)), ∀ a x, ((![v2865] : Fin 1 → IVec S16 32) a x).toNat < S2048.size a := fun v2570 v2576 v2865 k0_hw88 k0_h4 => k0_hw88 k0_h4

def k0_chk89 (v2570 : BitVec 32) (v2576 : BitVec 32) (v2584 : IVec S16 32) (v2869 : IVec S16 32) : Prop :=
  (∀ (k0_h4 : ¬(k0_cond4 v2570 v2576 = 1#1)), ∀ a x, ((![v2584, v2869] : Fin 2 → IVec S16 32) a x).toNat < S512x128.size a)
theorem k0_idx89_inb : ∀ (v2570 : BitVec 32) (v2576 : BitVec 32) (v2584 : IVec S16 32) (v2869 : IVec S16 32) (k0_hw89 : k0_chk89 v2570 v2576 v2584 v2869), ∀ (k0_h4 : ¬(k0_cond4 v2570 v2576 = 1#1)), ∀ a x, ((![v2584, v2869] : Fin 2 → IVec S16 32) a x).toNat < S512x128.size a := fun v2570 v2576 v2584 v2869 k0_hw89 k0_h4 => k0_hw89 k0_h4

def k0_chk90 (v2570 : BitVec 32) (v2576 : BitVec 32) (v2872 : IVec S16 32) : Prop :=
  (∀ (k0_h4 : ¬(k0_cond4 v2570 v2576 = 1#1)), ∀ a x, ((![v2872] : Fin 1 → IVec S16 32) a x).toNat < S2048.size a)
theorem k0_idx90_inb : ∀ (v2570 : BitVec 32) (v2576 : BitVec 32) (v2872 : IVec S16 32) (k0_hw90 : k0_chk90 v2570 v2576 v2872), ∀ (k0_h4 : ¬(k0_cond4 v2570 v2576 = 1#1)), ∀ a x, ((![v2872] : Fin 1 → IVec S16 32) a x).toNat < S2048.size a := fun v2570 v2576 v2872 k0_hw90 k0_h4 => k0_hw90 k0_h4

def k0_chk91 (v2570 : BitVec 32) (v2576 : BitVec 32) (v2584 : IVec S16 32) (v2876 : IVec S16 32) : Prop :=
  (∀ (k0_h4 : ¬(k0_cond4 v2570 v2576 = 1#1)), ∀ a x, ((![v2584, v2876] : Fin 2 → IVec S16 32) a x).toNat < S512x128.size a)
theorem k0_idx91_inb : ∀ (v2570 : BitVec 32) (v2576 : BitVec 32) (v2584 : IVec S16 32) (v2876 : IVec S16 32) (k0_hw91 : k0_chk91 v2570 v2576 v2584 v2876), ∀ (k0_h4 : ¬(k0_cond4 v2570 v2576 = 1#1)), ∀ a x, ((![v2584, v2876] : Fin 2 → IVec S16 32) a x).toNat < S512x128.size a := fun v2570 v2576 v2584 v2876 k0_hw91 k0_h4 => k0_hw91 k0_h4

def k0_chk92 (v2570 : BitVec 32) (v2576 : BitVec 32) (v2879 : IVec S16 32) : Prop :=
  (∀ (k0_h4 : ¬(k0_cond4 v2570 v2576 = 1#1)), ∀ a x, ((![v2879] : Fin 1 → IVec S16 32) a x).toNat < S2048.size a)
theorem k0_idx92_inb : ∀ (v2570 : BitVec 32) (v2576 : BitVec 32) (v2879 : IVec S16 32) (k0_hw92 : k0_chk92 v2570 v2576 v2879), ∀ (k0_h4 : ¬(k0_cond4 v2570 v2576 = 1#1)), ∀ a x, ((![v2879] : Fin 1 → IVec S16 32) a x).toNat < S2048.size a := fun v2570 v2576 v2879 k0_hw92 k0_h4 => k0_hw92 k0_h4

def k0_chk93 (v2570 : BitVec 32) (v2576 : BitVec 32) (v2584 : IVec S16 32) (v2883 : IVec S16 32) : Prop :=
  (∀ (k0_h4 : ¬(k0_cond4 v2570 v2576 = 1#1)), ∀ a x, ((![v2584, v2883] : Fin 2 → IVec S16 32) a x).toNat < S512x128.size a)
theorem k0_idx93_inb : ∀ (v2570 : BitVec 32) (v2576 : BitVec 32) (v2584 : IVec S16 32) (v2883 : IVec S16 32) (k0_hw93 : k0_chk93 v2570 v2576 v2584 v2883), ∀ (k0_h4 : ¬(k0_cond4 v2570 v2576 = 1#1)), ∀ a x, ((![v2584, v2883] : Fin 2 → IVec S16 32) a x).toNat < S512x128.size a := fun v2570 v2576 v2584 v2883 k0_hw93 k0_h4 => k0_hw93 k0_h4

def k0_chk94 (v2570 : BitVec 32) (v2576 : BitVec 32) (v2886 : IVec S16 32) : Prop :=
  (∀ (k0_h4 : ¬(k0_cond4 v2570 v2576 = 1#1)), ∀ a x, ((![v2886] : Fin 1 → IVec S16 32) a x).toNat < S2048.size a)
theorem k0_idx94_inb : ∀ (v2570 : BitVec 32) (v2576 : BitVec 32) (v2886 : IVec S16 32) (k0_hw94 : k0_chk94 v2570 v2576 v2886), ∀ (k0_h4 : ¬(k0_cond4 v2570 v2576 = 1#1)), ∀ a x, ((![v2886] : Fin 1 → IVec S16 32) a x).toNat < S2048.size a := fun v2570 v2576 v2886 k0_hw94 k0_h4 => k0_hw94 k0_h4

def k0_chk95 (v2570 : BitVec 32) (v2576 : BitVec 32) (v2584 : IVec S16 32) (v2890 : IVec S16 32) : Prop :=
  (∀ (k0_h4 : ¬(k0_cond4 v2570 v2576 = 1#1)), ∀ a x, ((![v2584, v2890] : Fin 2 → IVec S16 32) a x).toNat < S512x128.size a)
theorem k0_idx95_inb : ∀ (v2570 : BitVec 32) (v2576 : BitVec 32) (v2584 : IVec S16 32) (v2890 : IVec S16 32) (k0_hw95 : k0_chk95 v2570 v2576 v2584 v2890), ∀ (k0_h4 : ¬(k0_cond4 v2570 v2576 = 1#1)), ∀ a x, ((![v2584, v2890] : Fin 2 → IVec S16 32) a x).toNat < S512x128.size a := fun v2570 v2576 v2584 v2890 k0_hw95 k0_h4 => k0_hw95 k0_h4

def k0_chk96 (v2570 : BitVec 32) (v2576 : BitVec 32) (v2893 : IVec S16 32) : Prop :=
  (∀ (k0_h4 : ¬(k0_cond4 v2570 v2576 = 1#1)), ∀ a x, ((![v2893] : Fin 1 → IVec S16 32) a x).toNat < S2048.size a)
theorem k0_idx96_inb : ∀ (v2570 : BitVec 32) (v2576 : BitVec 32) (v2893 : IVec S16 32) (k0_hw96 : k0_chk96 v2570 v2576 v2893), ∀ (k0_h4 : ¬(k0_cond4 v2570 v2576 = 1#1)), ∀ a x, ((![v2893] : Fin 1 → IVec S16 32) a x).toNat < S2048.size a := fun v2570 v2576 v2893 k0_hw96 k0_h4 => k0_hw96 k0_h4

def k0_chk97 (v2570 : BitVec 32) (v2576 : BitVec 32) (v2584 : IVec S16 32) (v2897 : IVec S16 32) : Prop :=
  (∀ (k0_h4 : ¬(k0_cond4 v2570 v2576 = 1#1)), ∀ a x, ((![v2584, v2897] : Fin 2 → IVec S16 32) a x).toNat < S512x128.size a)
theorem k0_idx97_inb : ∀ (v2570 : BitVec 32) (v2576 : BitVec 32) (v2584 : IVec S16 32) (v2897 : IVec S16 32) (k0_hw97 : k0_chk97 v2570 v2576 v2584 v2897), ∀ (k0_h4 : ¬(k0_cond4 v2570 v2576 = 1#1)), ∀ a x, ((![v2584, v2897] : Fin 2 → IVec S16 32) a x).toNat < S512x128.size a := fun v2570 v2576 v2584 v2897 k0_hw97 k0_h4 => k0_hw97 k0_h4

def k0_chk98 (v2570 : BitVec 32) (v2576 : BitVec 32) (v2900 : IVec S16 32) : Prop :=
  (∀ (k0_h4 : ¬(k0_cond4 v2570 v2576 = 1#1)), ∀ a x, ((![v2900] : Fin 1 → IVec S16 32) a x).toNat < S2048.size a)
theorem k0_idx98_inb : ∀ (v2570 : BitVec 32) (v2576 : BitVec 32) (v2900 : IVec S16 32) (k0_hw98 : k0_chk98 v2570 v2576 v2900), ∀ (k0_h4 : ¬(k0_cond4 v2570 v2576 = 1#1)), ∀ a x, ((![v2900] : Fin 1 → IVec S16 32) a x).toNat < S2048.size a := fun v2570 v2576 v2900 k0_hw98 k0_h4 => k0_hw98 k0_h4

def k0_chk99 (v2570 : BitVec 32) (v2576 : BitVec 32) (v2584 : IVec S16 32) (v2904 : IVec S16 32) : Prop :=
  (∀ (k0_h4 : ¬(k0_cond4 v2570 v2576 = 1#1)), ∀ a x, ((![v2584, v2904] : Fin 2 → IVec S16 32) a x).toNat < S512x128.size a)
theorem k0_idx99_inb : ∀ (v2570 : BitVec 32) (v2576 : BitVec 32) (v2584 : IVec S16 32) (v2904 : IVec S16 32) (k0_hw99 : k0_chk99 v2570 v2576 v2584 v2904), ∀ (k0_h4 : ¬(k0_cond4 v2570 v2576 = 1#1)), ∀ a x, ((![v2584, v2904] : Fin 2 → IVec S16 32) a x).toNat < S512x128.size a := fun v2570 v2576 v2584 v2904 k0_hw99 k0_h4 => k0_hw99 k0_h4

def k0_chk100 (v2570 : BitVec 32) (v2576 : BitVec 32) (v2907 : IVec S16 32) : Prop :=
  (∀ (k0_h4 : ¬(k0_cond4 v2570 v2576 = 1#1)), ∀ a x, ((![v2907] : Fin 1 → IVec S16 32) a x).toNat < S2048.size a)
theorem k0_idx100_inb : ∀ (v2570 : BitVec 32) (v2576 : BitVec 32) (v2907 : IVec S16 32) (k0_hw100 : k0_chk100 v2570 v2576 v2907), ∀ (k0_h4 : ¬(k0_cond4 v2570 v2576 = 1#1)), ∀ a x, ((![v2907] : Fin 1 → IVec S16 32) a x).toNat < S2048.size a := fun v2570 v2576 v2907 k0_hw100 k0_h4 => k0_hw100 k0_h4

def k0_chk101 (v2570 : BitVec 32) (v2576 : BitVec 32) (v2584 : IVec S16 32) (v2911 : IVec S16 32) : Prop :=
  (∀ (k0_h4 : ¬(k0_cond4 v2570 v2576 = 1#1)), ∀ a x, ((![v2584, v2911] : Fin 2 → IVec S16 32) a x).toNat < S512x128.size a)
theorem k0_idx101_inb : ∀ (v2570 : BitVec 32) (v2576 : BitVec 32) (v2584 : IVec S16 32) (v2911 : IVec S16 32) (k0_hw101 : k0_chk101 v2570 v2576 v2584 v2911), ∀ (k0_h4 : ¬(k0_cond4 v2570 v2576 = 1#1)), ∀ a x, ((![v2584, v2911] : Fin 2 → IVec S16 32) a x).toNat < S512x128.size a := fun v2570 v2576 v2584 v2911 k0_hw101 k0_h4 => k0_hw101 k0_h4

def k0_chk102 (v2570 : BitVec 32) (v2576 : BitVec 32) (v2914 : IVec S16 32) : Prop :=
  (∀ (k0_h4 : ¬(k0_cond4 v2570 v2576 = 1#1)), ∀ a x, ((![v2914] : Fin 1 → IVec S16 32) a x).toNat < S2048.size a)
theorem k0_idx102_inb : ∀ (v2570 : BitVec 32) (v2576 : BitVec 32) (v2914 : IVec S16 32) (k0_hw102 : k0_chk102 v2570 v2576 v2914), ∀ (k0_h4 : ¬(k0_cond4 v2570 v2576 = 1#1)), ∀ a x, ((![v2914] : Fin 1 → IVec S16 32) a x).toNat < S2048.size a := fun v2570 v2576 v2914 k0_hw102 k0_h4 => k0_hw102 k0_h4

def k0_chk103 (v2570 : BitVec 32) (v2576 : BitVec 32) (v2584 : IVec S16 32) (v2918 : IVec S16 32) : Prop :=
  (∀ (k0_h4 : ¬(k0_cond4 v2570 v2576 = 1#1)), ∀ a x, ((![v2584, v2918] : Fin 2 → IVec S16 32) a x).toNat < S512x128.size a)
theorem k0_idx103_inb : ∀ (v2570 : BitVec 32) (v2576 : BitVec 32) (v2584 : IVec S16 32) (v2918 : IVec S16 32) (k0_hw103 : k0_chk103 v2570 v2576 v2584 v2918), ∀ (k0_h4 : ¬(k0_cond4 v2570 v2576 = 1#1)), ∀ a x, ((![v2584, v2918] : Fin 2 → IVec S16 32) a x).toNat < S512x128.size a := fun v2570 v2576 v2584 v2918 k0_hw103 k0_h4 => k0_hw103 k0_h4

def k0_chk104 (v2570 : BitVec 32) (v2576 : BitVec 32) (v2921 : IVec S16 32) : Prop :=
  (∀ (k0_h4 : ¬(k0_cond4 v2570 v2576 = 1#1)), ∀ a x, ((![v2921] : Fin 1 → IVec S16 32) a x).toNat < S2048.size a)
theorem k0_idx104_inb : ∀ (v2570 : BitVec 32) (v2576 : BitVec 32) (v2921 : IVec S16 32) (k0_hw104 : k0_chk104 v2570 v2576 v2921), ∀ (k0_h4 : ¬(k0_cond4 v2570 v2576 = 1#1)), ∀ a x, ((![v2921] : Fin 1 → IVec S16 32) a x).toNat < S2048.size a := fun v2570 v2576 v2921 k0_hw104 k0_h4 => k0_hw104 k0_h4

def k0_chk105 (v2570 : BitVec 32) (v2576 : BitVec 32) (v2584 : IVec S16 32) (v2925 : IVec S16 32) : Prop :=
  (∀ (k0_h4 : ¬(k0_cond4 v2570 v2576 = 1#1)), ∀ a x, ((![v2584, v2925] : Fin 2 → IVec S16 32) a x).toNat < S512x128.size a)
theorem k0_idx105_inb : ∀ (v2570 : BitVec 32) (v2576 : BitVec 32) (v2584 : IVec S16 32) (v2925 : IVec S16 32) (k0_hw105 : k0_chk105 v2570 v2576 v2584 v2925), ∀ (k0_h4 : ¬(k0_cond4 v2570 v2576 = 1#1)), ∀ a x, ((![v2584, v2925] : Fin 2 → IVec S16 32) a x).toNat < S512x128.size a := fun v2570 v2576 v2584 v2925 k0_hw105 k0_h4 => k0_hw105 k0_h4

def k0_chk106 (v2570 : BitVec 32) (v2576 : BitVec 32) (v2928 : IVec S16 32) : Prop :=
  (∀ (k0_h4 : ¬(k0_cond4 v2570 v2576 = 1#1)), ∀ a x, ((![v2928] : Fin 1 → IVec S16 32) a x).toNat < S2048.size a)
theorem k0_idx106_inb : ∀ (v2570 : BitVec 32) (v2576 : BitVec 32) (v2928 : IVec S16 32) (k0_hw106 : k0_chk106 v2570 v2576 v2928), ∀ (k0_h4 : ¬(k0_cond4 v2570 v2576 = 1#1)), ∀ a x, ((![v2928] : Fin 1 → IVec S16 32) a x).toNat < S2048.size a := fun v2570 v2576 v2928 k0_hw106 k0_h4 => k0_hw106 k0_h4

def k0_chk107 (v2570 : BitVec 32) (v2576 : BitVec 32) (v2584 : IVec S16 32) (v2932 : IVec S16 32) : Prop :=
  (∀ (k0_h4 : ¬(k0_cond4 v2570 v2576 = 1#1)), ∀ a x, ((![v2584, v2932] : Fin 2 → IVec S16 32) a x).toNat < S512x128.size a)
theorem k0_idx107_inb : ∀ (v2570 : BitVec 32) (v2576 : BitVec 32) (v2584 : IVec S16 32) (v2932 : IVec S16 32) (k0_hw107 : k0_chk107 v2570 v2576 v2584 v2932), ∀ (k0_h4 : ¬(k0_cond4 v2570 v2576 = 1#1)), ∀ a x, ((![v2584, v2932] : Fin 2 → IVec S16 32) a x).toNat < S512x128.size a := fun v2570 v2576 v2584 v2932 k0_hw107 k0_h4 => k0_hw107 k0_h4

def k0_chk108 (v2570 : BitVec 32) (v2576 : BitVec 32) (v2935 : IVec S16 32) : Prop :=
  (∀ (k0_h4 : ¬(k0_cond4 v2570 v2576 = 1#1)), ∀ a x, ((![v2935] : Fin 1 → IVec S16 32) a x).toNat < S2048.size a)
theorem k0_idx108_inb : ∀ (v2570 : BitVec 32) (v2576 : BitVec 32) (v2935 : IVec S16 32) (k0_hw108 : k0_chk108 v2570 v2576 v2935), ∀ (k0_h4 : ¬(k0_cond4 v2570 v2576 = 1#1)), ∀ a x, ((![v2935] : Fin 1 → IVec S16 32) a x).toNat < S2048.size a := fun v2570 v2576 v2935 k0_hw108 k0_h4 => k0_hw108 k0_h4

def k0_chk109 (v2570 : BitVec 32) (v2576 : BitVec 32) (v2584 : IVec S16 32) (v2939 : IVec S16 32) : Prop :=
  (∀ (k0_h4 : ¬(k0_cond4 v2570 v2576 = 1#1)), ∀ a x, ((![v2584, v2939] : Fin 2 → IVec S16 32) a x).toNat < S512x128.size a)
theorem k0_idx109_inb : ∀ (v2570 : BitVec 32) (v2576 : BitVec 32) (v2584 : IVec S16 32) (v2939 : IVec S16 32) (k0_hw109 : k0_chk109 v2570 v2576 v2584 v2939), ∀ (k0_h4 : ¬(k0_cond4 v2570 v2576 = 1#1)), ∀ a x, ((![v2584, v2939] : Fin 2 → IVec S16 32) a x).toNat < S512x128.size a := fun v2570 v2576 v2584 v2939 k0_hw109 k0_h4 => k0_hw109 k0_h4

def k0_chk110 (v2570 : BitVec 32) (v2576 : BitVec 32) (v2942 : IVec S16 32) : Prop :=
  (∀ (k0_h4 : ¬(k0_cond4 v2570 v2576 = 1#1)), ∀ a x, ((![v2942] : Fin 1 → IVec S16 32) a x).toNat < S2048.size a)
theorem k0_idx110_inb : ∀ (v2570 : BitVec 32) (v2576 : BitVec 32) (v2942 : IVec S16 32) (k0_hw110 : k0_chk110 v2570 v2576 v2942), ∀ (k0_h4 : ¬(k0_cond4 v2570 v2576 = 1#1)), ∀ a x, ((![v2942] : Fin 1 → IVec S16 32) a x).toNat < S2048.size a := fun v2570 v2576 v2942 k0_hw110 k0_h4 => k0_hw110 k0_h4

def k0_chk111 (v2570 : BitVec 32) (v2576 : BitVec 32) (v2584 : IVec S16 32) (v2946 : IVec S16 32) : Prop :=
  (∀ (k0_h4 : ¬(k0_cond4 v2570 v2576 = 1#1)), ∀ a x, ((![v2584, v2946] : Fin 2 → IVec S16 32) a x).toNat < S512x128.size a)
theorem k0_idx111_inb : ∀ (v2570 : BitVec 32) (v2576 : BitVec 32) (v2584 : IVec S16 32) (v2946 : IVec S16 32) (k0_hw111 : k0_chk111 v2570 v2576 v2584 v2946), ∀ (k0_h4 : ¬(k0_cond4 v2570 v2576 = 1#1)), ∀ a x, ((![v2584, v2946] : Fin 2 → IVec S16 32) a x).toNat < S512x128.size a := fun v2570 v2576 v2584 v2946 k0_hw111 k0_h4 => k0_hw111 k0_h4

def k0_chk112 (v2570 : BitVec 32) (v2576 : BitVec 32) (v2949 : IVec S16 32) : Prop :=
  (∀ (k0_h4 : ¬(k0_cond4 v2570 v2576 = 1#1)), ∀ a x, ((![v2949] : Fin 1 → IVec S16 32) a x).toNat < S2048.size a)
theorem k0_idx112_inb : ∀ (v2570 : BitVec 32) (v2576 : BitVec 32) (v2949 : IVec S16 32) (k0_hw112 : k0_chk112 v2570 v2576 v2949), ∀ (k0_h4 : ¬(k0_cond4 v2570 v2576 = 1#1)), ∀ a x, ((![v2949] : Fin 1 → IVec S16 32) a x).toNat < S2048.size a := fun v2570 v2576 v2949 k0_hw112 k0_h4 => k0_hw112 k0_h4

def k0_chk113 (v2570 : BitVec 32) (v2576 : BitVec 32) (v2584 : IVec S16 32) (v2953 : IVec S16 32) : Prop :=
  (∀ (k0_h4 : ¬(k0_cond4 v2570 v2576 = 1#1)), ∀ a x, ((![v2584, v2953] : Fin 2 → IVec S16 32) a x).toNat < S512x128.size a)
theorem k0_idx113_inb : ∀ (v2570 : BitVec 32) (v2576 : BitVec 32) (v2584 : IVec S16 32) (v2953 : IVec S16 32) (k0_hw113 : k0_chk113 v2570 v2576 v2584 v2953), ∀ (k0_h4 : ¬(k0_cond4 v2570 v2576 = 1#1)), ∀ a x, ((![v2584, v2953] : Fin 2 → IVec S16 32) a x).toNat < S512x128.size a := fun v2570 v2576 v2584 v2953 k0_hw113 k0_h4 => k0_hw113 k0_h4

def k0_chk114 (v2570 : BitVec 32) (v2576 : BitVec 32) (v2956 : IVec S16 32) : Prop :=
  (∀ (k0_h4 : ¬(k0_cond4 v2570 v2576 = 1#1)), ∀ a x, ((![v2956] : Fin 1 → IVec S16 32) a x).toNat < S2048.size a)
theorem k0_idx114_inb : ∀ (v2570 : BitVec 32) (v2576 : BitVec 32) (v2956 : IVec S16 32) (k0_hw114 : k0_chk114 v2570 v2576 v2956), ∀ (k0_h4 : ¬(k0_cond4 v2570 v2576 = 1#1)), ∀ a x, ((![v2956] : Fin 1 → IVec S16 32) a x).toNat < S2048.size a := fun v2570 v2576 v2956 k0_hw114 k0_h4 => k0_hw114 k0_h4

def k0_chk115 (v2570 : BitVec 32) (v2576 : BitVec 32) (v2584 : IVec S16 32) (v2960 : IVec S16 32) : Prop :=
  (∀ (k0_h4 : ¬(k0_cond4 v2570 v2576 = 1#1)), ∀ a x, ((![v2584, v2960] : Fin 2 → IVec S16 32) a x).toNat < S512x128.size a)
theorem k0_idx115_inb : ∀ (v2570 : BitVec 32) (v2576 : BitVec 32) (v2584 : IVec S16 32) (v2960 : IVec S16 32) (k0_hw115 : k0_chk115 v2570 v2576 v2584 v2960), ∀ (k0_h4 : ¬(k0_cond4 v2570 v2576 = 1#1)), ∀ a x, ((![v2584, v2960] : Fin 2 → IVec S16 32) a x).toNat < S512x128.size a := fun v2570 v2576 v2584 v2960 k0_hw115 k0_h4 => k0_hw115 k0_h4

def k0_chk116 (v2570 : BitVec 32) (v2576 : BitVec 32) (v2963 : IVec S16 32) : Prop :=
  (∀ (k0_h4 : ¬(k0_cond4 v2570 v2576 = 1#1)), ∀ a x, ((![v2963] : Fin 1 → IVec S16 32) a x).toNat < S2048.size a)
theorem k0_idx116_inb : ∀ (v2570 : BitVec 32) (v2576 : BitVec 32) (v2963 : IVec S16 32) (k0_hw116 : k0_chk116 v2570 v2576 v2963), ∀ (k0_h4 : ¬(k0_cond4 v2570 v2576 = 1#1)), ∀ a x, ((![v2963] : Fin 1 → IVec S16 32) a x).toNat < S2048.size a := fun v2570 v2576 v2963 k0_hw116 k0_h4 => k0_hw116 k0_h4

def k0_chk117 (v2570 : BitVec 32) (v2576 : BitVec 32) (v2584 : IVec S16 32) (v2967 : IVec S16 32) : Prop :=
  (∀ (k0_h4 : ¬(k0_cond4 v2570 v2576 = 1#1)), ∀ a x, ((![v2584, v2967] : Fin 2 → IVec S16 32) a x).toNat < S512x128.size a)
theorem k0_idx117_inb : ∀ (v2570 : BitVec 32) (v2576 : BitVec 32) (v2584 : IVec S16 32) (v2967 : IVec S16 32) (k0_hw117 : k0_chk117 v2570 v2576 v2584 v2967), ∀ (k0_h4 : ¬(k0_cond4 v2570 v2576 = 1#1)), ∀ a x, ((![v2584, v2967] : Fin 2 → IVec S16 32) a x).toNat < S512x128.size a := fun v2570 v2576 v2584 v2967 k0_hw117 k0_h4 => k0_hw117 k0_h4

def k0_chk118 (v2570 : BitVec 32) (v2576 : BitVec 32) (v2970 : IVec S16 32) : Prop :=
  (∀ (k0_h4 : ¬(k0_cond4 v2570 v2576 = 1#1)), ∀ a x, ((![v2970] : Fin 1 → IVec S16 32) a x).toNat < S2048.size a)
theorem k0_idx118_inb : ∀ (v2570 : BitVec 32) (v2576 : BitVec 32) (v2970 : IVec S16 32) (k0_hw118 : k0_chk118 v2570 v2576 v2970), ∀ (k0_h4 : ¬(k0_cond4 v2570 v2576 = 1#1)), ∀ a x, ((![v2970] : Fin 1 → IVec S16 32) a x).toNat < S2048.size a := fun v2570 v2576 v2970 k0_hw118 k0_h4 => k0_hw118 k0_h4

def k0_chk119 (v2570 : BitVec 32) (v2576 : BitVec 32) (v2584 : IVec S16 32) (v2974 : IVec S16 32) : Prop :=
  (∀ (k0_h4 : ¬(k0_cond4 v2570 v2576 = 1#1)), ∀ a x, ((![v2584, v2974] : Fin 2 → IVec S16 32) a x).toNat < S512x128.size a)
theorem k0_idx119_inb : ∀ (v2570 : BitVec 32) (v2576 : BitVec 32) (v2584 : IVec S16 32) (v2974 : IVec S16 32) (k0_hw119 : k0_chk119 v2570 v2576 v2584 v2974), ∀ (k0_h4 : ¬(k0_cond4 v2570 v2576 = 1#1)), ∀ a x, ((![v2584, v2974] : Fin 2 → IVec S16 32) a x).toNat < S512x128.size a := fun v2570 v2576 v2584 v2974 k0_hw119 k0_h4 => k0_hw119 k0_h4

def k0_chk120 (v2570 : BitVec 32) (v2576 : BitVec 32) (v2977 : IVec S16 32) : Prop :=
  (∀ (k0_h4 : ¬(k0_cond4 v2570 v2576 = 1#1)), ∀ a x, ((![v2977] : Fin 1 → IVec S16 32) a x).toNat < S2048.size a)
theorem k0_idx120_inb : ∀ (v2570 : BitVec 32) (v2576 : BitVec 32) (v2977 : IVec S16 32) (k0_hw120 : k0_chk120 v2570 v2576 v2977), ∀ (k0_h4 : ¬(k0_cond4 v2570 v2576 = 1#1)), ∀ a x, ((![v2977] : Fin 1 → IVec S16 32) a x).toNat < S2048.size a := fun v2570 v2576 v2977 k0_hw120 k0_h4 => k0_hw120 k0_h4

def k0_chk121 (v2570 : BitVec 32) (v2576 : BitVec 32) (v2584 : IVec S16 32) (v2981 : IVec S16 32) : Prop :=
  (∀ (k0_h4 : ¬(k0_cond4 v2570 v2576 = 1#1)), ∀ a x, ((![v2584, v2981] : Fin 2 → IVec S16 32) a x).toNat < S512x128.size a)
theorem k0_idx121_inb : ∀ (v2570 : BitVec 32) (v2576 : BitVec 32) (v2584 : IVec S16 32) (v2981 : IVec S16 32) (k0_hw121 : k0_chk121 v2570 v2576 v2584 v2981), ∀ (k0_h4 : ¬(k0_cond4 v2570 v2576 = 1#1)), ∀ a x, ((![v2584, v2981] : Fin 2 → IVec S16 32) a x).toNat < S512x128.size a := fun v2570 v2576 v2584 v2981 k0_hw121 k0_h4 => k0_hw121 k0_h4

def k0_chk122 (v2570 : BitVec 32) (v2576 : BitVec 32) (v2984 : IVec S16 32) : Prop :=
  (∀ (k0_h4 : ¬(k0_cond4 v2570 v2576 = 1#1)), ∀ a x, ((![v2984] : Fin 1 → IVec S16 32) a x).toNat < S2048.size a)
theorem k0_idx122_inb : ∀ (v2570 : BitVec 32) (v2576 : BitVec 32) (v2984 : IVec S16 32) (k0_hw122 : k0_chk122 v2570 v2576 v2984), ∀ (k0_h4 : ¬(k0_cond4 v2570 v2576 = 1#1)), ∀ a x, ((![v2984] : Fin 1 → IVec S16 32) a x).toNat < S2048.size a := fun v2570 v2576 v2984 k0_hw122 k0_h4 => k0_hw122 k0_h4

def k0_chk123 (v2570 : BitVec 32) (v2576 : BitVec 32) (v2584 : IVec S16 32) (v2988 : IVec S16 32) : Prop :=
  (∀ (k0_h4 : ¬(k0_cond4 v2570 v2576 = 1#1)), ∀ a x, ((![v2584, v2988] : Fin 2 → IVec S16 32) a x).toNat < S512x128.size a)
theorem k0_idx123_inb : ∀ (v2570 : BitVec 32) (v2576 : BitVec 32) (v2584 : IVec S16 32) (v2988 : IVec S16 32) (k0_hw123 : k0_chk123 v2570 v2576 v2584 v2988), ∀ (k0_h4 : ¬(k0_cond4 v2570 v2576 = 1#1)), ∀ a x, ((![v2584, v2988] : Fin 2 → IVec S16 32) a x).toNat < S512x128.size a := fun v2570 v2576 v2584 v2988 k0_hw123 k0_h4 => k0_hw123 k0_h4

def k0_chk124 (v2570 : BitVec 32) (v2576 : BitVec 32) (v2991 : IVec S16 32) : Prop :=
  (∀ (k0_h4 : ¬(k0_cond4 v2570 v2576 = 1#1)), ∀ a x, ((![v2991] : Fin 1 → IVec S16 32) a x).toNat < S2048.size a)
theorem k0_idx124_inb : ∀ (v2570 : BitVec 32) (v2576 : BitVec 32) (v2991 : IVec S16 32) (k0_hw124 : k0_chk124 v2570 v2576 v2991), ∀ (k0_h4 : ¬(k0_cond4 v2570 v2576 = 1#1)), ∀ a x, ((![v2991] : Fin 1 → IVec S16 32) a x).toNat < S2048.size a := fun v2570 v2576 v2991 k0_hw124 k0_h4 => k0_hw124 k0_h4

def k0_chk125 (v2570 : BitVec 32) (v2576 : BitVec 32) (v2584 : IVec S16 32) (v2995 : IVec S16 32) : Prop :=
  (∀ (k0_h4 : ¬(k0_cond4 v2570 v2576 = 1#1)), ∀ a x, ((![v2584, v2995] : Fin 2 → IVec S16 32) a x).toNat < S512x128.size a)
theorem k0_idx125_inb : ∀ (v2570 : BitVec 32) (v2576 : BitVec 32) (v2584 : IVec S16 32) (v2995 : IVec S16 32) (k0_hw125 : k0_chk125 v2570 v2576 v2584 v2995), ∀ (k0_h4 : ¬(k0_cond4 v2570 v2576 = 1#1)), ∀ a x, ((![v2584, v2995] : Fin 2 → IVec S16 32) a x).toNat < S512x128.size a := fun v2570 v2576 v2584 v2995 k0_hw125 k0_h4 => k0_hw125 k0_h4

def k0_chk126 (v2570 : BitVec 32) (v2576 : BitVec 32) (v2998 : IVec S16 32) : Prop :=
  (∀ (k0_h4 : ¬(k0_cond4 v2570 v2576 = 1#1)), ∀ a x, ((![v2998] : Fin 1 → IVec S16 32) a x).toNat < S2048.size a)
theorem k0_idx126_inb : ∀ (v2570 : BitVec 32) (v2576 : BitVec 32) (v2998 : IVec S16 32) (k0_hw126 : k0_chk126 v2570 v2576 v2998), ∀ (k0_h4 : ¬(k0_cond4 v2570 v2576 = 1#1)), ∀ a x, ((![v2998] : Fin 1 → IVec S16 32) a x).toNat < S2048.size a := fun v2570 v2576 v2998 k0_hw126 k0_h4 => k0_hw126 k0_h4

def k0_chk127 (v2570 : BitVec 32) (v2576 : BitVec 32) (v2584 : IVec S16 32) (v3002 : IVec S16 32) : Prop :=
  (∀ (k0_h4 : ¬(k0_cond4 v2570 v2576 = 1#1)), ∀ a x, ((![v2584, v3002] : Fin 2 → IVec S16 32) a x).toNat < S512x128.size a)
theorem k0_idx127_inb : ∀ (v2570 : BitVec 32) (v2576 : BitVec 32) (v2584 : IVec S16 32) (v3002 : IVec S16 32) (k0_hw127 : k0_chk127 v2570 v2576 v2584 v3002), ∀ (k0_h4 : ¬(k0_cond4 v2570 v2576 = 1#1)), ∀ a x, ((![v2584, v3002] : Fin 2 → IVec S16 32) a x).toNat < S512x128.size a := fun v2570 v2576 v2584 v3002 k0_hw127 k0_h4 => k0_hw127 k0_h4

def k0_chk128 (v2570 : BitVec 32) (v2576 : BitVec 32) (v3005 : IVec S16 32) : Prop :=
  (∀ (k0_h4 : ¬(k0_cond4 v2570 v2576 = 1#1)), ∀ a x, ((![v3005] : Fin 1 → IVec S16 32) a x).toNat < S2048.size a)
theorem k0_idx128_inb : ∀ (v2570 : BitVec 32) (v2576 : BitVec 32) (v3005 : IVec S16 32) (k0_hw128 : k0_chk128 v2570 v2576 v3005), ∀ (k0_h4 : ¬(k0_cond4 v2570 v2576 = 1#1)), ∀ a x, ((![v3005] : Fin 1 → IVec S16 32) a x).toNat < S2048.size a := fun v2570 v2576 v3005 k0_hw128 k0_h4 => k0_hw128 k0_h4

def k0_chk129 (v2570 : BitVec 32) (v2576 : BitVec 32) (v2584 : IVec S16 32) (v3009 : IVec S16 32) : Prop :=
  (∀ (k0_h4 : ¬(k0_cond4 v2570 v2576 = 1#1)), ∀ a x, ((![v2584, v3009] : Fin 2 → IVec S16 32) a x).toNat < S512x128.size a)
theorem k0_idx129_inb : ∀ (v2570 : BitVec 32) (v2576 : BitVec 32) (v2584 : IVec S16 32) (v3009 : IVec S16 32) (k0_hw129 : k0_chk129 v2570 v2576 v2584 v3009), ∀ (k0_h4 : ¬(k0_cond4 v2570 v2576 = 1#1)), ∀ a x, ((![v2584, v3009] : Fin 2 → IVec S16 32) a x).toNat < S512x128.size a := fun v2570 v2576 v2584 v3009 k0_hw129 k0_h4 => k0_hw129 k0_h4

def k0_chk130 (v2570 : BitVec 32) (v2576 : BitVec 32) (v3012 : IVec S16 32) : Prop :=
  (∀ (k0_h4 : ¬(k0_cond4 v2570 v2576 = 1#1)), ∀ a x, ((![v3012] : Fin 1 → IVec S16 32) a x).toNat < S2048.size a)
theorem k0_idx130_inb : ∀ (v2570 : BitVec 32) (v2576 : BitVec 32) (v3012 : IVec S16 32) (k0_hw130 : k0_chk130 v2570 v2576 v3012), ∀ (k0_h4 : ¬(k0_cond4 v2570 v2576 = 1#1)), ∀ a x, ((![v3012] : Fin 1 → IVec S16 32) a x).toNat < S2048.size a := fun v2570 v2576 v3012 k0_hw130 k0_h4 => k0_hw130 k0_h4

def k0_chk131 (v2570 : BitVec 32) (v2576 : BitVec 32) (v2584 : IVec S16 32) (v3016 : IVec S16 32) : Prop :=
  (∀ (k0_h4 : ¬(k0_cond4 v2570 v2576 = 1#1)), ∀ a x, ((![v2584, v3016] : Fin 2 → IVec S16 32) a x).toNat < S512x128.size a)
theorem k0_idx131_inb : ∀ (v2570 : BitVec 32) (v2576 : BitVec 32) (v2584 : IVec S16 32) (v3016 : IVec S16 32) (k0_hw131 : k0_chk131 v2570 v2576 v2584 v3016), ∀ (k0_h4 : ¬(k0_cond4 v2570 v2576 = 1#1)), ∀ a x, ((![v2584, v3016] : Fin 2 → IVec S16 32) a x).toNat < S512x128.size a := fun v2570 v2576 v2584 v3016 k0_hw131 k0_h4 => k0_hw131 k0_h4

def k0_chk132 (v2570 : BitVec 32) (v2576 : BitVec 32) (v3019 : IVec S16 32) : Prop :=
  (∀ (k0_h4 : ¬(k0_cond4 v2570 v2576 = 1#1)), ∀ a x, ((![v3019] : Fin 1 → IVec S16 32) a x).toNat < S2048.size a)
theorem k0_idx132_inb : ∀ (v2570 : BitVec 32) (v2576 : BitVec 32) (v3019 : IVec S16 32) (k0_hw132 : k0_chk132 v2570 v2576 v3019), ∀ (k0_h4 : ¬(k0_cond4 v2570 v2576 = 1#1)), ∀ a x, ((![v3019] : Fin 1 → IVec S16 32) a x).toNat < S2048.size a := fun v2570 v2576 v3019 k0_hw132 k0_h4 => k0_hw132 k0_h4

def k0_chk133 (v2570 : BitVec 32) (v2576 : BitVec 32) (v2584 : IVec S16 32) (v3023 : IVec S16 32) : Prop :=
  (∀ (k0_h4 : ¬(k0_cond4 v2570 v2576 = 1#1)), ∀ a x, ((![v2584, v3023] : Fin 2 → IVec S16 32) a x).toNat < S512x128.size a)
theorem k0_idx133_inb : ∀ (v2570 : BitVec 32) (v2576 : BitVec 32) (v2584 : IVec S16 32) (v3023 : IVec S16 32) (k0_hw133 : k0_chk133 v2570 v2576 v2584 v3023), ∀ (k0_h4 : ¬(k0_cond4 v2570 v2576 = 1#1)), ∀ a x, ((![v2584, v3023] : Fin 2 → IVec S16 32) a x).toNat < S512x128.size a := fun v2570 v2576 v2584 v3023 k0_hw133 k0_h4 => k0_hw133 k0_h4

def k0_chk134 (v2570 : BitVec 32) (v2576 : BitVec 32) (v3026 : IVec S16 32) : Prop :=
  (∀ (k0_h4 : ¬(k0_cond4 v2570 v2576 = 1#1)), ∀ a x, ((![v3026] : Fin 1 → IVec S16 32) a x).toNat < S2048.size a)
theorem k0_idx134_inb : ∀ (v2570 : BitVec 32) (v2576 : BitVec 32) (v3026 : IVec S16 32) (k0_hw134 : k0_chk134 v2570 v2576 v3026), ∀ (k0_h4 : ¬(k0_cond4 v2570 v2576 = 1#1)), ∀ a x, ((![v3026] : Fin 1 → IVec S16 32) a x).toNat < S2048.size a := fun v2570 v2576 v3026 k0_hw134 k0_h4 => k0_hw134 k0_h4

def k0_chk135 (v2570 : BitVec 32) (v2576 : BitVec 32) (v2584 : IVec S16 32) (v3030 : IVec S16 32) : Prop :=
  (∀ (k0_h4 : ¬(k0_cond4 v2570 v2576 = 1#1)), ∀ a x, ((![v2584, v3030] : Fin 2 → IVec S16 32) a x).toNat < S512x128.size a)
theorem k0_idx135_inb : ∀ (v2570 : BitVec 32) (v2576 : BitVec 32) (v2584 : IVec S16 32) (v3030 : IVec S16 32) (k0_hw135 : k0_chk135 v2570 v2576 v2584 v3030), ∀ (k0_h4 : ¬(k0_cond4 v2570 v2576 = 1#1)), ∀ a x, ((![v2584, v3030] : Fin 2 → IVec S16 32) a x).toNat < S512x128.size a := fun v2570 v2576 v2584 v3030 k0_hw135 k0_h4 => k0_hw135 k0_h4

def k0_chk136 (v2570 : BitVec 32) (v2576 : BitVec 32) (v3033 : IVec S16 32) : Prop :=
  (∀ (k0_h4 : ¬(k0_cond4 v2570 v2576 = 1#1)), ∀ a x, ((![v3033] : Fin 1 → IVec S16 32) a x).toNat < S2048.size a)
theorem k0_idx136_inb : ∀ (v2570 : BitVec 32) (v2576 : BitVec 32) (v3033 : IVec S16 32) (k0_hw136 : k0_chk136 v2570 v2576 v3033), ∀ (k0_h4 : ¬(k0_cond4 v2570 v2576 = 1#1)), ∀ a x, ((![v3033] : Fin 1 → IVec S16 32) a x).toNat < S2048.size a := fun v2570 v2576 v3033 k0_hw136 k0_h4 => k0_hw136 k0_h4

def k0_chk137 (v2570 : BitVec 32) (v2576 : BitVec 32) (v2584 : IVec S16 32) (v3037 : IVec S16 32) : Prop :=
  (∀ (k0_h4 : ¬(k0_cond4 v2570 v2576 = 1#1)), ∀ a x, ((![v2584, v3037] : Fin 2 → IVec S16 32) a x).toNat < S512x128.size a)
theorem k0_idx137_inb : ∀ (v2570 : BitVec 32) (v2576 : BitVec 32) (v2584 : IVec S16 32) (v3037 : IVec S16 32) (k0_hw137 : k0_chk137 v2570 v2576 v2584 v3037), ∀ (k0_h4 : ¬(k0_cond4 v2570 v2576 = 1#1)), ∀ a x, ((![v2584, v3037] : Fin 2 → IVec S16 32) a x).toNat < S512x128.size a := fun v2570 v2576 v2584 v3037 k0_hw137 k0_h4 => k0_hw137 k0_h4

def k0_chk138 (v2570 : BitVec 32) (v2576 : BitVec 32) (v3040 : IVec S16 32) : Prop :=
  (∀ (k0_h4 : ¬(k0_cond4 v2570 v2576 = 1#1)), ∀ a x, ((![v3040] : Fin 1 → IVec S16 32) a x).toNat < S2048.size a)
theorem k0_idx138_inb : ∀ (v2570 : BitVec 32) (v2576 : BitVec 32) (v3040 : IVec S16 32) (k0_hw138 : k0_chk138 v2570 v2576 v3040), ∀ (k0_h4 : ¬(k0_cond4 v2570 v2576 = 1#1)), ∀ a x, ((![v3040] : Fin 1 → IVec S16 32) a x).toNat < S2048.size a := fun v2570 v2576 v3040 k0_hw138 k0_h4 => k0_hw138 k0_h4

def k0_chk139 (v2570 : BitVec 32) (v2576 : BitVec 32) (v2584 : IVec S16 32) (v3044 : IVec S16 32) : Prop :=
  (∀ (k0_h4 : ¬(k0_cond4 v2570 v2576 = 1#1)), ∀ a x, ((![v2584, v3044] : Fin 2 → IVec S16 32) a x).toNat < S512x128.size a)
theorem k0_idx139_inb : ∀ (v2570 : BitVec 32) (v2576 : BitVec 32) (v2584 : IVec S16 32) (v3044 : IVec S16 32) (k0_hw139 : k0_chk139 v2570 v2576 v2584 v3044), ∀ (k0_h4 : ¬(k0_cond4 v2570 v2576 = 1#1)), ∀ a x, ((![v2584, v3044] : Fin 2 → IVec S16 32) a x).toNat < S512x128.size a := fun v2570 v2576 v2584 v3044 k0_hw139 k0_h4 => k0_hw139 k0_h4

def k0_chk140 (v2570 : BitVec 32) (v2576 : BitVec 32) (v3047 : IVec S16 32) : Prop :=
  (∀ (k0_h4 : ¬(k0_cond4 v2570 v2576 = 1#1)), ∀ a x, ((![v3047] : Fin 1 → IVec S16 32) a x).toNat < S2048.size a)
theorem k0_idx140_inb : ∀ (v2570 : BitVec 32) (v2576 : BitVec 32) (v3047 : IVec S16 32) (k0_hw140 : k0_chk140 v2570 v2576 v3047), ∀ (k0_h4 : ¬(k0_cond4 v2570 v2576 = 1#1)), ∀ a x, ((![v3047] : Fin 1 → IVec S16 32) a x).toNat < S2048.size a := fun v2570 v2576 v3047 k0_hw140 k0_h4 => k0_hw140 k0_h4

def k0_chk141 (v2570 : BitVec 32) (v2576 : BitVec 32) (v2584 : IVec S16 32) (v3051 : IVec S16 32) : Prop :=
  (∀ (k0_h4 : ¬(k0_cond4 v2570 v2576 = 1#1)), ∀ a x, ((![v2584, v3051] : Fin 2 → IVec S16 32) a x).toNat < S512x128.size a)
theorem k0_idx141_inb : ∀ (v2570 : BitVec 32) (v2576 : BitVec 32) (v2584 : IVec S16 32) (v3051 : IVec S16 32) (k0_hw141 : k0_chk141 v2570 v2576 v2584 v3051), ∀ (k0_h4 : ¬(k0_cond4 v2570 v2576 = 1#1)), ∀ a x, ((![v2584, v3051] : Fin 2 → IVec S16 32) a x).toNat < S512x128.size a := fun v2570 v2576 v2584 v3051 k0_hw141 k0_h4 => k0_hw141 k0_h4

def k0_chk142 (v2570 : BitVec 32) (v2576 : BitVec 32) (v3054 : IVec S16 32) : Prop :=
  (∀ (k0_h4 : ¬(k0_cond4 v2570 v2576 = 1#1)), ∀ a x, ((![v3054] : Fin 1 → IVec S16 32) a x).toNat < S2048.size a)
theorem k0_idx142_inb : ∀ (v2570 : BitVec 32) (v2576 : BitVec 32) (v3054 : IVec S16 32) (k0_hw142 : k0_chk142 v2570 v2576 v3054), ∀ (k0_h4 : ¬(k0_cond4 v2570 v2576 = 1#1)), ∀ a x, ((![v3054] : Fin 1 → IVec S16 32) a x).toNat < S2048.size a := fun v2570 v2576 v3054 k0_hw142 k0_h4 => k0_hw142 k0_h4

def k0_chk143 (v2570 : BitVec 32) (v2576 : BitVec 32) (v2584 : IVec S16 32) (v3058 : IVec S16 32) : Prop :=
  (∀ (k0_h4 : ¬(k0_cond4 v2570 v2576 = 1#1)), ∀ a x, ((![v2584, v3058] : Fin 2 → IVec S16 32) a x).toNat < S512x128.size a)
theorem k0_idx143_inb : ∀ (v2570 : BitVec 32) (v2576 : BitVec 32) (v2584 : IVec S16 32) (v3058 : IVec S16 32) (k0_hw143 : k0_chk143 v2570 v2576 v2584 v3058), ∀ (k0_h4 : ¬(k0_cond4 v2570 v2576 = 1#1)), ∀ a x, ((![v2584, v3058] : Fin 2 → IVec S16 32) a x).toNat < S512x128.size a := fun v2570 v2576 v2584 v3058 k0_hw143 k0_h4 => k0_hw143 k0_h4

def k0_chk144 (v2570 : BitVec 32) (v2576 : BitVec 32) (v3061 : IVec S16 32) : Prop :=
  (∀ (k0_h4 : ¬(k0_cond4 v2570 v2576 = 1#1)), ∀ a x, ((![v3061] : Fin 1 → IVec S16 32) a x).toNat < S2048.size a)
theorem k0_idx144_inb : ∀ (v2570 : BitVec 32) (v2576 : BitVec 32) (v3061 : IVec S16 32) (k0_hw144 : k0_chk144 v2570 v2576 v3061), ∀ (k0_h4 : ¬(k0_cond4 v2570 v2576 = 1#1)), ∀ a x, ((![v3061] : Fin 1 → IVec S16 32) a x).toNat < S2048.size a := fun v2570 v2576 v3061 k0_hw144 k0_h4 => k0_hw144 k0_h4

def k0_chk145 (v2570 : BitVec 32) (v2576 : BitVec 32) (v2584 : IVec S16 32) (v3065 : IVec S16 32) : Prop :=
  (∀ (k0_h4 : ¬(k0_cond4 v2570 v2576 = 1#1)), ∀ a x, ((![v2584, v3065] : Fin 2 → IVec S16 32) a x).toNat < S512x128.size a)
theorem k0_idx145_inb : ∀ (v2570 : BitVec 32) (v2576 : BitVec 32) (v2584 : IVec S16 32) (v3065 : IVec S16 32) (k0_hw145 : k0_chk145 v2570 v2576 v2584 v3065), ∀ (k0_h4 : ¬(k0_cond4 v2570 v2576 = 1#1)), ∀ a x, ((![v2584, v3065] : Fin 2 → IVec S16 32) a x).toNat < S512x128.size a := fun v2570 v2576 v2584 v3065 k0_hw145 k0_h4 => k0_hw145 k0_h4

def k0_chk146 (v2570 : BitVec 32) (v2576 : BitVec 32) (v3068 : IVec S16 32) : Prop :=
  (∀ (k0_h4 : ¬(k0_cond4 v2570 v2576 = 1#1)), ∀ a x, ((![v3068] : Fin 1 → IVec S16 32) a x).toNat < S2048.size a)
theorem k0_idx146_inb : ∀ (v2570 : BitVec 32) (v2576 : BitVec 32) (v3068 : IVec S16 32) (k0_hw146 : k0_chk146 v2570 v2576 v3068), ∀ (k0_h4 : ¬(k0_cond4 v2570 v2576 = 1#1)), ∀ a x, ((![v3068] : Fin 1 → IVec S16 32) a x).toNat < S2048.size a := fun v2570 v2576 v3068 k0_hw146 k0_h4 => k0_hw146 k0_h4

def k0_chk147 (v2570 : BitVec 32) (v2576 : BitVec 32) (v2584 : IVec S16 32) (v3072 : IVec S16 32) : Prop :=
  (∀ (k0_h4 : ¬(k0_cond4 v2570 v2576 = 1#1)), ∀ a x, ((![v2584, v3072] : Fin 2 → IVec S16 32) a x).toNat < S512x128.size a)
theorem k0_idx147_inb : ∀ (v2570 : BitVec 32) (v2576 : BitVec 32) (v2584 : IVec S16 32) (v3072 : IVec S16 32) (k0_hw147 : k0_chk147 v2570 v2576 v2584 v3072), ∀ (k0_h4 : ¬(k0_cond4 v2570 v2576 = 1#1)), ∀ a x, ((![v2584, v3072] : Fin 2 → IVec S16 32) a x).toNat < S512x128.size a := fun v2570 v2576 v2584 v3072 k0_hw147 k0_h4 => k0_hw147 k0_h4

def k0_chk148 (v2570 : BitVec 32) (v2576 : BitVec 32) (v3075 : IVec S16 32) : Prop :=
  (∀ (k0_h4 : ¬(k0_cond4 v2570 v2576 = 1#1)), ∀ a x, ((![v3075] : Fin 1 → IVec S16 32) a x).toNat < S2048.size a)
theorem k0_idx148_inb : ∀ (v2570 : BitVec 32) (v2576 : BitVec 32) (v3075 : IVec S16 32) (k0_hw148 : k0_chk148 v2570 v2576 v3075), ∀ (k0_h4 : ¬(k0_cond4 v2570 v2576 = 1#1)), ∀ a x, ((![v3075] : Fin 1 → IVec S16 32) a x).toNat < S2048.size a := fun v2570 v2576 v3075 k0_hw148 k0_h4 => k0_hw148 k0_h4

def k0_chk149 (v2570 : BitVec 32) (v2576 : BitVec 32) (v2584 : IVec S16 32) (v3079 : IVec S16 32) : Prop :=
  (∀ (k0_h4 : ¬(k0_cond4 v2570 v2576 = 1#1)), ∀ a x, ((![v2584, v3079] : Fin 2 → IVec S16 32) a x).toNat < S512x128.size a)
theorem k0_idx149_inb : ∀ (v2570 : BitVec 32) (v2576 : BitVec 32) (v2584 : IVec S16 32) (v3079 : IVec S16 32) (k0_hw149 : k0_chk149 v2570 v2576 v2584 v3079), ∀ (k0_h4 : ¬(k0_cond4 v2570 v2576 = 1#1)), ∀ a x, ((![v2584, v3079] : Fin 2 → IVec S16 32) a x).toNat < S512x128.size a := fun v2570 v2576 v2584 v3079 k0_hw149 k0_h4 => k0_hw149 k0_h4

def k0_chk150 (v2570 : BitVec 32) (v2576 : BitVec 32) (v3082 : IVec S16 32) : Prop :=
  (∀ (k0_h4 : ¬(k0_cond4 v2570 v2576 = 1#1)), ∀ a x, ((![v3082] : Fin 1 → IVec S16 32) a x).toNat < S2048.size a)
theorem k0_idx150_inb : ∀ (v2570 : BitVec 32) (v2576 : BitVec 32) (v3082 : IVec S16 32) (k0_hw150 : k0_chk150 v2570 v2576 v3082), ∀ (k0_h4 : ¬(k0_cond4 v2570 v2576 = 1#1)), ∀ a x, ((![v3082] : Fin 1 → IVec S16 32) a x).toNat < S2048.size a := fun v2570 v2576 v3082 k0_hw150 k0_h4 => k0_hw150 k0_h4

def k0_chk151 (v2570 : BitVec 32) (v2576 : BitVec 32) (v2584 : IVec S16 32) (v3086 : IVec S16 32) : Prop :=
  (∀ (k0_h4 : ¬(k0_cond4 v2570 v2576 = 1#1)), ∀ a x, ((![v2584, v3086] : Fin 2 → IVec S16 32) a x).toNat < S512x128.size a)
theorem k0_idx151_inb : ∀ (v2570 : BitVec 32) (v2576 : BitVec 32) (v2584 : IVec S16 32) (v3086 : IVec S16 32) (k0_hw151 : k0_chk151 v2570 v2576 v2584 v3086), ∀ (k0_h4 : ¬(k0_cond4 v2570 v2576 = 1#1)), ∀ a x, ((![v2584, v3086] : Fin 2 → IVec S16 32) a x).toNat < S512x128.size a := fun v2570 v2576 v2584 v3086 k0_hw151 k0_h4 => k0_hw151 k0_h4

def k0_chk152 (v2570 : BitVec 32) (v2576 : BitVec 32) (v3089 : IVec S16 32) : Prop :=
  (∀ (k0_h4 : ¬(k0_cond4 v2570 v2576 = 1#1)), ∀ a x, ((![v3089] : Fin 1 → IVec S16 32) a x).toNat < S2048.size a)
theorem k0_idx152_inb : ∀ (v2570 : BitVec 32) (v2576 : BitVec 32) (v3089 : IVec S16 32) (k0_hw152 : k0_chk152 v2570 v2576 v3089), ∀ (k0_h4 : ¬(k0_cond4 v2570 v2576 = 1#1)), ∀ a x, ((![v3089] : Fin 1 → IVec S16 32) a x).toNat < S2048.size a := fun v2570 v2576 v3089 k0_hw152 k0_h4 => k0_hw152 k0_h4

def k0_chk153 (v2570 : BitVec 32) (v2576 : BitVec 32) (v2584 : IVec S16 32) (v3093 : IVec S16 32) : Prop :=
  (∀ (k0_h4 : ¬(k0_cond4 v2570 v2576 = 1#1)), ∀ a x, ((![v2584, v3093] : Fin 2 → IVec S16 32) a x).toNat < S512x128.size a)
theorem k0_idx153_inb : ∀ (v2570 : BitVec 32) (v2576 : BitVec 32) (v2584 : IVec S16 32) (v3093 : IVec S16 32) (k0_hw153 : k0_chk153 v2570 v2576 v2584 v3093), ∀ (k0_h4 : ¬(k0_cond4 v2570 v2576 = 1#1)), ∀ a x, ((![v2584, v3093] : Fin 2 → IVec S16 32) a x).toNat < S512x128.size a := fun v2570 v2576 v2584 v3093 k0_hw153 k0_h4 => k0_hw153 k0_h4

def k0_chk154 (v2570 : BitVec 32) (v2576 : BitVec 32) (v3096 : IVec S16 32) : Prop :=
  (∀ (k0_h4 : ¬(k0_cond4 v2570 v2576 = 1#1)), ∀ a x, ((![v3096] : Fin 1 → IVec S16 32) a x).toNat < S2048.size a)
theorem k0_idx154_inb : ∀ (v2570 : BitVec 32) (v2576 : BitVec 32) (v3096 : IVec S16 32) (k0_hw154 : k0_chk154 v2570 v2576 v3096), ∀ (k0_h4 : ¬(k0_cond4 v2570 v2576 = 1#1)), ∀ a x, ((![v3096] : Fin 1 → IVec S16 32) a x).toNat < S2048.size a := fun v2570 v2576 v3096 k0_hw154 k0_h4 => k0_hw154 k0_h4

def k0_chk155 (v2570 : BitVec 32) (v2576 : BitVec 32) (v2584 : IVec S16 32) (v3100 : IVec S16 32) : Prop :=
  (∀ (k0_h4 : ¬(k0_cond4 v2570 v2576 = 1#1)), ∀ a x, ((![v2584, v3100] : Fin 2 → IVec S16 32) a x).toNat < S512x128.size a)
theorem k0_idx155_inb : ∀ (v2570 : BitVec 32) (v2576 : BitVec 32) (v2584 : IVec S16 32) (v3100 : IVec S16 32) (k0_hw155 : k0_chk155 v2570 v2576 v2584 v3100), ∀ (k0_h4 : ¬(k0_cond4 v2570 v2576 = 1#1)), ∀ a x, ((![v2584, v3100] : Fin 2 → IVec S16 32) a x).toNat < S512x128.size a := fun v2570 v2576 v2584 v3100 k0_hw155 k0_h4 => k0_hw155 k0_h4

def k0_chk156 (v2570 : BitVec 32) (v2576 : BitVec 32) (v3103 : IVec S16 32) : Prop :=
  (∀ (k0_h4 : ¬(k0_cond4 v2570 v2576 = 1#1)), ∀ a x, ((![v3103] : Fin 1 → IVec S16 32) a x).toNat < S2048.size a)
theorem k0_idx156_inb : ∀ (v2570 : BitVec 32) (v2576 : BitVec 32) (v3103 : IVec S16 32) (k0_hw156 : k0_chk156 v2570 v2576 v3103), ∀ (k0_h4 : ¬(k0_cond4 v2570 v2576 = 1#1)), ∀ a x, ((![v3103] : Fin 1 → IVec S16 32) a x).toNat < S2048.size a := fun v2570 v2576 v3103 k0_hw156 k0_h4 => k0_hw156 k0_h4

def k0_chk157 (v2570 : BitVec 32) (v2576 : BitVec 32) (v2584 : IVec S16 32) (v3107 : IVec S16 32) : Prop :=
  (∀ (k0_h4 : ¬(k0_cond4 v2570 v2576 = 1#1)), ∀ a x, ((![v2584, v3107] : Fin 2 → IVec S16 32) a x).toNat < S512x128.size a)
theorem k0_idx157_inb : ∀ (v2570 : BitVec 32) (v2576 : BitVec 32) (v2584 : IVec S16 32) (v3107 : IVec S16 32) (k0_hw157 : k0_chk157 v2570 v2576 v2584 v3107), ∀ (k0_h4 : ¬(k0_cond4 v2570 v2576 = 1#1)), ∀ a x, ((![v2584, v3107] : Fin 2 → IVec S16 32) a x).toNat < S512x128.size a := fun v2570 v2576 v2584 v3107 k0_hw157 k0_h4 => k0_hw157 k0_h4

def k0_chk158 (v2570 : BitVec 32) (v2576 : BitVec 32) (v3110 : IVec S16 32) : Prop :=
  (∀ (k0_h4 : ¬(k0_cond4 v2570 v2576 = 1#1)), ∀ a x, ((![v3110] : Fin 1 → IVec S16 32) a x).toNat < S2048.size a)
theorem k0_idx158_inb : ∀ (v2570 : BitVec 32) (v2576 : BitVec 32) (v3110 : IVec S16 32) (k0_hw158 : k0_chk158 v2570 v2576 v3110), ∀ (k0_h4 : ¬(k0_cond4 v2570 v2576 = 1#1)), ∀ a x, ((![v3110] : Fin 1 → IVec S16 32) a x).toNat < S2048.size a := fun v2570 v2576 v3110 k0_hw158 k0_h4 => k0_hw158 k0_h4

def k0_chk159 (v2570 : BitVec 32) (v2576 : BitVec 32) (v2584 : IVec S16 32) (v3114 : IVec S16 32) : Prop :=
  (∀ (k0_h4 : ¬(k0_cond4 v2570 v2576 = 1#1)), ∀ a x, ((![v2584, v3114] : Fin 2 → IVec S16 32) a x).toNat < S512x128.size a)
theorem k0_idx159_inb : ∀ (v2570 : BitVec 32) (v2576 : BitVec 32) (v2584 : IVec S16 32) (v3114 : IVec S16 32) (k0_hw159 : k0_chk159 v2570 v2576 v2584 v3114), ∀ (k0_h4 : ¬(k0_cond4 v2570 v2576 = 1#1)), ∀ a x, ((![v2584, v3114] : Fin 2 → IVec S16 32) a x).toNat < S512x128.size a := fun v2570 v2576 v2584 v3114 k0_hw159 k0_h4 => k0_hw159 k0_h4

def k0_chk160 (v2570 : BitVec 32) (v2576 : BitVec 32) (v3117 : IVec S16 32) : Prop :=
  (∀ (k0_h4 : ¬(k0_cond4 v2570 v2576 = 1#1)), ∀ a x, ((![v3117] : Fin 1 → IVec S16 32) a x).toNat < S2048.size a)
theorem k0_idx160_inb : ∀ (v2570 : BitVec 32) (v2576 : BitVec 32) (v3117 : IVec S16 32) (k0_hw160 : k0_chk160 v2570 v2576 v3117), ∀ (k0_h4 : ¬(k0_cond4 v2570 v2576 = 1#1)), ∀ a x, ((![v3117] : Fin 1 → IVec S16 32) a x).toNat < S2048.size a := fun v2570 v2576 v3117 k0_hw160 k0_h4 => k0_hw160 k0_h4

def k0_chk161 (v2570 : BitVec 32) (v2576 : BitVec 32) (v2584 : IVec S16 32) (v3121 : IVec S16 32) : Prop :=
  (∀ (k0_h4 : ¬(k0_cond4 v2570 v2576 = 1#1)), ∀ a x, ((![v2584, v3121] : Fin 2 → IVec S16 32) a x).toNat < S512x128.size a)
theorem k0_idx161_inb : ∀ (v2570 : BitVec 32) (v2576 : BitVec 32) (v2584 : IVec S16 32) (v3121 : IVec S16 32) (k0_hw161 : k0_chk161 v2570 v2576 v2584 v3121), ∀ (k0_h4 : ¬(k0_cond4 v2570 v2576 = 1#1)), ∀ a x, ((![v2584, v3121] : Fin 2 → IVec S16 32) a x).toNat < S512x128.size a := fun v2570 v2576 v2584 v3121 k0_hw161 k0_h4 => k0_hw161 k0_h4

def k0_chk162 (v2570 : BitVec 32) (v2576 : BitVec 32) (v3124 : IVec S16 32) : Prop :=
  (∀ (k0_h4 : ¬(k0_cond4 v2570 v2576 = 1#1)), ∀ a x, ((![v3124] : Fin 1 → IVec S16 32) a x).toNat < S2048.size a)
theorem k0_idx162_inb : ∀ (v2570 : BitVec 32) (v2576 : BitVec 32) (v3124 : IVec S16 32) (k0_hw162 : k0_chk162 v2570 v2576 v3124), ∀ (k0_h4 : ¬(k0_cond4 v2570 v2576 = 1#1)), ∀ a x, ((![v3124] : Fin 1 → IVec S16 32) a x).toNat < S2048.size a := fun v2570 v2576 v3124 k0_hw162 k0_h4 => k0_hw162 k0_h4

def k0_chk163 (v2570 : BitVec 32) (v2576 : BitVec 32) (v2584 : IVec S16 32) (v3128 : IVec S16 32) : Prop :=
  (∀ (k0_h4 : ¬(k0_cond4 v2570 v2576 = 1#1)), ∀ a x, ((![v2584, v3128] : Fin 2 → IVec S16 32) a x).toNat < S512x128.size a)
theorem k0_idx163_inb : ∀ (v2570 : BitVec 32) (v2576 : BitVec 32) (v2584 : IVec S16 32) (v3128 : IVec S16 32) (k0_hw163 : k0_chk163 v2570 v2576 v2584 v3128), ∀ (k0_h4 : ¬(k0_cond4 v2570 v2576 = 1#1)), ∀ a x, ((![v2584, v3128] : Fin 2 → IVec S16 32) a x).toNat < S512x128.size a := fun v2570 v2576 v2584 v3128 k0_hw163 k0_h4 => k0_hw163 k0_h4

def k0_chk164 (v2570 : BitVec 32) (v2576 : BitVec 32) (v3131 : IVec S16 32) : Prop :=
  (∀ (k0_h4 : ¬(k0_cond4 v2570 v2576 = 1#1)), ∀ a x, ((![v3131] : Fin 1 → IVec S16 32) a x).toNat < S2048.size a)
theorem k0_idx164_inb : ∀ (v2570 : BitVec 32) (v2576 : BitVec 32) (v3131 : IVec S16 32) (k0_hw164 : k0_chk164 v2570 v2576 v3131), ∀ (k0_h4 : ¬(k0_cond4 v2570 v2576 = 1#1)), ∀ a x, ((![v3131] : Fin 1 → IVec S16 32) a x).toNat < S2048.size a := fun v2570 v2576 v3131 k0_hw164 k0_h4 => k0_hw164 k0_h4

def k0_chk165 (v2570 : BitVec 32) (v2576 : BitVec 32) (v2584 : IVec S16 32) (v3135 : IVec S16 32) : Prop :=
  (∀ (k0_h4 : ¬(k0_cond4 v2570 v2576 = 1#1)), ∀ a x, ((![v2584, v3135] : Fin 2 → IVec S16 32) a x).toNat < S512x128.size a)
theorem k0_idx165_inb : ∀ (v2570 : BitVec 32) (v2576 : BitVec 32) (v2584 : IVec S16 32) (v3135 : IVec S16 32) (k0_hw165 : k0_chk165 v2570 v2576 v2584 v3135), ∀ (k0_h4 : ¬(k0_cond4 v2570 v2576 = 1#1)), ∀ a x, ((![v2584, v3135] : Fin 2 → IVec S16 32) a x).toNat < S512x128.size a := fun v2570 v2576 v2584 v3135 k0_hw165 k0_h4 => k0_hw165 k0_h4

def k0_chk166 (v2570 : BitVec 32) (v2576 : BitVec 32) (v3138 : IVec S16 32) : Prop :=
  (∀ (k0_h4 : ¬(k0_cond4 v2570 v2576 = 1#1)), ∀ a x, ((![v3138] : Fin 1 → IVec S16 32) a x).toNat < S2048.size a)
theorem k0_idx166_inb : ∀ (v2570 : BitVec 32) (v2576 : BitVec 32) (v3138 : IVec S16 32) (k0_hw166 : k0_chk166 v2570 v2576 v3138), ∀ (k0_h4 : ¬(k0_cond4 v2570 v2576 = 1#1)), ∀ a x, ((![v3138] : Fin 1 → IVec S16 32) a x).toNat < S2048.size a := fun v2570 v2576 v3138 k0_hw166 k0_h4 => k0_hw166 k0_h4

def k0_chk167 (v2570 : BitVec 32) (v2576 : BitVec 32) (v2584 : IVec S16 32) (v3142 : IVec S16 32) : Prop :=
  (∀ (k0_h4 : ¬(k0_cond4 v2570 v2576 = 1#1)), ∀ a x, ((![v2584, v3142] : Fin 2 → IVec S16 32) a x).toNat < S512x128.size a)
theorem k0_idx167_inb : ∀ (v2570 : BitVec 32) (v2576 : BitVec 32) (v2584 : IVec S16 32) (v3142 : IVec S16 32) (k0_hw167 : k0_chk167 v2570 v2576 v2584 v3142), ∀ (k0_h4 : ¬(k0_cond4 v2570 v2576 = 1#1)), ∀ a x, ((![v2584, v3142] : Fin 2 → IVec S16 32) a x).toNat < S512x128.size a := fun v2570 v2576 v2584 v3142 k0_hw167 k0_h4 => k0_hw167 k0_h4

def k0_chk168 (v2570 : BitVec 32) (v2576 : BitVec 32) (v3145 : IVec S16 32) : Prop :=
  (∀ (k0_h4 : ¬(k0_cond4 v2570 v2576 = 1#1)), ∀ a x, ((![v3145] : Fin 1 → IVec S16 32) a x).toNat < S2048.size a)
theorem k0_idx168_inb : ∀ (v2570 : BitVec 32) (v2576 : BitVec 32) (v3145 : IVec S16 32) (k0_hw168 : k0_chk168 v2570 v2576 v3145), ∀ (k0_h4 : ¬(k0_cond4 v2570 v2576 = 1#1)), ∀ a x, ((![v3145] : Fin 1 → IVec S16 32) a x).toNat < S2048.size a := fun v2570 v2576 v3145 k0_hw168 k0_h4 => k0_hw168 k0_h4

def k0_chk169 (v2570 : BitVec 32) (v2576 : BitVec 32) (v2584 : IVec S16 32) (v3149 : IVec S16 32) : Prop :=
  (∀ (k0_h4 : ¬(k0_cond4 v2570 v2576 = 1#1)), ∀ a x, ((![v2584, v3149] : Fin 2 → IVec S16 32) a x).toNat < S512x128.size a)
theorem k0_idx169_inb : ∀ (v2570 : BitVec 32) (v2576 : BitVec 32) (v2584 : IVec S16 32) (v3149 : IVec S16 32) (k0_hw169 : k0_chk169 v2570 v2576 v2584 v3149), ∀ (k0_h4 : ¬(k0_cond4 v2570 v2576 = 1#1)), ∀ a x, ((![v2584, v3149] : Fin 2 → IVec S16 32) a x).toNat < S512x128.size a := fun v2570 v2576 v2584 v3149 k0_hw169 k0_h4 => k0_hw169 k0_h4

def k0_chk170 (v2570 : BitVec 32) (v2576 : BitVec 32) (v3152 : IVec S16 32) : Prop :=
  (∀ (k0_h4 : ¬(k0_cond4 v2570 v2576 = 1#1)), ∀ a x, ((![v3152] : Fin 1 → IVec S16 32) a x).toNat < S2048.size a)
theorem k0_idx170_inb : ∀ (v2570 : BitVec 32) (v2576 : BitVec 32) (v3152 : IVec S16 32) (k0_hw170 : k0_chk170 v2570 v2576 v3152), ∀ (k0_h4 : ¬(k0_cond4 v2570 v2576 = 1#1)), ∀ a x, ((![v3152] : Fin 1 → IVec S16 32) a x).toNat < S2048.size a := fun v2570 v2576 v3152 k0_hw170 k0_h4 => k0_hw170 k0_h4

def k0_chk171 (v2570 : BitVec 32) (v2576 : BitVec 32) (v2584 : IVec S16 32) (v3156 : IVec S16 32) : Prop :=
  (∀ (k0_h4 : ¬(k0_cond4 v2570 v2576 = 1#1)), ∀ a x, ((![v2584, v3156] : Fin 2 → IVec S16 32) a x).toNat < S512x128.size a)
theorem k0_idx171_inb : ∀ (v2570 : BitVec 32) (v2576 : BitVec 32) (v2584 : IVec S16 32) (v3156 : IVec S16 32) (k0_hw171 : k0_chk171 v2570 v2576 v2584 v3156), ∀ (k0_h4 : ¬(k0_cond4 v2570 v2576 = 1#1)), ∀ a x, ((![v2584, v3156] : Fin 2 → IVec S16 32) a x).toNat < S512x128.size a := fun v2570 v2576 v2584 v3156 k0_hw171 k0_h4 => k0_hw171 k0_h4

def k0_chk172 (v2570 : BitVec 32) (v2576 : BitVec 32) (v3159 : IVec S16 32) : Prop :=
  (∀ (k0_h4 : ¬(k0_cond4 v2570 v2576 = 1#1)), ∀ a x, ((![v3159] : Fin 1 → IVec S16 32) a x).toNat < S2048.size a)
theorem k0_idx172_inb : ∀ (v2570 : BitVec 32) (v2576 : BitVec 32) (v3159 : IVec S16 32) (k0_hw172 : k0_chk172 v2570 v2576 v3159), ∀ (k0_h4 : ¬(k0_cond4 v2570 v2576 = 1#1)), ∀ a x, ((![v3159] : Fin 1 → IVec S16 32) a x).toNat < S2048.size a := fun v2570 v2576 v3159 k0_hw172 k0_h4 => k0_hw172 k0_h4

def k0_chk173 (v2570 : BitVec 32) (v2576 : BitVec 32) (v2584 : IVec S16 32) (v3163 : IVec S16 32) : Prop :=
  (∀ (k0_h4 : ¬(k0_cond4 v2570 v2576 = 1#1)), ∀ a x, ((![v2584, v3163] : Fin 2 → IVec S16 32) a x).toNat < S512x128.size a)
theorem k0_idx173_inb : ∀ (v2570 : BitVec 32) (v2576 : BitVec 32) (v2584 : IVec S16 32) (v3163 : IVec S16 32) (k0_hw173 : k0_chk173 v2570 v2576 v2584 v3163), ∀ (k0_h4 : ¬(k0_cond4 v2570 v2576 = 1#1)), ∀ a x, ((![v2584, v3163] : Fin 2 → IVec S16 32) a x).toNat < S512x128.size a := fun v2570 v2576 v2584 v3163 k0_hw173 k0_h4 => k0_hw173 k0_h4

def k0_chk174 (v2570 : BitVec 32) (v2576 : BitVec 32) (v3166 : IVec S16 32) : Prop :=
  (∀ (k0_h4 : ¬(k0_cond4 v2570 v2576 = 1#1)), ∀ a x, ((![v3166] : Fin 1 → IVec S16 32) a x).toNat < S2048.size a)
theorem k0_idx174_inb : ∀ (v2570 : BitVec 32) (v2576 : BitVec 32) (v3166 : IVec S16 32) (k0_hw174 : k0_chk174 v2570 v2576 v3166), ∀ (k0_h4 : ¬(k0_cond4 v2570 v2576 = 1#1)), ∀ a x, ((![v3166] : Fin 1 → IVec S16 32) a x).toNat < S2048.size a := fun v2570 v2576 v3166 k0_hw174 k0_h4 => k0_hw174 k0_h4

def k0_chk175 (v2570 : BitVec 32) (v2576 : BitVec 32) (v2584 : IVec S16 32) (v3170 : IVec S16 32) : Prop :=
  (∀ (k0_h4 : ¬(k0_cond4 v2570 v2576 = 1#1)), ∀ a x, ((![v2584, v3170] : Fin 2 → IVec S16 32) a x).toNat < S512x128.size a)
theorem k0_idx175_inb : ∀ (v2570 : BitVec 32) (v2576 : BitVec 32) (v2584 : IVec S16 32) (v3170 : IVec S16 32) (k0_hw175 : k0_chk175 v2570 v2576 v2584 v3170), ∀ (k0_h4 : ¬(k0_cond4 v2570 v2576 = 1#1)), ∀ a x, ((![v2584, v3170] : Fin 2 → IVec S16 32) a x).toNat < S512x128.size a := fun v2570 v2576 v2584 v3170 k0_hw175 k0_h4 => k0_hw175 k0_h4

def k0_chk176 (v2570 : BitVec 32) (v2576 : BitVec 32) (v3173 : IVec S16 32) : Prop :=
  (∀ (k0_h4 : ¬(k0_cond4 v2570 v2576 = 1#1)), ∀ a x, ((![v3173] : Fin 1 → IVec S16 32) a x).toNat < S2048.size a)
theorem k0_idx176_inb : ∀ (v2570 : BitVec 32) (v2576 : BitVec 32) (v3173 : IVec S16 32) (k0_hw176 : k0_chk176 v2570 v2576 v3173), ∀ (k0_h4 : ¬(k0_cond4 v2570 v2576 = 1#1)), ∀ a x, ((![v3173] : Fin 1 → IVec S16 32) a x).toNat < S2048.size a := fun v2570 v2576 v3173 k0_hw176 k0_h4 => k0_hw176 k0_h4

def k0_chk177 (v2570 : BitVec 32) (v2576 : BitVec 32) (v2584 : IVec S16 32) (v3177 : IVec S16 32) : Prop :=
  (∀ (k0_h4 : ¬(k0_cond4 v2570 v2576 = 1#1)), ∀ a x, ((![v2584, v3177] : Fin 2 → IVec S16 32) a x).toNat < S512x128.size a)
theorem k0_idx177_inb : ∀ (v2570 : BitVec 32) (v2576 : BitVec 32) (v2584 : IVec S16 32) (v3177 : IVec S16 32) (k0_hw177 : k0_chk177 v2570 v2576 v2584 v3177), ∀ (k0_h4 : ¬(k0_cond4 v2570 v2576 = 1#1)), ∀ a x, ((![v2584, v3177] : Fin 2 → IVec S16 32) a x).toNat < S512x128.size a := fun v2570 v2576 v2584 v3177 k0_hw177 k0_h4 => k0_hw177 k0_h4

def k0_chk178 (v2570 : BitVec 32) (v2576 : BitVec 32) (v3180 : IVec S16 32) : Prop :=
  (∀ (k0_h4 : ¬(k0_cond4 v2570 v2576 = 1#1)), ∀ a x, ((![v3180] : Fin 1 → IVec S16 32) a x).toNat < S2048.size a)
theorem k0_idx178_inb : ∀ (v2570 : BitVec 32) (v2576 : BitVec 32) (v3180 : IVec S16 32) (k0_hw178 : k0_chk178 v2570 v2576 v3180), ∀ (k0_h4 : ¬(k0_cond4 v2570 v2576 = 1#1)), ∀ a x, ((![v3180] : Fin 1 → IVec S16 32) a x).toNat < S2048.size a := fun v2570 v2576 v3180 k0_hw178 k0_h4 => k0_hw178 k0_h4

def k0_chk179 (v2570 : BitVec 32) (v2576 : BitVec 32) (v2584 : IVec S16 32) (v3184 : IVec S16 32) : Prop :=
  (∀ (k0_h4 : ¬(k0_cond4 v2570 v2576 = 1#1)), ∀ a x, ((![v2584, v3184] : Fin 2 → IVec S16 32) a x).toNat < S512x128.size a)
theorem k0_idx179_inb : ∀ (v2570 : BitVec 32) (v2576 : BitVec 32) (v2584 : IVec S16 32) (v3184 : IVec S16 32) (k0_hw179 : k0_chk179 v2570 v2576 v2584 v3184), ∀ (k0_h4 : ¬(k0_cond4 v2570 v2576 = 1#1)), ∀ a x, ((![v2584, v3184] : Fin 2 → IVec S16 32) a x).toNat < S512x128.size a := fun v2570 v2576 v2584 v3184 k0_hw179 k0_h4 => k0_hw179 k0_h4

def k0_chk180 (v2570 : BitVec 32) (v2576 : BitVec 32) (v3187 : IVec S16 32) : Prop :=
  (∀ (k0_h4 : ¬(k0_cond4 v2570 v2576 = 1#1)), ∀ a x, ((![v3187] : Fin 1 → IVec S16 32) a x).toNat < S2048.size a)
theorem k0_idx180_inb : ∀ (v2570 : BitVec 32) (v2576 : BitVec 32) (v3187 : IVec S16 32) (k0_hw180 : k0_chk180 v2570 v2576 v3187), ∀ (k0_h4 : ¬(k0_cond4 v2570 v2576 = 1#1)), ∀ a x, ((![v3187] : Fin 1 → IVec S16 32) a x).toNat < S2048.size a := fun v2570 v2576 v3187 k0_hw180 k0_h4 => k0_hw180 k0_h4

def k0_chk181 (v2570 : BitVec 32) (v2576 : BitVec 32) (v2584 : IVec S16 32) (v3191 : IVec S16 32) : Prop :=
  (∀ (k0_h4 : ¬(k0_cond4 v2570 v2576 = 1#1)), ∀ a x, ((![v2584, v3191] : Fin 2 → IVec S16 32) a x).toNat < S512x128.size a)
theorem k0_idx181_inb : ∀ (v2570 : BitVec 32) (v2576 : BitVec 32) (v2584 : IVec S16 32) (v3191 : IVec S16 32) (k0_hw181 : k0_chk181 v2570 v2576 v2584 v3191), ∀ (k0_h4 : ¬(k0_cond4 v2570 v2576 = 1#1)), ∀ a x, ((![v2584, v3191] : Fin 2 → IVec S16 32) a x).toNat < S512x128.size a := fun v2570 v2576 v2584 v3191 k0_hw181 k0_h4 => k0_hw181 k0_h4

def k0_chk182 (v2570 : BitVec 32) (v2576 : BitVec 32) (v3194 : IVec S16 32) : Prop :=
  (∀ (k0_h4 : ¬(k0_cond4 v2570 v2576 = 1#1)), ∀ a x, ((![v3194] : Fin 1 → IVec S16 32) a x).toNat < S2048.size a)
theorem k0_idx182_inb : ∀ (v2570 : BitVec 32) (v2576 : BitVec 32) (v3194 : IVec S16 32) (k0_hw182 : k0_chk182 v2570 v2576 v3194), ∀ (k0_h4 : ¬(k0_cond4 v2570 v2576 = 1#1)), ∀ a x, ((![v3194] : Fin 1 → IVec S16 32) a x).toNat < S2048.size a := fun v2570 v2576 v3194 k0_hw182 k0_h4 => k0_hw182 k0_h4

def k0_chk183 (v2570 : BitVec 32) (v2576 : BitVec 32) (v2584 : IVec S16 32) (v3198 : IVec S16 32) : Prop :=
  (∀ (k0_h4 : ¬(k0_cond4 v2570 v2576 = 1#1)), ∀ a x, ((![v2584, v3198] : Fin 2 → IVec S16 32) a x).toNat < S512x128.size a)
theorem k0_idx183_inb : ∀ (v2570 : BitVec 32) (v2576 : BitVec 32) (v2584 : IVec S16 32) (v3198 : IVec S16 32) (k0_hw183 : k0_chk183 v2570 v2576 v2584 v3198), ∀ (k0_h4 : ¬(k0_cond4 v2570 v2576 = 1#1)), ∀ a x, ((![v2584, v3198] : Fin 2 → IVec S16 32) a x).toNat < S512x128.size a := fun v2570 v2576 v2584 v3198 k0_hw183 k0_h4 => k0_hw183 k0_h4

def k0_chk184 (v2570 : BitVec 32) (v2576 : BitVec 32) (v3201 : IVec S16 32) : Prop :=
  (∀ (k0_h4 : ¬(k0_cond4 v2570 v2576 = 1#1)), ∀ a x, ((![v3201] : Fin 1 → IVec S16 32) a x).toNat < S2048.size a)
theorem k0_idx184_inb : ∀ (v2570 : BitVec 32) (v2576 : BitVec 32) (v3201 : IVec S16 32) (k0_hw184 : k0_chk184 v2570 v2576 v3201), ∀ (k0_h4 : ¬(k0_cond4 v2570 v2576 = 1#1)), ∀ a x, ((![v3201] : Fin 1 → IVec S16 32) a x).toNat < S2048.size a := fun v2570 v2576 v3201 k0_hw184 k0_h4 => k0_hw184 k0_h4

def k0_chk185 (v2570 : BitVec 32) (v2576 : BitVec 32) (v2584 : IVec S16 32) (v3205 : IVec S16 32) : Prop :=
  (∀ (k0_h4 : ¬(k0_cond4 v2570 v2576 = 1#1)), ∀ a x, ((![v2584, v3205] : Fin 2 → IVec S16 32) a x).toNat < S512x128.size a)
theorem k0_idx185_inb : ∀ (v2570 : BitVec 32) (v2576 : BitVec 32) (v2584 : IVec S16 32) (v3205 : IVec S16 32) (k0_hw185 : k0_chk185 v2570 v2576 v2584 v3205), ∀ (k0_h4 : ¬(k0_cond4 v2570 v2576 = 1#1)), ∀ a x, ((![v2584, v3205] : Fin 2 → IVec S16 32) a x).toNat < S512x128.size a := fun v2570 v2576 v2584 v3205 k0_hw185 k0_h4 => k0_hw185 k0_h4

def k0_chk186 (v2570 : BitVec 32) (v2576 : BitVec 32) (v3208 : IVec S16 32) : Prop :=
  (∀ (k0_h4 : ¬(k0_cond4 v2570 v2576 = 1#1)), ∀ a x, ((![v3208] : Fin 1 → IVec S16 32) a x).toNat < S2048.size a)
theorem k0_idx186_inb : ∀ (v2570 : BitVec 32) (v2576 : BitVec 32) (v3208 : IVec S16 32) (k0_hw186 : k0_chk186 v2570 v2576 v3208), ∀ (k0_h4 : ¬(k0_cond4 v2570 v2576 = 1#1)), ∀ a x, ((![v3208] : Fin 1 → IVec S16 32) a x).toNat < S2048.size a := fun v2570 v2576 v3208 k0_hw186 k0_h4 => k0_hw186 k0_h4

def k0_chk187 (v2570 : BitVec 32) (v2576 : BitVec 32) (v2584 : IVec S16 32) (v3212 : IVec S16 32) : Prop :=
  (∀ (k0_h4 : ¬(k0_cond4 v2570 v2576 = 1#1)), ∀ a x, ((![v2584, v3212] : Fin 2 → IVec S16 32) a x).toNat < S512x128.size a)
theorem k0_idx187_inb : ∀ (v2570 : BitVec 32) (v2576 : BitVec 32) (v2584 : IVec S16 32) (v3212 : IVec S16 32) (k0_hw187 : k0_chk187 v2570 v2576 v2584 v3212), ∀ (k0_h4 : ¬(k0_cond4 v2570 v2576 = 1#1)), ∀ a x, ((![v2584, v3212] : Fin 2 → IVec S16 32) a x).toNat < S512x128.size a := fun v2570 v2576 v2584 v3212 k0_hw187 k0_h4 => k0_hw187 k0_h4

def k0_chk188 (v2570 : BitVec 32) (v2576 : BitVec 32) (v3215 : IVec S16 32) : Prop :=
  (∀ (k0_h4 : ¬(k0_cond4 v2570 v2576 = 1#1)), ∀ a x, ((![v3215] : Fin 1 → IVec S16 32) a x).toNat < S2048.size a)
theorem k0_idx188_inb : ∀ (v2570 : BitVec 32) (v2576 : BitVec 32) (v3215 : IVec S16 32) (k0_hw188 : k0_chk188 v2570 v2576 v3215), ∀ (k0_h4 : ¬(k0_cond4 v2570 v2576 = 1#1)), ∀ a x, ((![v3215] : Fin 1 → IVec S16 32) a x).toNat < S2048.size a := fun v2570 v2576 v3215 k0_hw188 k0_h4 => k0_hw188 k0_h4

def k0_chk189 (v2570 : BitVec 32) (v2576 : BitVec 32) (v2584 : IVec S16 32) (v3219 : IVec S16 32) : Prop :=
  (∀ (k0_h4 : ¬(k0_cond4 v2570 v2576 = 1#1)), ∀ a x, ((![v2584, v3219] : Fin 2 → IVec S16 32) a x).toNat < S512x128.size a)
theorem k0_idx189_inb : ∀ (v2570 : BitVec 32) (v2576 : BitVec 32) (v2584 : IVec S16 32) (v3219 : IVec S16 32) (k0_hw189 : k0_chk189 v2570 v2576 v2584 v3219), ∀ (k0_h4 : ¬(k0_cond4 v2570 v2576 = 1#1)), ∀ a x, ((![v2584, v3219] : Fin 2 → IVec S16 32) a x).toNat < S512x128.size a := fun v2570 v2576 v2584 v3219 k0_hw189 k0_h4 => k0_hw189 k0_h4

def k0_chk190 (v2570 : BitVec 32) (v2576 : BitVec 32) (v3222 : IVec S16 32) : Prop :=
  (∀ (k0_h4 : ¬(k0_cond4 v2570 v2576 = 1#1)), ∀ a x, ((![v3222] : Fin 1 → IVec S16 32) a x).toNat < S2048.size a)
theorem k0_idx190_inb : ∀ (v2570 : BitVec 32) (v2576 : BitVec 32) (v3222 : IVec S16 32) (k0_hw190 : k0_chk190 v2570 v2576 v3222), ∀ (k0_h4 : ¬(k0_cond4 v2570 v2576 = 1#1)), ∀ a x, ((![v3222] : Fin 1 → IVec S16 32) a x).toNat < S2048.size a := fun v2570 v2576 v3222 k0_hw190 k0_h4 => k0_hw190 k0_h4

def k0_chk191 (v2570 : BitVec 32) (v2576 : BitVec 32) (v2584 : IVec S16 32) (v3226 : IVec S16 32) : Prop :=
  (∀ (k0_h4 : ¬(k0_cond4 v2570 v2576 = 1#1)), ∀ a x, ((![v2584, v3226] : Fin 2 → IVec S16 32) a x).toNat < S512x128.size a)
theorem k0_idx191_inb : ∀ (v2570 : BitVec 32) (v2576 : BitVec 32) (v2584 : IVec S16 32) (v3226 : IVec S16 32) (k0_hw191 : k0_chk191 v2570 v2576 v2584 v3226), ∀ (k0_h4 : ¬(k0_cond4 v2570 v2576 = 1#1)), ∀ a x, ((![v2584, v3226] : Fin 2 → IVec S16 32) a x).toNat < S512x128.size a := fun v2570 v2576 v2584 v3226 k0_hw191 k0_h4 => k0_hw191 k0_h4

def k0_chk192 (v2570 : BitVec 32) (v2576 : BitVec 32) (v3229 : IVec S16 32) : Prop :=
  (∀ (k0_h4 : ¬(k0_cond4 v2570 v2576 = 1#1)), ∀ a x, ((![v3229] : Fin 1 → IVec S16 32) a x).toNat < S2048.size a)
theorem k0_idx192_inb : ∀ (v2570 : BitVec 32) (v2576 : BitVec 32) (v3229 : IVec S16 32) (k0_hw192 : k0_chk192 v2570 v2576 v3229), ∀ (k0_h4 : ¬(k0_cond4 v2570 v2576 = 1#1)), ∀ a x, ((![v3229] : Fin 1 → IVec S16 32) a x).toNat < S2048.size a := fun v2570 v2576 v3229 k0_hw192 k0_h4 => k0_hw192 k0_h4

def k0_chk193 (v2570 : BitVec 32) (v2576 : BitVec 32) (v2584 : IVec S16 32) (v3233 : IVec S16 32) : Prop :=
  (∀ (k0_h4 : ¬(k0_cond4 v2570 v2576 = 1#1)), ∀ a x, ((![v2584, v3233] : Fin 2 → IVec S16 32) a x).toNat < S512x128.size a)
theorem k0_idx193_inb : ∀ (v2570 : BitVec 32) (v2576 : BitVec 32) (v2584 : IVec S16 32) (v3233 : IVec S16 32) (k0_hw193 : k0_chk193 v2570 v2576 v2584 v3233), ∀ (k0_h4 : ¬(k0_cond4 v2570 v2576 = 1#1)), ∀ a x, ((![v2584, v3233] : Fin 2 → IVec S16 32) a x).toNat < S512x128.size a := fun v2570 v2576 v2584 v3233 k0_hw193 k0_h4 => k0_hw193 k0_h4

def k0_chk194 (v2570 : BitVec 32) (v2576 : BitVec 32) (v3236 : IVec S16 32) : Prop :=
  (∀ (k0_h4 : ¬(k0_cond4 v2570 v2576 = 1#1)), ∀ a x, ((![v3236] : Fin 1 → IVec S16 32) a x).toNat < S2048.size a)
theorem k0_idx194_inb : ∀ (v2570 : BitVec 32) (v2576 : BitVec 32) (v3236 : IVec S16 32) (k0_hw194 : k0_chk194 v2570 v2576 v3236), ∀ (k0_h4 : ¬(k0_cond4 v2570 v2576 = 1#1)), ∀ a x, ((![v3236] : Fin 1 → IVec S16 32) a x).toNat < S2048.size a := fun v2570 v2576 v3236 k0_hw194 k0_h4 => k0_hw194 k0_h4

def k0_chk195 (v2570 : BitVec 32) (v2576 : BitVec 32) (v2584 : IVec S16 32) (v3240 : IVec S16 32) : Prop :=
  (∀ (k0_h4 : ¬(k0_cond4 v2570 v2576 = 1#1)), ∀ a x, ((![v2584, v3240] : Fin 2 → IVec S16 32) a x).toNat < S512x128.size a)
theorem k0_idx195_inb : ∀ (v2570 : BitVec 32) (v2576 : BitVec 32) (v2584 : IVec S16 32) (v3240 : IVec S16 32) (k0_hw195 : k0_chk195 v2570 v2576 v2584 v3240), ∀ (k0_h4 : ¬(k0_cond4 v2570 v2576 = 1#1)), ∀ a x, ((![v2584, v3240] : Fin 2 → IVec S16 32) a x).toNat < S512x128.size a := fun v2570 v2576 v2584 v3240 k0_hw195 k0_h4 => k0_hw195 k0_h4

def k0_chk196 (v2570 : BitVec 32) (v2576 : BitVec 32) (v3243 : IVec S16 32) : Prop :=
  (∀ (k0_h4 : ¬(k0_cond4 v2570 v2576 = 1#1)), ∀ a x, ((![v3243] : Fin 1 → IVec S16 32) a x).toNat < S2048.size a)
theorem k0_idx196_inb : ∀ (v2570 : BitVec 32) (v2576 : BitVec 32) (v3243 : IVec S16 32) (k0_hw196 : k0_chk196 v2570 v2576 v3243), ∀ (k0_h4 : ¬(k0_cond4 v2570 v2576 = 1#1)), ∀ a x, ((![v3243] : Fin 1 → IVec S16 32) a x).toNat < S2048.size a := fun v2570 v2576 v3243 k0_hw196 k0_h4 => k0_hw196 k0_h4

def k0_chk197 (v2570 : BitVec 32) (v2576 : BitVec 32) (v2584 : IVec S16 32) (v3247 : IVec S16 32) : Prop :=
  (∀ (k0_h4 : ¬(k0_cond4 v2570 v2576 = 1#1)), ∀ a x, ((![v2584, v3247] : Fin 2 → IVec S16 32) a x).toNat < S512x128.size a)
theorem k0_idx197_inb : ∀ (v2570 : BitVec 32) (v2576 : BitVec 32) (v2584 : IVec S16 32) (v3247 : IVec S16 32) (k0_hw197 : k0_chk197 v2570 v2576 v2584 v3247), ∀ (k0_h4 : ¬(k0_cond4 v2570 v2576 = 1#1)), ∀ a x, ((![v2584, v3247] : Fin 2 → IVec S16 32) a x).toNat < S512x128.size a := fun v2570 v2576 v2584 v3247 k0_hw197 k0_h4 => k0_hw197 k0_h4

def k0_chk198 (v2570 : BitVec 32) (v2576 : BitVec 32) (v3250 : IVec S16 32) : Prop :=
  (∀ (k0_h4 : ¬(k0_cond4 v2570 v2576 = 1#1)), ∀ a x, ((![v3250] : Fin 1 → IVec S16 32) a x).toNat < S2048.size a)
theorem k0_idx198_inb : ∀ (v2570 : BitVec 32) (v2576 : BitVec 32) (v3250 : IVec S16 32) (k0_hw198 : k0_chk198 v2570 v2576 v3250), ∀ (k0_h4 : ¬(k0_cond4 v2570 v2576 = 1#1)), ∀ a x, ((![v3250] : Fin 1 → IVec S16 32) a x).toNat < S2048.size a := fun v2570 v2576 v3250 k0_hw198 k0_h4 => k0_hw198 k0_h4

def k0_chk199 (v2570 : BitVec 32) (v2576 : BitVec 32) (v2584 : IVec S16 32) (v3254 : IVec S16 32) : Prop :=
  (∀ (k0_h4 : ¬(k0_cond4 v2570 v2576 = 1#1)), ∀ a x, ((![v2584, v3254] : Fin 2 → IVec S16 32) a x).toNat < S512x128.size a)
theorem k0_idx199_inb : ∀ (v2570 : BitVec 32) (v2576 : BitVec 32) (v2584 : IVec S16 32) (v3254 : IVec S16 32) (k0_hw199 : k0_chk199 v2570 v2576 v2584 v3254), ∀ (k0_h4 : ¬(k0_cond4 v2570 v2576 = 1#1)), ∀ a x, ((![v2584, v3254] : Fin 2 → IVec S16 32) a x).toNat < S512x128.size a := fun v2570 v2576 v2584 v3254 k0_hw199 k0_h4 => k0_hw199 k0_h4

def k0_chk200 (v2570 : BitVec 32) (v2576 : BitVec 32) (v3257 : IVec S16 32) : Prop :=
  (∀ (k0_h4 : ¬(k0_cond4 v2570 v2576 = 1#1)), ∀ a x, ((![v3257] : Fin 1 → IVec S16 32) a x).toNat < S2048.size a)
theorem k0_idx200_inb : ∀ (v2570 : BitVec 32) (v2576 : BitVec 32) (v3257 : IVec S16 32) (k0_hw200 : k0_chk200 v2570 v2576 v3257), ∀ (k0_h4 : ¬(k0_cond4 v2570 v2576 = 1#1)), ∀ a x, ((![v3257] : Fin 1 → IVec S16 32) a x).toNat < S2048.size a := fun v2570 v2576 v3257 k0_hw200 k0_h4 => k0_hw200 k0_h4

def k0_chk201 (v2570 : BitVec 32) (v2576 : BitVec 32) (v2584 : IVec S16 32) (v3261 : IVec S16 32) : Prop :=
  (∀ (k0_h4 : ¬(k0_cond4 v2570 v2576 = 1#1)), ∀ a x, ((![v2584, v3261] : Fin 2 → IVec S16 32) a x).toNat < S512x128.size a)
theorem k0_idx201_inb : ∀ (v2570 : BitVec 32) (v2576 : BitVec 32) (v2584 : IVec S16 32) (v3261 : IVec S16 32) (k0_hw201 : k0_chk201 v2570 v2576 v2584 v3261), ∀ (k0_h4 : ¬(k0_cond4 v2570 v2576 = 1#1)), ∀ a x, ((![v2584, v3261] : Fin 2 → IVec S16 32) a x).toNat < S512x128.size a := fun v2570 v2576 v2584 v3261 k0_hw201 k0_h4 => k0_hw201 k0_h4

def k0_chk202 (v2570 : BitVec 32) (v2576 : BitVec 32) (v3264 : IVec S16 32) : Prop :=
  (∀ (k0_h4 : ¬(k0_cond4 v2570 v2576 = 1#1)), ∀ a x, ((![v3264] : Fin 1 → IVec S16 32) a x).toNat < S2048.size a)
theorem k0_idx202_inb : ∀ (v2570 : BitVec 32) (v2576 : BitVec 32) (v3264 : IVec S16 32) (k0_hw202 : k0_chk202 v2570 v2576 v3264), ∀ (k0_h4 : ¬(k0_cond4 v2570 v2576 = 1#1)), ∀ a x, ((![v3264] : Fin 1 → IVec S16 32) a x).toNat < S2048.size a := fun v2570 v2576 v3264 k0_hw202 k0_h4 => k0_hw202 k0_h4

def k0_chk203 (v2570 : BitVec 32) (v2576 : BitVec 32) (v2584 : IVec S16 32) (v3268 : IVec S16 32) : Prop :=
  (∀ (k0_h4 : ¬(k0_cond4 v2570 v2576 = 1#1)), ∀ a x, ((![v2584, v3268] : Fin 2 → IVec S16 32) a x).toNat < S512x128.size a)
theorem k0_idx203_inb : ∀ (v2570 : BitVec 32) (v2576 : BitVec 32) (v2584 : IVec S16 32) (v3268 : IVec S16 32) (k0_hw203 : k0_chk203 v2570 v2576 v2584 v3268), ∀ (k0_h4 : ¬(k0_cond4 v2570 v2576 = 1#1)), ∀ a x, ((![v2584, v3268] : Fin 2 → IVec S16 32) a x).toNat < S512x128.size a := fun v2570 v2576 v2584 v3268 k0_hw203 k0_h4 => k0_hw203 k0_h4

def k0_chk204 (v2570 : BitVec 32) (v2576 : BitVec 32) (v3271 : IVec S16 32) : Prop :=
  (∀ (k0_h4 : ¬(k0_cond4 v2570 v2576 = 1#1)), ∀ a x, ((![v3271] : Fin 1 → IVec S16 32) a x).toNat < S2048.size a)
theorem k0_idx204_inb : ∀ (v2570 : BitVec 32) (v2576 : BitVec 32) (v3271 : IVec S16 32) (k0_hw204 : k0_chk204 v2570 v2576 v3271), ∀ (k0_h4 : ¬(k0_cond4 v2570 v2576 = 1#1)), ∀ a x, ((![v3271] : Fin 1 → IVec S16 32) a x).toNat < S2048.size a := fun v2570 v2576 v3271 k0_hw204 k0_h4 => k0_hw204 k0_h4

def k0_chk205 (v2570 : BitVec 32) (v2576 : BitVec 32) (v2584 : IVec S16 32) (v3275 : IVec S16 32) : Prop :=
  (∀ (k0_h4 : ¬(k0_cond4 v2570 v2576 = 1#1)), ∀ a x, ((![v2584, v3275] : Fin 2 → IVec S16 32) a x).toNat < S512x128.size a)
theorem k0_idx205_inb : ∀ (v2570 : BitVec 32) (v2576 : BitVec 32) (v2584 : IVec S16 32) (v3275 : IVec S16 32) (k0_hw205 : k0_chk205 v2570 v2576 v2584 v3275), ∀ (k0_h4 : ¬(k0_cond4 v2570 v2576 = 1#1)), ∀ a x, ((![v2584, v3275] : Fin 2 → IVec S16 32) a x).toNat < S512x128.size a := fun v2570 v2576 v2584 v3275 k0_hw205 k0_h4 => k0_hw205 k0_h4

def k0_chk206 (v2570 : BitVec 32) (v2576 : BitVec 32) (v3278 : IVec S16 32) : Prop :=
  (∀ (k0_h4 : ¬(k0_cond4 v2570 v2576 = 1#1)), ∀ a x, ((![v3278] : Fin 1 → IVec S16 32) a x).toNat < S2048.size a)
theorem k0_idx206_inb : ∀ (v2570 : BitVec 32) (v2576 : BitVec 32) (v3278 : IVec S16 32) (k0_hw206 : k0_chk206 v2570 v2576 v3278), ∀ (k0_h4 : ¬(k0_cond4 v2570 v2576 = 1#1)), ∀ a x, ((![v3278] : Fin 1 → IVec S16 32) a x).toNat < S2048.size a := fun v2570 v2576 v3278 k0_hw206 k0_h4 => k0_hw206 k0_h4

def k0_chk207 (v2570 : BitVec 32) (v2576 : BitVec 32) (v2584 : IVec S16 32) (v3282 : IVec S16 32) : Prop :=
  (∀ (k0_h4 : ¬(k0_cond4 v2570 v2576 = 1#1)), ∀ a x, ((![v2584, v3282] : Fin 2 → IVec S16 32) a x).toNat < S512x128.size a)
theorem k0_idx207_inb : ∀ (v2570 : BitVec 32) (v2576 : BitVec 32) (v2584 : IVec S16 32) (v3282 : IVec S16 32) (k0_hw207 : k0_chk207 v2570 v2576 v2584 v3282), ∀ (k0_h4 : ¬(k0_cond4 v2570 v2576 = 1#1)), ∀ a x, ((![v2584, v3282] : Fin 2 → IVec S16 32) a x).toNat < S512x128.size a := fun v2570 v2576 v2584 v3282 k0_hw207 k0_h4 => k0_hw207 k0_h4

def k0_chk208 (v2570 : BitVec 32) (v2576 : BitVec 32) (v3285 : IVec S16 32) : Prop :=
  (∀ (k0_h4 : ¬(k0_cond4 v2570 v2576 = 1#1)), ∀ a x, ((![v3285] : Fin 1 → IVec S16 32) a x).toNat < S2048.size a)
theorem k0_idx208_inb : ∀ (v2570 : BitVec 32) (v2576 : BitVec 32) (v3285 : IVec S16 32) (k0_hw208 : k0_chk208 v2570 v2576 v3285), ∀ (k0_h4 : ¬(k0_cond4 v2570 v2576 = 1#1)), ∀ a x, ((![v3285] : Fin 1 → IVec S16 32) a x).toNat < S2048.size a := fun v2570 v2576 v3285 k0_hw208 k0_h4 => k0_hw208 k0_h4

def k0_chk209 (v2570 : BitVec 32) (v2576 : BitVec 32) (v2584 : IVec S16 32) (v3289 : IVec S16 32) : Prop :=
  (∀ (k0_h4 : ¬(k0_cond4 v2570 v2576 = 1#1)), ∀ a x, ((![v2584, v3289] : Fin 2 → IVec S16 32) a x).toNat < S512x128.size a)
theorem k0_idx209_inb : ∀ (v2570 : BitVec 32) (v2576 : BitVec 32) (v2584 : IVec S16 32) (v3289 : IVec S16 32) (k0_hw209 : k0_chk209 v2570 v2576 v2584 v3289), ∀ (k0_h4 : ¬(k0_cond4 v2570 v2576 = 1#1)), ∀ a x, ((![v2584, v3289] : Fin 2 → IVec S16 32) a x).toNat < S512x128.size a := fun v2570 v2576 v2584 v3289 k0_hw209 k0_h4 => k0_hw209 k0_h4

def k0_chk210 (v2570 : BitVec 32) (v2576 : BitVec 32) (v3292 : IVec S16 32) : Prop :=
  (∀ (k0_h4 : ¬(k0_cond4 v2570 v2576 = 1#1)), ∀ a x, ((![v3292] : Fin 1 → IVec S16 32) a x).toNat < S2048.size a)
theorem k0_idx210_inb : ∀ (v2570 : BitVec 32) (v2576 : BitVec 32) (v3292 : IVec S16 32) (k0_hw210 : k0_chk210 v2570 v2576 v3292), ∀ (k0_h4 : ¬(k0_cond4 v2570 v2576 = 1#1)), ∀ a x, ((![v3292] : Fin 1 → IVec S16 32) a x).toNat < S2048.size a := fun v2570 v2576 v3292 k0_hw210 k0_h4 => k0_hw210 k0_h4

def k0_chk211 (v2570 : BitVec 32) (v2576 : BitVec 32) (v2584 : IVec S16 32) (v3296 : IVec S16 32) : Prop :=
  (∀ (k0_h4 : ¬(k0_cond4 v2570 v2576 = 1#1)), ∀ a x, ((![v2584, v3296] : Fin 2 → IVec S16 32) a x).toNat < S512x128.size a)
theorem k0_idx211_inb : ∀ (v2570 : BitVec 32) (v2576 : BitVec 32) (v2584 : IVec S16 32) (v3296 : IVec S16 32) (k0_hw211 : k0_chk211 v2570 v2576 v2584 v3296), ∀ (k0_h4 : ¬(k0_cond4 v2570 v2576 = 1#1)), ∀ a x, ((![v2584, v3296] : Fin 2 → IVec S16 32) a x).toNat < S512x128.size a := fun v2570 v2576 v2584 v3296 k0_hw211 k0_h4 => k0_hw211 k0_h4

def k0_chk212 (v2570 : BitVec 32) (v2576 : BitVec 32) (v3299 : IVec S16 32) : Prop :=
  (∀ (k0_h4 : ¬(k0_cond4 v2570 v2576 = 1#1)), ∀ a x, ((![v3299] : Fin 1 → IVec S16 32) a x).toNat < S2048.size a)
theorem k0_idx212_inb : ∀ (v2570 : BitVec 32) (v2576 : BitVec 32) (v3299 : IVec S16 32) (k0_hw212 : k0_chk212 v2570 v2576 v3299), ∀ (k0_h4 : ¬(k0_cond4 v2570 v2576 = 1#1)), ∀ a x, ((![v3299] : Fin 1 → IVec S16 32) a x).toNat < S2048.size a := fun v2570 v2576 v3299 k0_hw212 k0_h4 => k0_hw212 k0_h4

def k0_chk213 (v2570 : BitVec 32) (v2576 : BitVec 32) (v2584 : IVec S16 32) (v3303 : IVec S16 32) : Prop :=
  (∀ (k0_h4 : ¬(k0_cond4 v2570 v2576 = 1#1)), ∀ a x, ((![v2584, v3303] : Fin 2 → IVec S16 32) a x).toNat < S512x128.size a)
theorem k0_idx213_inb : ∀ (v2570 : BitVec 32) (v2576 : BitVec 32) (v2584 : IVec S16 32) (v3303 : IVec S16 32) (k0_hw213 : k0_chk213 v2570 v2576 v2584 v3303), ∀ (k0_h4 : ¬(k0_cond4 v2570 v2576 = 1#1)), ∀ a x, ((![v2584, v3303] : Fin 2 → IVec S16 32) a x).toNat < S512x128.size a := fun v2570 v2576 v2584 v3303 k0_hw213 k0_h4 => k0_hw213 k0_h4

def k0_chk214 (v2570 : BitVec 32) (v2576 : BitVec 32) (v3306 : IVec S16 32) : Prop :=
  (∀ (k0_h4 : ¬(k0_cond4 v2570 v2576 = 1#1)), ∀ a x, ((![v3306] : Fin 1 → IVec S16 32) a x).toNat < S2048.size a)
theorem k0_idx214_inb : ∀ (v2570 : BitVec 32) (v2576 : BitVec 32) (v3306 : IVec S16 32) (k0_hw214 : k0_chk214 v2570 v2576 v3306), ∀ (k0_h4 : ¬(k0_cond4 v2570 v2576 = 1#1)), ∀ a x, ((![v3306] : Fin 1 → IVec S16 32) a x).toNat < S2048.size a := fun v2570 v2576 v3306 k0_hw214 k0_h4 => k0_hw214 k0_h4

def k0_chk215 (v2570 : BitVec 32) (v2576 : BitVec 32) (v2584 : IVec S16 32) (v3310 : IVec S16 32) : Prop :=
  (∀ (k0_h4 : ¬(k0_cond4 v2570 v2576 = 1#1)), ∀ a x, ((![v2584, v3310] : Fin 2 → IVec S16 32) a x).toNat < S512x128.size a)
theorem k0_idx215_inb : ∀ (v2570 : BitVec 32) (v2576 : BitVec 32) (v2584 : IVec S16 32) (v3310 : IVec S16 32) (k0_hw215 : k0_chk215 v2570 v2576 v2584 v3310), ∀ (k0_h4 : ¬(k0_cond4 v2570 v2576 = 1#1)), ∀ a x, ((![v2584, v3310] : Fin 2 → IVec S16 32) a x).toNat < S512x128.size a := fun v2570 v2576 v2584 v3310 k0_hw215 k0_h4 => k0_hw215 k0_h4

def k0_chk216 (v2570 : BitVec 32) (v2576 : BitVec 32) (v3313 : IVec S16 32) : Prop :=
  (∀ (k0_h4 : ¬(k0_cond4 v2570 v2576 = 1#1)), ∀ a x, ((![v3313] : Fin 1 → IVec S16 32) a x).toNat < S2048.size a)
theorem k0_idx216_inb : ∀ (v2570 : BitVec 32) (v2576 : BitVec 32) (v3313 : IVec S16 32) (k0_hw216 : k0_chk216 v2570 v2576 v3313), ∀ (k0_h4 : ¬(k0_cond4 v2570 v2576 = 1#1)), ∀ a x, ((![v3313] : Fin 1 → IVec S16 32) a x).toNat < S2048.size a := fun v2570 v2576 v3313 k0_hw216 k0_h4 => k0_hw216 k0_h4

def k0_chk217 (v2570 : BitVec 32) (v2576 : BitVec 32) (v2584 : IVec S16 32) (v3317 : IVec S16 32) : Prop :=
  (∀ (k0_h4 : ¬(k0_cond4 v2570 v2576 = 1#1)), ∀ a x, ((![v2584, v3317] : Fin 2 → IVec S16 32) a x).toNat < S512x128.size a)
theorem k0_idx217_inb : ∀ (v2570 : BitVec 32) (v2576 : BitVec 32) (v2584 : IVec S16 32) (v3317 : IVec S16 32) (k0_hw217 : k0_chk217 v2570 v2576 v2584 v3317), ∀ (k0_h4 : ¬(k0_cond4 v2570 v2576 = 1#1)), ∀ a x, ((![v2584, v3317] : Fin 2 → IVec S16 32) a x).toNat < S512x128.size a := fun v2570 v2576 v2584 v3317 k0_hw217 k0_h4 => k0_hw217 k0_h4

def k0_chk218 (v2570 : BitVec 32) (v2576 : BitVec 32) (v3320 : IVec S16 32) : Prop :=
  (∀ (k0_h4 : ¬(k0_cond4 v2570 v2576 = 1#1)), ∀ a x, ((![v3320] : Fin 1 → IVec S16 32) a x).toNat < S2048.size a)
theorem k0_idx218_inb : ∀ (v2570 : BitVec 32) (v2576 : BitVec 32) (v3320 : IVec S16 32) (k0_hw218 : k0_chk218 v2570 v2576 v3320), ∀ (k0_h4 : ¬(k0_cond4 v2570 v2576 = 1#1)), ∀ a x, ((![v3320] : Fin 1 → IVec S16 32) a x).toNat < S2048.size a := fun v2570 v2576 v3320 k0_hw218 k0_h4 => k0_hw218 k0_h4

def k0_chk219 (v2570 : BitVec 32) (v2576 : BitVec 32) (v2584 : IVec S16 32) (v3324 : IVec S16 32) : Prop :=
  (∀ (k0_h4 : ¬(k0_cond4 v2570 v2576 = 1#1)), ∀ a x, ((![v2584, v3324] : Fin 2 → IVec S16 32) a x).toNat < S512x128.size a)
theorem k0_idx219_inb : ∀ (v2570 : BitVec 32) (v2576 : BitVec 32) (v2584 : IVec S16 32) (v3324 : IVec S16 32) (k0_hw219 : k0_chk219 v2570 v2576 v2584 v3324), ∀ (k0_h4 : ¬(k0_cond4 v2570 v2576 = 1#1)), ∀ a x, ((![v2584, v3324] : Fin 2 → IVec S16 32) a x).toNat < S512x128.size a := fun v2570 v2576 v2584 v3324 k0_hw219 k0_h4 => k0_hw219 k0_h4

def k0_chk220 (v2570 : BitVec 32) (v2576 : BitVec 32) (v3327 : IVec S16 32) : Prop :=
  (∀ (k0_h4 : ¬(k0_cond4 v2570 v2576 = 1#1)), ∀ a x, ((![v3327] : Fin 1 → IVec S16 32) a x).toNat < S2048.size a)
theorem k0_idx220_inb : ∀ (v2570 : BitVec 32) (v2576 : BitVec 32) (v3327 : IVec S16 32) (k0_hw220 : k0_chk220 v2570 v2576 v3327), ∀ (k0_h4 : ¬(k0_cond4 v2570 v2576 = 1#1)), ∀ a x, ((![v3327] : Fin 1 → IVec S16 32) a x).toNat < S2048.size a := fun v2570 v2576 v3327 k0_hw220 k0_h4 => k0_hw220 k0_h4

def k0_chk221 (v2570 : BitVec 32) (v2576 : BitVec 32) (v2584 : IVec S16 32) (v3331 : IVec S16 32) : Prop :=
  (∀ (k0_h4 : ¬(k0_cond4 v2570 v2576 = 1#1)), ∀ a x, ((![v2584, v3331] : Fin 2 → IVec S16 32) a x).toNat < S512x128.size a)
theorem k0_idx221_inb : ∀ (v2570 : BitVec 32) (v2576 : BitVec 32) (v2584 : IVec S16 32) (v3331 : IVec S16 32) (k0_hw221 : k0_chk221 v2570 v2576 v2584 v3331), ∀ (k0_h4 : ¬(k0_cond4 v2570 v2576 = 1#1)), ∀ a x, ((![v2584, v3331] : Fin 2 → IVec S16 32) a x).toNat < S512x128.size a := fun v2570 v2576 v2584 v3331 k0_hw221 k0_h4 => k0_hw221 k0_h4

def k0_chk222 (v2570 : BitVec 32) (v2576 : BitVec 32) (v3334 : IVec S16 32) : Prop :=
  (∀ (k0_h4 : ¬(k0_cond4 v2570 v2576 = 1#1)), ∀ a x, ((![v3334] : Fin 1 → IVec S16 32) a x).toNat < S2048.size a)
theorem k0_idx222_inb : ∀ (v2570 : BitVec 32) (v2576 : BitVec 32) (v3334 : IVec S16 32) (k0_hw222 : k0_chk222 v2570 v2576 v3334), ∀ (k0_h4 : ¬(k0_cond4 v2570 v2576 = 1#1)), ∀ a x, ((![v3334] : Fin 1 → IVec S16 32) a x).toNat < S2048.size a := fun v2570 v2576 v3334 k0_hw222 k0_h4 => k0_hw222 k0_h4

def k0_chk223 (v2570 : BitVec 32) (v2576 : BitVec 32) (v2584 : IVec S16 32) (v3338 : IVec S16 32) : Prop :=
  (∀ (k0_h4 : ¬(k0_cond4 v2570 v2576 = 1#1)), ∀ a x, ((![v2584, v3338] : Fin 2 → IVec S16 32) a x).toNat < S512x128.size a)
theorem k0_idx223_inb : ∀ (v2570 : BitVec 32) (v2576 : BitVec 32) (v2584 : IVec S16 32) (v3338 : IVec S16 32) (k0_hw223 : k0_chk223 v2570 v2576 v2584 v3338), ∀ (k0_h4 : ¬(k0_cond4 v2570 v2576 = 1#1)), ∀ a x, ((![v2584, v3338] : Fin 2 → IVec S16 32) a x).toNat < S512x128.size a := fun v2570 v2576 v2584 v3338 k0_hw223 k0_h4 => k0_hw223 k0_h4

def k0_chk224 (v2570 : BitVec 32) (v2576 : BitVec 32) (v3341 : IVec S16 32) : Prop :=
  (∀ (k0_h4 : ¬(k0_cond4 v2570 v2576 = 1#1)), ∀ a x, ((![v3341] : Fin 1 → IVec S16 32) a x).toNat < S2048.size a)
theorem k0_idx224_inb : ∀ (v2570 : BitVec 32) (v2576 : BitVec 32) (v3341 : IVec S16 32) (k0_hw224 : k0_chk224 v2570 v2576 v3341), ∀ (k0_h4 : ¬(k0_cond4 v2570 v2576 = 1#1)), ∀ a x, ((![v3341] : Fin 1 → IVec S16 32) a x).toNat < S2048.size a := fun v2570 v2576 v3341 k0_hw224 k0_h4 => k0_hw224 k0_h4

def k0_chk225 (v2570 : BitVec 32) (v2576 : BitVec 32) (v2584 : IVec S16 32) (v3345 : IVec S16 32) : Prop :=
  (∀ (k0_h4 : ¬(k0_cond4 v2570 v2576 = 1#1)), ∀ a x, ((![v2584, v3345] : Fin 2 → IVec S16 32) a x).toNat < S512x128.size a)
theorem k0_idx225_inb : ∀ (v2570 : BitVec 32) (v2576 : BitVec 32) (v2584 : IVec S16 32) (v3345 : IVec S16 32) (k0_hw225 : k0_chk225 v2570 v2576 v2584 v3345), ∀ (k0_h4 : ¬(k0_cond4 v2570 v2576 = 1#1)), ∀ a x, ((![v2584, v3345] : Fin 2 → IVec S16 32) a x).toNat < S512x128.size a := fun v2570 v2576 v2584 v3345 k0_hw225 k0_h4 => k0_hw225 k0_h4

def k0_chk226 (v2570 : BitVec 32) (v2576 : BitVec 32) (v3348 : IVec S16 32) : Prop :=
  (∀ (k0_h4 : ¬(k0_cond4 v2570 v2576 = 1#1)), ∀ a x, ((![v3348] : Fin 1 → IVec S16 32) a x).toNat < S2048.size a)
theorem k0_idx226_inb : ∀ (v2570 : BitVec 32) (v2576 : BitVec 32) (v3348 : IVec S16 32) (k0_hw226 : k0_chk226 v2570 v2576 v3348), ∀ (k0_h4 : ¬(k0_cond4 v2570 v2576 = 1#1)), ∀ a x, ((![v3348] : Fin 1 → IVec S16 32) a x).toNat < S2048.size a := fun v2570 v2576 v3348 k0_hw226 k0_h4 => k0_hw226 k0_h4

def k0_chk227 (v2570 : BitVec 32) (v2576 : BitVec 32) (v2584 : IVec S16 32) (v3352 : IVec S16 32) : Prop :=
  (∀ (k0_h4 : ¬(k0_cond4 v2570 v2576 = 1#1)), ∀ a x, ((![v2584, v3352] : Fin 2 → IVec S16 32) a x).toNat < S512x128.size a)
theorem k0_idx227_inb : ∀ (v2570 : BitVec 32) (v2576 : BitVec 32) (v2584 : IVec S16 32) (v3352 : IVec S16 32) (k0_hw227 : k0_chk227 v2570 v2576 v2584 v3352), ∀ (k0_h4 : ¬(k0_cond4 v2570 v2576 = 1#1)), ∀ a x, ((![v2584, v3352] : Fin 2 → IVec S16 32) a x).toNat < S512x128.size a := fun v2570 v2576 v2584 v3352 k0_hw227 k0_h4 => k0_hw227 k0_h4

def k0_chk228 (v2570 : BitVec 32) (v2576 : BitVec 32) (v3355 : IVec S16 32) : Prop :=
  (∀ (k0_h4 : ¬(k0_cond4 v2570 v2576 = 1#1)), ∀ a x, ((![v3355] : Fin 1 → IVec S16 32) a x).toNat < S2048.size a)
theorem k0_idx228_inb : ∀ (v2570 : BitVec 32) (v2576 : BitVec 32) (v3355 : IVec S16 32) (k0_hw228 : k0_chk228 v2570 v2576 v3355), ∀ (k0_h4 : ¬(k0_cond4 v2570 v2576 = 1#1)), ∀ a x, ((![v3355] : Fin 1 → IVec S16 32) a x).toNat < S2048.size a := fun v2570 v2576 v3355 k0_hw228 k0_h4 => k0_hw228 k0_h4

def k0_chk229 (v2570 : BitVec 32) (v2576 : BitVec 32) (v2584 : IVec S16 32) (v3359 : IVec S16 32) : Prop :=
  (∀ (k0_h4 : ¬(k0_cond4 v2570 v2576 = 1#1)), ∀ a x, ((![v2584, v3359] : Fin 2 → IVec S16 32) a x).toNat < S512x128.size a)
theorem k0_idx229_inb : ∀ (v2570 : BitVec 32) (v2576 : BitVec 32) (v2584 : IVec S16 32) (v3359 : IVec S16 32) (k0_hw229 : k0_chk229 v2570 v2576 v2584 v3359), ∀ (k0_h4 : ¬(k0_cond4 v2570 v2576 = 1#1)), ∀ a x, ((![v2584, v3359] : Fin 2 → IVec S16 32) a x).toNat < S512x128.size a := fun v2570 v2576 v2584 v3359 k0_hw229 k0_h4 => k0_hw229 k0_h4

def k0_chk230 (v2570 : BitVec 32) (v2576 : BitVec 32) (v3362 : IVec S16 32) : Prop :=
  (∀ (k0_h4 : ¬(k0_cond4 v2570 v2576 = 1#1)), ∀ a x, ((![v3362] : Fin 1 → IVec S16 32) a x).toNat < S2048.size a)
theorem k0_idx230_inb : ∀ (v2570 : BitVec 32) (v2576 : BitVec 32) (v3362 : IVec S16 32) (k0_hw230 : k0_chk230 v2570 v2576 v3362), ∀ (k0_h4 : ¬(k0_cond4 v2570 v2576 = 1#1)), ∀ a x, ((![v3362] : Fin 1 → IVec S16 32) a x).toNat < S2048.size a := fun v2570 v2576 v3362 k0_hw230 k0_h4 => k0_hw230 k0_h4

def k0_chk231 (v2570 : BitVec 32) (v2576 : BitVec 32) (v2584 : IVec S16 32) (v3366 : IVec S16 32) : Prop :=
  (∀ (k0_h4 : ¬(k0_cond4 v2570 v2576 = 1#1)), ∀ a x, ((![v2584, v3366] : Fin 2 → IVec S16 32) a x).toNat < S512x128.size a)
theorem k0_idx231_inb : ∀ (v2570 : BitVec 32) (v2576 : BitVec 32) (v2584 : IVec S16 32) (v3366 : IVec S16 32) (k0_hw231 : k0_chk231 v2570 v2576 v2584 v3366), ∀ (k0_h4 : ¬(k0_cond4 v2570 v2576 = 1#1)), ∀ a x, ((![v2584, v3366] : Fin 2 → IVec S16 32) a x).toNat < S512x128.size a := fun v2570 v2576 v2584 v3366 k0_hw231 k0_h4 => k0_hw231 k0_h4

def k0_chk232 (v2570 : BitVec 32) (v2576 : BitVec 32) (v3369 : IVec S16 32) : Prop :=
  (∀ (k0_h4 : ¬(k0_cond4 v2570 v2576 = 1#1)), ∀ a x, ((![v3369] : Fin 1 → IVec S16 32) a x).toNat < S2048.size a)
theorem k0_idx232_inb : ∀ (v2570 : BitVec 32) (v2576 : BitVec 32) (v3369 : IVec S16 32) (k0_hw232 : k0_chk232 v2570 v2576 v3369), ∀ (k0_h4 : ¬(k0_cond4 v2570 v2576 = 1#1)), ∀ a x, ((![v3369] : Fin 1 → IVec S16 32) a x).toNat < S2048.size a := fun v2570 v2576 v3369 k0_hw232 k0_h4 => k0_hw232 k0_h4

def k0_chk233 (v2570 : BitVec 32) (v2576 : BitVec 32) (v2584 : IVec S16 32) (v3373 : IVec S16 32) : Prop :=
  (∀ (k0_h4 : ¬(k0_cond4 v2570 v2576 = 1#1)), ∀ a x, ((![v2584, v3373] : Fin 2 → IVec S16 32) a x).toNat < S512x128.size a)
theorem k0_idx233_inb : ∀ (v2570 : BitVec 32) (v2576 : BitVec 32) (v2584 : IVec S16 32) (v3373 : IVec S16 32) (k0_hw233 : k0_chk233 v2570 v2576 v2584 v3373), ∀ (k0_h4 : ¬(k0_cond4 v2570 v2576 = 1#1)), ∀ a x, ((![v2584, v3373] : Fin 2 → IVec S16 32) a x).toNat < S512x128.size a := fun v2570 v2576 v2584 v3373 k0_hw233 k0_h4 => k0_hw233 k0_h4

def k0_chk234 (v2570 : BitVec 32) (v2576 : BitVec 32) (v3376 : IVec S16 32) : Prop :=
  (∀ (k0_h4 : ¬(k0_cond4 v2570 v2576 = 1#1)), ∀ a x, ((![v3376] : Fin 1 → IVec S16 32) a x).toNat < S2048.size a)
theorem k0_idx234_inb : ∀ (v2570 : BitVec 32) (v2576 : BitVec 32) (v3376 : IVec S16 32) (k0_hw234 : k0_chk234 v2570 v2576 v3376), ∀ (k0_h4 : ¬(k0_cond4 v2570 v2576 = 1#1)), ∀ a x, ((![v3376] : Fin 1 → IVec S16 32) a x).toNat < S2048.size a := fun v2570 v2576 v3376 k0_hw234 k0_h4 => k0_hw234 k0_h4

def k0_chk235 (v2570 : BitVec 32) (v2576 : BitVec 32) (v2584 : IVec S16 32) (v3380 : IVec S16 32) : Prop :=
  (∀ (k0_h4 : ¬(k0_cond4 v2570 v2576 = 1#1)), ∀ a x, ((![v2584, v3380] : Fin 2 → IVec S16 32) a x).toNat < S512x128.size a)
theorem k0_idx235_inb : ∀ (v2570 : BitVec 32) (v2576 : BitVec 32) (v2584 : IVec S16 32) (v3380 : IVec S16 32) (k0_hw235 : k0_chk235 v2570 v2576 v2584 v3380), ∀ (k0_h4 : ¬(k0_cond4 v2570 v2576 = 1#1)), ∀ a x, ((![v2584, v3380] : Fin 2 → IVec S16 32) a x).toNat < S512x128.size a := fun v2570 v2576 v2584 v3380 k0_hw235 k0_h4 => k0_hw235 k0_h4

def k0_chk236 (v2570 : BitVec 32) (v2576 : BitVec 32) (v3383 : IVec S16 32) : Prop :=
  (∀ (k0_h4 : ¬(k0_cond4 v2570 v2576 = 1#1)), ∀ a x, ((![v3383] : Fin 1 → IVec S16 32) a x).toNat < S2048.size a)
theorem k0_idx236_inb : ∀ (v2570 : BitVec 32) (v2576 : BitVec 32) (v3383 : IVec S16 32) (k0_hw236 : k0_chk236 v2570 v2576 v3383), ∀ (k0_h4 : ¬(k0_cond4 v2570 v2576 = 1#1)), ∀ a x, ((![v3383] : Fin 1 → IVec S16 32) a x).toNat < S2048.size a := fun v2570 v2576 v3383 k0_hw236 k0_h4 => k0_hw236 k0_h4

def k0_chk237 (v2570 : BitVec 32) (v2576 : BitVec 32) (v2584 : IVec S16 32) (v3387 : IVec S16 32) : Prop :=
  (∀ (k0_h4 : ¬(k0_cond4 v2570 v2576 = 1#1)), ∀ a x, ((![v2584, v3387] : Fin 2 → IVec S16 32) a x).toNat < S512x128.size a)
theorem k0_idx237_inb : ∀ (v2570 : BitVec 32) (v2576 : BitVec 32) (v2584 : IVec S16 32) (v3387 : IVec S16 32) (k0_hw237 : k0_chk237 v2570 v2576 v2584 v3387), ∀ (k0_h4 : ¬(k0_cond4 v2570 v2576 = 1#1)), ∀ a x, ((![v2584, v3387] : Fin 2 → IVec S16 32) a x).toNat < S512x128.size a := fun v2570 v2576 v2584 v3387 k0_hw237 k0_h4 => k0_hw237 k0_h4

def k0_chk238 (v2570 : BitVec 32) (v2576 : BitVec 32) (v3390 : IVec S16 32) : Prop :=
  (∀ (k0_h4 : ¬(k0_cond4 v2570 v2576 = 1#1)), ∀ a x, ((![v3390] : Fin 1 → IVec S16 32) a x).toNat < S2048.size a)
theorem k0_idx238_inb : ∀ (v2570 : BitVec 32) (v2576 : BitVec 32) (v3390 : IVec S16 32) (k0_hw238 : k0_chk238 v2570 v2576 v3390), ∀ (k0_h4 : ¬(k0_cond4 v2570 v2576 = 1#1)), ∀ a x, ((![v3390] : Fin 1 → IVec S16 32) a x).toNat < S2048.size a := fun v2570 v2576 v3390 k0_hw238 k0_h4 => k0_hw238 k0_h4

def k0_chk239 (v2570 : BitVec 32) (v2576 : BitVec 32) (v2584 : IVec S16 32) (v3394 : IVec S16 32) : Prop :=
  (∀ (k0_h4 : ¬(k0_cond4 v2570 v2576 = 1#1)), ∀ a x, ((![v2584, v3394] : Fin 2 → IVec S16 32) a x).toNat < S512x128.size a)
theorem k0_idx239_inb : ∀ (v2570 : BitVec 32) (v2576 : BitVec 32) (v2584 : IVec S16 32) (v3394 : IVec S16 32) (k0_hw239 : k0_chk239 v2570 v2576 v2584 v3394), ∀ (k0_h4 : ¬(k0_cond4 v2570 v2576 = 1#1)), ∀ a x, ((![v2584, v3394] : Fin 2 → IVec S16 32) a x).toNat < S512x128.size a := fun v2570 v2576 v2584 v3394 k0_hw239 k0_h4 => k0_hw239 k0_h4

def k0_chk240 (v2570 : BitVec 32) (v2576 : BitVec 32) (v3397 : IVec S16 32) : Prop :=
  (∀ (k0_h4 : ¬(k0_cond4 v2570 v2576 = 1#1)), ∀ a x, ((![v3397] : Fin 1 → IVec S16 32) a x).toNat < S2048.size a)
theorem k0_idx240_inb : ∀ (v2570 : BitVec 32) (v2576 : BitVec 32) (v3397 : IVec S16 32) (k0_hw240 : k0_chk240 v2570 v2576 v3397), ∀ (k0_h4 : ¬(k0_cond4 v2570 v2576 = 1#1)), ∀ a x, ((![v3397] : Fin 1 → IVec S16 32) a x).toNat < S2048.size a := fun v2570 v2576 v3397 k0_hw240 k0_h4 => k0_hw240 k0_h4

def k0_chk241 (v2570 : BitVec 32) (v2576 : BitVec 32) (v2584 : IVec S16 32) (v3401 : IVec S16 32) : Prop :=
  (∀ (k0_h4 : ¬(k0_cond4 v2570 v2576 = 1#1)), ∀ a x, ((![v2584, v3401] : Fin 2 → IVec S16 32) a x).toNat < S512x128.size a)
theorem k0_idx241_inb : ∀ (v2570 : BitVec 32) (v2576 : BitVec 32) (v2584 : IVec S16 32) (v3401 : IVec S16 32) (k0_hw241 : k0_chk241 v2570 v2576 v2584 v3401), ∀ (k0_h4 : ¬(k0_cond4 v2570 v2576 = 1#1)), ∀ a x, ((![v2584, v3401] : Fin 2 → IVec S16 32) a x).toNat < S512x128.size a := fun v2570 v2576 v2584 v3401 k0_hw241 k0_h4 => k0_hw241 k0_h4

def k0_chk242 (v2570 : BitVec 32) (v2576 : BitVec 32) (v3404 : IVec S16 32) : Prop :=
  (∀ (k0_h4 : ¬(k0_cond4 v2570 v2576 = 1#1)), ∀ a x, ((![v3404] : Fin 1 → IVec S16 32) a x).toNat < S2048.size a)
theorem k0_idx242_inb : ∀ (v2570 : BitVec 32) (v2576 : BitVec 32) (v3404 : IVec S16 32) (k0_hw242 : k0_chk242 v2570 v2576 v3404), ∀ (k0_h4 : ¬(k0_cond4 v2570 v2576 = 1#1)), ∀ a x, ((![v3404] : Fin 1 → IVec S16 32) a x).toNat < S2048.size a := fun v2570 v2576 v3404 k0_hw242 k0_h4 => k0_hw242 k0_h4

def k0_chk243 (v2570 : BitVec 32) (v2576 : BitVec 32) (v2584 : IVec S16 32) (v3408 : IVec S16 32) : Prop :=
  (∀ (k0_h4 : ¬(k0_cond4 v2570 v2576 = 1#1)), ∀ a x, ((![v2584, v3408] : Fin 2 → IVec S16 32) a x).toNat < S512x128.size a)
theorem k0_idx243_inb : ∀ (v2570 : BitVec 32) (v2576 : BitVec 32) (v2584 : IVec S16 32) (v3408 : IVec S16 32) (k0_hw243 : k0_chk243 v2570 v2576 v2584 v3408), ∀ (k0_h4 : ¬(k0_cond4 v2570 v2576 = 1#1)), ∀ a x, ((![v2584, v3408] : Fin 2 → IVec S16 32) a x).toNat < S512x128.size a := fun v2570 v2576 v2584 v3408 k0_hw243 k0_h4 => k0_hw243 k0_h4

def k0_chk244 (v2570 : BitVec 32) (v2576 : BitVec 32) (v3411 : IVec S16 32) : Prop :=
  (∀ (k0_h4 : ¬(k0_cond4 v2570 v2576 = 1#1)), ∀ a x, ((![v3411] : Fin 1 → IVec S16 32) a x).toNat < S2048.size a)
theorem k0_idx244_inb : ∀ (v2570 : BitVec 32) (v2576 : BitVec 32) (v3411 : IVec S16 32) (k0_hw244 : k0_chk244 v2570 v2576 v3411), ∀ (k0_h4 : ¬(k0_cond4 v2570 v2576 = 1#1)), ∀ a x, ((![v3411] : Fin 1 → IVec S16 32) a x).toNat < S2048.size a := fun v2570 v2576 v3411 k0_hw244 k0_h4 => k0_hw244 k0_h4

def k0_chk245 (v2570 : BitVec 32) (v2576 : BitVec 32) (v2584 : IVec S16 32) (v3415 : IVec S16 32) : Prop :=
  (∀ (k0_h4 : ¬(k0_cond4 v2570 v2576 = 1#1)), ∀ a x, ((![v2584, v3415] : Fin 2 → IVec S16 32) a x).toNat < S512x128.size a)
theorem k0_idx245_inb : ∀ (v2570 : BitVec 32) (v2576 : BitVec 32) (v2584 : IVec S16 32) (v3415 : IVec S16 32) (k0_hw245 : k0_chk245 v2570 v2576 v2584 v3415), ∀ (k0_h4 : ¬(k0_cond4 v2570 v2576 = 1#1)), ∀ a x, ((![v2584, v3415] : Fin 2 → IVec S16 32) a x).toNat < S512x128.size a := fun v2570 v2576 v2584 v3415 k0_hw245 k0_h4 => k0_hw245 k0_h4

def k0_chk246 (v2570 : BitVec 32) (v2576 : BitVec 32) (v3418 : IVec S16 32) : Prop :=
  (∀ (k0_h4 : ¬(k0_cond4 v2570 v2576 = 1#1)), ∀ a x, ((![v3418] : Fin 1 → IVec S16 32) a x).toNat < S2048.size a)
theorem k0_idx246_inb : ∀ (v2570 : BitVec 32) (v2576 : BitVec 32) (v3418 : IVec S16 32) (k0_hw246 : k0_chk246 v2570 v2576 v3418), ∀ (k0_h4 : ¬(k0_cond4 v2570 v2576 = 1#1)), ∀ a x, ((![v3418] : Fin 1 → IVec S16 32) a x).toNat < S2048.size a := fun v2570 v2576 v3418 k0_hw246 k0_h4 => k0_hw246 k0_h4

def k0_chk247 (v2570 : BitVec 32) (v2576 : BitVec 32) (v2584 : IVec S16 32) (v3422 : IVec S16 32) : Prop :=
  (∀ (k0_h4 : ¬(k0_cond4 v2570 v2576 = 1#1)), ∀ a x, ((![v2584, v3422] : Fin 2 → IVec S16 32) a x).toNat < S512x128.size a)
theorem k0_idx247_inb : ∀ (v2570 : BitVec 32) (v2576 : BitVec 32) (v2584 : IVec S16 32) (v3422 : IVec S16 32) (k0_hw247 : k0_chk247 v2570 v2576 v2584 v3422), ∀ (k0_h4 : ¬(k0_cond4 v2570 v2576 = 1#1)), ∀ a x, ((![v2584, v3422] : Fin 2 → IVec S16 32) a x).toNat < S512x128.size a := fun v2570 v2576 v2584 v3422 k0_hw247 k0_h4 => k0_hw247 k0_h4

def k0_chk248 (v2570 : BitVec 32) (v2576 : BitVec 32) (v3425 : IVec S16 32) : Prop :=
  (∀ (k0_h4 : ¬(k0_cond4 v2570 v2576 = 1#1)), ∀ a x, ((![v3425] : Fin 1 → IVec S16 32) a x).toNat < S2048.size a)
theorem k0_idx248_inb : ∀ (v2570 : BitVec 32) (v2576 : BitVec 32) (v3425 : IVec S16 32) (k0_hw248 : k0_chk248 v2570 v2576 v3425), ∀ (k0_h4 : ¬(k0_cond4 v2570 v2576 = 1#1)), ∀ a x, ((![v3425] : Fin 1 → IVec S16 32) a x).toNat < S2048.size a := fun v2570 v2576 v3425 k0_hw248 k0_h4 => k0_hw248 k0_h4

def k0_chk249 (v2570 : BitVec 32) (v2576 : BitVec 32) (v2584 : IVec S16 32) (v3429 : IVec S16 32) : Prop :=
  (∀ (k0_h4 : ¬(k0_cond4 v2570 v2576 = 1#1)), ∀ a x, ((![v2584, v3429] : Fin 2 → IVec S16 32) a x).toNat < S512x128.size a)
theorem k0_idx249_inb : ∀ (v2570 : BitVec 32) (v2576 : BitVec 32) (v2584 : IVec S16 32) (v3429 : IVec S16 32) (k0_hw249 : k0_chk249 v2570 v2576 v2584 v3429), ∀ (k0_h4 : ¬(k0_cond4 v2570 v2576 = 1#1)), ∀ a x, ((![v2584, v3429] : Fin 2 → IVec S16 32) a x).toNat < S512x128.size a := fun v2570 v2576 v2584 v3429 k0_hw249 k0_h4 => k0_hw249 k0_h4

def k0_chk250 (v2570 : BitVec 32) (v2576 : BitVec 32) (v3432 : IVec S16 32) : Prop :=
  (∀ (k0_h4 : ¬(k0_cond4 v2570 v2576 = 1#1)), ∀ a x, ((![v3432] : Fin 1 → IVec S16 32) a x).toNat < S2048.size a)
theorem k0_idx250_inb : ∀ (v2570 : BitVec 32) (v2576 : BitVec 32) (v3432 : IVec S16 32) (k0_hw250 : k0_chk250 v2570 v2576 v3432), ∀ (k0_h4 : ¬(k0_cond4 v2570 v2576 = 1#1)), ∀ a x, ((![v3432] : Fin 1 → IVec S16 32) a x).toNat < S2048.size a := fun v2570 v2576 v3432 k0_hw250 k0_h4 => k0_hw250 k0_h4

def k0_chk251 (v2570 : BitVec 32) (v2576 : BitVec 32) (v2584 : IVec S16 32) (v3436 : IVec S16 32) : Prop :=
  (∀ (k0_h4 : ¬(k0_cond4 v2570 v2576 = 1#1)), ∀ a x, ((![v2584, v3436] : Fin 2 → IVec S16 32) a x).toNat < S512x128.size a)
theorem k0_idx251_inb : ∀ (v2570 : BitVec 32) (v2576 : BitVec 32) (v2584 : IVec S16 32) (v3436 : IVec S16 32) (k0_hw251 : k0_chk251 v2570 v2576 v2584 v3436), ∀ (k0_h4 : ¬(k0_cond4 v2570 v2576 = 1#1)), ∀ a x, ((![v2584, v3436] : Fin 2 → IVec S16 32) a x).toNat < S512x128.size a := fun v2570 v2576 v2584 v3436 k0_hw251 k0_h4 => k0_hw251 k0_h4

def k0_chk252 (v2570 : BitVec 32) (v2576 : BitVec 32) (v3439 : IVec S16 32) : Prop :=
  (∀ (k0_h4 : ¬(k0_cond4 v2570 v2576 = 1#1)), ∀ a x, ((![v3439] : Fin 1 → IVec S16 32) a x).toNat < S2048.size a)
theorem k0_idx252_inb : ∀ (v2570 : BitVec 32) (v2576 : BitVec 32) (v3439 : IVec S16 32) (k0_hw252 : k0_chk252 v2570 v2576 v3439), ∀ (k0_h4 : ¬(k0_cond4 v2570 v2576 = 1#1)), ∀ a x, ((![v3439] : Fin 1 → IVec S16 32) a x).toNat < S2048.size a := fun v2570 v2576 v3439 k0_hw252 k0_h4 => k0_hw252 k0_h4

def k0_chk253 (v2570 : BitVec 32) (v2576 : BitVec 32) (v2584 : IVec S16 32) (v3443 : IVec S16 32) : Prop :=
  (∀ (k0_h4 : ¬(k0_cond4 v2570 v2576 = 1#1)), ∀ a x, ((![v2584, v3443] : Fin 2 → IVec S16 32) a x).toNat < S512x128.size a)
theorem k0_idx253_inb : ∀ (v2570 : BitVec 32) (v2576 : BitVec 32) (v2584 : IVec S16 32) (v3443 : IVec S16 32) (k0_hw253 : k0_chk253 v2570 v2576 v2584 v3443), ∀ (k0_h4 : ¬(k0_cond4 v2570 v2576 = 1#1)), ∀ a x, ((![v2584, v3443] : Fin 2 → IVec S16 32) a x).toNat < S512x128.size a := fun v2570 v2576 v2584 v3443 k0_hw253 k0_h4 => k0_hw253 k0_h4

def k0_chk254 (v2570 : BitVec 32) (v2576 : BitVec 32) (v3446 : IVec S16 32) : Prop :=
  (∀ (k0_h4 : ¬(k0_cond4 v2570 v2576 = 1#1)), ∀ a x, ((![v3446] : Fin 1 → IVec S16 32) a x).toNat < S2048.size a)
theorem k0_idx254_inb : ∀ (v2570 : BitVec 32) (v2576 : BitVec 32) (v3446 : IVec S16 32) (k0_hw254 : k0_chk254 v2570 v2576 v3446), ∀ (k0_h4 : ¬(k0_cond4 v2570 v2576 = 1#1)), ∀ a x, ((![v3446] : Fin 1 → IVec S16 32) a x).toNat < S2048.size a := fun v2570 v2576 v3446 k0_hw254 k0_h4 => k0_hw254 k0_h4

def k0_chk255 (v2570 : BitVec 32) (v2576 : BitVec 32) (v2584 : IVec S16 32) (v3450 : IVec S16 32) : Prop :=
  (∀ (k0_h4 : ¬(k0_cond4 v2570 v2576 = 1#1)), ∀ a x, ((![v2584, v3450] : Fin 2 → IVec S16 32) a x).toNat < S512x128.size a)
theorem k0_idx255_inb : ∀ (v2570 : BitVec 32) (v2576 : BitVec 32) (v2584 : IVec S16 32) (v3450 : IVec S16 32) (k0_hw255 : k0_chk255 v2570 v2576 v2584 v3450), ∀ (k0_h4 : ¬(k0_cond4 v2570 v2576 = 1#1)), ∀ a x, ((![v2584, v3450] : Fin 2 → IVec S16 32) a x).toNat < S512x128.size a := fun v2570 v2576 v2584 v3450 k0_hw255 k0_h4 => k0_hw255 k0_h4

def k0_chk256 (v2570 : BitVec 32) (v2576 : BitVec 32) (v3453 : IVec S16 32) : Prop :=
  (∀ (k0_h4 : ¬(k0_cond4 v2570 v2576 = 1#1)), ∀ a x, ((![v3453] : Fin 1 → IVec S16 32) a x).toNat < S2048.size a)
theorem k0_idx256_inb : ∀ (v2570 : BitVec 32) (v2576 : BitVec 32) (v3453 : IVec S16 32) (k0_hw256 : k0_chk256 v2570 v2576 v3453), ∀ (k0_h4 : ¬(k0_cond4 v2570 v2576 = 1#1)), ∀ a x, ((![v3453] : Fin 1 → IVec S16 32) a x).toNat < S2048.size a := fun v2570 v2576 v3453 k0_hw256 k0_h4 => k0_hw256 k0_h4

def k0_chk257 (v2570 : BitVec 32) (v2576 : BitVec 32) (v2584 : IVec S16 32) (v3457 : IVec S16 32) : Prop :=
  (∀ (k0_h4 : ¬(k0_cond4 v2570 v2576 = 1#1)), ∀ a x, ((![v2584, v3457] : Fin 2 → IVec S16 32) a x).toNat < S512x128.size a)
theorem k0_idx257_inb : ∀ (v2570 : BitVec 32) (v2576 : BitVec 32) (v2584 : IVec S16 32) (v3457 : IVec S16 32) (k0_hw257 : k0_chk257 v2570 v2576 v2584 v3457), ∀ (k0_h4 : ¬(k0_cond4 v2570 v2576 = 1#1)), ∀ a x, ((![v2584, v3457] : Fin 2 → IVec S16 32) a x).toNat < S512x128.size a := fun v2570 v2576 v2584 v3457 k0_hw257 k0_h4 => k0_hw257 k0_h4

def k0_chk258 (v2570 : BitVec 32) (v2576 : BitVec 32) (v3460 : IVec S16 32) : Prop :=
  (∀ (k0_h4 : ¬(k0_cond4 v2570 v2576 = 1#1)), ∀ a x, ((![v3460] : Fin 1 → IVec S16 32) a x).toNat < S2048.size a)
theorem k0_idx258_inb : ∀ (v2570 : BitVec 32) (v2576 : BitVec 32) (v3460 : IVec S16 32) (k0_hw258 : k0_chk258 v2570 v2576 v3460), ∀ (k0_h4 : ¬(k0_cond4 v2570 v2576 = 1#1)), ∀ a x, ((![v3460] : Fin 1 → IVec S16 32) a x).toNat < S2048.size a := fun v2570 v2576 v3460 k0_hw258 k0_h4 => k0_hw258 k0_h4

def k0_chk259 (v2570 : BitVec 32) (v2576 : BitVec 32) (v2584 : IVec S16 32) (v3464 : IVec S16 32) : Prop :=
  (∀ (k0_h4 : ¬(k0_cond4 v2570 v2576 = 1#1)), ∀ a x, ((![v2584, v3464] : Fin 2 → IVec S16 32) a x).toNat < S512x128.size a)
theorem k0_idx259_inb : ∀ (v2570 : BitVec 32) (v2576 : BitVec 32) (v2584 : IVec S16 32) (v3464 : IVec S16 32) (k0_hw259 : k0_chk259 v2570 v2576 v2584 v3464), ∀ (k0_h4 : ¬(k0_cond4 v2570 v2576 = 1#1)), ∀ a x, ((![v2584, v3464] : Fin 2 → IVec S16 32) a x).toNat < S512x128.size a := fun v2570 v2576 v2584 v3464 k0_hw259 k0_h4 => k0_hw259 k0_h4

def k0_chk260 (v2570 : BitVec 32) (v2576 : BitVec 32) (v3467 : IVec S16 32) : Prop :=
  (∀ (k0_h4 : ¬(k0_cond4 v2570 v2576 = 1#1)), ∀ a x, ((![v3467] : Fin 1 → IVec S16 32) a x).toNat < S2048.size a)
theorem k0_idx260_inb : ∀ (v2570 : BitVec 32) (v2576 : BitVec 32) (v3467 : IVec S16 32) (k0_hw260 : k0_chk260 v2570 v2576 v3467), ∀ (k0_h4 : ¬(k0_cond4 v2570 v2576 = 1#1)), ∀ a x, ((![v3467] : Fin 1 → IVec S16 32) a x).toNat < S2048.size a := fun v2570 v2576 v3467 k0_hw260 k0_h4 => k0_hw260 k0_h4

def k0_chk261 (v2570 : BitVec 32) (v2576 : BitVec 32) (v2584 : IVec S16 32) (v3471 : IVec S16 32) : Prop :=
  (∀ (k0_h4 : ¬(k0_cond4 v2570 v2576 = 1#1)), ∀ a x, ((![v2584, v3471] : Fin 2 → IVec S16 32) a x).toNat < S512x128.size a)
theorem k0_idx261_inb : ∀ (v2570 : BitVec 32) (v2576 : BitVec 32) (v2584 : IVec S16 32) (v3471 : IVec S16 32) (k0_hw261 : k0_chk261 v2570 v2576 v2584 v3471), ∀ (k0_h4 : ¬(k0_cond4 v2570 v2576 = 1#1)), ∀ a x, ((![v2584, v3471] : Fin 2 → IVec S16 32) a x).toNat < S512x128.size a := fun v2570 v2576 v2584 v3471 k0_hw261 k0_h4 => k0_hw261 k0_h4

def k0_chk262 (v2570 : BitVec 32) (v2576 : BitVec 32) (v3474 : IVec S16 32) : Prop :=
  (∀ (k0_h4 : ¬(k0_cond4 v2570 v2576 = 1#1)), ∀ a x, ((![v3474] : Fin 1 → IVec S16 32) a x).toNat < S2048.size a)
theorem k0_idx262_inb : ∀ (v2570 : BitVec 32) (v2576 : BitVec 32) (v3474 : IVec S16 32) (k0_hw262 : k0_chk262 v2570 v2576 v3474), ∀ (k0_h4 : ¬(k0_cond4 v2570 v2576 = 1#1)), ∀ a x, ((![v3474] : Fin 1 → IVec S16 32) a x).toNat < S2048.size a := fun v2570 v2576 v3474 k0_hw262 k0_h4 => k0_hw262 k0_h4

def k0_chk263 (v2570 : BitVec 32) (v2576 : BitVec 32) (v2584 : IVec S16 32) (v3478 : IVec S16 32) : Prop :=
  (∀ (k0_h4 : ¬(k0_cond4 v2570 v2576 = 1#1)), ∀ a x, ((![v2584, v3478] : Fin 2 → IVec S16 32) a x).toNat < S512x128.size a)
theorem k0_idx263_inb : ∀ (v2570 : BitVec 32) (v2576 : BitVec 32) (v2584 : IVec S16 32) (v3478 : IVec S16 32) (k0_hw263 : k0_chk263 v2570 v2576 v2584 v3478), ∀ (k0_h4 : ¬(k0_cond4 v2570 v2576 = 1#1)), ∀ a x, ((![v2584, v3478] : Fin 2 → IVec S16 32) a x).toNat < S512x128.size a := fun v2570 v2576 v2584 v3478 k0_hw263 k0_h4 => k0_hw263 k0_h4

def k0_chk264 (v2570 : BitVec 32) (v2576 : BitVec 32) (v3481 : IVec S16 32) : Prop :=
  (∀ (k0_h4 : ¬(k0_cond4 v2570 v2576 = 1#1)), ∀ a x, ((![v3481] : Fin 1 → IVec S16 32) a x).toNat < S2048.size a)
theorem k0_idx264_inb : ∀ (v2570 : BitVec 32) (v2576 : BitVec 32) (v3481 : IVec S16 32) (k0_hw264 : k0_chk264 v2570 v2576 v3481), ∀ (k0_h4 : ¬(k0_cond4 v2570 v2576 = 1#1)), ∀ a x, ((![v3481] : Fin 1 → IVec S16 32) a x).toNat < S2048.size a := fun v2570 v2576 v3481 k0_hw264 k0_h4 => k0_hw264 k0_h4
def k0_off15 (k0_t1 : Fin k0_t1_loop.trips) : Fin 1 → Nat :=
  let c0_i32_32 : BitVec 32 := 0#32
  let c1_i32 : BitVec 32 := 1#32
  let arg20 : BitVec 32 := Scf.iv c0_i32_32 c1_i32 k0_t1
  let c16_i32_135 : BitVec 32 := 16#32
  let v2560 : BitVec 32 := Scalar.muli arg20 c16_i32_135
  let v2581 : Index := Scalar.indexCast v2560
  ![v2581.toNat]
@[reducible] def k0_t2_loop : Scf.Loop 32 :=
  let c0_i32_50 : BitVec 32 := 0#32
  let c32_i32_51 : BitVec 32 := 32#32
  let v61 : BitVec 32 := Scalar.addi c0_i32_50 c32_i32_51
  let c1_i32_52 : BitVec 32 := 1#32
  ⟨c0_i32_50, v61, c1_i32_52⟩
def k0_off16 (k0_t2 : Fin k0_t2_loop.trips) : Fin 1 → Nat :=
  let c0_i32_50 : BitVec 32 := 0#32
  let c1_i32_52 : BitVec 32 := 1#32
  let arg20 : BitVec 32 := Scf.iv c0_i32_50 c1_i32_52 k0_t2
  let c16_i32_130 : BitVec 32 := 16#32
  let v2551 : BitVec 32 := Scalar.muli arg20 c16_i32_130
  let v2552 : Index := Scalar.indexCast v2551
  ![v2552.toNat]
@[reducible] def k0_t3_loop : Scf.Loop 32 :=
  let c0_i32_90 : BitVec 32 := 0#32
  let c32_i32_91 : BitVec 32 := 32#32
  let v913 : BitVec 32 := Scalar.addi c0_i32_90 c32_i32_91
  let c1_i32_92 : BitVec 32 := 1#32
  ⟨c0_i32_90, v913, c1_i32_92⟩
def k0_off17 (k0_t3 : Fin k0_t3_loop.trips) : Fin 1 → Nat :=
  let c0_i32_90 : BitVec 32 := 0#32
  let c1_i32_92 : BitVec 32 := 1#32
  let arg20 : BitVec 32 := Scf.iv c0_i32_90 c1_i32_92 k0_t3
  let c16_i32_130 : BitVec 32 := 16#32
  let v2551 : BitVec 32 := Scalar.muli arg20 c16_i32_130
  let v2552 : Index := Scalar.indexCast v2551
  ![v2552.toNat]

def k0_chk265 (v2556 : IVec S16 32) : Prop :=
  (∀ a x, ((![v2556] : Fin 1 → IVec S16 32) a x).toNat < S16.size a)
theorem k0_idx265_inb : ∀ (v2556 : IVec S16 32) (k0_hw265 : k0_chk265 v2556), ∀ a x, ((![v2556] : Fin 1 → IVec S16 32) a x).toNat < S16.size a := fun v2556 k0_hw265 => k0_hw265
def k0_off18 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_130_r3 : BitVec 32 := 0#32
  ![v1.toNat, 0]
abbrev grid1 : Pipeline.Grid := .none

abbrev stage1_0 : Fin 1 → Memref sig .tc .vmem S128x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S128x128 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S32x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S32x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S32x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x16 .i32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x128 : Shape := ⟨2, ![16, 128]⟩
abbrev S16384x128 : Shape := ⟨2, ![16384, 128]⟩
abbrev S16384 : Shape := ⟨1, ![16384]⟩
abbrev S16 : Shape := ⟨1, ![16]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S1x16384 : Shape := ⟨2, ![1, 16384]⟩
abbrev S16x1 : Shape := ⟨2, ![16, 1]⟩
abbrev S16x16384 : Shape := ⟨2, ![16, 16384]⟩

abbrev nBuf : Space → Nat
  | .hbm => 101
  | .vmem => 0
  | .smem => 0
  | _ => 0

abbrev bufTy : (tb : Table) → Fin (tcTables nBuf tb) → BufTy
  | .hbm, ⟨0, _⟩ => ⟨S16x128, .f32⟩
  | .hbm, ⟨1, _⟩ => ⟨S16384x128, .f32⟩
  | .hbm, ⟨2, _⟩ => ⟨S16384, .i32⟩
  | .hbm, ⟨3, _⟩ => ⟨S16, .i32⟩
  | .hbm, ⟨4, _⟩ => ⟨S_, .i32⟩
  | .hbm, ⟨5, _⟩ => ⟨S16384, .i32⟩
  | .hbm, ⟨6, _⟩ => ⟨S16384, .i1⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S16384x1, .i32⟩
  | .hbm, ⟨12, _⟩ => ⟨S1, .i32⟩
  | .hbm, ⟨13, _⟩ => ⟨S_, .i32⟩
  | .hbm, ⟨14, _⟩ => ⟨S16384x1, .i32⟩
  | .hbm, ⟨15, _⟩ => ⟨S16384x1, .i1⟩
  | .hbm, ⟨16, _⟩ => ⟨S1x1, .i32⟩
  | .hbm, ⟨17, _⟩ => ⟨S16384x1, .i32⟩
  | .hbm, ⟨18, _⟩ => ⟨S16384x1, .i1⟩
  | .hbm, ⟨19, _⟩ => ⟨S16384x1, .i1⟩
  | .hbm, ⟨20, _⟩ => ⟨S_, .i1⟩
  | .hbm, ⟨21, _⟩ => ⟨S16384, .i1⟩
  | .hbm, ⟨22, _⟩ => ⟨S16384x128, .f32⟩
  | .hbm, ⟨23, _⟩ => ⟨S16384x128, .i1⟩
  | .hbm, ⟨24, _⟩ => ⟨S_, .f32⟩
  | .hbm, ⟨25, _⟩ => ⟨S16384x128, .f32⟩
  | .hbm, ⟨26, _⟩ => ⟨S16384x128, .f32⟩
  | .hbm, ⟨27, _⟩ => ⟨S16384x128, .f32⟩
  | .hbm, ⟨28, _⟩ => ⟨S_, .f32⟩
  | .hbm, ⟨29, _⟩ => ⟨S16384, .f32⟩
  | .hbm, ⟨30, _⟩ => ⟨S1x16384, .i32⟩
  | .hbm, ⟨31, _⟩ => ⟨S16, .i32⟩
  | .hbm, ⟨32, _⟩ => ⟨S16x1, .i32⟩
  | .hbm, ⟨33, _⟩ => ⟨S16x16384, .i32⟩
  | .hbm, ⟨34, _⟩ => ⟨S16x16384, .i32⟩
  | .hbm, ⟨35, _⟩ => ⟨S16x16384, .i1⟩
  | .hbm, ⟨36, _⟩ => ⟨S1x16384, .f32⟩
  | .hbm, ⟨37, _⟩ => ⟨S_, .f32⟩
  | .hbm, ⟨38, _⟩ => ⟨S_, .f32⟩
  | .hbm, ⟨39, _⟩ => ⟨S16x16384, .f32⟩
  | .hbm, ⟨40, _⟩ => ⟨S16x16384, .f32⟩
  | .hbm, ⟨41, _⟩ => ⟨S16x16384, .f32⟩
  | .hbm, ⟨42, _⟩ => ⟨S_, .f32⟩
  | .hbm, ⟨43, _⟩ => ⟨S16, .f32⟩
  | .hbm, ⟨44, _⟩ => ⟨S_, .i32⟩
  | .hbm, ⟨45, _⟩ => ⟨S16384, .i32⟩
  | .hbm, ⟨46, _⟩ => ⟨S16384, .i1⟩
  | .hbm, ⟨47, _⟩ => ⟨S_, .i32⟩
  | .hbm, ⟨48, _⟩ => ⟨S16384, .i32⟩
  | .hbm, ⟨49, _⟩ => ⟨S16384, .i32⟩
  | .hbm, ⟨50, _⟩ => ⟨S16384, .i32⟩
  | .hbm, ⟨51, _⟩ => ⟨S16384x1, .i32⟩
  | .hbm, ⟨52, _⟩ => ⟨S16384, .f32⟩
  | .hbm, ⟨53, _⟩ => ⟨S16384, .f32⟩
  | .hbm, ⟨54, _⟩ => ⟨S16384, .f32⟩
  | .hbm, ⟨55, _⟩ => ⟨S_, .f32⟩
  | .hbm, ⟨56, _⟩ => ⟨S16, .f32⟩
  | .hbm, ⟨57, _⟩ => ⟨S16384x1, .i32⟩
  | .hbm, ⟨58, _⟩ => ⟨S16, .f32⟩
  | .hbm, ⟨59, _⟩ => ⟨S16, .f32⟩
  | .hbm, ⟨60, _⟩ => ⟨S_, .i32⟩
  | .hbm, ⟨61, _⟩ => ⟨S16384, .i32⟩
  | .hbm, ⟨62, _⟩ => ⟨S16384, .i1⟩
  | .hbm, ⟨63, _⟩ => ⟨S_, .i32⟩
  | .hbm, ⟨64, _⟩ => ⟨S16384, .i32⟩
  | .hbm, ⟨65, _⟩ => ⟨S16384, .i32⟩
  | .hbm, ⟨66, _⟩ => ⟨S16384, .i32⟩
  | .hbm, ⟨67, _⟩ => ⟨S16384x1, .i32⟩
  | .hbm, ⟨68, _⟩ => ⟨S16384, .f32⟩
  | .hbm, ⟨69, _⟩ => ⟨S16384, .f32⟩
  | .hbm, ⟨70, _⟩ => ⟨S_, .i32⟩
  | .hbm, ⟨71, _⟩ => ⟨S16, .i32⟩
  | .hbm, ⟨72, _⟩ => ⟨S_, .i32⟩
  | .hbm, ⟨73, _⟩ => ⟨S_, .i32⟩
  | .hbm, ⟨74, _⟩ => ⟨S16384, .i32⟩
  | .hbm, ⟨75, _⟩ => ⟨S16384, .i32⟩
  | .hbm, ⟨76, _⟩ => ⟨S_, .i32⟩
  | .hbm, ⟨77, _⟩ => ⟨S16384, .i32⟩
  | .hbm, ⟨78, _⟩ => ⟨S16384, .i1⟩
  | .hbm, ⟨79, _⟩ => ⟨S_, .i32⟩
  | .hbm, ⟨80, _⟩ => ⟨S16384, .i32⟩
  | .hbm, ⟨81, _⟩ => ⟨S16384, .i32⟩
  | .hbm, ⟨82, _⟩ => ⟨S16384, .i32⟩
  | .hbm, ⟨83, _⟩ => ⟨S16384x1, .i32⟩
  | .hbm, ⟨84, _⟩ => ⟨S_, .i32⟩
  | .hbm, ⟨85, _⟩ => ⟨S16384, .i32⟩
  | .hbm, ⟨86, _⟩ => ⟨S16, .i32⟩
  | .hbm, ⟨87, _⟩ => ⟨S_, .i32⟩
  | .hbm, ⟨88, _⟩ => ⟨S_, .i32⟩
  | .hbm, ⟨89, _⟩ => ⟨S16, .i32⟩
  | .hbm, ⟨90, _⟩ => ⟨S16, .i32⟩
  | .hbm, ⟨91, _⟩ => ⟨S16, .i32⟩
  | .hbm, ⟨92, _⟩ => ⟨S_, .i32⟩
  | .hbm, ⟨93, _⟩ => ⟨S16, .i32⟩
  | .hbm, ⟨94, _⟩ => ⟨S16, .i1⟩
  | .hbm, ⟨95, _⟩ => ⟨S_, .i32⟩
  | .hbm, ⟨96, _⟩ => ⟨S16, .i32⟩
  | .hbm, ⟨97, _⟩ => ⟨S16, .i32⟩
  | .hbm, ⟨98, _⟩ => ⟨S16, .i32⟩
  | .hbm, ⟨99, _⟩ => ⟨S16x1, .i32⟩
  | .hbm, ⟨100, _⟩ => ⟨S16, .f32⟩
  | _, _ => ⟨S16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_cst : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v10 : Ref sig .tc := ⟨.hbm, 41, rfl⟩
abbrev main_cst_1 : Ref sig .tc := ⟨.hbm, 42, rfl⟩
abbrev main_v11 : Ref sig .tc := ⟨.hbm, 43, rfl⟩
abbrev main_c : Ref sig .tc := ⟨.hbm, 44, rfl⟩
abbrev main_v12 : Ref sig .tc := ⟨.hbm, 45, rfl⟩
abbrev main_v13 : Ref sig .tc := ⟨.hbm, 46, rfl⟩
abbrev main_c_2 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_cst_3 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_c_4 : Ref sig .tc := ⟨.hbm, 60, rfl⟩
abbrev main_v25 : Ref sig .tc := ⟨.hbm, 61, rfl⟩
abbrev main_v26 : Ref sig .tc := ⟨.hbm, 62, rfl⟩
abbrev main_c_5 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_c_6 : Ref sig .tc := ⟨.hbm, 70, rfl⟩
abbrev main_v33 : Ref sig .tc := ⟨.hbm, 71, rfl⟩
abbrev main_c_7 : Ref sig .tc := ⟨.hbm, 72, rfl⟩
abbrev main_call2_v0 : Ref sig .tc := ⟨.hbm, 73, rfl⟩
abbrev main_call2_v1 : Ref sig .tc := ⟨.hbm, 74, rfl⟩
abbrev main_v34 : Ref sig .tc := ⟨.hbm, 75, rfl⟩
abbrev main_c_8 : Ref sig .tc := ⟨.hbm, 76, rfl⟩
abbrev main_v35 : Ref sig .tc := ⟨.hbm, 77, rfl⟩
abbrev main_v36 : Ref sig .tc := ⟨.hbm, 78, rfl⟩
abbrev main_c_9 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_c_10 : Ref sig .tc := ⟨.hbm, 84, rfl⟩
abbrev main_v41 : Ref sig .tc := ⟨.hbm, 85, rfl⟩
abbrev main_v42 : Ref sig .tc := ⟨.hbm, 86, rfl⟩
abbrev main_call3_call0_c : Ref sig .tc := ⟨.hbm, 87, rfl⟩
abbrev main_call3_call0_v0 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_c_11 : Ref sig .tc := ⟨.hbm, 92, rfl⟩
abbrev main_v46 : Ref sig .tc := ⟨.hbm, 93, rfl⟩
abbrev main_v47 : Ref sig .tc := ⟨.hbm, 94, rfl⟩
abbrev main_c_12 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩

abbrev nD : Nat := 1
abbrev τ : Topo := Topo.v7x

variable {F : FTy → Type} [FloatOps F]
-- ==== Proof.Common.lean ====
/-
  The set-up every module of this proof reads: the program as the launch theorem sees it, the resource algebra, the
  locations and memrefs of the SparseCore kernel's operands and scratch buffers, and a tile's thread.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.WriteMode
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP [FloatOps F] : Labels := Pipeline.Sig Λ₀ (Fin 1) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none

/-! ## The resource algebra: the handshakes' rounds, the merge pipeline's rounds, write mode, the transfers' counters -/

abbrev UH : Type := URounds (GSem nD τ sig) ℕ
abbrev UPipe : Type := URounds (GSem nD τ sig) Unit
abbrev UU (F : FTy → Type) : Type := UH × (UPipe × (WmRA nD τ sig (Elt F) × Counters))

/-- The algebra of the whole proof. -/
abbrev MM (F : FTy → Type) := MT nD τ sig (HIx 1) (Elt F) ℕ (UU F) ℕ

local notation "𝕄" => MM F

abbrev EH : Emb UH (MM F) := embL
/-- Where the merge pipeline's rounds live. -/
def EP : Emb UPipe (MM F) :=
  ((Emb.inl : Emb UPipe (UPipe × (WmRA nD τ sig (Elt F) × Counters))).trans
    (Emb.inr : Emb (UPipe × (WmRA nD τ sig (Elt F) × Counters)) (UU F))).trans
    (uEmb (nD := nD) (sig := sig) (Ix := HIx 1) (Val := Elt F) (Name := ℕ) (U := UU F) (Lvl := ℕ)).toEmb
instance EP_landsIn : (EP : Emb UPipe (MM F)).LandsIn (upEmb : UEmb _ (MM F)) := by unfold EP; infer_instance
/-- Where write mode's tables live. -/
abbrev wmE : UEmb (WmRA nD τ sig (Elt F)) (UU F) := (UEmb.inl.trans UEmb.inr).trans UEmb.inr

/-! ## Memrefs: the tiles' names of the operands, and their scratch -/

abbrev gV : Memref sig .scVector .hbm S2048 .f32 := Memref.whole main_v1_scv
abbrev candV : Memref sig .scVector .hbm S16384x128 .f32 := Memref.whole main_arg1_scv
abbrev segV : Memref sig .scVector .hbm S16384 .i32 := Memref.whole main_arg2_scv
abbrev logV : Memref sig .scVector .hbm S16384 .f32 := Memref.whole main_v2_0_scv
abbrev mV : Memref sig .scVector .hbm S32x16 .f32 := Memref.whole main_v2_1_scv
abbrev sV : Memref sig .scVector .hbm S32x16 .f32 := Memref.whole main_v2_2_scv
abbrev cntV : Memref sig .scVector .hbm S32x16 .f32 := Memref.whole main_v2_3_scv
abbrev gB : Memref sig .scVector .vmem S2048 .f32 := Memref.whole cc0_scratch0
abbrev cB : Memref sig .scVector .vmem S512x128 .f32 := Memref.whole cc0_scratch1
abbrev segB : Memref sig .scVector .vmem S512 .i32 := Memref.whole cc0_scratch2
abbrev logB : Memref sig .scVector .vmem S512 .f32 := Memref.whole cc0_scratch3
abbrev mB : Memref sig .scVector .vmem S16 .f32 := Memref.whole cc0_scratch4
abbrev sB : Memref sig .scVector .vmem S16 .f32 := Memref.whole cc0_scratch5
abbrev cntB : Memref sig .scVector .vmem S16 .f32 := Memref.whole cc0_scratch6

/-! ## A tile -/

abbrev cV (L : grid0.Coords) : Fin τ.nSC := (L 0).castLE hcore0
abbrev jV (L : grid0.Coords) : Fin τ.nSub := (L 1).castLE hsub0
/-- The thread of tile `L` of device `d`. -/
abbrev thr (d : Dev nD) (L : grid0.Coords) : Thread nD τ := V d (cV L) (jV L)

end Cert.Proof
-- ==== Proof.Reads.lean ====
/-
  Programs that only read: `Reads H p v` says that a tile holding `H` runs `p` to the value `v` and still holds `H`.
  The two groups of the kernel's scoring loop (one of loads and gathers of rows, the other of gathers alone) are such
  programs; their values come out operation by operation.
-/
module

public import proofs.«01_k».proof.Proof.Common

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (d : Dev nD) (L : grid0.Coords)

local notation "𝕄" => MM F
local notation "TProg" => Prog (TpuEff nD τ sig (Elt F) Λ₀ (Proc.scVector (cV L) (jV L)))

/-- Holding `H`, tile `L` runs `p` to the value `v`, and holds `H` again. -/
def Reads (H : sProp 𝕄) {α : Type} (p : TProg α) (v : α) : Prop :=
  ∀ Q : α → sProp 𝕄, iprop(H ∗ (H -∗ Q v)) ⊢ wp frame (wpE (defs₀ (F := F)) 𝒱₀ (thr d L) none) Set.univ p Q

variable {d L}
variable {H : sProp (MM F)} {α β : Type}

theorem Reads.pure (v : α) : Reads d L H (Prog.ret v) v := fun Q => by
  rw [wp_ret]
  iintro ⟨H, HQ⟩
  imodintro
  iapply HQ $$ H

theorem Reads.bind {p : TProg α} {k : α → TProg β} {a : α} {b : β} (hp : Reads d L H p a) (hk : Reads d L H (k a) b) :
    Reads d L H (p >>= k) b := fun Q => by
  rw [wp_bind]
  refine BIBase.Entails.trans ?_ (hp _)
  iintro ⟨H, HQ⟩
  isplitl [H]; · iexact H
  iintro H
  iapply (hk Q)
  isplitl [H]; · iexact H
  iexact HQ

/-- One effect as a program. -/
theorem lift_op {A : Type} (e : TpuEff nD τ sig (Elt F) Λ₀ (Proc.scVector (cV L) (jV L)) A) : (Prog.lift e : TProg A) = Prog.op e Prog.ret := rfl

/-- A gather as a program: the load of the whole buffer, read at the indices. -/
theorem gather_op {s t : Shape} {e : EltTy} (b : Memref sig (thr d L).2.kind .vmem s e) (idxs : Fin s.rank → IVec t 32)
    (h : ∀ a x, (idxs a x).toNat < s.size a) (hl : b.view.Loads) :
    (SparseCore.vectorLoadIdx b idxs h hl : TProg _)
      = Prog.op (.load b (.whole s) (View.loadsAt_whole hl)) fun f => Prog.ret (loadIdx f idxs h) := rfl

/-- The same value, spelt otherwise. -/
theorem Reads.of_eq {p : TProg α} {v w : α} (h : Reads d L H p v) (e : v = w) : Reads d L H p w := e ▸ h

/-- A check that holds. -/
theorem Reads.assume {P : Prop} {dec : Decidable P} (h : P) :
    Reads d L H (Prog.lift (TpuEff.assume P dec)) ⟨h⟩ := fun Q => by
  rw [lift_op]
  rw [wp_assume_of _ _ _ _ h]
  exact Reads.pure _ Q

/-- A load of a buffer held whole. -/
theorem Reads.load {cs : CoreSpace} {s : Shape} {e : EltTy} {m : Memref sig (thr d L).2.kind cs s e} {r : LoadRect s}
    {hl : m.view.LoadsAt r} {f : Buf (Elt F) (m.view.loc (thr d L))}
    (hH : H ⊢ iprop((m.view.loc (thr d L) ↦{fullShare} f) ∗ ((m.view.loc (thr d L) ↦{fullShare} f) -∗ H))) :
    Reads d L H (Prog.lift (.load m r hl)) (m.view.readAt (Elt F) r f) := fun Q => by
  rw [lift_op]
  iintro ⟨H, HQ⟩
  ihave Hx := hH $$ H
  icases Hx with ⟨Hp, Hback⟩
  iapply (wp_load 𝒱₀ (thr d L) none Set.univ (Finset.subset_univ _)) $$ Hp
  iintro Hp
  rw [wp_ret]
  imodintro
  iapply HQ
  iapply Hback $$ Hp

/-- A gather of a buffer held whole. -/
theorem Reads.gather {s t : Shape} {e : EltTy} {b : Memref sig (thr d L).2.kind .vmem s e} {idxs : Fin s.rank → IVec t 32}
    {h : ∀ a x, (idxs a x).toNat < s.size a} {hl : b.view.Loads} {f : Buf (Elt F) (b.view.loc (thr d L))}
    (hH : H ⊢ iprop((b.view.loc (thr d L) ↦{fullShare} f) ∗ ((b.view.loc (thr d L) ↦{fullShare} f) -∗ H))) :
    Reads d L H (SparseCore.vectorLoadIdx b idxs h hl) (loadIdx (b.view.readAt (Elt F) (LoadRect.whole s) f) idxs h) := fun Q => by
  rw [gather_op]
  iintro ⟨H, HQ⟩
  ihave Hx := hH $$ H
  icases Hx with ⟨Hp, Hback⟩
  iapply (wp_load 𝒱₀ (thr d L) none Set.univ (Finset.subset_univ _)) $$ Hp
  iintro Hp
  rw [wp_ret]
  imodintro
  iapply HQ
  iapply Hback $$ Hp

/-! ## What a group of the scoring loop holds -/

/-- The user vectors' scratch at `fg`, and a half share of the candidates' scratch in write mode: it held `f0`, it will
    hold `land`, and the elements `W` are known to have landed. -/
def GH (d : Dev nD) (L : grid0.Coords) (ιwm : ℕ) (fg : S2048.Idx → Elt F .f32) (f0 land : S512x128.Idx → Elt F .f32)
    (W : Finset S512x128.Idx) : sProp 𝕄 :=
  iprop(wmInv wmE ιwm ∗ (gB.view.loc (thr d L) ↦{fullShare} fg)
    ∗ willBeTo wmE (cB.view.loc (thr d L)) Finset.univ fullShare.right f0 (fun i => some (land i)) W)

variable {ιwm : ℕ} {fg : S2048.Idx → Elt F .f32} {f0 land : S512x128.Idx → Elt F .f32} {W : Finset S512x128.Idx}

/-- A gather of the user vectors. -/
theorem Reads.gatherG {b : Memref sig .scVector .vmem S2048 .f32} (hb : b = gB) {idx : IVec S16 32}
    {h : ∀ a x, ((![idx] : Fin 1 → IVec S16 32) a x).toNat < S2048.size a} {hl : b.view.Loads} :
    Reads d L (GH d L ιwm fg f0 land W) (SparseCore.vectorLoadIdx b ![idx] h hl) (loadIdx fg ![idx] h) := by
  subst hb
  refine Reads.of_eq (Reads.gather (f := fg) ?_) ?_
  · unfold GH
    iintro ⟨#Hw, Hg, Hc⟩
    isplitl [Hg]; · iexact Hg
    iintro Hg
    isplitl []; · iexact Hw
    isplitl [Hg]; · iexact Hg
    iexact Hc
  · exact congrArg (fun f => loadIdx f ![idx] h) (Memref.readAt_whole (Elt F) cc0_scratch0 fg)

/-- A load of landed elements of the candidates. -/
theorem Reads.loadC {r : LoadRect S512x128} {hl : cB.view.LoadsAt r} (hr : cB.view.setOn r.set ⊆ W) :
    Reads d L (GH d L ιwm fg f0 land W) (Prog.lift (.load cB r hl)) (cB.view.readAt (Elt F) r land) := fun Q => by
  rw [lift_op]
  unfold GH
  iintro ⟨⟨#Hw, Hg, Hc⟩, HQ⟩
  iapply (wp_load_willBeTo (emb := wmE) 𝒱₀ (thr d L) none Set.univ (Finset.subset_univ _)) $$ [Hc]
  · isplitl []; · iexact Hw
    iexact Hc
  iintro %cur %W' %hcur Hc
  rw [wp_ret]
  imodintro
  rw [View.readAt_congr (v := cB.view) (r := r) (f := cur) (g := land) fun i hi =>
    (hcur.2 i (Finset.mem_univ _)).2 (hcur.1 (hr hi)) _ rfl]
  iapply HQ
  isplitl []; · iexact Hw
  isplitl [Hg]; · iexact Hg
  iexact Hc

/-- A gather of landed elements of the candidates. -/
theorem Reads.gatherC {b : Memref sig .scVector .vmem S512x128 .f32} (hb : b = cB) {row col : IVec S16 32}
    {h : ∀ a x, ((![row, col] : Fin 2 → IVec S16 32) a x).toNat < S512x128.size a}
    {hl : b.view.Loads} (hr : ∀ x, idxAt ![row, col] h x ∈ W) :
    Reads d L (GH d L ιwm fg f0 land W) (SparseCore.vectorLoadIdx b ![row, col] h hl) (loadIdx land ![row, col] h) := fun Q => by
  subst hb
  rw [gather_op]
  unfold GH
  iintro ⟨⟨#Hw, Hg, Hc⟩, HQ⟩
  iapply (wp_load_willBeTo (emb := wmE) 𝒱₀ (thr d L) none Set.univ (Finset.subset_univ _)) $$ [Hc]
  · isplitl []; · iexact Hw
    iexact Hc
  iintro %cur %W' %hcur Hc
  rw [wp_ret]
  imodintro
  have e : loadIdx (cB.view.readAt (Elt F) (LoadRect.whole S512x128) cur) ![row, col] h = loadIdx land ![row, col] h :=
    funext fun x => by
      rw [show cB.view.readAt (Elt F) (LoadRect.whole S512x128) cur = cur from Memref.readAt_whole (Elt F) cc0_scratch1 cur]
      exact (hcur.2 (idxAt ![row, col] h x) (Finset.mem_univ _)).2 (hcur.1 (hr x)) _ rfl
  rw [e]
  iapply HQ
  isplitl []; · iexact Hw
  isplitl [Hg]; · iexact Hg
  iexact Hc

/-- Element `(r, c)` of the candidates' scratch. -/
def ix (r c : ℕ) : S512x128.Idx := fun a => match a with
  | 0 => ⟨r % 512, Nat.mod_lt _ (by decide)⟩
  | 1 => ⟨c % 128, Nat.mod_lt _ (by decide)⟩

/-- Sixteen elements of row `r`, from column `c`. -/
def rowAt (land : S512x128.Idx → Elt F .f32) (r c : ℕ) : Vec F S1x16 .f32 := fun x => land (ix r (c + (x 1).val))

/-- The rows of group `t`. -/
def InGroup (t : ℕ) (j : S512x128.Idx) : Prop := 16 * t ≤ (j 0).val ∧ (j 0).val < 16 * t + 16

/-- A load of sixteen landed elements of a row of group `t`, at an offset in closed form. -/
theorem Reads.loadRow {b : Memref sig .scVector .vmem S512x128 .f32} (hb : b = cB) {t : ℕ} {off : Fin 2 → ℕ} [h : ClosedOff off] {inb : ∀ a, off a + S1x16.size a ≤ S512x128.size a}
    {hl : b.view.LoadsAt (Rect.unit (s := S512x128) off S1x16.size inb).toLoadRect} (hW : ∀ j, InGroup t j → j ∈ W)
    (ht : 16 * t ≤ h.form 0 ∧ h.form 0 < 16 * t + 16) :
    Reads d L (GH d L ιwm fg f0 land W) (Prog.lift (.load b (Rect.unit (s := S512x128) off S1x16.size inb).toLoadRect hl))
      (rowAt land (h.form 0) (h.form 1)) := by
  subst hb
  have e := h.eq
  generalize h.form = o at e ht
  subst e
  have hin : ∀ x : S1x16.Idx, (Rect.unit (s := S512x128) off S1x16.size inb).idx x = ix (off 0) (off 1 + (x 1).val) := fun x => by
    have h0 : off 0 + 1 ≤ 512 := inb 0
    have h1 : off 1 + 16 ≤ 128 := inb 1
    have x0 : (x 0).val < 1 := (x 0).isLt
    have x1 : (x 1).val < 16 := (x 1).isLt
    funext a
    apply Fin.ext
    match a with
    | 0 => show off 0 + 1 * (x 0).val = off 0 % 512; omega
    | 1 => show off 1 + 1 * (x 1).val = (off 1 + (x 1).val) % 128; omega
  refine Reads.of_eq (Reads.loadC fun j hj => ?_) (funext fun x => ?_)
  · have hj' : j ∈ (Rect.unit (s := S512x128) off S1x16.size inb).set := by
      obtain ⟨a, ha, rfl⟩ := Finset.mem_map.mp hj; exact ha
    have h2 := (Rect.mem_set_unit.mp hj') 0
    have h3 : off 0 ≤ (j 0).val ∧ (j 0).val < off 0 + 1 := h2
    exact hW j ⟨by omega, by omega⟩
  · rw [View.readAt_apply]
    exact congrArg land (hin x)

/-! ## The groups' indices -/

/-- A user's vector starts at component `16 * 128 - 128` at most, and each has 128 components. -/
theorem addi_lt {v : IVec S16 32} (h : ∀ x, (v x).toNat ≤ 1920) {k : BitVec 32} (hk : k.toNat < 128) :
    ∀ (a : Fin 1) x, ((![addi v (broadcast S16 k)] : Fin 1 → IVec S16 32) a x).toNat < S2048.size a := fun a x => by
  match a with
  | 0 =>
    show (v x + k).toNat < 2048
    have := h x
    rw [BitVec.toNat_add]; omega

/-- The same at one user for all sixteen lanes, sixteen components from the `k`-th. -/
theorem addi_lt' {b : BitVec 32} (h : b.toNat ≤ 1920) {v : IVec S16 32} (hv : ∀ x, (v x).toNat < 128) :
    ∀ (a : Fin 1) x, ((![addi (broadcast S16 b) v] : Fin 1 → IVec S16 32) a x).toNat < S2048.size a := fun a x => by
  match a with
  | 0 =>
    show (b + v x).toNat < 2048
    have := hv x
    rw [BitVec.toNat_add]; omega

/-- A row of the candidates' scratch and a component. -/
theorem row_lt {row : IVec S16 32} (h : ∀ x, (row x).toNat < 512) {k : BitVec 32} (hk : k.toNat < 128) :
    ∀ (a : Fin 2) x, ((![row, broadcast S16 k] : Fin 2 → IVec S16 32) a x).toNat < S512x128.size a := fun a x => by
  match a with
  | 0 => exact h x
  | 1 => exact hk

/-! ## Sources: what a buffer answers to gathers -/

/-- Gathers of `b` at places that satisfy `ok` read the contents `f`. -/
structure Src (d : Dev nD) (L : grid0.Coords) (H : sProp (MM F)) {s : Shape} (b : Memref sig .scVector .vmem s .f32)
    (f : s.Idx → Elt F .f32) (ok : s.Idx → Prop) : Prop where
  gather : ∀ {idxs : Fin s.rank → IVec S16 32} (h : ∀ a x, (idxs a x).toNat < s.size a) (hl : b.view.Loads),
    (∀ x, ok (idxAt idxs h x)) → Reads d L H (SparseCore.vectorLoadIdx b idxs h hl) (loadIdx f idxs h)

theorem Src.read {H : sProp (MM F)} {s : Shape} {b : Memref sig .scVector .vmem s .f32} {f : s.Idx → Elt F .f32} {ok : s.Idx → Prop}
    (S : Src d L H b f ok) {idxs : Fin s.rank → IVec S16 32} {h : ∀ a x, (idxs a x).toNat < s.size a} {hl : b.view.Loads}
    (hok : ∀ x, ok (idxAt idxs h x)) : Reads d L H (SparseCore.vectorLoadIdx b idxs h hl) (loadIdx f idxs h) :=
  S.gather h hl hok

theorem srcG : Src d L (GH d L ιwm fg f0 land W) gB fg fun _ => True where
  gather {idxs} h hl _ := by
    obtain ⟨i, rfl⟩ : ∃ i, idxs = ![i] := ⟨idxs 0, by funext a; fin_cases a; rfl⟩
    exact Reads.gatherG rfl

theorem srcC : Src d L (GH d L ιwm fg f0 land W) cB land fun j => j ∈ W where
  gather {idxs} h hl hok := by
    obtain ⟨i, k, rfl⟩ : ∃ i k, idxs = ![i, k] := ⟨idxs 0, idxs 1, by funext a; fin_cases a <;> rfl⟩
    exact Reads.gatherC rfl hok

theorem Reads.pure' {H : sProp (MM F)} {α : Type} (v : α) : Reads d L H (Pure.pure v) v := Reads.pure v

/-- An assumed fact that holds, and the rest of the program. -/
theorem Reads.assumeB {H : sProp (MM F)} {β : Type} {P : Prop} {dec : Decidable P} {k : PLift P → TProg β} {v : β} (h : P)
    (hk : Reads d L H (k ⟨h⟩) v) : Reads d L H (Prog.lift (TpuEff.assume P dec) >>= k) v :=
  (Reads.assume h).bind hk

/-- A gather, and the rest of the program. -/
theorem Src.readB {H : sProp (MM F)} {s : Shape} {b : Memref sig .scVector .vmem s .f32} {f : s.Idx → Elt F .f32} {ok : s.Idx → Prop}
    (S : Src d L H b f ok) {idxs : Fin s.rank → IVec S16 32} {h : ∀ a x, (idxs a x).toNat < s.size a} {hl : b.view.Loads} {β : Type}
    {k : Vec F S16 .f32 → TProg β} {v : β} (hok : ∀ x, ok (idxAt idxs h x)) (hk : Reads d L H (k (loadIdx f idxs h)) v) :
    Reads d L H (SparseCore.vectorLoadIdx b idxs h hl >>= k) v :=
  (S.read hok).bind hk

end Cert.Proof
-- ==== Proof.Uniform.lean ====
module
public import proofs.«01_k».proof.Proof.Reads
@[expose] public section

/-! # A group of rows of one segment

Each of the sixteen rows is read in eight registers, multiplied with the user's eight registers and summed over the lanes:
`k0_part33` reads and sums, and `rowProd`, `laneSum` and `selRows` say what it comes to. -/

noncomputable section
namespace Cert.Proof
open Cert.KernelIdeal Cert.KernelIdeal.Gen
open Idealize.ShloMosaic
open Idealize.SL Idealize.SL.RA Idealize.SL.BI
open Idealize.SL.BI.BIBase Idealize.SL.BI.Laws Idealize.SL.ProofMode Idealize.SL.Sem

variable {F : FTy → Type} [FloatOps F]
variable {fg : S2048.Idx → Elt F .f32} {land : S512x128.Idx → Elt F .f32}

theorem slices_lane (k : ℕ) : S16.Slices ![k % 16] S1 :=
  ⟨rfl, fun a => match a with | 0 => Nat.mod_lt k (by decide : 16 > 0)⟩

/-- Lane `k` of a register, as the program takes it. -/
def lane {α : Type} (v : S16.Idx → α) (k : ℕ) : α := extractAt ![0] (extractStridedSlice S1 ![k % 16] v (slices_lane k)) inpos_S1_p0

/-- Lane `k` is the register's element `k`. -/
theorem lane_eq {α : Type} (v : S16.Idx → α) (k : ℕ) (x : S16.Idx) (hx : (x 0).val = k % 16) : lane v k = v x :=
  congrArg v (funext fun a => match a with | 0 => Fin.ext hx.symm)

/-- The sum of the lanes `0 … n`, from the left. -/
def laneSum (v : FVec F S16 .f32) : ℕ → F .f32
  | 0 => lane v 0
  | n + 1 => Scalar.addf (laneSum v n) (lane v (n + 1))

/-- Register `k` of the user's vector: the components `lo + sh k`. -/
def userReg (fg : S2048.Idx → Elt F .f32) {lo : BitVec 32} {sh : Fin 8 → IVec S16 32} (hlo : lo.toNat ≤ 1920)
    (hsh : ∀ k x, (sh k x).toNat < 128) (k : Fin 8) : FVec F S16 .f32 :=
  loadIdx fg ![addi (broadcast S16 lo) (sh k)] (addi_lt' hlo (hsh k))

/-- The products of register `k` of row `16 t + u` with the user's. -/
def rterm (fg : S2048.Idx → Elt F .f32) (land : S512x128.Idx → Elt F .f32) {lo : BitVec 32} {sh : Fin 8 → IVec S16 32}
    (hlo : lo.toNat ≤ 1920) (hsh : ∀ k x, (sh k x).toNat < 128) (t u : ℕ) (k : Fin 8) : FVec F S16 .f32 :=
  mulf (shapeCast S16 (rowAt land (16 * t + u) (16 * k.val)) shapeCasts_S1x16_S16) (userReg fg hlo hsh k)

/-- Row `16 t + u`'s products, summed over the even and the odd registers. -/
def rowProd (fg : S2048.Idx → Elt F .f32) (land : S512x128.Idx → Elt F .f32) {lo : BitVec 32} {sh : Fin 8 → IVec S16 32}
    (hlo : lo.toNat ≤ 1920) (hsh : ∀ k x, (sh k x).toNat < 128) (t u : ℕ) : FVec F S16 .f32 :=
  let r := rterm fg land hlo hsh t u
  let z : FVec F S16 .f32 := broadcast S16 (Scalar.ofBits .f32 0x00000000#32)
  addf (addf (addf (addf (addf z (r 0)) (r 2)) (r 4)) (r 6)) (addf (addf (addf (addf z (r 1)) (r 3)) (r 5)) (r 7))

/-- The rows' sums `s 0 … s (n - 1)` put in the lanes that `lanes` numbers so, the others zero. -/
def selRows (lanes : IVec S16 32) (s : ℕ → F .f32) : ℕ → FVec F S16 .f32
  | 0 => broadcast S16 (Scalar.ofBits .f32 0x00000000#32)
  | n + 1 => select (cmpi .eq lanes (broadcast S16 (BitVec.ofNat 32 n))) (broadcast S16 (s n)) (selRows lanes s n)

/-- Loads of a row's register from `b` read the contents `f` where they are in group `t`. -/
structure RowSrc (d : Dev nD) (L : grid0.Coords) (H : sProp (MM F)) (b : Memref sig .scVector .vmem S512x128 .f32)
    (f : S512x128.Idx → Elt F .f32) (t : ℕ) : Prop where
  load : ∀ {off : Fin 2 → ℕ} [h : ClosedOff off] {inb : ∀ a, off a + S1x16.size a ≤ S512x128.size a}
    {hl : b.view.LoadsAt (Rect.unit (s := S512x128) off S1x16.size inb).toLoadRect}, (16 * t ≤ h.form 0 ∧ h.form 0 < 16 * t + 16) →
    Reads d L H (Prog.lift (.load b (Rect.unit (s := S512x128) off S1x16.size inb).toLoadRect hl)) (rowAt f (h.form 0) (h.form 1))

theorem RowSrc.readB {d : Dev nD} {L : grid0.Coords} {H : sProp (MM F)} {b : Memref sig .scVector .vmem S512x128 .f32}
    {f : S512x128.Idx → Elt F .f32} {t : ℕ} (S : RowSrc d L H b f t) {off : Fin 2 → ℕ} [h : ClosedOff off]
    {inb : ∀ a, off a + S1x16.size a ≤ S512x128.size a} {hl : b.view.LoadsAt (Rect.unit (s := S512x128) off S1x16.size inb).toLoadRect}
    {β : Type} {k : Vec F S1x16 .f32 → Prog (TpuEff nD τ sig (Elt F) Λ₀ (Proc.scVector (cV L) (jV L))) β} {v : β}
    (ht : 16 * t ≤ h.form 0 ∧ h.form 0 < 16 * t + 16) (hk : Reads d L H (k (rowAt f (h.form 0) (h.form 1))) v) :
    Reads d L H (Prog.lift (.load b (Rect.unit (s := S512x128) off S1x16.size inb).toLoadRect hl) >>= k) v :=
  (S.load ht).bind hk

variable {d : Dev nD} {L : grid0.Coords}
variable (arg2 : Memref sig .scVector .hbm S2048 .f32) (harg2 : arg2.IsWhole) (arg3 : Memref sig .scVector .hbm S16384x128 .f32) (harg3 : arg3.IsWhole) (arg4 : Memref sig .scVector .hbm S16384 .i32) (harg4 : arg4.IsWhole) (arg5 : Memref sig .scVector .hbm S16384 .f32) (harg5 : arg5.IsWhole) (arg6 : Memref sig .scVector .hbm S32x16 .f32) (harg6 : arg6.IsWhole) (arg7 : Memref sig .scVector .hbm S32x16 .f32) (harg7 : arg7.IsWhole) (arg8 : Memref sig .scVector .hbm S32x16 .f32) (harg8 : arg8.IsWhole) (arg9 : Memref sig .scVector .vmem S2048 .f32) (harg9 : arg9.IsWhole) (arg10 : Memref sig .scVector .vmem S512x128 .f32) (harg10 : arg10.IsWhole) (arg11 : Memref sig .scVector .vmem S512 .i32) (harg11 : arg11.IsWhole) (arg12 : Memref sig .scVector .vmem S512 .f32) (harg12 : arg12.IsWhole) (arg13 : Memref sig .scVector .vmem S16 .f32) (harg13 : arg13.IsWhole) (arg14 : Memref sig .scVector .vmem S16 .f32) (harg14 : arg14.IsWhole) (arg15 : Memref sig .scVector .vmem S16 .f32) (harg15 : arg15.IsWhole) (arg16 : DmaSems sig S_) (arg17 : DmaSems sig S_) (arg18 : DmaSems sig S_) (arg19 : DmaSems sig S_) (v2551_r0 : DmaSems sig S_) (v2551_r1 : DmaSems sig S_) (v2551_r2 : DmaSems sig S_) (v2551_r3 : DmaSems sig S_) (v2551_r4 : DmaSems sig S_) (v2551_r5 : DmaSems sig S_)
variable {H : sProp (MM F)}

set_option maxHeartbeats 4000000 in
/-- A group of one segment: the first fifteen rows' sums are in their lanes, and the last row's is being summed. -/
theorem reads_uniform (sG : Src d L H arg9 fg fun _ => True) (k0_t1 : Fin k0_t1_loop.trips) (sR : RowSrc d L H arg10 land k0_t1.val)
    {v23 : IVec S16 32} {v2560 lo hi : BitVec 32} {sh : Fin 8 → IVec S16 32} (h4 : k0_cond4 lo hi = 1#1) (hlo : lo.toNat ≤ 1920)
    (hsh : ∀ k x, (sh k x).toNat < 128) :
    Reads d L H (k0_part33 (F := F) L arg2 harg2 arg3 harg3 arg4 harg4 arg5 harg5 arg6 harg6 arg7 harg7 arg8 harg8 arg9 harg9 arg10 harg10 arg11 harg11 arg12 harg12 arg13 harg13
    arg14 harg14 arg15 harg15 arg16 arg17 arg18 arg19 v2551_r0 v2551_r1 v2551_r2 v2551_r3 v2551_r4 v2551_r5
      v23 (sh 0) (sh 1) (sh 2) (sh 3) (sh 4) (sh 5) (sh 6) (sh 7) k0_t1 v2560 lo hi h4)
      ⟨selRows v23 (fun u => laneSum (rowProd fg land hlo hsh k0_t1.val u) 15) 15, cmpi .eq v23 (broadcast S16 15#32),
        rowProd fg land hlo hsh k0_t1.val 15, laneSum (rowProd fg land hlo hsh k0_t1.val 15) 8,
        extractStridedSlice S1 ![9] (rowProd fg land hlo hsh k0_t1.val 15) slices_S16_o9_S1⟩ := by
  apply Reads.of_eq
  · delta k0_part33
    repeat' first
      | ((with_reducible apply Reads.assumeB); on_goal 2 => (intro _; with_reducible exact addi_lt' hlo (hsh _)))
      | ((with_reducible apply Src.readB sG); exact fun _ => trivial)
      | ((with_reducible apply RowSrc.readB sR); exact ⟨Nat.le_add_right _ _, Nat.add_lt_add_left (by decide) _⟩)
      | (with_reducible exact Reads.pure' _)
      | ((with_reducible apply Reads.bind)
         delta k0_part1 k0_part2 k0_part3 k0_part4 k0_part5 k0_part6 k0_part7 k0_part8 k0_part9 k0_part10 k0_part11 k0_part12 k0_part13 k0_part14 k0_part15
          k0_part16 k0_part17 k0_part18 k0_part19 k0_part20 k0_part21 k0_part22 k0_part23 k0_part24 k0_part25 k0_part26 k0_part27 k0_part28 k0_part29
          k0_part30 k0_part31 k0_part32)
  · rfl
end Cert.Proof
-- ==== Proof.Tail.lean ====
module
public import proofs.«01_k».proof.Proof.Uniform
@[expose] public section

/-! # A tile after its scoring loop

The two loops over the tile's scores — the masked maxima of the sixteen segments, then their masked sums of exponentials
and counts — and the reductions of the lanes that follow each. -/

noncomputable section
namespace Cert.Proof
open Cert.KernelIdeal Cert.KernelIdeal.Gen
open Idealize.ShloMosaic
open Idealize.SL Idealize.SL.RA Idealize.SL.BI
open Idealize.SL.BI.BIBase Idealize.SL.BI.Laws Idealize.SL.ProofMode Idealize.SL.Sem

variable {F : FTy → Type} [FloatOps F]

/-! ## Programs that change what is held -/

section
variable (d : Dev nD) (L : grid0.Coords)
local notation "TProg" => Prog (TpuEff nD τ sig (Elt F) Λ₀ (Proc.scVector (cV L) (jV L)))

/-- Holding `P`, tile `L` runs `p` to the value `v`, and holds `R` then. -/
def Steps (P : sProp (MM F)) {α : Type} (p : TProg α) (v : α) (R : sProp (MM F)) : Prop :=
  ∀ Q : α → sProp (MM F), iprop(P ∗ (R -∗ Q v)) ⊢ wp frame (wpE (defs₀ (F := F)) 𝒱₀ (thr d L) none) Set.univ p Q

variable {d L}
variable {P R T : sProp (MM F)} {α β : Type}

theorem Steps.bind {p : TProg α} {k : α → TProg β} {a : α} {b : β} (hp : Steps d L P p a R) (hk : Steps d L R (k a) b T) :
    Steps d L P (p >>= k) b T := fun Q => by
  rw [wp_bind]
  refine BIBase.Entails.trans ?_ (hp _)
  iintro ⟨H, HQ⟩
  isplitl [H]; · iexact H
  iintro H
  iapply (hk Q)
  isplitl [H]; · iexact H
  iexact HQ

theorem Steps.of_reads {p : TProg α} {a : α} (h : Reads d L P p a) : Steps d L P p a P := h

theorem Steps.of_eq {p : TProg α} {v w : α} (h : Steps d L P p v R) (e : v = w) : Steps d L P p w R := e ▸ h

theorem Steps.pure' (v : α) : Steps d L P (Pure.pure v) v P := Reads.pure' v

/-- A loop whose carried values are `A k` at trip `k`. -/
theorem Reads.loop {lp : Scf.Loop 32} {hok : lp.OK} {init : α} {body : Fin lp.trips → α → TProg α} (A : ℕ → α) (h0 : init = A 0)
    (hb : ∀ k : Fin lp.trips, Reads d L P (body k (A k.val)) (A (k.val + 1))) :
    Reads d L P (Scf.Loop.for lp hok init body) (A lp.trips) := fun Q => by
  refine BIBase.Entails.trans ?_ (Scf.wp_for frame (wpE (defs₀ (F := F)) 𝒱₀ (thr d L) none) Set.univ lp.lb lp.ub lp.st hok init body
    (fun k a => iprop(⌜a = A k⌝ ∗ P)) (fun k a => ?_))
  · iintro ⟨HP, HQ⟩
    isplitl [HP]
    · isplitr
      · ipureintro; exact h0
      · iexact HP
    iintro %a ⟨%ha, HP⟩
    subst ha
    iapply HQ $$ HP
  · iintro ⟨%ha, HP⟩
    subst ha
    iapply (hb k _)
    isplitl [HP]; · iexact HP
    iintro HP
    isplitr
    · ipureintro; rfl
    · iexact HP
end

/-! ## Loads of sixteen scores or segments -/

/-- Place `o` of a tile's scores. -/
def ix1 (o : ℕ) : S512.Idx := fun a => match a with | 0 => ⟨o % 512, Nat.mod_lt _ (by decide)⟩

/-- Sixteen of a tile's values, from place `o`. -/
def at16 {α : Type} (f : S512.Idx → α) (o : ℕ) : S16.Idx → α := fun x => f (ix1 (o + (x 0).val))

/-- Loads of sixteen of `b`'s values read the contents `f`. -/
structure LSrc (d : Dev nD) (L : grid0.Coords) (H : sProp (MM F)) {e : EltTy} (b : Memref sig .scVector .vmem S512 e)
    (f : S512.Idx → Elt F e) : Prop where
  load : ∀ {off : Fin 1 → ℕ} [h : ClosedOff off] {inb : ∀ a, off a + S16.size a ≤ S512.size a}
    {hl : b.view.LoadsAt (Rect.unit (s := S512) off S16.size inb).toLoadRect},
    Reads d L H (Prog.lift (.load b (Rect.unit (s := S512) off S16.size inb).toLoadRect hl)) (at16 f (h.form 0))

theorem LSrc.readB {d : Dev nD} {L : grid0.Coords} {H : sProp (MM F)} {e : EltTy} {b : Memref sig .scVector .vmem S512 e}
    {f : S512.Idx → Elt F e} (S : LSrc d L H b f) {off : Fin 1 → ℕ} [h : ClosedOff off]
    {inb : ∀ a, off a + S16.size a ≤ S512.size a} {hl : b.view.LoadsAt (Rect.unit (s := S512) off S16.size inb).toLoadRect}
    {β : Type} {k : Vec F S16 e → Prog (TpuEff nD τ sig (Elt F) Λ₀ (Proc.scVector (cV L) (jV L))) β} {v : β}
    (hk : Reads d L H (k (at16 f (h.form 0))) v) :
    Reads d L H (Prog.lift (.load b (Rect.unit (s := S512) off S16.size inb).toLoadRect hl) >>= k) v :=
  S.load.bind hk

/-! ## The values -/

/-- Minus infinity in every lane. -/
def negs : FVec F S16 .f32 := broadcast S16 (Scalar.ofBits .f32 0xFF800000#32)
/-- Zero in every lane. -/
def zeros : FVec F S16 .f32 := broadcast S16 (Scalar.ofBits .f32 0x00000000#32)
/-- One in every lane. -/
def ones : FVec F S16 .f32 := broadcast S16 (Scalar.ofBits .f32 0x3F800000#32)

/-- The lanes of segment `b` keep `v`, the others take `w`. -/
def inSeg (sg : IVec S16 32) (b : ℕ) (v w : FVec F S16 .f32) : FVec F S16 .f32 := select (cmpi .eq sg (broadcast S16 (BitVec.ofNat 32 b))) v w

/-- Each lane's maximum of segment `b`'s scores among its first `k`. -/
def accMax (sT : S512.Idx → Elt F .i32) (lT : S512.Idx → Elt F .f32) (b : ℕ) : ℕ → FVec F S16 .f32
  | 0 => negs
  | k + 1 => maximumf (accMax sT lT b k) (inSeg (at16 sT (16 * k)) b (at16 lT (16 * k)) negs)

/-- The exponentials of sixteen scores, each less its segment's maximum. -/
def expAt (sT : S512.Idx → Elt F .i32) (lT : S512.Idx → Elt F .f32) (mv : S16.Idx → Elt F .f32)
    (hs : ∀ j, (sT j).toNat < 16) (k : ℕ) : FVec F S16 .f32 :=
  exp (subf (at16 lT (16 * k)) (loadIdx mv ![at16 sT (16 * k)] (fun a x => match a with | 0 => hs _)))

/-- Each lane's sum of segment `b`'s exponentials among its first `k`. -/
def accSum (sT : S512.Idx → Elt F .i32) (lT : S512.Idx → Elt F .f32) (mv : S16.Idx → Elt F .f32)
    (hs : ∀ j, (sT j).toNat < 16) (b : ℕ) : ℕ → FVec F S16 .f32
  | 0 => zeros
  | k + 1 => addf (accSum sT lT mv hs b k) (inSeg (at16 sT (16 * k)) b (expAt sT lT mv hs k) zeros)

/-- Each lane's count of segment `b`'s scores among its first `k`. -/
def accCnt (sT : S512.Idx → Elt F .i32) (b : ℕ) : ℕ → FVec F S16 .f32
  | 0 => zeros
  | k + 1 => addf (accCnt sT b k) (inSeg (at16 sT (16 * k)) b ones zeros)

/-- The maximum of the lanes `0 … n`, from the left. -/
def laneMax (v : FVec F S16 .f32) : ℕ → F .f32
  | 0 => lane v 0
  | n + 1 => Scalar.maximumf (laneMax v n) (lane v (n + 1))

/-- The values `s 0 … s (n - 1)` put in the lanes that `lanes` numbers so, over `z`. -/
def selOver (z : FVec F S16 .f32) (lanes : IVec S16 32) (s : ℕ → F .f32) : ℕ → FVec F S16 .f32
  | 0 => z
  | n + 1 => select (cmpi .eq lanes (broadcast S16 (BitVec.ofNat 32 n))) (broadcast S16 (s n)) (selOver z lanes s n)

/-- The sixteen segments' maxima over a tile's scores. -/
def tileMax (lanes : IVec S16 32) (sT : S512.Idx → Elt F .i32) (lT : S512.Idx → Elt F .f32) : FVec F S16 .f32 :=
  selOver negs lanes (fun b => laneMax (accMax sT lT b 32) 15) 16

/-- The sixteen segments' sums of exponentials over a tile's scores. -/
def tileSum (lanes : IVec S16 32) (sT : S512.Idx → Elt F .i32) (lT : S512.Idx → Elt F .f32) (mv : S16.Idx → Elt F .f32)
    (hs : ∀ j, (sT j).toNat < 16) : FVec F S16 .f32 :=
  selOver zeros lanes (fun b => laneSum (accSum sT lT mv hs b 32) 15) 16

/-- The sixteen segments' counts over a tile's scores. -/
def tileCnt (lanes : IVec S16 32) (sT : S512.Idx → Elt F .i32) : FVec F S16 .f32 :=
  selOver zeros lanes (fun b => laneSum (accCnt sT b 32) 15) 16

/-- What the loop of the maxima carries. -/
def tupMax (sT : S512.Idx → Elt F .i32) (lT : S512.Idx → Elt F .f32) (k : ℕ) : FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 :=
  let m := fun b => accMax sT lT b k
  (m 0, m 1, m 2, m 3, m 4, m 5, m 6, m 7, m 8, m 9, m 10, m 11, m 12, m 13, m 14, m 15)

/-- What the loop of the sums and the counts carries. -/
def tupSum (sT : S512.Idx → Elt F .i32) (lT : S512.Idx → Elt F .f32) (mv : S16.Idx → Elt F .f32) (hs : ∀ j, (sT j).toNat < 16) (k : ℕ) :
    FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 :=
  let s := fun b => accSum sT lT mv hs b k
  let c := fun b => accCnt sT b k
  (s 0, s 1, s 2, s 3, s 4, s 5, s 6, s 7, s 8, s 9, s 10, s 11, s 12, s 13, s 14, s 15, c 0, c 1, c 2, c 3, c 4, c 5, c 6, c 7, c 8, c 9, c 10, c 11, c 12, c 13, c 14, c 15)

/-! ## The programs -/

variable {d : Dev nD} {L : grid0.Coords}
variable (arg2 : Memref sig .scVector .hbm S2048 .f32) (harg2 : arg2.IsWhole) (arg3 : Memref sig .scVector .hbm S16384x128 .f32) (harg3 : arg3.IsWhole) (arg4 : Memref sig .scVector .hbm S16384 .i32) (harg4 : arg4.IsWhole) (arg5 : Memref sig .scVector .hbm S16384 .f32) (harg5 : arg5.IsWhole) (arg6 : Memref sig .scVector .hbm S32x16 .f32) (harg6 : arg6.IsWhole) (arg7 : Memref sig .scVector .hbm S32x16 .f32) (harg7 : arg7.IsWhole) (arg8 : Memref sig .scVector .hbm S32x16 .f32) (harg8 : arg8.IsWhole) (arg9 : Memref sig .scVector .vmem S2048 .f32) (harg9 : arg9.IsWhole) (arg10 : Memref sig .scVector .vmem S512x128 .f32) (harg10 : arg10.IsWhole) (arg11 : Memref sig .scVector .vmem S512 .i32) (harg11 : arg11.IsWhole) (arg12 : Memref sig .scVector .vmem S512 .f32) (harg12 : arg12.IsWhole) (arg13 : Memref sig .scVector .vmem S16 .f32) (harg13 : arg13.IsWhole) (arg14 : Memref sig .scVector .vmem S16 .f32) (harg14 : arg14.IsWhole) (arg15 : Memref sig .scVector .vmem S16 .f32) (harg15 : arg15.IsWhole) (arg16 : DmaSems sig S_) (arg17 : DmaSems sig S_) (arg18 : DmaSems sig S_) (arg19 : DmaSems sig S_) (v2551_r0 : DmaSems sig S_) (v2551_r1 : DmaSems sig S_) (v2551_r2 : DmaSems sig S_) (v2551_r3 : DmaSems sig S_) (v2551_r4 : DmaSems sig S_) (v2551_r5 : DmaSems sig S_)
variable {H : sProp (MM F)} {sT : S512.Idx → Elt F .i32} {lT : S512.Idx → Elt F .f32} {mv : S16.Idx → Elt F .f32}

/-- A trip of the loop of the maxima. -/
theorem reads_t2 (sL : LSrc d L H arg12 lT) (sS : LSrc d L H arg11 sT) {v23 : IVec S16 32} {v45 v46 v47 v48 v49 : FVec F S16 .f32}
    (k : Fin k0_t2_loop.trips) :
    Reads d L H (k0_t2_body L arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v2551_r0 v2551_r1 v2551_r2 v2551_r3 v2551_r4 v2551_r5 v23 v45 v46 v47 v48 v49 k (tupMax sT lT k.val)) (tupMax sT lT (k.val + 1)) := by
  apply Reads.of_eq
  · delta k0_t2_body tupMax
    repeat' first
      | (with_reducible apply LSrc.readB sL)
      | (with_reducible apply LSrc.readB sS)
      | (with_reducible exact Reads.pure' _)
      | ((with_reducible apply Reads.bind)
         delta k0_part58 k0_part59)
  · rfl

/-- A trip of the loop of the sums and the counts. -/
theorem reads_t3 (sL : LSrc d L H arg12 lT) (sS : LSrc d L H arg11 sT) (sM : Src d L H arg13 mv fun _ => True)
    (hs : ∀ j, (sT j).toNat < 16) {v23 : IVec S16 32} {v881 v882 v883 v884 v885 v886 v887 v888 v889 v890 v891 v892 v893 v894 v895 v896 v897 : FVec F S16 .f32} {z : F .f32}
    (k : Fin k0_t3_loop.trips) :
    Reads d L H (k0_t3_body L arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v2551_r0 v2551_r1 v2551_r2 v2551_r3 v2551_r4 v2551_r5 v23 v881 v882 v883 v884 v885 v886 v887 v888 v889 v890 v891 v892 v893 v894 v895 v896 v897 z k (tupSum sT lT mv hs k.val)) (tupSum sT lT mv hs (k.val + 1)) := by
  apply Reads.of_eq
  · delta k0_t3_body tupSum
    repeat' first
      | ((with_reducible apply Reads.assumeB); on_goal 2 => exact fun a x => match a with | 0 => hs _)
      | ((with_reducible apply Src.readB sM); exact fun _ => trivial)
      | (with_reducible apply LSrc.readB sL)
      | (with_reducible apply LSrc.readB sS)
      | (with_reducible exact Reads.pure' _)
      | ((with_reducible apply Reads.bind)
         delta k0_part60 k0_part61 k0_part62 k0_part63)
  · rfl

theorem reads_loop2 (sL : LSrc d L H arg12 lT) (sS : LSrc d L H arg11 sT) {v23 : IVec S16 32} {v45 v46 v47 v48 v49 : FVec F S16 .f32}
    {init : FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32} (h0 : init = tupMax sT lT 0) :
    Reads d L H (Scf.Loop.for k0_t2_loop k0_t2_ok init (k0_t2_body L arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v2551_r0 v2551_r1 v2551_r2 v2551_r3 v2551_r4 v2551_r5 v23 v45 v46 v47 v48 v49)) (tupMax sT lT 32) :=
  Reads.loop (tupMax sT lT) h0 fun k => reads_t2 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v2551_r0 v2551_r1 v2551_r2 v2551_r3 v2551_r4 v2551_r5 sL sS k

theorem reads_loop3 (sL : LSrc d L H arg12 lT) (sS : LSrc d L H arg11 sT) (sM : Src d L H arg13 mv fun _ => True)
    (hs : ∀ j, (sT j).toNat < 16) {v23 : IVec S16 32} {v881 v882 v883 v884 v885 v886 v887 v888 v889 v890 v891 v892 v893 v894 v895 v896 v897 : FVec F S16 .f32} {z : F .f32}
    {init : FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32} (h0 : init = tupSum sT lT mv hs 0) :
    Reads d L H (Scf.Loop.for k0_t3_loop k0_t3_ok init (k0_t3_body L arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v2551_r0 v2551_r1 v2551_r2 v2551_r3 v2551_r4 v2551_r5 v23 v881 v882 v883 v884 v885 v886 v887 v888 v889 v890 v891 v892 v893 v894 v895 v896 v897 z)) (tupSum sT lT mv hs 32) :=
  Reads.loop (tupSum sT lT mv hs) h0 fun k => reads_t3 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v2551_r0 v2551_r1 v2551_r2 v2551_r3 v2551_r4 v2551_r5 sL sS sM hs k

/-- The maxima: the loop and the first lanes' reduction. -/
theorem reads_max (sL : LSrc d L H arg12 lT) (sS : LSrc d L H arg11 sT) {v23 : IVec S16 32} :
    Reads d L H (k0_part66 L arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v2551_r0 v2551_r1 v2551_r2 v2551_r3 v2551_r4 v2551_r5 v23 k0_pay413 k0_pay414 k0_pay415 k0_pay416 k0_pay417)
      ⟨accMax sT lT 0 32, accMax sT lT 1 32, accMax sT lT 2 32, accMax sT lT 3 32, accMax sT lT 4 32, accMax sT lT 5 32, accMax sT lT 6 32, accMax sT lT 7 32, accMax sT lT 8 32, accMax sT lT 9 32, accMax sT lT 10 32, accMax sT lT 11 32, accMax sT lT 12 32, accMax sT lT 13 32, accMax sT lT 14 32, accMax sT lT 15 32, negs, cmpi .eq v23 (broadcast S16 0#32), laneMax (accMax sT lT 0 32) 8,
        extractStridedSlice S1 ![9] (accMax sT lT 0 32) slices_S16_o9_S1⟩ := by
  apply Reads.of_eq
  · delta k0_part66
    apply Reads.bind (reads_loop2 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v2551_r0 v2551_r1 v2551_r2 v2551_r3 v2551_r4 v2551_r5 sL sS (v23 := v23) (v45 := k0_pay413) (v46 := k0_pay414) (v47 := k0_pay415) (v48 := k0_pay416) (v49 := k0_pay417) rfl)
    delta tupMax
    with_reducible exact Reads.pure' _
  · rfl

/-- The sums and the counts: the loop and the first lanes' reduction. -/
theorem reads_sum (sL : LSrc d L H arg12 lT) (sS : LSrc d L H arg11 sT) (sM : Src d L H arg13 mv fun _ => True)
    (hs : ∀ j, (sT j).toNat < 16) {v23 : IVec S16 32} :
    Reads d L H (k0_part81 L arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v2551_r0 v2551_r1 v2551_r2 v2551_r3 v2551_r4 v2551_r5 v23 k0_pay481 k0_pay482 k0_pay483 k0_pay484 k0_pay485 k0_pay486 k0_pay487 k0_pay488 k0_pay489 k0_pay490 k0_pay491 k0_pay492 k0_pay493 k0_pay494 k0_pay495 k0_pay496 k0_pay497 (Scalar.ofBits .f32 0x00000000#32))
      ⟨accSum sT lT mv hs 0 32, accSum sT lT mv hs 1 32, accSum sT lT mv hs 2 32, accSum sT lT mv hs 3 32, accSum sT lT mv hs 4 32, accSum sT lT mv hs 5 32, accSum sT lT mv hs 6 32, accSum sT lT mv hs 7 32, accSum sT lT mv hs 8 32, accSum sT lT mv hs 9 32, accSum sT lT mv hs 10 32, accSum sT lT mv hs 11 32, accSum sT lT mv hs 12 32, accSum sT lT mv hs 13 32, accSum sT lT mv hs 14 32, accSum sT lT mv hs 15 32, accCnt sT 0 32, accCnt sT 1 32, accCnt sT 2 32, accCnt sT 3 32, accCnt sT 4 32, accCnt sT 5 32, accCnt sT 6 32, accCnt sT 7 32, accCnt sT 8 32, accCnt sT 9 32, accCnt sT 10 32, accCnt sT 11 32, accCnt sT 12 32, accCnt sT 13 32, accCnt sT 14 32, accCnt sT 15 32, zeros, zeros,
        cmpi .eq v23 (broadcast S16 0#32), laneSum (accSum sT lT mv hs 0 32) 5,
        extractStridedSlice S1 ![6] (accSum sT lT mv hs 0 32) slices_S16_o6_S1⟩ := by
  apply Reads.of_eq
  · delta k0_part81
    apply Reads.bind (reads_loop3 arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v2551_r0 v2551_r1 v2551_r2 v2551_r3 v2551_r4 v2551_r5 sL sS sM hs (v23 := v23) (z := Scalar.ofBits .f32 0x00000000#32) (v881 := k0_pay481) (v882 := k0_pay482) (v883 := k0_pay483) (v884 := k0_pay484) (v885 := k0_pay485) (v886 := k0_pay486) (v887 := k0_pay487) (v888 := k0_pay488) (v889 := k0_pay489) (v890 := k0_pay490) (v891 := k0_pay491) (v892 := k0_pay492) (v893 := k0_pay493) (v894 := k0_pay494) (v895 := k0_pay495) (v896 := k0_pay496) (v897 := k0_pay497) rfl)
    delta tupSum
    with_reducible exact Reads.pure' _
  · rfl

end Cert.Proof
-- ==== Proof.Chunks.lean ====
module
public import proofs.«01_k».proof.Proof.Tail
@[expose] public section

/-! # The candidates' four copies

A tile starts four copies of 128 rows of the candidates into its scratch and waits for each before the scoring loop comes to
its rows. The scratch is in write mode meanwhile: a half share of each part rides with its copy, the other half answers the
loop's loads, and a wait adds its part to the rows known to have landed. -/

noncomputable section
namespace Cert.Proof
open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open Idealize.SL.BI.BIBase Idealize.SL.BI.Laws Idealize.SL.ProofMode Idealize.SL.Sem
open Idealize.ShloMosaic.Transfers

variable {F : FTy → Type} [FloatOps F]

local notation "𝕄" => MM F
local notation "EC" => countersEmb (nD := nD) (τ := τ) (sig := sig) (Ix := HIx 1) (Val := Elt F) (Name := ℕ) (U := UU F) (Lvl := ℕ)

/-! ## The parts -/

/-- Part `n`'s elements: rows `128 n … 128 n + 127`. -/
def chunk (n : ℕ) : Finset S512x128.Idx := Finset.univ.filter fun j => (j 0).val / 128 = n

theorem mem_chunk {n : ℕ} {j : S512x128.Idx} : j ∈ chunk n ↔ (j 0).val / 128 = n := by
  simp [chunk]

/-- The rows known to have landed at trip `t` after the waits for the parts up to `n`. -/
def known (t n : ℕ) : Finset S512x128.Idx :=
  Finset.univ.filter fun j => (j 0).val / 128 = 0 ∨ 8 * ((j 0).val / 128) < t ∨ ((j 0).val / 128 ≤ n ∧ 8 * ((j 0).val / 128) < t + 1)

theorem mem_known {t n : ℕ} {j : S512x128.Idx} : j ∈ known t n ↔
    (j 0).val / 128 = 0 ∨ 8 * ((j 0).val / 128) < t ∨ ((j 0).val / 128 ≤ n ∧ 8 * ((j 0).val / 128) < t + 1) := by
  simp [known]

theorem known_next (t : ℕ) : known t 3 = known (t + 1) 0 := by
  ext j
  have h : (j 0).val < 512 := (j 0).isLt
  simp only [mem_known]; omega

theorem known_start : chunk 0 = known 0 0 := by
  ext j
  simp only [mem_known, mem_chunk]; omega

theorem known_wait {t n : ℕ} (h : t = 8 * (n + 1)) : known t n ∪ chunk (n + 1) = known t (n + 1) := by
  ext j
  simp only [mem_known, mem_chunk, Finset.mem_union]; omega

theorem known_skip {t n : ℕ} (h : t ≠ 8 * (n + 1)) : known t n = known t (n + 1) := by
  ext j
  simp only [mem_known]; omega

theorem known_group {t : ℕ} {j : S512x128.Idx} (h : InGroup t j) : j ∈ known t 3 := by
  have h' : (j 0).val < 512 := (j 0).isLt
  unfold InGroup at h
  simp only [mem_known]; omega

/-- The scratch's slice of the rows from `o`. -/
abbrev chB (o : ℕ) (inb : ∀ a, (![o, 0] : Fin 2 → ℕ) a + S128x128.size a ≤ S512x128.size a) : Memref sig .scVector .vmem S128x128 .f32 :=
  cB.slice (Rect.unit (s := S512x128) ![o, 0] S128x128.size inb) (fun _ => rfl)

theorem set_chB {o n : ℕ} (inb : ∀ a, (![o, 0] : Fin 2 → ℕ) a + S128x128.size a ≤ S512x128.size a) (ho : o = 128 * n) :
    (chB o inb).view.set = chunk n := by
  subst ho
  show (cB.view.slice _).set = _
  rw [View.set_slice_whole]
  ext j
  rw [Rect.mem_set_unit, mem_chunk]
  have h1 : (j 1).val < 128 := (j 1).isLt
  constructor
  · intro h
    have h0 : 128 * n ≤ (j 0).val ∧ (j 0).val < 128 * n + 128 := h 0
    omega
  · intro h a
    match a with
    | 0 => show 128 * n ≤ (j 0).val ∧ (j 0).val < 128 * n + 128; omega
    | 1 => show 0 ≤ (j 1).val ∧ (j 1).val < 0 + 128; omega

/-! ## What lands -/

/-- The first of tile `L`'s rows. -/
def base (L : grid0.Coords) : ℕ := 1024 * (L 1).val + 512 * (L 0).val

theorem base_le (L : grid0.Coords) : base L + 512 ≤ 16384 := by
  have h0 : (L 0).val < 2 := (L 0).isLt
  have h1 : (L 1).val < 16 := (L 1).isLt
  unfold base; omega

/-- Element `(r, c)` of the candidates. -/
def ixc (r c : ℕ) : S16384x128.Idx := fun a => match a with
  | 0 => ⟨r % 16384, Nat.mod_lt _ (by decide)⟩
  | 1 => ⟨c % 128, Nat.mod_lt _ (by decide)⟩

/-- Tile `L`'s rows of the candidates. -/
def landOf (L : grid0.Coords) (cand : S16384x128.Idx → Elt F .f32) (j : S512x128.Idx) : Elt F .f32 := cand (ixc (base L + (j 0).val) (j 1).val)

variable (d : Dev nD) (L : grid0.Coords) (ιwm : ℕ)

/-- Write mode on elements `I` of the candidates' scratch: it held `f0`, it will hold `land`. -/
abbrev WB (I : Finset S512x128.Idx) (q : PosShare TreeShare) (f0 land : S512x128.Idx → Elt F .f32) (W : Finset S512x128.Idx) : sProp 𝕄 :=
  willBeTo wmE (cB.view.loc (thr d L)) I q f0 (fun i => some (land i)) W

variable {d L ιwm} {f0 land : S512x128.Idx → Elt F .f32}

theorem WB_cut {I S : Finset S512x128.Idx} {q : PosShare TreeShare} {W : Finset S512x128.Idx} (h : I ⊆ S) :
    (WB d L S q f0 land W : sProp 𝕄) ⊣⊢ iprop(WB d L I q f0 land W ∗ WB d L (S \ I) q f0 land W) :=
  BI.Region.held_split_subset h

theorem chunk1_sub : chunk 1 ⊆ Finset.univ \ chunk 0 := fun j h => Finset.mem_sdiff.2 ⟨Finset.mem_univ _, fun h' => by rw [mem_chunk] at h h'; omega⟩

theorem chunk2_sub : chunk 2 ⊆ (Finset.univ \ chunk 0) \ chunk 1 :=
  fun j h => Finset.mem_sdiff.2 ⟨Finset.mem_sdiff.2 ⟨Finset.mem_univ _, fun h' => by rw [mem_chunk] at h h'; omega⟩, fun h' => by rw [mem_chunk] at h h'; omega⟩

theorem chunk3_eq : ((Finset.univ \ chunk 0) \ chunk 1) \ chunk 2 = chunk 3 := by
  ext j
  have h : (j 0).val < 512 := (j 0).isLt
  rw [Finset.mem_sdiff, Finset.mem_sdiff, Finset.mem_sdiff, mem_chunk, mem_chunk, mem_chunk, mem_chunk]
  have := Finset.mem_univ j
  constructor
  · rintro ⟨⟨⟨-, h0⟩, h1⟩, h2⟩
    omega
  · intro h3
    exact ⟨⟨⟨this, by omega⟩, by omega⟩, by omega⟩

/-- A half share of the whole scratch is its four parts'. -/
theorem WB_parts {q : PosShare TreeShare} {W : Finset S512x128.Idx} :
    (WB d L Finset.univ q f0 land W : sProp 𝕄) ⊣⊢ iprop(WB d L (chunk 0) q f0 land W ∗ WB d L (chunk 1) q f0 land W
      ∗ WB d L (chunk 2) q f0 land W ∗ WB d L (chunk 3) q f0 land W) := by
  constructor
  · iintro H
    ihave H := (WB_cut (Finset.subset_univ (chunk 0))).1 $$ H
    icases H with ⟨H0, H⟩
    isplitl [H0]; · iexact H0
    ihave H := (WB_cut chunk1_sub).1 $$ H
    icases H with ⟨H1, H⟩
    isplitl [H1]; · iexact H1
    have c := (WB_cut (d := d) (L := L) (f0 := f0) (land := land) (q := q) (W := W) chunk2_sub).1
    rw [chunk3_eq] at c
    iapply c $$ H
  · iintro ⟨H0, H1, H⟩
    iapply (WB_cut (Finset.subset_univ (chunk 0))).2
    isplitl [H0]; · iexact H0
    iapply (WB_cut chunk1_sub).2
    isplitl [H1]; · iexact H1
    iapply (WB_cut chunk2_sub).2
    irw [chunk3_eq]
    iexact H

/-- The scratch goes into write mode in two halves, one of them in its four parts. -/
theorem WB_start {E : Set ℕ} (hE : ιwm ∈ E) :
    iprop(wmInv wmE ιwm ∗ (cB.view.loc (thr d L) ↦{fullShare} f0))
      ⊢ (|={E}=> iprop(WB d L Finset.univ fullShare.right f0 land ∅ ∗ WB d L (chunk 0) fullShare.left f0 land ∅
          ∗ WB d L (chunk 1) fullShare.left f0 land ∅ ∗ WB d L (chunk 2) fullShare.left f0 land ∅ ∗ WB d L (chunk 3) fullShare.left f0 land ∅) : sProp 𝕄) := by
  refine (pointsTo_castIn (emb := wmE) (ιwm := ιwm) (E := E) (ℓ := cB.view.loc (thr d L)) (I := Finset.univ) (f := f0) (fun i => some (land i)) hE).trans ?_
  refine fupd_mono ?_
  iintro H
  icases H with ⟨Hl, Hr⟩
  isplitl [Hr]; · iexact Hr
  iapply WB_parts.1 $$ Hl

theorem WB_marks {I W W' : Finset S512x128.Idx} {q : PosShare TreeShare} (h : ∀ i ∈ I, i ∈ W ↔ i ∈ W') :
    WB d L I q f0 land W = (WB d L I q f0 land W' : sProp 𝕄) :=
  BI.Region.willBe_congr (fun _ _ => rfl) (fun _ _ => rfl) h

/-- It leaves write mode when every part has landed. -/
theorem WB_end {E : Set ℕ} (hE : ιwm ∈ E) {W : Finset S512x128.Idx} (hW : ∀ j, j ∈ W) :
    iprop(wmInv wmE ιwm ∗ WB d L Finset.univ fullShare.right f0 land W ∗ WB d L (chunk 0) fullShare.left f0 land (chunk 0)
          ∗ WB d L (chunk 1) fullShare.left f0 land (chunk 1) ∗ WB d L (chunk 2) fullShare.left f0 land (chunk 2) ∗ WB d L (chunk 3) fullShare.left f0 land (chunk 3))
      ⊢ (|={E}=> iprop(∃ f, (cB.view.loc (thr d L) ↦{fullShare} f)) : sProp 𝕄) := by
  have e (n : ℕ) : WB d L (chunk n) fullShare.left f0 land (chunk n) = (WB d L (chunk n) fullShare.left f0 land W : sProp 𝕄) :=
    WB_marks fun i hi => ⟨fun _ => hW i, fun _ => hi⟩
  rw [e 0, e 1, e 2, e 3]
  have key : iprop(WB d L Finset.univ fullShare.left f0 land W ∗ WB d L Finset.univ fullShare.right f0 land W)
      ⊢ (WB d L Finset.univ fullShare f0 land W : sProp 𝕄) := by
    iintro ⟨Ha, Hb⟩
    icombine Ha Hb as H
    have e : WB d L Finset.univ fullShare f0 land (W ∪ W) = (WB d L Finset.univ fullShare f0 land W : sProp 𝕄) := by rw [Finset.union_self]
    irw [← e]
    iexact H
  iintro ⟨#Hwm, Hr, Hl⟩
  ihave Hl := WB_parts.2 $$ Hl
  ihave H := key $$ [Hl Hr]
  · isplitl [Hl] <;> iassumption
  imod (willBeTo_castOut (emb := wmE) (ιwm := ιwm) (E := E) (ℓ := cB.view.loc (thr d L)) (I := Finset.univ) (f := f0) (g := fun i => some (land i)) (W := W) hE) $$ [H] with ⟨%f, -, H⟩
  · isplitr [H]
    · iexact Hwm
    · iexact H
  imodintro
  iexists f
  iexact H

/-- What a wait teaches: its part has landed. -/
theorem WB_learn {I W : Finset S512x128.Idx} :
    iprop(WB d L I fullShare.left f0 land I ∗ WB d L Finset.univ fullShare.right f0 land W)
      ⊢ (iprop(WB d L I fullShare.left f0 land I ∗ WB d L Finset.univ fullShare.right f0 land (W ∪ I)) : sProp 𝕄) := by
  have e0 : WB d L I fullShare.left f0 land (I ∪ W) = (WB d L I fullShare.left f0 land I : sProp 𝕄) :=
    WB_marks fun i hi => ⟨fun _ => hi, fun _ => Finset.mem_union_left _ hi⟩
  have e1 : WB d L I fullShare.right f0 land (I ∪ W) = (WB d L I fullShare.right f0 land (W ∪ I) : sProp 𝕄) := by
    rw [Finset.union_comm]
  have e2 : WB d L (Finset.univ \ I) fullShare.right f0 land W = (WB d L (Finset.univ \ I) fullShare.right f0 land (W ∪ I) : sProp 𝕄) :=
    WB_marks fun i hi => by
      simp only [Finset.mem_sdiff] at hi
      simp [hi.2]
  have key : iprop(WB d L I fullShare.left f0 land I ∗ WB d L I fullShare.right f0 land W)
      ⊢ (iprop(WB d L I fullShare.left f0 land (I ∪ W) ∗ WB d L I fullShare.right f0 land (I ∪ W)) : sProp 𝕄) := by
    iintro ⟨Ha, Hb⟩
    icombine Ha Hb as H
    icases H with ⟨H1, H⟩
    isplitl [H1] <;> iassumption
  rw [e0, e1] at key
  iintro ⟨Ha, Hb⟩
  ihave Hb := (WB_cut (Finset.subset_univ I)).1 $$ Hb
  icases Hb with ⟨Hb, Hc⟩
  ihave H := key $$ [Ha Hb]
  · isplitl [Ha] <;> iassumption
  icases H with ⟨Ha, Hb⟩
  isplitl [Ha]; · iexact Ha
  iapply (WB_cut (Finset.subset_univ I)).2
  isplitl [Hb]; · iexact Hb
  irw [← e2]
  iexact Hc

/-! ## A part's copy -/

/-- What each of the four copies moves. -/
def partBytes : ℕ := (chB 0 inb_S512x128_S128x128_0_0).view.dmaCredit

theorem partBytes_pos : 0 < partBytes := View.dmaCredit_pos _ (by decide)

variable (d L) in
/-- Part `n`'s copy under way on semaphore `sem`: its wait delivers the part, written, and something the tile no longer needs. -/
def Fly (sem : DmaSems sig S_) (n : ℕ) (f0 land : S512x128.Idx → Elt F .f32) : sProp 𝕄 :=
  iprop(∃ R : sProp 𝕄, Flight EC (thr d L) (.dma sem.sem) (default : HIx 1) partBytes (iprop(WB d L (chunk n) fullShare.left f0 land (chunk n) ∗ R)))

theorem steps_enq {sem : DmaSems sig S_} {n o : ℕ} {cand : S16384x128.Idx → Elt F .f32} {q : PosShare TreeShare} {off : Fin 2 → ℕ}
    (ho : o = 128 * n) (hn : n < 4) (hoff : off = ![base L + o, 0])
    (inb : ∀ a, (![o, 0] : Fin 2 → ℕ) a + S128x128.size a ≤ S512x128.size a) (inb' : ∀ a, off a + S128x128.size a ≤ S16384x128.size a) {h1 h2 h3} :
    Steps (F := F) d L iprop(wmInv wmE ιwm ∗ semVal (thr d L, .dma sem.sem) 0 ∗ (candV.view.loc (thr d L) ↦{q} cand)
        ∗ WB d L (chunk n) fullShare.left f0 (landOf L cand) ∅)
      (Prog.lift (.enqueueDma (candV.slice (Rect.unit (s := S16384x128) off S128x128.size inb') (fun _ => rfl)) (.here (chB o inb)) (.dma sem.sem) h1 h2 h3)) ⟨⟩
      (Fly d L sem n f0 (landOf L cand)) := by
  intro Q
  have hset := set_chB inb ho
  have hadm : (chB o inb).view.Admitted (Elt F) (fun i => some (landOf L cand i))
      ((candV.slice (Rect.unit (s := S16384x128) off S128x128.size inb') (fun _ => rfl)).view.read (Elt F) cand) Finset.univ := by
    intro x _ u hu
    have hu' : landOf L cand ((Rect.unit (s := S512x128) ![o, 0] S128x128.size inb).emb x) = u := Option.some.inj hu
    rw [← hu']
    show cand _ = cand _
    congr 1
    have hb := base_le L
    have h0 : (x 0).val < 128 := (x 0).isLt
    have h1 : (x 1).val < 128 := (x 1).isLt
    funext a
    subst hoff
    match a with
    | 0 =>
      apply Fin.ext
      show base L + o + 1 * (x 0).val = (base L + (o + 1 * (x 0).val)) % 16384
      omega
    | 1 =>
      apply Fin.ext
      show 0 + 1 * (x 1).val = (0 + 1 * (x 1).val) % 128
      omega
  iintro ⟨⟨#Hwm, Hsem, Hc, Hw⟩, HQ⟩
  ihave Hc' := (pointsTo_split_subset (Finset.subset_univ ((candV.slice (Rect.unit (s := S16384x128) off S128x128.size inb') (fun _ => rfl)).view.set))).1 $$ Hc
  icases Hc' with ⟨Hc, -⟩
  imod (flight_alloc EC (g := (thr d L, .dma sem.sem)) (N := partBytes) partBytes_pos
    (iprop(WB d L (chunk n) fullShare.left f0 (landOf L cand) (chunk n) ∗ (candV.view.loc (thr d L) ↦[(candV.slice (Rect.unit (s := S16384x128) off S128x128.size inb') (fun _ => rfl)).view.set]{q} cand)))) $$ Hsem with ⟨%γ, %δ, %κ, #Hinv, Hγ, Hδ⟩
  ihave Hcu := flight_creditUpdate EC $$ [Hγ]
  · isplitr [Hγ]
    · iexact Hinv
    · iexact Hγ
  have hen := wp_enqueueDma_willBeTo (defs := defs₀ (F := F)) (𝒱 := 𝒱₀) (emb := wmE) (ιwm := ιwm) (thr d L) none Set.univ
    (src := candV.slice (Rect.unit (s := S16384x128) off S128x128.size inb') (fun _ => rfl)) (dst := chB o inb) (sem := .dma sem.sem)
    (hsrc := h1) (hdst := h2) (hsem := h3) (k := Prog.ret) (q := q) (fs := cand) (qd := fullShare.left) (fd := f0)
    (g := fun i => some (landOf L cand i)) (W := ∅) (Q := Q) (default : HIx 1) partBytes rfl hadm
  rw [hset, Finset.empty_union] at hen
  iapply hen $$ [Hc Hw] [Hcu]
  · isplitl [Hc]; · iexact Hc
    isplitr [Hw]
    · iexact Hwm
    · iexact Hw
  · iexact Hcu
  iintro Hcred
  irw [wp_ret]
  imodintro
  iapply HQ
  unfold Fly
  iexists _
  iapply (flight_intro EC) $$ [Hδ Hcred]
  isplitr [Hδ Hcred]; · iexact Hinv
  isplitl [Hδ] <;> iassumption

theorem steps_wait {sem : DmaSems sig S_} {n o : ℕ} {off : Fin 2 → ℕ} {O : CellTallies nD τ sig (HIx 1)} {W0 : Waits sig (HIx 1)} {W : Finset S512x128.Idx}
    (inb : ∀ a, (![o, 0] : Fin 2 → ℕ) a + S128x128.size a ≤ S512x128.size a) (inb' : ∀ a, off a + S128x128.size a ≤ S16384x128.size a) {h1 h2} :
    Steps (F := F) d L iprop(MayWaits (thr d L) (default : HIx 1) O ∗ Fly d L sem n f0 land ∗ WB d L Finset.univ fullShare.right f0 land W
        ∗ (∃ W', ⌜∀ p ∈ W', p ∈ W0 ∨ p.2 = none⌝ ∗ owes (thr d L) O W'))
      (Prog.lift (.waitDma2 sem.sem (candV.slice (Rect.unit (s := S16384x128) off S128x128.size inb') (fun _ => rfl)) (chB o inb) h1 h2)) ⟨⟩
      iprop((semVal (thr d L, .dma sem.sem) 0 ∗ WB d L (chunk n) fullShare.left f0 land (chunk n)) ∗ WB d L Finset.univ fullShare.right f0 land (W ∪ chunk n)
        ∗ (∃ W', ⌜∀ p ∈ W', p ∈ W0 ∨ p.2 = none⌝ ∗ owes (thr d L) O W')) := by
  intro Q
  unfold Fly
  iintro ⟨⟨#Hmw, ⟨%R, Hf⟩, Hw, ⟨%W', %hW', HO⟩⟩, HQ⟩
  ihave Hm := (MayWaits.elim (.dma sem.sem)) $$ Hmw
  iapply (wp_waitLocalO EC 𝒱₀ (thr d L) none (default : HIx 1) rfl) $$ [Hf HO Hm]
  · isplitl [Hf]; · iexact Hf
    isplitl [HO] <;> iassumption
  iintro ⟨⟨Hl, -⟩, Hsem, HO⟩
  irw [wp_ret]
  imodintro
  iapply HQ
  ihave Hw := (WB_learn (I := chunk n)) $$ [Hl Hw]
  · isplitl [Hl] <;> iassumption
  icases Hw with ⟨Hl, Hw⟩
  isplitl [Hsem Hl]
  · isplitl [Hsem] <;> iassumption
  isplitl [Hw]; · iexact Hw
  iexists _
  isplitr [HO]
  on_goal 2 => iexact HO
  ipureintro
  intro p hp
  rcases Finset.mem_insert.1 hp with rfl | hp
  · exact .inr rfl
  · exact hW' p hp

end Cert.Proof
-- ==== Proof.Boundary.lean ====
module
public import proofs.«01_k».proof.Proof.Reads
@[expose] public section

/-! # A group of rows of several segments

The sixteen lanes hold sixteen rows, and each lane sums its row's products in four accumulators by `k % 4`: `k0_part57` reads and
sums, and `bacc` is what the accumulators come to. -/

noncomputable section
namespace Cert.Proof
open Cert.KernelIdeal Cert.KernelIdeal.Gen
open Idealize.ShloMosaic
open Idealize.SL Idealize.SL.RA Idealize.SL.BI
open Idealize.SL.BI.BIBase Idealize.SL.BI.Laws Idealize.SL.ProofMode Idealize.SL.Sem

variable {F : FTy → Type} [FloatOps F]
variable {fg : S2048.Idx → Elt F .f32} {land : S512x128.Idx → Elt F .f32}

/-- Sixteen products of column `k`: row `row x` of the candidates with the user vector that starts at `user x`. -/
def bterm (fg : S2048.Idx → Elt F .f32) (land : S512x128.Idx → Elt F .f32) {row user : IVec S16 32} (hr : ∀ x, (row x).toNat < 512)
    (hv : ∀ x, (user x).toNat ≤ 1920) (k : Fin 128) : FVec F S16 .f32 :=
  mulf (loadIdx land ![row, broadcast S16 (BitVec.ofNat 32 k.val)] (row_lt hr (by rw [BitVec.toNat_ofNat]; omega)))
    (loadIdx fg ![addi user (broadcast S16 (BitVec.ofNat 32 k.val))] (addi_lt hv (by rw [BitVec.toNat_ofNat]; omega)))

/-- An accumulator after its first product and `n` more, of the columns `c`, `c + 4`, `c + 8`, …. -/
def bacc (fg : S2048.Idx → Elt F .f32) (land : S512x128.Idx → Elt F .f32) {row user : IVec S16 32} (hr : ∀ x, (row x).toNat < 512)
    (hv : ∀ x, (user x).toNat ≤ 1920) (c : ℕ) : ℕ → FVec F S16 .f32
  | 0 => addf (broadcast S16 (Scalar.ofBits .f32 0x00000000#32)) (bterm fg land hr hv (Fin.ofNat 128 c))
  | n + 1 => addf (bacc fg land hr hv c n) (bterm fg land hr hv (Fin.ofNat 128 (c + 4 * (n + 1))))

variable {d : Dev nD} {L : grid0.Coords}
variable (arg2 : Memref sig .scVector .hbm S2048 .f32) (harg2 : arg2.IsWhole) (arg3 : Memref sig .scVector .hbm S16384x128 .f32) (harg3 : arg3.IsWhole) (arg4 : Memref sig .scVector .hbm S16384 .i32) (harg4 : arg4.IsWhole) (arg5 : Memref sig .scVector .hbm S16384 .f32) (harg5 : arg5.IsWhole) (arg6 : Memref sig .scVector .hbm S32x16 .f32) (harg6 : arg6.IsWhole) (arg7 : Memref sig .scVector .hbm S32x16 .f32) (harg7 : arg7.IsWhole) (arg8 : Memref sig .scVector .hbm S32x16 .f32) (harg8 : arg8.IsWhole) (arg9 : Memref sig .scVector .vmem S2048 .f32) (harg9 : arg9.IsWhole) (arg10 : Memref sig .scVector .vmem S512x128 .f32) (harg10 : arg10.IsWhole) (arg11 : Memref sig .scVector .vmem S512 .i32) (harg11 : arg11.IsWhole) (arg12 : Memref sig .scVector .vmem S512 .f32) (harg12 : arg12.IsWhole) (arg13 : Memref sig .scVector .vmem S16 .f32) (harg13 : arg13.IsWhole) (arg14 : Memref sig .scVector .vmem S16 .f32) (harg14 : arg14.IsWhole) (arg15 : Memref sig .scVector .vmem S16 .f32) (harg15 : arg15.IsWhole) (arg16 : DmaSems sig S_) (arg17 : DmaSems sig S_) (arg18 : DmaSems sig S_) (arg19 : DmaSems sig S_) (v2551_r0 : DmaSems sig S_) (v2551_r1 : DmaSems sig S_) (v2551_r2 : DmaSems sig S_) (v2551_r3 : DmaSems sig S_) (v2551_r4 : DmaSems sig S_) (v2551_r5 : DmaSems sig S_)
variable {H : sProp (MM F)} {okW : S512x128.Idx → Prop}

set_option maxHeartbeats 4000000 in
/-- The products of a group of several segments, summed in four accumulators; the last one still lacks its last product. -/
theorem reads_boundary (sG : Src d L H arg9 fg fun _ => True) (sC : Src d L H arg10 land okW) {v23 v2564 : IVec S16 32}
    {v2560 lo hi : BitVec 32} (h4 : ¬(k0_cond4 lo hi = 1#1)) (hv : ∀ x, (v2564 x).toNat ≤ 1920)
    (hr : ∀ x, (addi v23 (broadcast S16 v2560) x).toNat < 512)
    (hW : ∀ (x : S16.Idx) (j : S512x128.Idx), (j 0).val = (addi v23 (broadcast S16 v2560) x).toNat → okW j) :
    Reads d L H (k0_part57 (F := F) L arg2 harg2 arg3 harg3 arg4 harg4 arg5 harg5 arg6 harg6 arg7 harg7 arg8 harg8 arg9 harg9 arg10 harg10 arg11 harg11 arg12 harg12 arg13 harg13
    arg14 harg14 arg15 harg15 arg16 arg17 arg18 arg19 v2551_r0 v2551_r1 v2551_r2 v2551_r3 v2551_r4 v2551_r5
      v23 v2560 v2564 lo hi h4)
      ⟨bacc fg land hr hv 3 30, bacc fg land hr hv 0 31, bacc fg land hr hv 1 31, bacc fg land hr hv 2 31,
        bterm fg land hr hv (Fin.ofNat 128 127)⟩ := by
  apply Reads.of_eq
  · delta k0_part57
    repeat' first
      | ((with_reducible apply Reads.assumeB); on_goal 2 => (first
          | (intro _; (with_reducible apply row_lt hr); decide)
          | (intro _; (with_reducible apply addi_lt hv); decide)))
      | ((with_reducible apply Src.readB sG); exact fun _ => trivial)
      | ((with_reducible apply Src.readB sC); exact (fun x => hW x _ rfl))
      | (with_reducible exact Reads.pure' _)
      | ((with_reducible apply Reads.bind)
         delta k0_part34 k0_part35 k0_part36 k0_part37 k0_part38 k0_part39 k0_part40 k0_part41 k0_part42 k0_part43 k0_part44 k0_part45 k0_part46 k0_part47
          k0_part48 k0_part49 k0_part50 k0_part51 k0_part52 k0_part53 k0_part54 k0_part55 k0_part56)
  · rfl
end Cert.Proof
-- ==== Proof.Group.lean ====
module
public import proofs.«01_k».proof.Proof.Boundary
public import proofs.«01_k».proof.Proof.Tail
@[expose] public section

/-! # A group of the scoring loop

Sixteen rows are scored by one of two programs, by whether the sixteen segments are one. -/

noncomputable section
namespace Cert.Proof
open Cert.KernelIdeal Cert.KernelIdeal.Gen
open Idealize.ShloMosaic
open Idealize.SL Idealize.SL.RA Idealize.SL.BI
open Idealize.SL.BI.BIBase Idealize.SL.BI.Laws Idealize.SL.ProofMode Idealize.SL.Sem

/-! ## The smallest and the largest of sixteen words -/

theorem minui_toNat (a b : BitVec 32) : (IntOp.minui a b).toNat = min a.toNat b.toNat := by
  unfold IntOp.minui
  split <;> rename_i h <;> simp only [BitVec.ult, decide_eq_true_eq] at h <;> omega

theorem maxui_toNat (a b : BitVec 32) : (IntOp.maxui a b).toNat = max a.toNat b.toNat := by
  unfold IntOp.maxui
  split <;> rename_i h <;> simp only [BitVec.ult, decide_eq_true_eq] at h <;> omega

theorem foldl_min {ι : Type} (v : ι → BitVec 32) (l : List ι) (r : BitVec 32) :
    (l.foldl (fun r k => IntOp.minui r (v k)) r).toNat ≤ r.toNat
      ∧ (∀ k ∈ l, (l.foldl (fun r k => IntOp.minui r (v k)) r).toNat ≤ (v k).toNat)
      ∧ (l.foldl (fun r k => IntOp.minui r (v k)) r = r ∨ ∃ k ∈ l, l.foldl (fun r k => IntOp.minui r (v k)) r = v k) := by
  induction l generalizing r with
  | nil => exact ⟨le_rfl, fun _ h => absurd h List.not_mem_nil, .inl rfl⟩
  | cons a l ih =>
    obtain ⟨h1, h2, h3⟩ := ih (IntOp.minui r (v a))
    have e := minui_toNat r (v a)
    refine ⟨by simp only [List.foldl_cons]; omega, fun k hk => ?_, ?_⟩
    · rcases List.mem_cons.mp hk with rfl | hk
      · simp only [List.foldl_cons]; omega
      · exact h2 k hk
    · rcases h3 with h3 | ⟨k, hk, h3⟩
      · simp only [List.foldl_cons]
        rw [h3]
        unfold IntOp.minui
        split
        · exact .inl rfl
        · exact .inr ⟨a, List.mem_cons_self, rfl⟩
      · exact .inr ⟨k, List.mem_cons_of_mem _ hk, h3⟩

theorem foldl_max {ι : Type} (v : ι → BitVec 32) (l : List ι) (r : BitVec 32) :
    r.toNat ≤ (l.foldl (fun r k => IntOp.maxui r (v k)) r).toNat
      ∧ (∀ k ∈ l, (v k).toNat ≤ (l.foldl (fun r k => IntOp.maxui r (v k)) r).toNat) := by
  induction l generalizing r with
  | nil => exact ⟨le_rfl, fun _ h => absurd h List.not_mem_nil⟩
  | cons a l ih =>
    obtain ⟨h1, h2⟩ := ih (IntOp.maxui r (v a))
    have e := maxui_toNat r (v a)
    refine ⟨by simp only [List.foldl_cons]; omega, fun k hk => ?_⟩
    rcases List.mem_cons.mp hk with rfl | hk
    · simp only [List.foldl_cons]; omega
    · exact h2 k hk

theorem mem_lanes (k : Fin 16) (hk : k.val ≠ 0) : k ∈ (List.finRange 16).filter fun k => decide (0 < k.val ∧ k.val ≤ 15) := by
  rw [List.mem_filter]
  exact ⟨List.mem_finRange k, decide_eq_true ⟨Nat.pos_of_ne_zero hk, by omega⟩⟩

/-- The scans' last elements: the least and the greatest word, and the least is one of them. -/
theorem scan_min (v : IVec S16 32) (x : S16.Idx) :
    (extractAt ![15] (scan .min v) inpos_S16_p15).toNat ≤ (v x).toNat ∧ ∃ y, extractAt ![15] (scan .min v) inpos_S16_p15 = v y := by
  obtain ⟨h1, h2, h3⟩ := foldl_min (fun k : Fin 16 => v (Shape.ofLane k))
    ((List.finRange 16).filter fun k => decide (0 < k.val ∧ k.val ≤ 15)) (v (Shape.ofLane (0 : Fin 16)))
  have hx : v x = v (Shape.ofLane (x 0)) := congrArg v (funext fun a => match a with | 0 => rfl)
  refine ⟨?_, ?_⟩
  · rw [hx]
    by_cases h : (x 0).val = 0
    · rw [show (x 0) = (0 : Fin 16) from Fin.ext h]; exact h1
    · exact h2 _ (mem_lanes _ h)
  · rcases h3 with h3 | ⟨k, -, h3⟩
    · exact ⟨_, h3⟩
    · exact ⟨_, h3⟩

theorem scan_max (v : IVec S16 32) (x : S16.Idx) : (v x).toNat ≤ (extractAt ![15] (scan .max v) inpos_S16_p15).toNat := by
  obtain ⟨h1, h2⟩ := foldl_max (fun k : Fin 16 => v (Shape.ofLane k))
    ((List.finRange 16).filter fun k => decide (0 < k.val ∧ k.val ≤ 15)) (v (Shape.ofLane (0 : Fin 16)))
  have hx : v x = v (Shape.ofLane (x 0)) := congrArg v (funext fun a => match a with | 0 => rfl)
  rw [hx]
  by_cases h : (x 0).val = 0
  · rw [show (x 0) = (0 : Fin 16) from Fin.ext h]; exact h1
  · exact h2 _ (mem_lanes _ h)

/-- The first component of each lane's user's vector. -/
def firstOf (sv : IVec S16 32) : IVec S16 32 := muli sv (broadcast S16 128#32)

/-- The least of sixteen users' first components, and the greatest. -/
def loOf (sv : IVec S16 32) : BitVec 32 :=
  extractAt ![15] (xori (scan .min (xori (firstOf sv) (broadcast S16 2147483648#32))) (broadcast S16 2147483648#32)) inpos_S16_p15
def hiOf (sv : IVec S16 32) : BitVec 32 :=
  extractAt ![15] (xori (scan .max (xori (firstOf sv) (broadcast S16 2147483648#32))) (broadcast S16 2147483648#32)) inpos_S16_p15

theorem firstOf_le {sv : IVec S16 32} (hs : ∀ x, (sv x).toNat < 16) (x : S16.Idx) : (firstOf sv x).toNat ≤ 1920 := by
  show (sv x * 128#32).toNat ≤ 1920
  have := hs x
  rw [BitVec.toNat_mul]; simp only [BitVec.toNat_ofNat]; omega

theorem loOf_mem (sv : IVec S16 32) : ∃ y, loOf sv = firstOf sv y := by
  obtain ⟨y, hy⟩ := (scan_min (xori (firstOf sv) (broadcast S16 2147483648#32)) (Shape.ofLane (0 : Fin 16))).2
  refine ⟨y, ?_⟩
  show extractAt ![15] (scan .min (xori (firstOf sv) (broadcast S16 2147483648#32))) inpos_S16_p15 ^^^ 2147483648#32 = _
  rw [hy]
  show (firstOf sv y ^^^ 2147483648#32) ^^^ 2147483648#32 = _
  rw [BitVec.xor_assoc, BitVec.xor_self, BitVec.xor_zero]

theorem loOf_le {sv : IVec S16 32} (hs : ∀ x, (sv x).toNat < 16) : (loOf sv).toNat ≤ 1920 := by
  obtain ⟨y, hy⟩ := loOf_mem sv
  rw [hy]; exact firstOf_le hs y

/-- Where the least is the greatest, all are it. -/
theorem eq_loOf {sv : IVec S16 32} (h : k0_cond4 (loOf sv) (hiOf sv) = 1#1) (x : S16.Idx) : firstOf sv x = loOf sv := by
  have e : loOf sv = hiOf sv := by
    by_contra hne
    have hb : (loOf sv == hiOf sv) = false := by simpa using hne
    revert h
    unfold k0_cond4
    show ¬ (BitVec.ofBool (BitVec.setWidth 32 (BitVec.ofBool (loOf sv == hiOf sv)) != 0#32) = 1#1)
    rw [hb]; decide
  have e' : extractAt ![15] (scan .min (xori (firstOf sv) (broadcast S16 2147483648#32))) inpos_S16_p15 ^^^ 2147483648#32
      = extractAt ![15] (scan .max (xori (firstOf sv) (broadcast S16 2147483648#32))) inpos_S16_p15 ^^^ 2147483648#32 := e
  have e2 := congrArg (· ^^^ 2147483648#32) e'
  simp only [BitVec.xor_assoc, BitVec.xor_self, BitVec.xor_zero] at e2
  have hall : ∀ x, (xori (firstOf sv) (broadcast S16 2147483648#32) x).toNat
      = (extractAt ![15] (scan .min (xori (firstOf sv) (broadcast S16 2147483648#32))) inpos_S16_p15).toNat := fun x => by
    have h1 := (scan_min (xori (firstOf sv) (broadcast S16 2147483648#32)) x).1
    have h2 := scan_max (xori (firstOf sv) (broadcast S16 2147483648#32)) x
    rw [← e2] at h2
    omega
  have hx := BitVec.eq_of_toNat_eq (hall x)
  show _ = extractAt ![15] (scan .min (xori (firstOf sv) (broadcast S16 2147483648#32))) inpos_S16_p15 ^^^ 2147483648#32
  rw [← hx]
  show _ = (firstOf sv x ^^^ 2147483648#32) ^^^ 2147483648#32
  rw [BitVec.xor_assoc, BitVec.xor_self, BitVec.xor_zero]

/-! ## The group's scores -/

variable {F : FTy → Type} [FloatOps F]
variable {fg : S2048.Idx → Elt F .f32} {land : S512x128.Idx → Elt F .f32} {sT : S512.Idx → Elt F .i32}

/-- The lanes' numbers. -/
def lanes : IVec S16 32 := iota .scVector S16 32 [0] iota_S16_d0_w32_scVector

theorem lanes_toNat (x : S16.Idx) : (lanes x).toNat = (x 0).val := by
  have hx : (x 0).val < 16 := (x 0).isLt
  show (BitVec.ofNat 32 _).toNat = _
  rw [BitVec.toNat_ofNat]
  show (0 * 16 + (x 0).val) % 2 ^ 32 = (x 0).val
  omega

/-- The eight registers' components, from the vector's first. -/
def comps : Fin 8 → IVec S16 32 := fun k => addi lanes (broadcast S16 (BitVec.ofNat 32 (16 * k.val)))

theorem comps_lt (k : Fin 8) (x : S16.Idx) : (comps k x).toNat < 128 := by
  have hx : (x 0).val < 16 := (x 0).isLt
  show (lanes x + BitVec.ofNat 32 (16 * k.val)).toNat < 128
  rw [BitVec.toNat_add, BitVec.toNat_ofNat, lanes_toNat]; omega

/-- The rows of group `t`. -/
def rowsOf (t : ℕ) : IVec S16 32 := addi lanes (broadcast S16 (Scalar.muli (BitVec.ofNat 32 t) 16#32))

theorem rowsOf_toNat {t : ℕ} (ht : t < 32) (x : S16.Idx) : (rowsOf t x).toNat = 16 * t + (x 0).val := by
  have hx : (x 0).val < 16 := (x 0).isLt
  show (lanes x + BitVec.ofNat 32 t * 16#32).toNat = _
  rw [BitVec.toNat_add, BitVec.toNat_mul, BitVec.toNat_ofNat, lanes_toNat]; simp only [BitVec.toNat_ofNat]; omega

theorem rowsOf_lt {t : ℕ} (ht : t < 32) (x : S16.Idx) : (rowsOf t x).toNat < 512 := by
  have hx : (x 0).val < 16 := (x 0).isLt
  rw [rowsOf_toNat ht]; omega

/-- The scores of group `t`. -/
def grpVal (fg : S2048.Idx → Elt F .f32) (land : S512x128.Idx → Elt F .f32) (hs : ∀ j, (sT j : BitVec 32).toNat < 16) (t : ℕ) (ht : t < 32) :
    FVec F S16 .f32 :=
  if k0_cond4 (loOf (at16 sT (16 * t))) (hiOf (at16 sT (16 * t))) = 1#1 then
    selRows lanes (fun u => laneSum (rowProd fg land (loOf_le (sv := at16 sT (16 * t)) fun x => hs _) comps_lt t u) 15) 16
  else
    let b := bacc fg land (rowsOf_lt ht) (firstOf_le (sv := at16 sT (16 * t)) fun x => hs _)
    addf (addf (b 0 31) (b 1 31)) (addf (b 2 31) (b 3 31))

theorem trip_lt (k : Fin k0_t1_loop.trips) : k.val < 32 := lt_of_lt_of_eq k.isLt (by decide)

/-- A tile's scores. -/
def tileScore (fg : S2048.Idx → Elt F .f32) (land : S512x128.Idx → Elt F .f32) (hs : ∀ j, (sT j : BitVec 32).toNat < 16) (j : S512.Idx) : Elt F .f32 :=
  grpVal fg land hs ((j 0).val / 16) (by have : (j 0).val < 512 := (j 0).isLt; omega)
    (Shape.ofLane (d := ![16]) (⟨(j 0).val % 16, Nat.mod_lt _ (by decide)⟩ : Fin 16))

variable {d : Dev nD} {L : grid0.Coords}
variable (arg2 : Memref sig .scVector .hbm S2048 .f32) (harg2 : arg2.IsWhole) (arg3 : Memref sig .scVector .hbm S16384x128 .f32) (harg3 : arg3.IsWhole) (arg4 : Memref sig .scVector .hbm S16384 .i32) (harg4 : arg4.IsWhole) (arg5 : Memref sig .scVector .hbm S16384 .f32) (harg5 : arg5.IsWhole) (arg6 : Memref sig .scVector .hbm S32x16 .f32) (harg6 : arg6.IsWhole) (arg7 : Memref sig .scVector .hbm S32x16 .f32) (harg7 : arg7.IsWhole) (arg8 : Memref sig .scVector .hbm S32x16 .f32) (harg8 : arg8.IsWhole) (arg9 : Memref sig .scVector .vmem S2048 .f32) (harg9 : arg9.IsWhole) (arg10 : Memref sig .scVector .vmem S512x128 .f32) (harg10 : arg10.IsWhole) (arg11 : Memref sig .scVector .vmem S512 .i32) (harg11 : arg11.IsWhole) (arg12 : Memref sig .scVector .vmem S512 .f32) (harg12 : arg12.IsWhole) (arg13 : Memref sig .scVector .vmem S16 .f32) (harg13 : arg13.IsWhole) (arg14 : Memref sig .scVector .vmem S16 .f32) (harg14 : arg14.IsWhole) (arg15 : Memref sig .scVector .vmem S16 .f32) (harg15 : arg15.IsWhole) (arg16 : DmaSems sig S_) (arg17 : DmaSems sig S_) (arg18 : DmaSems sig S_) (arg19 : DmaSems sig S_) (v2551_r0 : DmaSems sig S_) (v2551_r1 : DmaSems sig S_) (v2551_r2 : DmaSems sig S_) (v2551_r3 : DmaSems sig S_) (v2551_r4 : DmaSems sig S_) (v2551_r5 : DmaSems sig S_)
variable {H : sProp (MM F)} {okW : S512x128.Idx → Prop}

theorem reads_group (sG : Src d L H arg9 fg fun _ => True) (k0_t1 : Fin k0_t1_loop.trips) (sR : RowSrc d L H arg10 land k0_t1.val)
    (sC : Src d L H arg10 land okW) (hok : ∀ j, InGroup k0_t1.val j → okW j) (hs : ∀ j, (sT j : BitVec 32).toNat < 16) :
    Reads d L H
     (if k0_h4 : k0_cond4 (extractAt ![15] (k0_pay409 (F := F) (at16 sT (16 * k0_t1.val))) inpos_S16_p15) (extractAt ![15] (k0_pay410 (F := F) (at16 sT (16 * k0_t1.val))) inpos_S16_p15) = 1#1 then (do
        let ⟨v4017, v4061, v4062, v4088, v4089⟩ : Σ' (v4017 : FVec F S16 .f32) (v4061 : IVec S16 1) (v4062 : FVec F S16 .f32) (v4088 : F .f32), FVec F S1 .f32 ← k0_part33 L arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v2551_r0 v2551_r1 v2551_r2 v2551_r3 v2551_r4 v2551_r5 lanes k0_pay400 k0_pay401 k0_pay402 k0_pay403 k0_pay404 k0_pay405 k0_pay406 k0_pay407 k0_t1 (Scalar.muli (Scf.iv 0#32 1#32 k0_t1) 16#32) (extractAt ![15] (k0_pay409 (F := F) (at16 sT (16 * k0_t1.val))) inpos_S16_p15) (extractAt ![15] (k0_pay410 (F := F) (at16 sT (16 * k0_t1.val))) inpos_S16_p15) k0_h4
        pure (k0_pay411 v4017 v4061 v4062 v4088 v4089) : Prog (TpuEff nD τ sig (Elt F) Λ₀ (Proc.scVector (cV L) (jV L))) (FVec F S16 .f32))
      else do
        let ⟨v3456, v3463, v3470, v3477, v3483⟩ : Σ' (v3456 : FVec F S16 .f32) (v3463 : FVec F S16 .f32) (v3470 : FVec F S16 .f32) (v3477 : FVec F S16 .f32), FVec F S16 .f32 ← k0_part57 L arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v2551_r0 v2551_r1 v2551_r2 v2551_r3 v2551_r4 v2551_r5 lanes (Scalar.muli (Scf.iv 0#32 1#32 k0_t1) 16#32) (k0_pay408 (F := F) (at16 sT (16 * k0_t1.val))) (extractAt ![15] (k0_pay409 (F := F) (at16 sT (16 * k0_t1.val))) inpos_S16_p15) (extractAt ![15] (k0_pay410 (F := F) (at16 sT (16 * k0_t1.val))) inpos_S16_p15) k0_h4
        pure (k0_pay412 v3456 v3463 v3470 v3477 v3483))
      (grpVal fg land hs k0_t1.val (trip_lt k0_t1)) := by
  have hiv : Scf.iv 0#32 1#32 k0_t1 = BitVec.ofNat 32 k0_t1.val := by
    unfold Scf.iv
    rw [BitVec.zero_add, BitVec.mul_one]
  by_cases h : k0_cond4 (extractAt ![15] (k0_pay409 (F := F) (at16 sT (16 * k0_t1.val))) inpos_S16_p15) (extractAt ![15] (k0_pay410 (F := F) (at16 sT (16 * k0_t1.val))) inpos_S16_p15) = 1#1
  · rw [dif_pos h]
    apply Reads.of_eq
    · apply Reads.bind (reads_uniform arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v2551_r0 v2551_r1 v2551_r2 v2551_r3 v2551_r4 v2551_r5 sG k0_t1 sR (v2560 := Scalar.muli (Scf.iv 0#32 1#32 k0_t1) 16#32) h (loOf_le (sv := at16 sT (16 * k0_t1.val)) fun x => hs _) comps_lt)
      exact Reads.pure' _
    · unfold grpVal
      refine Eq.trans ?_ (if_pos h).symm
      rfl
  · rw [dif_neg h]
    apply Reads.of_eq
    · have hb := reads_boundary arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v2551_r0 v2551_r1 v2551_r2 v2551_r3 v2551_r4 v2551_r5 sG sC (v23 := lanes) (v2560 := Scalar.muli (Scf.iv 0#32 1#32 k0_t1) 16#32) (v2564 := k0_pay408 (F := F) (at16 sT (16 * k0_t1.val))) h (firstOf_le (sv := at16 sT (16 * k0_t1.val)) fun x => hs _)
        (by rw [hiv]; exact rowsOf_lt (trip_lt k0_t1)) (fun x j hj => hok j (by
          have hx : (x 0).val < 16 := (x 0).isLt
          rw [hiv] at hj
          have := rowsOf_toNat (trip_lt k0_t1) x
          unfold rowsOf at this
          unfold InGroup; omega))
      apply Reads.bind hb
      exact Reads.pure' _
    · unfold grpVal
      refine Eq.trans ?_ (if_neg h).symm
      revert hiv
      generalize Scf.iv 0#32 1#32 k0_t1 = w
      rintro rfl
      rfl

end Cert.Proof
-- ==== Proof.Loop1.lean ====
module
public import proofs.«01_k».proof.Proof.Chunks
public import proofs.«01_k».proof.Proof.Group
@[expose] public section

/-! # One trip of the scoring loop

The waits that fall on the trip, the load of its sixteen segments, the scores, and their store. -/

noncomputable section
namespace Cert.Proof
open Cert.KernelIdeal Cert.KernelIdeal.Gen
open Idealize.ShloMosaic
open Idealize.ShloMosaic.SparseCore.Cfg (HIx)
open Idealize.SL Idealize.SL.RA Idealize.SL.BI
open Idealize.SL.BI.BIBase Idealize.SL.BI.Laws Idealize.SL.ProofMode Idealize.SL.Sem
open Idealize.ShloMosaic.Transfers

variable {F : FTy → Type} [FloatOps F]
variable {d : Dev nD} {L : grid0.Coords} {ιwm : ℕ}
variable {P0 P1 P2 P3 P4 : sProp (MM F)} {sT : S512.Idx → Elt F .i32} {fg : S2048.Idx → Elt F .f32} {f0 land : S512x128.Idx → Elt F .f32}
variable {okW : S512x128.Idx → Prop} {m0 : Vec F S16 .f32}

theorem Steps.ifWait {P R T : sProp (MM F)} {β : Type} {c : Prop} {dec : Decidable c} {w : c → Prog (TpuEff nD τ sig (Elt F) Λ₀ (Proc.scVector (cV L) (jV L))) PUnit} {K : Prog (TpuEff nD τ sig (Elt F) Λ₀ (Proc.scVector (cV L) (jV L))) β} {v : β}
    (hy : ∀ h, Steps d L P (w h) ⟨⟩ R) (hn : ¬ c → P ⊢ R) (hK : Steps d L R K v T) :
    Steps d L P (if h : c then w h >>= fun _ => K else K) v T := by
  by_cases h : c
  · rw [dif_pos h]; exact Steps.bind (hy h) hK
  · rw [dif_neg h]; exact fun Q => BIBase.Entails.trans (by
      iintro ⟨HP, HQ⟩
      isplitl [HP]; · iapply (hn h) $$ HP
      iexact HQ) (hK Q)

theorem Steps.of_dif_pos {P T : sProp (MM F)} {β : Type} {c : Prop} {dec : Decidable c} {p : c → Prog (TpuEff nD τ sig (Elt F) Λ₀ (Proc.scVector (cV L) (jV L))) β} {q : ¬ c → Prog (TpuEff nD τ sig (Elt F) Λ₀ (Proc.scVector (cV L) (jV L))) β} {v : β}
    (h : c) (hp : Steps d L P (p h) v T) : Steps d L P (if h : c then p h else q h) v T := by
  rw [dif_pos h]; exact hp

theorem Steps.of_dif_neg {P T : sProp (MM F)} {β : Type} {c : Prop} {dec : Decidable c} {p : c → Prog (TpuEff nD τ sig (Elt F) Λ₀ (Proc.scVector (cV L) (jV L))) β} {q : ¬ c → Prog (TpuEff nD τ sig (Elt F) Λ₀ (Proc.scVector (cV L) (jV L))) β} {v : β}
    (h : ¬ c) (hp : Steps d L P (q h) v T) : Steps d L P (if h : c then p h else q h) v T := by
  rw [dif_neg h]; exact hp

section
variable (arg2 : Memref sig .scVector .hbm S2048 .f32) (harg2 : arg2.IsWhole) (arg3 : Memref sig .scVector .hbm S16384x128 .f32) (harg3 : arg3.IsWhole) (arg4 : Memref sig .scVector .hbm S16384 .i32) (harg4 : arg4.IsWhole) (arg5 : Memref sig .scVector .hbm S16384 .f32) (harg5 : arg5.IsWhole) (arg6 : Memref sig .scVector .hbm S32x16 .f32) (harg6 : arg6.IsWhole) (arg7 : Memref sig .scVector .hbm S32x16 .f32) (harg7 : arg7.IsWhole) (arg8 : Memref sig .scVector .hbm S32x16 .f32) (harg8 : arg8.IsWhole) (arg9 : Memref sig .scVector .vmem S2048 .f32) (harg9 : arg9.IsWhole) (arg10 : Memref sig .scVector .vmem S512x128 .f32) (harg10 : arg10.IsWhole) (arg11 : Memref sig .scVector .vmem S512 .i32) (harg11 : arg11.IsWhole) (arg12 : Memref sig .scVector .vmem S512 .f32) (harg12 : arg12.IsWhole) (arg13 : Memref sig .scVector .vmem S16 .f32) (harg13 : arg13.IsWhole) (arg14 : Memref sig .scVector .vmem S16 .f32) (harg14 : arg14.IsWhole) (arg15 : Memref sig .scVector .vmem S16 .f32) (harg15 : arg15.IsWhole) (arg16 : DmaSems sig S_) (arg17 : DmaSems sig S_) (arg18 : DmaSems sig S_) (arg19 : DmaSems sig S_) (v2551_r0 : DmaSems sig S_) (v2551_r1 : DmaSems sig S_) (v2551_r2 : DmaSems sig S_) (v2551_r3 : DmaSems sig S_) (v2551_r4 : DmaSems sig S_) (v2551_r5 : DmaSems sig S_)

set_option maxHeartbeats 4000000 in
theorem steps_t1 (k0_t1 : Fin k0_t1_loop.trips) (hs : ∀ j, (sT j : BitVec 32).toNat < 16)
    (hy1 : ∀ h : k0_cond1 k0_t1 = 1#1, Steps d L P0 (Prog.lift (.waitDma2 arg17.sem (arg3.slice (Rect.unit (s := S16384x128) (k0_off3 L) S128x128.size (k0_off3_inb L k0_t1 h)) (fun _ => rfl))
        (arg10.slice (Rect.unit (s := S512x128) ![128, 0] S128x128.size inb_S512x128_S128x128_128_0) (fun _ => rfl)) (View.wordExact_bits rfl) (View.wordExact_bits rfl))) ⟨⟩ P1)
    (hn1 : ¬ k0_cond1 k0_t1 = 1#1 → P0 ⊢ P1)
    (hy2 : ∀ h : k0_cond2 k0_t1 = 1#1, Steps d L P1 (Prog.lift (.waitDma2 arg18.sem (arg3.slice (Rect.unit (s := S16384x128) (k0_off4 L) S128x128.size (k0_off4_inb L k0_t1 h)) (fun _ => rfl))
        (arg10.slice (Rect.unit (s := S512x128) ![256, 0] S128x128.size inb_S512x128_S128x128_256_0) (fun _ => rfl)) (View.wordExact_bits rfl) (View.wordExact_bits rfl))) ⟨⟩ P2)
    (hn2 : ¬ k0_cond2 k0_t1 = 1#1 → P1 ⊢ P2)
    (hy3 : ∀ h : k0_cond3 k0_t1 = 1#1, Steps d L P2 (Prog.lift (.waitDma2 arg19.sem (arg3.slice (Rect.unit (s := S16384x128) (k0_off5 L) S128x128.size (k0_off5_inb L k0_t1 h)) (fun _ => rfl))
        (arg10.slice (Rect.unit (s := S512x128) ![384, 0] S128x128.size inb_S512x128_S128x128_384_0) (fun _ => rfl)) (View.wordExact_bits rfl) (View.wordExact_bits rfl))) ⟨⟩ P3)
    (hn3 : ¬ k0_cond3 k0_t1 = 1#1 → P2 ⊢ P3)
    (sS : LSrc d L P3 arg11 sT) (sG : Src d L P3 arg9 fg fun _ => True) (sR : RowSrc d L P3 arg10 land k0_t1.val)
    (sC : Src d L P3 arg10 land okW) (hok : ∀ j, InGroup k0_t1.val j → okW j)
    (hld : Reads d L P3 (Prog.lift (.load arg12 (Rect.unit (s := S512) (k0_off15 k0_t1) S16.size (k0_off15_inb k0_t1)).toLoadRect (View.loadsAt_vmem h_S16))) m0)
    (hst : Steps d L P3 (Prog.lift (.store arg12 (Rect.unit (s := S512) (k0_off15 k0_t1) S16.size (k0_off15_inb k0_t1))
      (grpVal fg land hs k0_t1.val (trip_lt k0_t1)) Finset.univ (View.stores_vmem_bits_univ h_S16 rfl) (.inl rfl))) ⟨⟩ P4) :
    Steps d L P0 (k0_t1_body L arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v2551_r0 v2551_r1 v2551_r2 v2551_r3 v2551_r4 v2551_r5 lanes k0_t1 ()) () P4 := by
  delta k0_t1_body
  apply Steps.ifWait hy1 hn1
  apply Steps.ifWait hy2 hn2
  apply Steps.ifWait hy3 hn3
  apply Steps.bind (Steps.of_reads sS.load)
  have hiv : Scf.iv 0#32 1#32 k0_t1 = BitVec.ofNat 32 k0_t1.val := by
    unfold Scf.iv
    rw [BitVec.zero_add, BitVec.mul_one]
  by_cases h : k0_cond4 (extractAt ![15] (k0_pay409 (F := F) (at16 sT (16 * k0_t1.val))) inpos_S16_p15) (extractAt ![15] (k0_pay410 (F := F) (at16 sT (16 * k0_t1.val))) inpos_S16_p15) = 1#1
  · refine Steps.of_dif_pos h ?_
    apply Steps.bind (Steps.of_reads (reads_uniform arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v2551_r0 v2551_r1 v2551_r2 v2551_r3 v2551_r4 v2551_r5 sG k0_t1 sR (v2560 := Scalar.muli (Scf.iv 0#32 1#32 k0_t1) 16#32) h (loOf_le (sv := at16 sT (16 * k0_t1.val)) fun x => hs _) comps_lt))
    apply Steps.bind (Steps.of_reads hld)
    have e : grpVal fg land hs k0_t1.val (trip_lt k0_t1) = _ := if_pos h
    rw [e] at hst
    apply Steps.bind hst
    exact Steps.pure' _
  · refine Steps.of_dif_neg h ?_
    have hb := reads_boundary arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v2551_r0 v2551_r1 v2551_r2 v2551_r3 v2551_r4 v2551_r5 sG sC (v23 := lanes) (v2560 := Scalar.muli (Scf.iv 0#32 1#32 k0_t1) 16#32) (v2564 := k0_pay408 (F := F) (at16 sT (16 * k0_t1.val))) h (firstOf_le (sv := at16 sT (16 * k0_t1.val)) fun x => hs _)
      (by rw [hiv]; exact rowsOf_lt (trip_lt k0_t1)) (fun x j hj => hok j (by
        have hx : (x 0).val < 16 := (x 0).isLt
        rw [hiv] at hj
        have := rowsOf_toNat (trip_lt k0_t1) x
        unfold rowsOf at this
        unfold InGroup; omega))
    apply Steps.bind (Steps.of_reads hb)
    apply Steps.bind (Steps.of_reads hld)
    have e : grpVal fg land hs k0_t1.val (trip_lt k0_t1) = _ := if_neg h
    rw [e] at hst
    clear hb
    revert hst
    generalize Scf.iv 0#32 1#32 k0_t1 = w at hiv
    subst hiv
    intro hst
    apply Steps.bind hst
    exact Steps.pure' _
end

/-! ## Framing -/

theorem Steps.frame {P R T : sProp (MM F)} {α : Type} {p : Prog (TpuEff nD τ sig (Elt F) Λ₀ (Proc.scVector (cV L) (jV L))) α} {v : α} (h : Steps d L P p v R) : Steps d L iprop(P ∗ T) p v iprop(R ∗ T) := fun Q => by
  refine BIBase.Entails.trans ?_ (h Q)
  iintro ⟨⟨HP, HT⟩, HQ⟩
  isplitl [HP]; · iexact HP
  iintro HR
  iapply HQ
  isplitl [HR] <;> iassumption

theorem Steps.conseq {P P' R R' : sProp (MM F)} {α : Type} {p : Prog (TpuEff nD τ sig (Elt F) Λ₀ (Proc.scVector (cV L) (jV L))) α} {v : α} (h : Steps d L P p v R) (hP : P' ⊢ P) (hR : R ⊢ R') :
    Steps d L P' p v R' := fun Q => by
  refine BIBase.Entails.trans ?_ (h Q)
  iintro ⟨HP, HQ⟩
  isplitl [HP]; · iapply hP $$ HP
  iintro HR
  iapply HQ
  iapply hR $$ HR

/-- Reading at a part of what is held. -/
theorem Reads.mono {H H' : sProp (MM F)} {α : Type} {p : Prog (TpuEff nD τ sig (Elt F) Λ₀ (Proc.scVector (cV L) (jV L))) α} {v : α} (h : Reads d L H p v) {T : sProp (MM F)} (h1 : H' ⊢ iprop(H ∗ T)) (h2 : iprop(H ∗ T) ⊢ H') :
    Reads d L H' p v := Steps.conseq (Steps.frame (T := T) h) h1 h2

theorem Src.mono {H H' T : sProp (MM F)} {s : Shape} {b : Memref sig .scVector .vmem s .f32} {f : s.Idx → Elt F .f32} {ok : s.Idx → Prop}
    (S : Src d L H b f ok) (h1 : H' ⊢ iprop(H ∗ T)) (h2 : iprop(H ∗ T) ⊢ H') : Src d L H' b f ok where
  gather h hl hok := (S.gather h hl hok).mono h1 h2

theorem RowSrc.mono {H H' T : sProp (MM F)} {b : Memref sig .scVector .vmem S512x128 .f32} {f : S512x128.Idx → Elt F .f32} {t : ℕ}
    (S : RowSrc d L H b f t) (h1 : H' ⊢ iprop(H ∗ T)) (h2 : iprop(H ∗ T) ⊢ H') : RowSrc d L H' b f t where
  load ht := (S.load ht).mono h1 h2

theorem LSrc.mono {H H' T : sProp (MM F)} {e : EltTy} {b : Memref sig .scVector .vmem S512 e} {f : S512.Idx → Elt F e}
    (S : LSrc d L H b f) (h1 : H' ⊢ iprop(H ∗ T)) (h2 : iprop(H ∗ T) ⊢ H') : LSrc d L H' b f where
  load := S.load.mono h1 h2

end Cert.Proof
-- ==== Proof.Score.lean ====
module
public import proofs.«01_k».proof.Proof.Loop1
@[expose] public section

/-! # The scoring loop on a tile's buffers

What a tile holds from trip to trip, and the loop's whole run: every score stored, every part of the candidates landed. -/

noncomputable section
namespace Cert.Proof
open Cert.KernelIdeal Cert.KernelIdeal.Gen
open Idealize.ShloMosaic
open Idealize.ShloMosaic.SparseCore.Cfg (HIx)
open Idealize.SL Idealize.SL.RA Idealize.SL.BI
open Idealize.SL.BI.BIBase Idealize.SL.BI.Laws Idealize.SL.ProofMode Idealize.SL.Sem
open Idealize.ShloMosaic.Transfers

variable {F : FTy → Type} [FloatOps F]

/-! ## A store of sixteen -/

section
variable {f : S512.Idx → Elt F .f32} {w : S16.Idx → Elt F .f32} {off : Fin 1 → ℕ} {o : ℕ}
variable {inb : ∀ a, off a + S16.size a ≤ S512.size a}

/-- The scores after a store of sixteen. -/
abbrev put16 (f : S512.Idx → Elt F .f32) (off : Fin 1 → ℕ) (inb : ∀ a, off a + S16.size a ≤ S512.size a) (w : S16.Idx → Elt F .f32) : S512.Idx → Elt F .f32 :=
  (logB.access (Rect.unit (s := S512) off S16.size inb)).write (Elt F) f w Finset.univ

theorem put16_in (ho : off = ![o]) {j : S512.Idx} {x : S16.Idx} (hj : (j 0).val = o + (x 0).val) : put16 f off inb w j = w x := by
  subst ho
  have e : (logB.access (Rect.unit (s := S512) ![o] S16.size inb)).emb x = j := by
    funext a
    match a with
    | 0 =>
      apply Fin.ext
      show o + 1 * (x 0).val = (j 0).val
      omega
  rw [← e]
  exact View.write_emb_of_mem _ _ (Finset.mem_univ x)

theorem put16_out (ho : off = ![o]) {j : S512.Idx} (hj : (j 0).val < o ∨ o + 16 ≤ (j 0).val) : put16 f off inb w j = f j := by
  subst ho
  refine View.write_of_not_mem _ _ _ fun h => ?_
  have h' : j ∈ (logB.access (Rect.unit (s := S512) ![o] S16.size inb)).set := h
  have h2 : j ∈ (Rect.unit (s := S512) ![o] S16.size inb).set := by
    have e : (logB.access (Rect.unit (s := S512) ![o] S16.size inb)).set = (Rect.unit (s := S512) ![o] S16.size inb).set := View.set_slice_whole _ _
    exact e ▸ h'
  have h3 : o ≤ (j 0).val ∧ (j 0).val < o + 16 := Rect.mem_set_unit.1 h2 0
  omega
end

/-- A store to a buffer held whole. -/
theorem Steps.store {d : Dev nD} {L : grid0.Coords} {T : sProp (MM F)} {cs : CoreSpace} {s : Shape} {e : EltTy} {m : Memref sig (thr d L).2.kind cs s e} {r : Rect s}
    {w : r.shape.Idx → Elt F e} {Mk : Finset r.shape.Idx} {hx : (m.access r).Stores Mk} {hm : Mk = Finset.univ ∨ ∀ a, r.stride a = 1}
    {f : Buf (Elt F) ((m.access r).loc (thr d L))} :
    Steps (F := F) d L iprop(((m.access r).loc (thr d L) ↦{fullShare} f) ∗ T) (Prog.lift (.store m r w Mk hx hm)) ⟨⟩
      iprop(((m.access r).loc (thr d L) ↦{fullShare} (m.access r).write (Elt F) f w Mk) ∗ T) := fun Q => by
  rw [lift_op]
  iintro ⟨⟨H, HT⟩, HQ⟩
  iapply (wp_store 𝒱₀ (thr d L) none Set.univ (m := m) (r := r) (f := f) (Finset.subset_univ _)) $$ H
  iintro H
  irw [wp_ret]
  imodintro
  iapply HQ
  isplitl [H] <;> iassumption

/-! ## What a tile holds -/

variable (d : Dev nD) (L : grid0.Coords) (ιwm : ℕ)
variable (O : CellTallies nD τ sig (HIx 1)) (W0 : Waits sig (HIx 1))
variable (fg : S2048.Idx → Elt F .f32) (f0 land : S512x128.Idx → Elt F .f32) (sT : S512.Idx → Elt F .i32)

/-- What the tile owes: its waits so far are its launch's, or local. -/
def OWs : sProp (MM F) := iprop(∃ W', ⌜∀ p ∈ W', p ∈ W0 ∨ p.2 = none⌝ ∗ owes (thr d L) O W')

/-- Part `n`'s copy before trip `t`: under way until its wait at trip `8 n`. -/
def Ck (sem : DmaSems sig S_) (n t : ℕ) : sProp (MM F) :=
  if t ≤ 8 * n then Fly d L sem n f0 land else iprop(semVal (thr d L, .dma sem.sem) 0 ∗ WB d L (chunk n) fullShare.left f0 land (chunk n))

/-- What a tile holds in the scoring loop, the copies aside. -/
def LS (Kn : Finset S512x128.Idx) (X1 X2 X3 : sProp (MM F)) (f : S512.Idx → Elt F .f32) : sProp (MM F) :=
  iprop(MayWaits (thr d L) (default : HIx 1) O ∗ GH d L ιwm fg f0 land Kn ∗ X1 ∗ X2 ∗ X3 ∗ OWs d L O W0
    ∗ (segB.view.loc (thr d L) ↦{fullShare} sT) ∗ (logB.view.loc (thr d L) ↦{fullShare} f))

variable {d L ιwm O W0 fg f0 land sT}

theorem Ck_wait {sem : DmaSems sig S_} {t n o : ℕ} {off : Fin 2 → ℕ} (ht : t = 8 * (n + 1)) {T : sProp (MM F)}
    (inb : ∀ a, (![o, 0] : Fin 2 → ℕ) a + S128x128.size a ≤ S512x128.size a) (inb' : ∀ a, off a + S128x128.size a ≤ S16384x128.size a) {h1 h2} :
    Steps (F := F) d L iprop(MayWaits (thr d L) (default : HIx 1) O ∗ GH d L ιwm fg f0 land (known t n) ∗ Ck d L f0 land sem (n + 1) t ∗ OWs d L O W0 ∗ T)
      (Prog.lift (.waitDma2 sem.sem (candV.slice (Rect.unit (s := S16384x128) off S128x128.size inb') (fun _ => rfl)) (chB o inb) h1 h2)) ⟨⟩
      iprop(MayWaits (thr d L) (default : HIx 1) O ∗ GH d L ιwm fg f0 land (known t (n + 1)) ∗ Ck d L f0 land sem (n + 1) (t + 1) ∗ OWs d L O W0 ∗ T) := by
  intro Q
  unfold GH Ck OWs
  rw [if_pos (by omega : t ≤ 8 * (n + 1)), if_neg (by omega : ¬ t + 1 ≤ 8 * (n + 1))]
  iintro ⟨⟨#Hmw, ⟨#Hwm, Hg, Hw⟩, Hf, HO, HT⟩, HQ⟩
  iapply (steps_wait (sem := sem) (n := n + 1) (f0 := f0) (land := land) (O := O) (W := known t n) (W0 := W0) inb inb' (h1 := h1) (h2 := h2) Q)
  isplitl [Hf Hw HO]
  · isplitr [Hf Hw HO]; · iexact Hmw
    isplitl [Hf]; · iexact Hf
    isplitl [Hw]; · iexact Hw
    iexact HO
  irw [known_wait ht]
  iintro ⟨Hs, Hw, HO⟩
  iapply HQ
  isplitr [Hg Hw Hs HO HT]; · iexact Hmw
  isplitl [Hg Hw]
  · isplitr [Hg Hw]; · iexact Hwm
    isplitl [Hg] <;> iassumption
  isplitl [Hs]; · iexact Hs
  isplitl [HO] <;> iassumption

theorem Ck_skip {sem : DmaSems sig S_} {t n : ℕ} (ht : t ≠ 8 * (n + 1)) :
    Ck (F := F) d L f0 land sem (n + 1) t = Ck d L f0 land sem (n + 1) (t + 1) := by
  unfold Ck
  by_cases h : t ≤ 8 * (n + 1)
  · rw [if_pos h, if_pos (by omega)]
  · rw [if_neg h, if_neg (by omega)]

section
variable {Kn : Finset S512x128.Idx} {X1 X2 X3 : sProp (MM F)} {f : S512.Idx → Elt F .f32}

theorem LS_1 : LS d L ιwm O W0 fg f0 land sT Kn X1 X2 X3 f ⊣⊢ iprop(MayWaits (thr d L) (default : HIx 1) O ∗ GH d L ιwm fg f0 land Kn ∗ X1 ∗ OWs d L O W0
    ∗ X2 ∗ X3 ∗ (segB.view.loc (thr d L) ↦{fullShare} sT) ∗ (logB.view.loc (thr d L) ↦{fullShare} f)) := by
  unfold LS
  constructor <;> (iintro ⟨H1, H2, H3, H4, H5, H6, H7, H8⟩; iframe H1 H2 H3 H4 H5 H6 H7 H8)

theorem LS_2 : LS d L ιwm O W0 fg f0 land sT Kn X1 X2 X3 f ⊣⊢ iprop(MayWaits (thr d L) (default : HIx 1) O ∗ GH d L ιwm fg f0 land Kn ∗ X2 ∗ OWs d L O W0
    ∗ X1 ∗ X3 ∗ (segB.view.loc (thr d L) ↦{fullShare} sT) ∗ (logB.view.loc (thr d L) ↦{fullShare} f)) := by
  unfold LS
  constructor <;> (iintro ⟨H1, H2, H3, H4, H5, H6, H7, H8⟩; iframe H1 H2 H3 H4 H5 H6 H7 H8)

theorem LS_3 : LS d L ιwm O W0 fg f0 land sT Kn X1 X2 X3 f ⊣⊢ iprop(MayWaits (thr d L) (default : HIx 1) O ∗ GH d L ιwm fg f0 land Kn ∗ X3 ∗ OWs d L O W0
    ∗ X1 ∗ X2 ∗ (segB.view.loc (thr d L) ↦{fullShare} sT) ∗ (logB.view.loc (thr d L) ↦{fullShare} f)) := by
  unfold LS
  constructor <;> (iintro ⟨H1, H2, H3, H4, H5, H6, H7, H8⟩; iframe H1 H2 H3 H4 H5 H6 H7 H8)

theorem LS_G : LS d L ιwm O W0 fg f0 land sT Kn X1 X2 X3 f ⊣⊢ iprop(GH d L ιwm fg f0 land Kn ∗ MayWaits (thr d L) (default : HIx 1) O ∗ X1 ∗ X2 ∗ X3 ∗ OWs d L O W0
    ∗ (segB.view.loc (thr d L) ↦{fullShare} sT) ∗ (logB.view.loc (thr d L) ↦{fullShare} f)) := by
  unfold LS
  constructor <;> (iintro ⟨H1, H2, H3, H4, H5, H6, H7, H8⟩; iframe H1 H2 H3 H4 H5 H6 H7 H8)

theorem LS_S : LS d L ιwm O W0 fg f0 land sT Kn X1 X2 X3 f ⊣⊢ iprop((segB.view.loc (thr d L) ↦{fullShare} sT) ∗ MayWaits (thr d L) (default : HIx 1) O ∗ GH d L ιwm fg f0 land Kn ∗ X1 ∗ X2 ∗ X3 ∗ OWs d L O W0
    ∗ (logB.view.loc (thr d L) ↦{fullShare} f)) := by
  unfold LS
  constructor <;> (iintro ⟨H1, H2, H3, H4, H5, H6, H7, H8⟩; iframe H1 H2 H3 H4 H5 H6 H7 H8)

theorem LS_L : LS d L ιwm O W0 fg f0 land sT Kn X1 X2 X3 f ⊣⊢ iprop((logB.view.loc (thr d L) ↦{fullShare} f) ∗ MayWaits (thr d L) (default : HIx 1) O ∗ GH d L ιwm fg f0 land Kn ∗ X1 ∗ X2 ∗ X3 ∗ OWs d L O W0
    ∗ (segB.view.loc (thr d L) ↦{fullShare} sT)) := by
  unfold LS
  constructor <;> (iintro ⟨H1, H2, H3, H4, H5, H6, H7, H8⟩; iframe H1 H2 H3 H4 H5 H6 H7 H8)
end

theorem cond_1 : ∀ t : Fin k0_t1_loop.trips, k0_cond1 t = 1#1 ↔ t.val = 8 * (0 + 1) := by decide
theorem cond_2 : ∀ t : Fin k0_t1_loop.trips, k0_cond2 t = 1#1 ↔ t.val = 8 * (1 + 1) := by decide
theorem cond_3 : ∀ t : Fin k0_t1_loop.trips, k0_cond3 t = 1#1 ↔ t.val = 8 * (2 + 1) := by decide

/-- What a tile holds before trip `t`. -/
abbrev LSt (t : ℕ) (f : S512.Idx → Elt F .f32) : sProp (MM F) :=
  LS d L ιwm O W0 fg f0 land sT (known t 0) (Ck d L f0 land cc0_scratch8 1 t) (Ck d L f0 land cc0_scratch9 2 t) (Ck d L f0 land cc0_scratch10 3 t) f

set_option maxHeartbeats 1000000 in
theorem steps_trip (hs : ∀ j, (sT j : BitVec 32).toNat < 16) (k0_t1 : Fin k0_t1_loop.trips) (f : S512.Idx → Elt F .f32)
    (sR : RowSrc d L (GH d L ιwm fg f0 land (known k0_t1.val 3)) cB land k0_t1.val)
    (sS : ∀ f, LSrc d L (segB.view.loc (thr d L) ↦{fullShare} f : sProp (MM F)) segB f) :
    Steps (F := F) d L (LSt (d := d) (L := L) (ιwm := ιwm) (O := O) (W0 := W0) (fg := fg) (f0 := f0) (land := land) (sT := sT) k0_t1.val f)
      (k0_t1_body L gV (Memref.isWhole_whole _) candV (Memref.isWhole_whole _) segV (Memref.isWhole_whole _) logV (Memref.isWhole_whole _) mV (Memref.isWhole_whole _) sV (Memref.isWhole_whole _) cntV (Memref.isWhole_whole _) gB (Memref.isWhole_whole _) cB (Memref.isWhole_whole _) segB (Memref.isWhole_whole _) logB (Memref.isWhole_whole _)
      mB (Memref.isWhole_whole _) sB (Memref.isWhole_whole _) cntB (Memref.isWhole_whole _) cc0_scratch7 cc0_scratch8 cc0_scratch9 cc0_scratch10 cc0_scoped0 cc0_scoped1 cc0_scoped2 cc0_scoped3 cc0_scoped4 cc0_scoped5 lanes k0_t1 ()) ()
      (LSt (d := d) (L := L) (ιwm := ιwm) (O := O) (W0 := W0) (fg := fg) (f0 := f0) (land := land) (sT := sT) (k0_t1.val + 1)
        (put16 f (k0_off15 k0_t1) (k0_off15_inb k0_t1) (grpVal fg land hs k0_t1.val (trip_lt k0_t1)))) := by
  apply steps_t1 gV (Memref.isWhole_whole _) candV (Memref.isWhole_whole _) segV (Memref.isWhole_whole _) logV (Memref.isWhole_whole _) mV (Memref.isWhole_whole _) sV (Memref.isWhole_whole _) cntV (Memref.isWhole_whole _) gB (Memref.isWhole_whole _) cB (Memref.isWhole_whole _) segB (Memref.isWhole_whole _) logB (Memref.isWhole_whole _)
      mB (Memref.isWhole_whole _) sB (Memref.isWhole_whole _) cntB (Memref.isWhole_whole _) cc0_scratch7 cc0_scratch8 cc0_scratch9 cc0_scratch10 cc0_scoped0 cc0_scoped1 cc0_scoped2 cc0_scoped3 cc0_scoped4 cc0_scoped5 k0_t1 hs
    (P1 := LS d L ιwm O W0 fg f0 land sT (known k0_t1.val 1) (Ck d L f0 land cc0_scratch8 1 (k0_t1.val + 1)) (Ck d L f0 land cc0_scratch9 2 k0_t1.val) (Ck d L f0 land cc0_scratch10 3 k0_t1.val) f)
    (P2 := LS d L ιwm O W0 fg f0 land sT (known k0_t1.val 2) (Ck d L f0 land cc0_scratch8 1 (k0_t1.val + 1)) (Ck d L f0 land cc0_scratch9 2 (k0_t1.val + 1)) (Ck d L f0 land cc0_scratch10 3 k0_t1.val) f)
    (P3 := LS d L ιwm O W0 fg f0 land sT (known k0_t1.val 3) (Ck d L f0 land cc0_scratch8 1 (k0_t1.val + 1)) (Ck d L f0 land cc0_scratch9 2 (k0_t1.val + 1)) (Ck d L f0 land cc0_scratch10 3 (k0_t1.val + 1)) f)
    (okW := fun j => j ∈ known k0_t1.val 3)
  case hy1 => exact fun h => (Ck_wait ((cond_1 k0_t1).1 h) _ _).conseq LS_1.1 LS_1.2
  case hn1 => intro h; delta LSt; rw [← Ck_skip (n := 0) (sem := cc0_scratch8) fun e => h ((cond_1 k0_t1).2 e), known_skip fun e => h ((cond_1 k0_t1).2 e)]
  case hy2 => exact fun h => (Ck_wait ((cond_2 k0_t1).1 h) _ _).conseq LS_2.1 LS_2.2
  case hn2 => intro h; rw [← Ck_skip (n := 1) (sem := cc0_scratch9) fun e => h ((cond_2 k0_t1).2 e), known_skip fun e => h ((cond_2 k0_t1).2 e)]
  case hy3 => exact fun h => (Ck_wait ((cond_3 k0_t1).1 h) _ _).conseq LS_3.1 LS_3.2
  case hn3 => intro h; rw [← Ck_skip (n := 2) (sem := cc0_scratch10) fun e => h ((cond_3 k0_t1).2 e), known_skip fun e => h ((cond_3 k0_t1).2 e)]
  case sS => exact (sS sT).mono LS_S.1 LS_S.2
  case sG => exact srcG.mono LS_G.1 LS_G.2
  case sR => exact sR.mono LS_G.1 LS_G.2
  case sC => exact srcC.mono LS_G.1 LS_G.2
  case hok => exact fun j hj => known_group hj
  case hld =>
    exact Reads.load (by
      refine LS_L.1.trans ?_
      iintro ⟨H, HR⟩
      isplitl [H]; · iexact H
      iintro H
      iapply LS_L.2
      isplitl [H] <;> iassumption)
  case hst =>
    delta LSt
    rw [← known_next]
    exact Steps.store.conseq LS_L.1 LS_L.2

end Cert.Proof
-- ==== Proof.Copies.lean ====
module
public import proofs.«01_k».proof.Proof.Score
@[expose] public section

/-! # The start of a tile's program

The copies in, and the scoring loop: the tile ends holding its segments and their scores. -/

noncomputable section
namespace Cert.Proof
open Cert.KernelIdeal Cert.KernelIdeal.Gen
open Idealize.ShloMosaic
open Idealize.ShloMosaic.SparseCore.Cfg (HIx)
open Idealize.SL Idealize.SL.RA Idealize.SL.BI
open Idealize.SL.BI.BIBase Idealize.SL.BI.Laws Idealize.SL.ProofMode Idealize.SL.Sem
open Idealize.ShloMosaic.Transfers

variable {F : FTy → Type} [FloatOps F]

local notation "EC" => countersEmb (nD := nD) (τ := τ) (sig := sig) (Ix := HIx 1) (Val := Elt F) (Name := ℕ) (U := UU F) (Lvl := ℕ)

variable {d : Dev nD} {L : grid0.Coords} {ιwm : ℕ}
variable {O : CellTallies nD τ sig (HIx 1)} {W0 : Waits sig (HIx 1)}
variable {fg : S2048.Idx → Elt F .f32} {f0 land : S512x128.Idx → Elt F .f32} {sT : S512.Idx → Elt F .i32}

/-! ## Loads of sixteen -/

theorem ix1_emb {off : Fin 1 → ℕ} [h : ClosedOff off] {inb : ∀ a, off a + S16.size a ≤ S512.size a} (x : S16.Idx) :
    (Rect.unit (s := S512) off S16.size inb).emb x = ix1 (h.form 0 + (x 0).val) := by
  have e := h.eq
  generalize h.form = o at e
  subst e
  have hx : (x 0).val < 16 := (x 0).isLt
  have hi : off 0 + 16 ≤ 512 := inb 0
  funext a
  match a with
  | 0 =>
    apply Fin.ext
    show off 0 + 1 * (x 0).val = (off 0 + (x 0).val) % 512
    omega

theorem lsrc_seg (f : S512.Idx → Elt F .i32) : LSrc d L (segB.view.loc (thr d L) ↦{fullShare} f : sProp (MM F)) segB f where
  load := by
    intro off h inb hl
    refine Reads.of_eq (Reads.load (f := f) ?_) ?_
    · iintro H
      isplitl [H]; · iexact H
      iintro H; iexact H
    · funext x
      show f ((Rect.unit (s := S512) off S16.size inb).emb x) = _
      rw [ix1_emb]; rfl

theorem lsrc_log (f : S512.Idx → Elt F .f32) : LSrc d L (logB.view.loc (thr d L) ↦{fullShare} f : sProp (MM F)) logB f where
  load := by
    intro off h inb hl
    refine Reads.of_eq (Reads.load (f := f) ?_) ?_
    · iintro H
      isplitl [H]; · iexact H
      iintro H; iexact H
    · funext x
      show f ((Rect.unit (s := S512) off S16.size inb).emb x) = _
      rw [ix1_emb]; rfl

theorem rsrc {t : ℕ} : RowSrc d L (GH d L ιwm fg f0 land (known t 3)) cB land t where
  load ht := Reads.loadRow rfl (fun j hj => known_group hj) ht

/-! ## The loop -/

theorem trips_eq : k0_t1_loop.trips = 32 := by decide

theorem score_step (hs : ∀ j, (sT j : BitVec 32).toNat < 16) (k0_t1 : Fin k0_t1_loop.trips) {f : S512.Idx → Elt F .f32}
    (hf : ∀ j, (j 0).val < 16 * k0_t1.val → f j = tileScore fg land hs j) (j : S512.Idx) (hj : (j 0).val < 16 * (k0_t1.val + 1)) :
    put16 f (k0_off15 k0_t1) (k0_off15_inb k0_t1) (grpVal fg land hs k0_t1.val (trip_lt k0_t1)) j = tileScore fg land hs j := by
  by_cases h : (j 0).val < 16 * k0_t1.val
  · rw [put16_out (k0_off15_eq k0_t1) (.inl h), hf j h]
  · have e : (j 0).val / 16 = k0_t1.val := by omega
    rw [put16_in (k0_off15_eq k0_t1) (x := Shape.ofLane (d := ![16]) (⟨(j 0).val % 16, Nat.mod_lt _ (by decide)⟩ : Fin 16))
      (show (j 0).val = 16 * k0_t1.val + (j 0).val % 16 by omega)]
    unfold tileScore
    have key : ∀ (t : ℕ) (h1 : t < 32) (e : t = k0_t1.val), grpVal fg land hs k0_t1.val (trip_lt k0_t1) = grpVal fg land hs t h1 := by
      intro t h1 e; subst e; rfl
    exact congrFun (key _ _ e) _

theorem steps_loop (hs : ∀ j, (sT j : BitVec 32).toNat < 16) (l0 : S512.Idx → Elt F .f32) :
    Steps (F := F) d L (LSt (d := d) (L := L) (ιwm := ιwm) (O := O) (W0 := W0) (fg := fg) (f0 := f0) (land := land) (sT := sT) 0 l0)
      (Scf.Loop.for k0_t1_loop k0_t1_ok () (k0_t1_body L gV (Memref.isWhole_whole _) candV (Memref.isWhole_whole _) segV (Memref.isWhole_whole _) logV (Memref.isWhole_whole _) mV (Memref.isWhole_whole _) sV (Memref.isWhole_whole _) cntV (Memref.isWhole_whole _) gB (Memref.isWhole_whole _) cB (Memref.isWhole_whole _) segB (Memref.isWhole_whole _) logB (Memref.isWhole_whole _)
      mB (Memref.isWhole_whole _) sB (Memref.isWhole_whole _) cntB (Memref.isWhole_whole _) cc0_scratch7 cc0_scratch8 cc0_scratch9 cc0_scratch10 cc0_scoped0 cc0_scoped1 cc0_scoped2 cc0_scoped3 cc0_scoped4 cc0_scoped5 lanes)) ()
      (LSt (d := d) (L := L) (ιwm := ιwm) (O := O) (W0 := W0) (fg := fg) (f0 := f0) (land := land) (sT := sT) 32 (tileScore fg land hs)) := fun Q => by
  refine BIBase.Entails.trans ?_ (Scf.wp_for frame (wpE (defs₀ (F := F)) 𝒱₀ (thr d L) none) Set.univ k0_t1_loop.lb k0_t1_loop.ub k0_t1_loop.st k0_t1_ok () _
    (fun k _ => iprop(∃ f, ⌜∀ j, (j 0).val < 16 * k → f j = tileScore fg land hs j⌝ ∗ LSt (d := d) (L := L) (ιwm := ιwm) (O := O) (W0 := W0) (fg := fg) (f0 := f0) (land := land) (sT := sT) k f)) (fun k a => ?_))
  · iintro ⟨HP, HQ⟩
    isplitl [HP]
    · iexists l0
      isplitr
      · ipureintro; exact fun j hj => absurd hj (by omega)
      · iexact HP
    iintro %a ⟨%f, %hf, HP⟩
    have e : f = tileScore fg land hs := funext fun j => hf j (by
      have h1 : (j 0).val < 512 := (j 0).isLt
      have h2 := trips_eq
      show (j 0).val < 16 * k0_t1_loop.trips
      omega)
    subst e
    iapply HQ
    have h2 := trips_eq
    unfold Scf.Loop.trips at h2
    irw [← h2]
    iexact HP
  · iintro ⟨%f, %hf, HP⟩
    iapply (steps_trip hs k f rsrc lsrc_seg _)
    isplitl [HP]; · iexact HP
    iintro HP
    iexists _
    isplitr
    on_goal 2 => iexact HP
    ipureintro
    exact score_step hs k hf

/-! ## Copies -/

/-- The start of a copy between two of the tile's buffers, or of the tile's part of an array. -/
theorem steps_start {sp sp' : Space} {s : Shape} {e : EltTy} {src : Memref sig (thr d L).2.kind sp s e} {dst : Memref sig (thr d L).2.kind sp' s e} {sem : DmaSem sig}
    {h1 : src.view.WordExact} {h2 : dst.view.WordExact} {h3 : DmaTarget.Typed (nD := nD) sp (.dma sem) (.here dst)} {q : PosShare TreeShare}
    {fs : Buf (Elt F) (src.view.loc (thr d L))} {fd : Buf (Elt F) (dst.view.loc (thr d L))} (hpos : 0 < s.numel) :
    Steps (F := F) d L iprop((src.view.loc (thr d L) ↦[src.view.set]{q} fs) ∗ (dst.view.loc (thr d L) ↦[dst.view.set]{fullShare} fd) ∗ semVal (thr d L, .dma sem) 0)
      (Prog.lift (.enqueueDma src (.here dst) (.dma sem) h1 h2 h3)) ⟨⟩
      (Flight EC (thr d L) (.dma sem) (default : HIx 1) dst.view.dmaCredit
        iprop((dst.view.loc (thr d L) ↦[dst.view.set]{fullShare} (dst.view.write (Elt F) fd (src.view.read (Elt F) fs) Finset.univ))
          ∗ (src.view.loc (thr d L) ↦[src.view.set]{q} fs))) := fun Q => by
  iintro ⟨H, HQ⟩
  iapply (wp_dmaLocal EC 𝒱₀ (thr d L) none (src := src) (dst := dst) (hsrc := h1) (hdst := h2) (hsem := h3) (q := q) (fs := fs) (fd := fd) (default : HIx 1) dst.view.dmaCredit rfl (View.dmaCredit_pos _ hpos) subset_rfl) $$ H
  iintro H
  irw [wp_ret]
  imodintro
  iapply HQ
  iexact H

/-- The wait for a copy. -/
theorem steps_done {sp sp' : Space} {s : Shape} {e : EltTy} {src : Memref sig (thr d L).2.kind sp s e} {dst : Memref sig (thr d L).2.kind sp' s e} {sem : DmaSem sig}
    {h1 : src.view.WordExact} {h2 : dst.view.WordExact} {D : sProp (MM F)} {N : ℕ} (hN : dst.view.dmaCredit = N) :
    Steps (F := F) d L iprop(MayWaits (thr d L) (default : HIx 1) O ∗ Flight EC (thr d L) (.dma sem) (default : HIx 1) N D ∗ OWs d L O W0)
      (Prog.lift (.waitDma2 sem src dst h1 h2)) ⟨⟩ iprop(D ∗ semVal (thr d L, .dma sem) 0 ∗ OWs d L O W0) := fun Q => by
  unfold OWs
  iintro ⟨⟨#Hmw, Hf, ⟨%W', %hW', HO⟩⟩, HQ⟩
  ihave Hm := (MayWaits.elim (.dma sem)) $$ Hmw
  iapply (wp_waitLocalO EC 𝒱₀ (thr d L) none (default : HIx 1) hN) $$ [Hf HO Hm]
  · isplitl [Hf]; · iexact Hf
    isplitl [HO] <;> iassumption
  iintro ⟨HD, Hsem, HO⟩
  irw [wp_ret]
  imodintro
  iapply HQ
  isplitl [HD]; · iexact HD
  isplitl [Hsem]; · iexact Hsem
  iexists _
  isplitr [HO]
  on_goal 2 => iexact HO
  ipureintro
  intro p hp
  rcases Finset.mem_insert.1 hp with rfl | hp
  · exact .inr rfl
  · exact hW' p hp

end Cert.Proof
-- ==== Proof.Chain.lean ====
module
public import proofs.«01_k».proof.Proof.Tail
@[expose] public section

/-! # A tile's program in one piece

`k0_part110` from what its four parts with copies do: the start, the scoring loop, the store of the maxima and the end. -/

noncomputable section
namespace Cert.Proof
open Cert.KernelIdeal Cert.KernelIdeal.Gen
open Idealize.ShloMosaic
open Idealize.SL Idealize.SL.RA Idealize.SL.BI
open Idealize.SL.BI.BIBase Idealize.SL.BI.Laws Idealize.SL.ProofMode Idealize.SL.Sem

variable {F : FTy → Type} [FloatOps F]
variable {d : Dev nD} {L : grid0.Coords}
variable (arg2 : Memref sig .scVector .hbm S2048 .f32) (harg2 : arg2.IsWhole) (arg3 : Memref sig .scVector .hbm S16384x128 .f32) (harg3 : arg3.IsWhole) (arg4 : Memref sig .scVector .hbm S16384 .i32) (harg4 : arg4.IsWhole) (arg5 : Memref sig .scVector .hbm S16384 .f32) (harg5 : arg5.IsWhole) (arg6 : Memref sig .scVector .hbm S32x16 .f32) (harg6 : arg6.IsWhole) (arg7 : Memref sig .scVector .hbm S32x16 .f32) (harg7 : arg7.IsWhole) (arg8 : Memref sig .scVector .hbm S32x16 .f32) (harg8 : arg8.IsWhole) (arg9 : Memref sig .scVector .vmem S2048 .f32) (harg9 : arg9.IsWhole) (arg10 : Memref sig .scVector .vmem S512x128 .f32) (harg10 : arg10.IsWhole) (arg11 : Memref sig .scVector .vmem S512 .i32) (harg11 : arg11.IsWhole) (arg12 : Memref sig .scVector .vmem S512 .f32) (harg12 : arg12.IsWhole) (arg13 : Memref sig .scVector .vmem S16 .f32) (harg13 : arg13.IsWhole) (arg14 : Memref sig .scVector .vmem S16 .f32) (harg14 : arg14.IsWhole) (arg15 : Memref sig .scVector .vmem S16 .f32) (harg15 : arg15.IsWhole) (arg16 : DmaSems sig S_) (arg17 : DmaSems sig S_) (arg18 : DmaSems sig S_) (arg19 : DmaSems sig S_) (v2551_r0 : DmaSems sig S_) (v2551_r1 : DmaSems sig S_) (v2551_r2 : DmaSems sig S_) (v2551_r3 : DmaSems sig S_) (v2551_r4 : DmaSems sig S_) (v2551_r5 : DmaSems sig S_)
variable {P0 P1 H1 H2 P3 P4 : sProp (MM F)} {sT : S512.Idx → Elt F .i32} {lT : S512.Idx → Elt F .f32} {mv m0 : FVec F S16 .f32}

/-- The end of `k0_part110`: the wait for the sums' copy and the start of the counts'. -/
def tailProg (L : grid0.Coords) (arg2 : Memref sig .scVector .hbm S2048 .f32) (harg2 : arg2.IsWhole) (arg3 : Memref sig .scVector .hbm S16384x128 .f32) (harg3 : arg3.IsWhole) (arg4 : Memref sig .scVector .hbm S16384 .i32) (harg4 : arg4.IsWhole) (arg5 : Memref sig .scVector .hbm S16384 .f32) (harg5 : arg5.IsWhole) (arg6 : Memref sig .scVector .hbm S32x16 .f32) (harg6 : arg6.IsWhole) (arg7 : Memref sig .scVector .hbm S32x16 .f32) (harg7 : arg7.IsWhole) (arg8 : Memref sig .scVector .hbm S32x16 .f32) (harg8 : arg8.IsWhole) (arg9 : Memref sig .scVector .vmem S2048 .f32) (harg9 : arg9.IsWhole) (arg10 : Memref sig .scVector .vmem S512x128 .f32) (harg10 : arg10.IsWhole) (arg11 : Memref sig .scVector .vmem S512 .i32) (harg11 : arg11.IsWhole) (arg12 : Memref sig .scVector .vmem S512 .f32) (harg12 : arg12.IsWhole) (arg13 : Memref sig .scVector .vmem S16 .f32) (harg13 : arg13.IsWhole) (arg14 : Memref sig .scVector .vmem S16 .f32) (harg14 : arg14.IsWhole) (arg15 : Memref sig .scVector .vmem S16 .f32) (harg15 : arg15.IsWhole) (arg16 : DmaSems sig S_) (arg17 : DmaSems sig S_) (arg18 : DmaSems sig S_) (arg19 : DmaSems sig S_) (v2551_r0 : DmaSems sig S_) (v2551_r1 : DmaSems sig S_) (v2551_r2 : DmaSems sig S_) (v2551_r3 : DmaSems sig S_) (v2551_r4 : DmaSems sig S_) (v2551_r5 : DmaSems sig S_) : Prog (TpuEff nD τ sig (Elt F) Λ₀ (Proc.scVector (cV L) (jV L))) PUnit := do
  let v2558_r4 : Memref sig .scVector .hbm S1x16 .f32 := arg7.slice (Rect.unit (s := S32x16) (k0_off18 L) S1x16.size (k0_off18_inb L)) (fun _ => rfl)
  let v2559_r4 : Memref sig .scVector .hbm S16 .f32 := v2558_r4.squeeze S16 squeezes_S1x16_S16
  Prog.lift (.waitDma2 v2551_r4.sem arg14 v2559_r4 harg14.wordExact ((View.wordExact_bits rfl).reshape _ _))
  let v2554_r5 : Memref sig .scVector .hbm S1x16 .f32 := arg8.slice (Rect.unit (s := S32x16) (k0_off18 L) S1x16.size (k0_off18_inb L)) (fun _ => rfl)
  let v2555_r5 : Memref sig .scVector .hbm S16 .f32 := v2554_r5.squeeze S16 squeezes_S1x16_S16
  Prog.lift (.enqueueDma arg15 (.here v2555_r5) (.dma v2551_r5.sem) harg15.wordExact ((View.wordExact_bits rfl).reshape _ _) ⟨Or.inl rfl, trivial⟩)
  pure ⟨⟩

/-- The store of the maxima, and the zeros that the sums start at. -/
theorem steps_store_max
    (hmL : Reads d L H1 (Prog.lift (.load arg13 (Rect.unit (s := S16) ![0] S16.size inb_S16_S16_0).toLoadRect (View.loadsAt_vmem h_S16))) m0)
    (hmS : Steps d L H1 (Prog.lift (.store arg13 (Rect.unit (s := S16) ![0] S16.size inb_S16_S16_0) mv Finset.univ
      (View.stores_vmem_bits_univ h_S16 rfl) (.inl rfl))) ⟨⟩ H2)
    {a b : FVec F S16 .f32} {c : IVec S16 1} {e : F .f32} {g : FVec F S1 .f32} (he : k0_pay480 a b c e g = mv) :
    Steps d L H1 (k0_part80 L arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v2551_r0 v2551_r1 v2551_r2 v2551_r3 v2551_r4 v2551_r5 a b c e g)
      ⟨k0_pay481, k0_pay482, k0_pay483, k0_pay484, k0_pay485, k0_pay486, k0_pay487, k0_pay488, k0_pay489, k0_pay490, k0_pay491, k0_pay492, k0_pay493, k0_pay494, k0_pay495, k0_pay496, k0_pay497, Scalar.ofBits .f32 0x00000000#32⟩ H2 := by
  subst he
  delta k0_part80
  exact Steps.bind (Steps.of_reads hmL) (Steps.bind hmS (Steps.pure' _))

set_option maxHeartbeats 8000000 in
theorem steps_all {v23 : IVec S16 32} (hs : ∀ j, (sT j).toNat < 16)
    (h64 : Steps d L P0 (k0_part64 L arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v2551_r0 v2551_r1 v2551_r2 v2551_r3 v2551_r4 v2551_r5) ⟨⟩ P1)
    (h65 : Steps d L P1 (k0_part65 L arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v2551_r0 v2551_r1 v2551_r2 v2551_r3 v2551_r4 v2551_r5) ⟨v23, k0_pay413, k0_pay414, k0_pay415, k0_pay416, k0_pay417⟩ H1)
    (sL : LSrc d L H1 arg12 lT) (sS : LSrc d L H1 arg11 sT)
    (hmL : Reads d L H1 (Prog.lift (.load arg13 (Rect.unit (s := S16) ![0] S16.size inb_S16_S16_0).toLoadRect (View.loadsAt_vmem h_S16))) m0)
    (hmS : Steps d L H1 (Prog.lift (.store arg13 (Rect.unit (s := S16) ![0] S16.size inb_S16_S16_0) (tileMax v23 sT lT) Finset.univ
      (View.stores_vmem_bits_univ h_S16 rfl) (.inl rfl))) ⟨⟩ H2)
    (sL' : LSrc d L H2 arg12 lT) (sS' : LSrc d L H2 arg11 sT) (sM : Src d L H2 arg13 mv fun _ => True)
    (h109 : ∀ a b c e g, c = tileSum v23 sT lT mv hs → k0_pay619 a b e g = tileCnt (F := F) v23 sT →
      Steps d L H2 (k0_part109 L arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v2551_r0 v2551_r1 v2551_r2 v2551_r3 v2551_r4 v2551_r5 a b c e g) ⟨⟩ P3)
    (hend : Steps d L P3 (tailProg L arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v2551_r0 v2551_r1 v2551_r2 v2551_r3 v2551_r4 v2551_r5) ⟨⟩ P4) :
    Steps d L P0 (k0_part110 L arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v2551_r0 v2551_r1 v2551_r2 v2551_r3 v2551_r4 v2551_r5) ⟨⟩ P4 := by
  delta k0_part110
  apply Steps.bind h64
  apply Steps.bind h65
  apply Steps.bind (Steps.of_reads (reads_max arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v2551_r0 v2551_r1 v2551_r2 v2551_r3 v2551_r4 v2551_r5 sL sS))
  repeat' first
    | (with_reducible exact Steps.pure' _)
    | ((with_reducible apply Steps.bind (h109 _ _ _ _ _ ?_ ?_)))
    | ((with_reducible apply Steps.bind (steps_store_max arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v2551_r0 v2551_r1 v2551_r2 v2551_r3 v2551_r4 v2551_r5 hmL hmS ?_)))
    | ((with_reducible apply Steps.bind (Steps.of_reads (reads_sum arg2 harg2 arg3 harg3 arg4 harg4 arg5 harg5 arg6 harg6 arg7 harg7 arg8 harg8 arg9 harg9 arg10 harg10 arg11 harg11 arg12 harg12 arg13 harg13 arg14 harg14 arg15 harg15 arg16 arg17 arg18 arg19 v2551_r0 v2551_r1 v2551_r2 v2551_r3 v2551_r4 v2551_r5 sL' sS' sM hs))))
    | ((with_reducible apply Steps.bind)
       delta k0_part67 k0_part68 k0_part69 k0_part70 k0_part71 k0_part72 k0_part73 k0_part74 k0_part75 k0_part76 k0_part77 k0_part78 k0_part79 k0_part82 k0_part83 k0_part84 k0_part85 k0_part86 k0_part87 k0_part88 k0_part89 k0_part90 k0_part91 k0_part92 k0_part93 k0_part94 k0_part95 k0_part96 k0_part97 k0_part98 k0_part99 k0_part100 k0_part101 k0_part102 k0_part103 k0_part104 k0_part105 k0_part106 k0_part107 k0_part108)
    | (with_reducible exact hend)
  · exact hend
  · rfl
  · rfl
  · rfl

end Cert.Proof
-- ==== Proof.Begin.lean ====
module
public import proofs.«01_k».proof.Proof.Copies
public import proofs.«01_k».proof.Proof.Chain
@[expose] public section

/-! # The start of a tile's program

The copies in, and the scoring loop: the tile ends holding its segments and their scores. -/

noncomputable section
namespace Cert.Proof
open Cert.KernelIdeal Cert.KernelIdeal.Gen
open Idealize.ShloMosaic
open Idealize.ShloMosaic.SparseCore.Cfg (HIx)
open Idealize.SL Idealize.SL.RA Idealize.SL.BI
open Idealize.SL.BI.BIBase Idealize.SL.BI.Laws Idealize.SL.ProofMode Idealize.SL.Sem
open Idealize.ShloMosaic.Transfers

variable {F : FTy → Type} [FloatOps F]

local notation "EC" => countersEmb (nD := nD) (τ := τ) (sig := sig) (Ix := HIx 1) (Val := Elt F) (Name := ℕ) (U := UU F) (Lvl := ℕ)
local notation "TProg" L => Prog (TpuEff nD τ sig (Elt F) Λ₀ (Proc.scVector (cV L) (jV L)))

/-- Running one step of a program. -/
theorem Steps.run {d : Dev nD} {L : grid0.Coords} {P R : sProp (MM F)} {α β : Type} {p : (TProg L) α} {v : α} {k : α → (TProg L) β} {Q : β → sProp (MM F)} (h : Steps d L P p v R) :
    iprop(P ∗ (R -∗ wp Idealize.ShloMosaic.frame (wpE (defs₀ (F := F)) 𝒱₀ (thr d L) none) Set.univ (k v) Q)) ⊢ wp Idealize.ShloMosaic.frame (wpE (defs₀ (F := F)) 𝒱₀ (thr d L) none) Set.univ (p >>= k) Q := by
  rw [wp_bind]
  exact h fun a => wp Idealize.ShloMosaic.frame (wpE (defs₀ (F := F)) 𝒱₀ (thr d L) none) Set.univ (k a) Q

variable (d : Dev nD) (L : grid0.Coords) (ιwm : ℕ)
variable (O : CellTallies nD τ sig (HIx 1)) (W0 : Waits sig (HIx 1))
variable (fg fb : S2048.Idx → Elt F .f32) (f0 : S512x128.Idx → Elt F .f32) (cand : S16384x128.Idx → Elt F .f32)
variable (seg : S16384.Idx → Elt F .i32) (s0 : S512.Idx → Elt F .i32) (l0 : S512.Idx → Elt F .f32) (q : PosShare TreeShare) (T : sProp (MM F))

/-- Tile `L`'s segments. -/
def segTile (L : grid0.Coords) (seg : S16384.Idx → Elt F .i32) (j : S512.Idx) : Elt F .i32 :=
  seg (fun a => match a with | 0 => ⟨(base L + (j 0).val) % 16384, Nat.mod_lt _ (by decide)⟩)

/-- The tile's start. -/
def B0 : sProp (MM F) :=
  iprop(MayWaits (thr d L) (default : HIx 1) O ∗ OWs d L O W0 ∗ wmInv wmE ιwm
    ∗ semVal (thr d L, .dma cc0_scratch7.sem) 0 ∗ semVal (thr d L, .dma cc0_scratch8.sem) 0 ∗ semVal (thr d L, .dma cc0_scratch9.sem) 0 ∗ semVal (thr d L, .dma cc0_scratch10.sem) 0
    ∗ semVal (thr d L, .dma cc0_scoped0.sem) 0 ∗ semVal (thr d L, .dma cc0_scoped1.sem) 0
    ∗ (gV.view.loc (thr d L) ↦{q} fg) ∗ (candV.view.loc (thr d L) ↦{q} cand) ∗ (segV.view.loc (thr d L) ↦{q} seg)
    ∗ (gB.view.loc (thr d L) ↦{fullShare} fb) ∗ (cB.view.loc (thr d L) ↦{fullShare} f0) ∗ (segB.view.loc (thr d L) ↦{fullShare} s0) ∗ (logB.view.loc (thr d L) ↦{fullShare} l0) ∗ T)

/-- With every copy in under way. -/
def B1 : sProp (MM F) :=
  iprop(MayWaits (thr d L) (default : HIx 1) O ∗ OWs d L O W0 ∗ wmInv wmE ιwm
    ∗ Fly d L cc0_scratch7 0 f0 (landOf L cand) ∗ Fly d L cc0_scratch8 1 f0 (landOf L cand) ∗ Fly d L cc0_scratch9 2 f0 (landOf L cand) ∗ Fly d L cc0_scratch10 3 f0 (landOf L cand)
    ∗ (∃ R, Flight EC (thr d L) (.dma cc0_scoped0.sem) (default : HIx 1) gB.view.dmaCredit (iprop((gB.view.loc (thr d L) ↦{fullShare} fg) ∗ R)))
    ∗ semVal (thr d L, .dma cc0_scoped1.sem) 0
    ∗ (segV.view.loc (thr d L) ↦{q} seg) ∗ WB d L Finset.univ fullShare.right f0 (landOf L cand) ∅
    ∗ (segB.view.loc (thr d L) ↦{fullShare} s0) ∗ (logB.view.loc (thr d L) ↦{fullShare} l0) ∗ T)

/-- What the tile holds besides, once every copy in is done. -/
def Kept : sProp (MM F) :=
  iprop(wmInv wmE ιwm ∗ (∃ f, gB.view.loc (thr d L) ↦{fullShare} f) ∗ WB d L Finset.univ fullShare.right f0 (landOf L cand) (known 32 0)
    ∗ (semVal (thr d L, .dma cc0_scratch7.sem) 0 ∗ WB d L (chunk 0) fullShare.left f0 (landOf L cand) (chunk 0))
    ∗ (semVal (thr d L, .dma cc0_scratch8.sem) 0 ∗ WB d L (chunk 1) fullShare.left f0 (landOf L cand) (chunk 1))
    ∗ (semVal (thr d L, .dma cc0_scratch9.sem) 0 ∗ WB d L (chunk 2) fullShare.left f0 (landOf L cand) (chunk 2))
    ∗ (semVal (thr d L, .dma cc0_scratch10.sem) 0 ∗ WB d L (chunk 3) fullShare.left f0 (landOf L cand) (chunk 3))
    ∗ semVal (thr d L, .dma cc0_scoped0.sem) 0 ∗ semVal (thr d L, .dma cc0_scoped1.sem) 0)

/-- With every score made. -/
def B2 (lT : S512.Idx → Elt F .f32) : sProp (MM F) :=
  iprop((segB.view.loc (thr d L) ↦{fullShare} segTile L seg) ∗ (logB.view.loc (thr d L) ↦{fullShare} lT)
    ∗ MayWaits (thr d L) (default : HIx 1) O ∗ OWs d L O W0 ∗ Kept d L ιwm f0 cand ∗ T)

set_option maxHeartbeats 1000000 in
theorem steps_64 : Steps (F := F) d L (B0 d L ιwm O W0 fg fb f0 cand seg s0 l0 q T) (k0_part64 L gV (Memref.isWhole_whole _) candV (Memref.isWhole_whole _) segV (Memref.isWhole_whole _) logV (Memref.isWhole_whole _) mV (Memref.isWhole_whole _) sV (Memref.isWhole_whole _) cntV (Memref.isWhole_whole _) gB (Memref.isWhole_whole _) cB (Memref.isWhole_whole _) segB (Memref.isWhole_whole _) logB (Memref.isWhole_whole _)
      mB (Memref.isWhole_whole _) sB (Memref.isWhole_whole _) cntB (Memref.isWhole_whole _) cc0_scratch7 cc0_scratch8 cc0_scratch9 cc0_scratch10 cc0_scoped0 cc0_scoped1 cc0_scoped2 cc0_scoped3 cc0_scoped4 cc0_scoped5) ⟨⟩
    (B1 d L ιwm O W0 fg f0 cand seg s0 l0 q T) := by
  intro Q
  delta k0_part64
  unfold B0
  iintro ⟨⟨#Hmw, HO, #Hwm, H7, H8, H9, H10, Hr0, Hr1, Hg, Hc, Hs, Hgb, Hcb, Hsb, Hlb, HT⟩, HQ⟩
  imod (WB_start (land := landOf L cand) (Set.mem_univ ιwm)) $$ [Hcb] with ⟨Hw, Hw0, Hw1, Hw2, Hw3⟩
  · isplitr [Hcb]
    · iexact Hwm
    · iexact Hcb
  icases Hc with ⟨Hc0, Hc⟩
  icases Hc with ⟨Hc1, Hc⟩
  icases Hc with ⟨Hc2, Hc3⟩
  iapply (Steps.run (steps_enq (sem := cc0_scratch7) (n := 0) (o := 0) (f0 := f0) (cand := cand) rfl (by decide) (k0_off1_eq L 0) _ _))
  isplitl [H7 Hc0 Hw0]
  · isplitr [H7 Hc0 Hw0]; · iexact Hwm
    iframe H7 Hc0 Hw0
  iintro H7
  iapply (Steps.run (steps_enq (sem := cc0_scratch8) (n := 1) (o := 128) (f0 := f0) (cand := cand) rfl (by decide) (k0_off1_eq L 1) _ _))
  isplitl [H8 Hc1 Hw1]
  · isplitr [H8 Hc1 Hw1]; · iexact Hwm
    iframe H8 Hc1 Hw1
  iintro H8
  iapply (Steps.run (steps_enq (sem := cc0_scratch9) (n := 2) (o := 256) (f0 := f0) (cand := cand) rfl (by decide) (k0_off1_eq L 2) _ _))
  isplitl [H9 Hc2 Hw2]
  · isplitr [H9 Hc2 Hw2]; · iexact Hwm
    iframe H9 Hc2 Hw2
  iintro H9
  iapply (Steps.run (steps_enq (sem := cc0_scratch10) (n := 3) (o := 384) (f0 := f0) (cand := cand) rfl (by decide) (k0_off1_eq L 3) _ _))
  isplitl [H10 Hc3 Hw3]
  · isplitr [H10 Hc3 Hw3]; · iexact Hwm
    iframe H10 Hc3 Hw3
  iintro H10
  have hgs : gB.view.set = Finset.univ := View.set_whole _
  have hgv : gV.view.set = Finset.univ := View.set_whole _
  have st := steps_start (F := F) (d := d) (L := L) (src := gV) (dst := gB) (sem := cc0_scoped0.sem) (h1 := (Memref.isWhole_whole _).wordExact) (h2 := (Memref.isWhole_whole _).wordExact)
    (h3 := ⟨Or.inl rfl, trivial⟩) (q := q) (fs := fg) (fd := fb) (by decide)
  rw [hgs, hgv] at st
  have ew : View.write (Elt F) gB.view fb (View.read (Elt F) gV.view fg) Finset.univ = fg := View.write_whole_univ _ _ _
  rw [ew] at st
  iapply (Steps.run st)
  isplitl [Hg Hgb Hr0]
  · iframe Hg Hgb Hr0
  iintro Hr0
  irw [wp_pure]
  imodintro
  iapply HQ
  unfold B1
  isplitr [HO H7 H8 H9 H10 Hr0 Hr1 Hs Hw Hsb Hlb HT]; · iexact Hmw
  isplitl [HO]; · iexact HO
  isplitr [H7 H8 H9 H10 Hr0 Hr1 Hs Hw Hsb Hlb HT]; · iexact Hwm
  isplitl [H7]; · iexact H7
  isplitl [H8]; · iexact H8
  isplitl [H9]; · iexact H9
  isplitl [H10]; · iexact H10
  isplitl [Hr0]; · iexists _; iexact Hr0
  iframe Hr1 Hs Hw Hsb Hlb HT

theorem segTile_eq : (segB.view.write (Elt F) s0 ((segV.slice (Rect.unit (s := S16384) (k0_off2 L) S512.size (k0_off2_inb L)) (fun _ => rfl)).view.read (Elt F) seg) Finset.univ)
    = segTile L seg := by
  refine (View.write_whole_univ _ _ _).trans ?_
  funext j
  show seg ((Rect.unit (s := S16384) (k0_off2 L) S512.size (k0_off2_inb L)).emb j) = _
  unfold segTile
  congr 1
  have hb := base_le L
  have h0 : (j 0).val < 512 := (j 0).isLt
  funext a
  match a with
  | 0 =>
    apply Fin.ext
    show k0_off2 L 0 + 1 * (j 0).val = (base L + (j 0).val) % 16384
    have e : k0_off2 L 0 = base L := by rw [k0_off2_eq]; rfl
    omega

theorem Ck_zero {land : S512x128.Idx → Elt F .f32} {sem : DmaSems sig S_} {n : ℕ} : Ck (F := F) d L f0 land sem n 0 = Fly d L sem n f0 land := if_pos (Nat.zero_le _)

theorem Ck_end {land : S512x128.Idx → Elt F .f32} {sem : DmaSems sig S_} {n : ℕ} (h : ¬ 32 ≤ 8 * n) : Ck (F := F) d L f0 land sem n 32
    = iprop(semVal (thr d L, .dma sem.sem) 0 ∗ WB d L (chunk n) fullShare.left f0 land (chunk n)) := if_neg h

set_option maxHeartbeats 1000000 in
theorem steps_65 (hs : ∀ j, (segTile L seg j : BitVec 32).toNat < 16) :
    Steps (F := F) d L (B1 d L ιwm O W0 fg f0 cand seg s0 l0 q T) (k0_part65 L gV (Memref.isWhole_whole _) candV (Memref.isWhole_whole _) segV (Memref.isWhole_whole _) logV (Memref.isWhole_whole _) mV (Memref.isWhole_whole _) sV (Memref.isWhole_whole _) cntV (Memref.isWhole_whole _) gB (Memref.isWhole_whole _) cB (Memref.isWhole_whole _) segB (Memref.isWhole_whole _) logB (Memref.isWhole_whole _)
      mB (Memref.isWhole_whole _) sB (Memref.isWhole_whole _) cntB (Memref.isWhole_whole _) cc0_scratch7 cc0_scratch8 cc0_scratch9 cc0_scratch10 cc0_scoped0 cc0_scoped1 cc0_scoped2 cc0_scoped3 cc0_scoped4 cc0_scoped5)
      ⟨lanes, k0_pay413, k0_pay414, k0_pay415, k0_pay416, k0_pay417⟩
      (B2 d L ιwm O W0 f0 cand seg T (tileScore fg (landOf L cand) hs)) := by
  refine Steps.of_eq (v := ⟨iota .scVector S16 32 [0] iota_S16_d0_w32_scVector, broadcast S16 (FloatOps.ofBits FTy.f32 4286578688#32), broadcast S16 (FloatOps.ofBits FTy.f32 4286578688#32),
    broadcast S16 (FloatOps.ofBits FTy.f32 4286578688#32), broadcast S16 (FloatOps.ofBits FTy.f32 4286578688#32), broadcast S16 (FloatOps.ofBits FTy.f32 4286578688#32)⟩) ?_ rfl
  intro Q
  delta k0_part65
  unfold B1
  iintro ⟨⟨#Hmw, HO, #Hwm, H7, H8, H9, H10, ⟨%R, Hg⟩, Hr1, Hs, Hw, Hsb, Hlb, HT⟩, HQ⟩
  iapply (Steps.run (steps_done (O := O) (W0 := W0) rfl))
  isplitl [HO Hg]
  · isplitr [HO Hg]; · iexact Hmw
    iframe HO Hg
  iintro ⟨⟨Hg, -⟩, Hr0, HO⟩
  have hsb : segB.view.set = Finset.univ := View.set_whole _
  ihave Hs' := (pointsTo_split_subset (Finset.subset_univ ((segV.slice (Rect.unit (s := S16384) (k0_off2 L) S512.size (k0_off2_inb L)) (fun _ => rfl)).view.set))).1 $$ Hs
  icases Hs' with ⟨Hs, -⟩
  have st := steps_start (F := F) (d := d) (L := L) (src := segV.slice (Rect.unit (s := S16384) (k0_off2 L) S512.size (k0_off2_inb L)) (fun _ => rfl)) (dst := segB) (sem := cc0_scoped1.sem)
    (h1 := View.wordExact_bits rfl) (h2 := (Memref.isWhole_whole _).wordExact)
    (h3 := ⟨Or.inl rfl, trivial⟩) (q := q) (fs := seg) (fd := s0) (show 0 < S512.numel by decide)
  rw [hsb, segTile_eq] at st
  iapply (Steps.run st)
  isplitl [Hs Hsb Hr1]
  · iframe Hs Hsb Hr1
  iintro Hr1
  iapply (Steps.run (steps_done (O := O) (W0 := W0) rfl))
  isplitl [HO Hr1]
  · isplitr [HO Hr1]; · iexact Hmw
    iframe HO Hr1
  iintro ⟨⟨Hsb, -⟩, Hr1, HO⟩
  have sw := steps_wait (F := F) (d := d) (L := L) (sem := cc0_scratch7) (n := 0) (o := 0) (off := k0_off1 L 0#32) (f0 := f0) (land := landOf L cand) (O := O) (W0 := W0) (W := ∅)
    inb_S512x128_S128x128_0_0 (k0_off1_inb L 0) (h1 := View.wordExact_bits rfl) (h2 := View.wordExact_bits rfl)
  rw [Finset.empty_union] at sw
  iapply (Steps.run sw)
  isplitl [HO H7 Hw]
  · unfold OWs
    isplitr [HO H7 Hw]; · iexact Hmw
    iframe HO H7 Hw
  iintro ⟨H7, Hw, HO⟩
  ihave Hw := (show WB d L Finset.univ fullShare.right f0 (landOf L cand) (chunk 0) ⊢ WB d L Finset.univ fullShare.right f0 (landOf L cand) (known 0 0) from by rw [known_start]) $$ Hw
  iapply (Steps.run (steps_loop (d := d) (L := L) (ιwm := ιwm) (O := O) (W0 := W0) (fg := fg) (f0 := f0) (land := landOf L cand) (sT := segTile L seg) hs l0))
  isplitl [HO Hg Hw H8 H9 H10 Hsb Hlb]
  · delta LSt
    unfold LS GH
    isplitr [HO Hg Hw H8 H9 H10 Hsb Hlb]; · iexact Hmw
    isplitl [Hg Hw]
    · isplitr [Hg Hw]; · iexact Hwm
      iframe Hg Hw
    irw [Ck_zero, Ck_zero, Ck_zero]
    iframe H8 H9 H10
    unfold OWs
    iframe HO Hsb Hlb
  delta LSt
  unfold LS
  irw [Ck_end d L f0 (n := 1) (by decide), Ck_end d L f0 (n := 2) (by decide), Ck_end d L f0 (n := 3) (by decide)]
  unfold GH
  iintro ⟨-, ⟨-, Hg, Hw⟩, H8, H9, H10, HO, Hsb, Hlb⟩
  irw [wp_pure]
  imodintro
  iapply HQ
  unfold B2 Kept
  isplitl [Hsb]; · iexact Hsb
  isplitl [Hlb]; · iexact Hlb
  isplitr [HO Hg Hw H7 H8 H9 H10 Hr0 Hr1 HT]; · iexact Hmw
  isplitl [HO]; · iexact HO
  isplitl [Hg Hw H7 H8 H9 H10 Hr0 Hr1]
  · isplitr [Hg Hw H7 H8 H9 H10 Hr0 Hr1]; · iexact Hwm
    isplitl [Hg]; · iexists _; iexact Hg
    iframe Hw H7 H8 H9 H10 Hr0 Hr1
  iexact HT

end Cert.Proof
-- ==== Proof.Finish.lean ====
module
public import proofs.«01_k».proof.Proof.Begin
@[expose] public section

/-! # A tile's whole program

The scores, and each segment's maximum, sum and count, copied out. -/

noncomputable section
namespace Cert.Proof
open Cert.KernelIdeal Cert.KernelIdeal.Gen
open Idealize.ShloMosaic
open Idealize.ShloMosaic.SparseCore.Cfg (HIx)
open Idealize.SL Idealize.SL.RA Idealize.SL.BI
open Idealize.SL.BI.BIBase Idealize.SL.BI.Laws Idealize.SL.ProofMode Idealize.SL.Sem
open Idealize.ShloMosaic.Transfers

variable {F : FTy → Type} [FloatOps F]

local notation "EC" => countersEmb (nD := nD) (τ := τ) (sig := sig) (Ix := HIx 1) (Val := Elt F) (Name := ℕ) (U := UU F) (Lvl := ℕ)

/-! ## The parts of the results that a tile writes -/

abbrev logK (L : grid0.Coords) : Memref sig .scVector .hbm S512 .f32 := logV.slice (Rect.unit (s := S16384) (k0_off2 L) S512.size (k0_off2_inb L)) (fun _ => rfl)
abbrev mK (L : grid0.Coords) : Memref sig .scVector .hbm S16 .f32 := (mV.slice (Rect.unit (s := S32x16) (k0_off18 L) S1x16.size (k0_off18_inb L)) (fun _ => rfl)).squeeze S16 squeezes_S1x16_S16
abbrev sK (L : grid0.Coords) : Memref sig .scVector .hbm S16 .f32 := (sV.slice (Rect.unit (s := S32x16) (k0_off18 L) S1x16.size (k0_off18_inb L)) (fun _ => rfl)).squeeze S16 squeezes_S1x16_S16
abbrev cntK (L : grid0.Coords) : Memref sig .scVector .hbm S16 .f32 := (cntV.slice (Rect.unit (s := S32x16) (k0_off18 L) S1x16.size (k0_off18_inb L)) (fun _ => rfl)).squeeze S16 squeezes_S1x16_S16

variable (d : Dev nD) (L : grid0.Coords) (ιwm : ℕ)
variable (O : CellTallies nD τ sig (HIx 1)) (W0 : Waits sig (HIx 1))
variable (fg fb : S2048.Idx → Elt F .f32) (f0 : S512x128.Idx → Elt F .f32) (cand : S16384x128.Idx → Elt F .f32)
variable (seg : S16384.Idx → Elt F .i32) (s0 : S512.Idx → Elt F .i32) (l0 lo : S512.Idx → Elt F .f32) (q : PosShare TreeShare)
variable (lG : S16384.Idx → Elt F .f32) (mG sG cG : S32x16.Idx → Elt F .f32) (mv sv cv : S16.Idx → Elt F .f32)

/-- The tile's parts of the results. -/
def Outs (lG : S16384.Idx → Elt F .f32) (mG sG cG : S32x16.Idx → Elt F .f32) : sProp (MM F) :=
  iprop(((logK L).view.loc (thr d L) ↦[(logK L).view.set]{fullShare} lG) ∗ ((mK L).view.loc (thr d L) ↦[(mK L).view.set]{fullShare} mG)
    ∗ ((sK L).view.loc (thr d L) ↦[(sK L).view.set]{fullShare} sG) ∗ ((cntK L).view.loc (thr d L) ↦[(cntK L).view.set]{fullShare} cG))

def Sems : sProp (MM F) :=
  iprop(semVal (thr d L, .dma cc0_scoped2.sem) 0 ∗ semVal (thr d L, .dma cc0_scoped3.sem) 0 ∗ semVal (thr d L, .dma cc0_scoped4.sem) 0 ∗ semVal (thr d L, .dma cc0_scoped5.sem) 0)

/-- What the start does not touch. -/
def Rest (mv sv cv : S16.Idx → Elt F .f32) (lG : S16384.Idx → Elt F .f32) (mG sG cG : S32x16.Idx → Elt F .f32) : sProp (MM F) :=
  iprop((mB.view.loc (thr d L) ↦{fullShare} mv) ∗ (sB.view.loc (thr d L) ↦{fullShare} sv) ∗ (cntB.view.loc (thr d L) ↦{fullShare} cv)
    ∗ Sems d L ∗ Outs d L lG mG sG cG)

/-- What the tile writes of the scores, over what was there. -/
def logW (lT : S512.Idx → Elt F .f32) : S16384.Idx → Elt F .f32 := (logK L).view.write (Elt F) lG lT Finset.univ
def mW (mT : S16.Idx → Elt F .f32) : S32x16.Idx → Elt F .f32 := (mK L).view.write (Elt F) mG mT Finset.univ
def sW (mT : S16.Idx → Elt F .f32) : S32x16.Idx → Elt F .f32 := (sK L).view.write (Elt F) sG mT Finset.univ
def cW (mT : S16.Idx → Elt F .f32) : S32x16.Idx → Elt F .f32 := (cntK L).view.write (Elt F) cG mT Finset.univ

/-- Before the last two copies. -/
def B3 (lT : S512.Idx → Elt F .f32) (mT sumT cntT : S16.Idx → Elt F .f32) : sProp (MM F) :=
  iprop(MayWaits (thr d L) (default : HIx 1) O ∗ OWs d L O W0 ∗ Kept d L ιwm f0 cand ∗ (∃ f, segB.view.loc (thr d L) ↦{fullShare} f)
    ∗ (∃ f, logB.view.loc (thr d L) ↦{fullShare} f) ∗ (∃ f, mB.view.loc (thr d L) ↦{fullShare} f) ∗ (cntB.view.loc (thr d L) ↦{fullShare} cntT)
    ∗ semVal (thr d L, .dma cc0_scoped2.sem) 0 ∗ semVal (thr d L, .dma cc0_scoped3.sem) 0
    ∗ Flight EC (thr d L) (.dma cc0_scoped4.sem) (default : HIx 1) (sK L).view.dmaCredit
        (iprop(((sK L).view.loc (thr d L) ↦[(sK L).view.set]{fullShare} sW L sG sumT) ∗ (sB.view.loc (thr d L) ↦{fullShare} sumT)))
    ∗ semVal (thr d L, .dma cc0_scoped5.sem) 0
    ∗ ((logK L).view.loc (thr d L) ↦[(logK L).view.set]{fullShare} logW L lG lT) ∗ ((mK L).view.loc (thr d L) ↦[(mK L).view.set]{fullShare} mW L mG mT)
    ∗ ((cntK L).view.loc (thr d L) ↦[(cntK L).view.set]{fullShare} cG))

/-- Before the last wait. -/
def B4 (lT : S512.Idx → Elt F .f32) (mT sumT cntT : S16.Idx → Elt F .f32) : sProp (MM F) :=
  iprop(MayWaits (thr d L) (default : HIx 1) O ∗ OWs d L O W0 ∗ Kept d L ιwm f0 cand ∗ (∃ f, segB.view.loc (thr d L) ↦{fullShare} f)
    ∗ (∃ f, logB.view.loc (thr d L) ↦{fullShare} f) ∗ (∃ f, mB.view.loc (thr d L) ↦{fullShare} f) ∗ (∃ f, sB.view.loc (thr d L) ↦{fullShare} f)
    ∗ semVal (thr d L, .dma cc0_scoped2.sem) 0 ∗ semVal (thr d L, .dma cc0_scoped3.sem) 0 ∗ semVal (thr d L, .dma cc0_scoped4.sem) 0
    ∗ Flight EC (thr d L) (.dma cc0_scoped5.sem) (default : HIx 1) (cntK L).view.dmaCredit
        (iprop(((cntK L).view.loc (thr d L) ↦[(cntK L).view.set]{fullShare} cW L cG cntT) ∗ (cntB.view.loc (thr d L) ↦{fullShare} cntT)))
    ∗ ((logK L).view.loc (thr d L) ↦[(logK L).view.set]{fullShare} logW L lG lT) ∗ ((mK L).view.loc (thr d L) ↦[(mK L).view.set]{fullShare} mW L mG mT)
    ∗ ((sK L).view.loc (thr d L) ↦[(sK L).view.set]{fullShare} sW L sG sumT))

/-- At the end. -/
def B5 (lT : S512.Idx → Elt F .f32) (mT sumT cntT : S16.Idx → Elt F .f32) : sProp (MM F) :=
  iprop(OWs d L O W0 ∗ (semVal (thr d L, .dma cc0_scratch7.sem) 0 ∗ semVal (thr d L, .dma cc0_scratch8.sem) 0 ∗ semVal (thr d L, .dma cc0_scratch9.sem) 0 ∗ semVal (thr d L, .dma cc0_scratch10.sem) 0
      ∗ semVal (thr d L, .dma cc0_scoped0.sem) 0 ∗ semVal (thr d L, .dma cc0_scoped1.sem) 0)
    ∗ (∃ f, gB.view.loc (thr d L) ↦{fullShare} f) ∗ (∃ f, cB.view.loc (thr d L) ↦{fullShare} f) ∗ (∃ f, segB.view.loc (thr d L) ↦{fullShare} f)
    ∗ (∃ f, logB.view.loc (thr d L) ↦{fullShare} f) ∗ (∃ f, mB.view.loc (thr d L) ↦{fullShare} f) ∗ (∃ f, sB.view.loc (thr d L) ↦{fullShare} f)
    ∗ (∃ f, cntB.view.loc (thr d L) ↦{fullShare} f) ∗ Sems d L
    ∗ Outs d L (logW L lG lT) (mW L mG mT) (sW L sG sumT) (cW L cG cntT))

theorem off0 : (![0] : Fin 1 → ℕ) = fun _ => 0 := by funext a; fin_cases a; rfl

/-- Loading from a buffer held whole. -/
theorem reads_self {cs : CoreSpace} {s : Shape} {e : EltTy} {m : Memref sig (thr d L).2.kind cs s e} {r : LoadRect s} {hl : m.view.LoadsAt r} {f : Buf (Elt F) (m.view.loc (thr d L))} :
    Reads d L (m.view.loc (thr d L) ↦{fullShare} f : sProp (MM F)) (Prog.lift (.load m r hl)) (m.view.readAt (Elt F) r f) :=
  Reads.load (f := f) (by iintro H; isplitl [H]; (· iexact H); iintro H; iexact H)

/-- Storing to a buffer held whole. -/
theorem steps_put {cs : CoreSpace} {s : Shape} {e : EltTy} {m : Memref sig (thr d L).2.kind cs s e} {r : Rect s} {w : r.shape.Idx → Elt F e} {h1 h2}
    {f f' : Buf (Elt F) (m.view.loc (thr d L))} (hw : (m.access r).write (Elt F) f w Finset.univ = f') :
    Steps (F := F) d L (m.view.loc (thr d L) ↦{fullShare} f) (Prog.lift (.store m r w Finset.univ h1 h2)) ⟨⟩ (m.view.loc (thr d L) ↦{fullShare} f') := by
  subst hw
  intro Q
  iintro ⟨H, HQ⟩
  iapply (Steps.store (d := d) (L := L) (f := f) (T := iprop(True)) Q)
  isplitl [H]
  · isplitl [H]; · iexact H
    ipureintro; trivial
  iintro ⟨H, -⟩
  iapply HQ; iexact H

set_option maxHeartbeats 1000000 in
theorem steps_109 (lT : S512.Idx → Elt F .f32) {a b : FVec F S16 .f32} {c : FVec F S16 .f32} {e : IVec S16 1} {g : F .f32} {sumT cntT : S16.Idx → Elt F .f32} (hc : c = sumT)
    (hg : k0_pay619 a b e g = cntT) :
    Steps (F := F) d L (B2 d L ιwm O W0 f0 cand seg (Rest d L mv sv cv lG mG sG cG) lT) (k0_part109 L gV (Memref.isWhole_whole _) candV (Memref.isWhole_whole _) segV (Memref.isWhole_whole _) logV (Memref.isWhole_whole _) mV (Memref.isWhole_whole _) sV (Memref.isWhole_whole _) cntV (Memref.isWhole_whole _) gB (Memref.isWhole_whole _) cB (Memref.isWhole_whole _) segB (Memref.isWhole_whole _) logB (Memref.isWhole_whole _)
      mB (Memref.isWhole_whole _) sB (Memref.isWhole_whole _) cntB (Memref.isWhole_whole _) cc0_scratch7 cc0_scratch8 cc0_scratch9 cc0_scratch10 cc0_scoped0 cc0_scoped1 cc0_scoped2 cc0_scoped3 cc0_scoped4 cc0_scoped5 a b c e g) ⟨⟩
      (B3 d L ιwm O W0 f0 cand lG mG sG cG lT mv sumT cntT) := by
  subst hc hg
  intro Q
  rw [k0_part109_eq_skeleton]
  delta k0_part109_skel
  unfold B2 Rest Sems Outs
  iintro ⟨⟨Hsb, Hlb, #Hmw, HO, HK, Hmb, Hsub, Hcb, ⟨Hr2, Hr3, Hr4, Hr5⟩, Hlo, Hmo, Hso, Hco⟩, HQ⟩
  iapply (Steps.run (Steps.of_reads (reads_self d L (f := sv))))
  isplitl [Hsub]; · iexact Hsub
  iintro Hsub
  iapply (Steps.run (steps_put d L (f := sv) (Memref.write_access_unit_zero_univ (Elt F) cc0_scratch5 off0 inb_S16_S16_0 sv c)))
  isplitl [Hsub]; · iexact Hsub
  iintro Hsub
  iapply (Steps.run (Steps.of_reads (reads_self d L (f := cv))))
  isplitl [Hcb]; · iexact Hcb
  iintro Hcb
  iapply (Steps.run (steps_put d L (f := cv) (Memref.write_access_unit_zero_univ (Elt F) cc0_scratch6 off0 inb_S16_S16_0 cv _)))
  isplitl [Hcb]; · iexact Hcb
  iintro Hcb
  have hL : logB.view.set = Finset.univ := View.set_whole _
  have hM : mB.view.set = Finset.univ := View.set_whole _
  have hS : sB.view.set = Finset.univ := View.set_whole _
  have st := steps_start (F := F) (d := d) (L := L) (src := logB) (dst := logK L) (sem := cc0_scoped2.sem)
    (h1 := (Memref.isWhole_whole _).wordExact) (h2 := View.wordExact_bits rfl) (h3 := ⟨Or.inl rfl, trivial⟩) (q := fullShare) (fs := lT) (fd := lG) (show 0 < S512.numel by decide)
  rw [hL] at st
  iapply (Steps.run st)
  isplitl [Hlb Hlo Hr2]
  · iframe Hlb Hlo Hr2
  iintro Hr2
  iapply (Steps.run (steps_done (O := O) (W0 := W0) rfl))
  isplitl [HO Hr2]
  · isplitr [HO Hr2]; · iexact Hmw
    iframe HO Hr2
  iintro ⟨⟨Hlo, Hlb⟩, Hr2, HO⟩
  have st := steps_start (F := F) (d := d) (L := L) (src := mB) (dst := mK L) (sem := cc0_scoped3.sem)
    (h1 := (Memref.isWhole_whole _).wordExact) (h2 := (View.wordExact_bits rfl).reshape _ _) (h3 := ⟨Or.inl rfl, trivial⟩) (q := fullShare) (fs := mv) (fd := mG) (show 0 < S16.numel by decide)
  rw [hM] at st
  iapply (Steps.run st)
  isplitl [Hmb Hmo Hr3]
  · iframe Hmb Hmo Hr3
  iintro Hr3
  iapply (Steps.run (steps_done (O := O) (W0 := W0) rfl))
  isplitl [HO Hr3]
  · isplitr [HO Hr3]; · iexact Hmw
    iframe HO Hr3
  iintro ⟨⟨Hmo, Hmb⟩, Hr3, HO⟩
  have st := steps_start (F := F) (d := d) (L := L) (src := sB) (dst := sK L) (sem := cc0_scoped4.sem)
    (h1 := (Memref.isWhole_whole _).wordExact) (h2 := (View.wordExact_bits rfl).reshape _ _) (h3 := ⟨Or.inl rfl, trivial⟩) (q := fullShare) (fs := c) (fd := sG) (show 0 < S16.numel by decide)
  rw [hS] at st
  iapply (Steps.run st)
  isplitl [Hsub Hso Hr4]
  · iframe Hsub Hso Hr4
  iintro Hr4
  irw [wp_pure]
  imodintro
  iapply HQ
  unfold B3
  isplitr [HO HK Hsb Hlb Hmb Hcb Hr2 Hr3 Hr4 Hr5 Hlo Hmo Hco]; · iexact Hmw
  isplitl [HO]; · iexact HO
  isplitl [HK]; · iexact HK
  isplitl [Hsb]; · iexists _; iexact Hsb
  isplitl [Hlb]; · iexists _; iexact Hlb
  isplitl [Hmb]; · iexists _; iexact Hmb
  iframe Hcb Hr2 Hr3 Hr4 Hr5 Hlo Hmo Hco

set_option maxHeartbeats 1000000 in
theorem steps_tail (lT : S512.Idx → Elt F .f32) (mT sumT cntT : S16.Idx → Elt F .f32) :
    Steps (F := F) d L (B3 d L ιwm O W0 f0 cand lG mG sG cG lT mT sumT cntT) (tailProg L gV (Memref.isWhole_whole _) candV (Memref.isWhole_whole _) segV (Memref.isWhole_whole _) logV (Memref.isWhole_whole _) mV (Memref.isWhole_whole _) sV (Memref.isWhole_whole _) cntV (Memref.isWhole_whole _) gB (Memref.isWhole_whole _) cB (Memref.isWhole_whole _) segB (Memref.isWhole_whole _) logB (Memref.isWhole_whole _)
      mB (Memref.isWhole_whole _) sB (Memref.isWhole_whole _) cntB (Memref.isWhole_whole _) cc0_scratch7 cc0_scratch8 cc0_scratch9 cc0_scratch10 cc0_scoped0 cc0_scoped1 cc0_scoped2 cc0_scoped3 cc0_scoped4 cc0_scoped5) ⟨⟩
      (B4 d L ιwm O W0 f0 cand lG mG sG cG lT mT sumT cntT) := by
  intro Q
  delta tailProg
  unfold B3
  iintro ⟨⟨#Hmw, HO, HK, Hsb, Hlb, Hmb, Hcb, Hr2, Hr3, Hr4, Hr5, Hlo, Hmo, Hco⟩, HQ⟩
  iapply (Steps.run (steps_done (O := O) (W0 := W0) rfl))
  isplitl [HO Hr4]
  · isplitr [HO Hr4]; · iexact Hmw
    iframe HO Hr4
  iintro ⟨⟨Hso, Hsub⟩, Hr4, HO⟩
  have hC : cntB.view.set = Finset.univ := View.set_whole _
  have st := steps_start (F := F) (d := d) (L := L) (src := cntB) (dst := cntK L) (sem := cc0_scoped5.sem)
    (h1 := (Memref.isWhole_whole _).wordExact) (h2 := (View.wordExact_bits rfl).reshape _ _) (h3 := ⟨Or.inl rfl, trivial⟩) (q := fullShare) (fs := cntT) (fd := cG) (show 0 < S16.numel by decide)
  rw [hC] at st
  iapply (Steps.run st)
  isplitl [Hcb Hco Hr5]
  · iframe Hcb Hco Hr5
  iintro Hr5
  irw [wp_pure]
  imodintro
  iapply HQ
  unfold B4
  isplitr [HO HK Hsb Hlb Hmb Hsub Hr2 Hr3 Hr4 Hr5 Hlo Hmo Hso]; · iexact Hmw
  iframe HO HK Hsb Hlb Hmb
  isplitl [Hsub]; · iexists _; iexact Hsub
  iframe Hr2 Hr3 Hr4 Hr5 Hlo Hmo Hso

theorem known_end (j : S512x128.Idx) : j ∈ known 32 0 := by
  have := (j 0).isLt
  rw [mem_known]
  change (j 0).val < 512 at this
  omega

theorem steps_last {α : Type} {v : α} (lT : S512.Idx → Elt F .f32) (mT sumT cntT : S16.Idx → Elt F .f32) {h1 h2} :
    Steps (F := F) d L (B4 d L ιwm O W0 f0 cand lG mG sG cG lT mT sumT cntT) (Prog.lift (.waitDma2 cc0_scoped5.sem cntB (cntK L) h1 h2) >>= fun _ => pure v) v
      (B5 d L O W0 lG mG sG cG lT mT sumT cntT) := by
  intro Q
  unfold B4
  iintro ⟨⟨#Hmw, HO, HK, Hsb, Hlb, Hmb, Hsub, Hr2, Hr3, Hr4, Hr5, Hlo, Hmo, Hso⟩, HQ⟩
  iapply (Steps.run (steps_done (O := O) (W0 := W0) rfl))
  isplitl [HO Hr5]
  · isplitr [HO Hr5]; · iexact Hmw
    iframe HO Hr5
  iintro ⟨⟨Hco, Hcb⟩, Hr5, HO⟩
  unfold Kept
  icases HK with ⟨#Hwm, Hg, Hw, ⟨H7, W0⟩, ⟨H8, W1⟩, ⟨H9, W2⟩, ⟨H10, W3⟩, Hr0, Hr1⟩
  ihave Hc := (WB_end (Set.mem_univ ιwm) known_end) $$ [Hw W0 W1 W2 W3]
  · isplitr [Hw W0 W1 W2 W3]; · iexact Hwm
    iframe Hw W0 W1 W2 W3
  irw [wp_pure]
  imod Hc
  imodintro
  iapply HQ
  unfold B5 Sems Outs
  iframe HO
  isplitl [H7 H8 H9 H10 Hr0 Hr1]
  · iframe H7 H8 H9 H10 Hr0 Hr1
  iframe Hg Hc Hsb Hlb Hmb Hsub
  isplitl [Hcb]; · iexists _; iexact Hcb
  iframe Hr2 Hr3 Hr4 Hr5 Hlo Hmo Hso Hco

/-- Before the parts of the results go out, with each segment's maximum stored. -/
theorem lsrc_seg2 {H T : sProp (MM F)} {sT : S512.Idx → Elt F .i32} (h1 : H ⊢ iprop((segB.view.loc (thr d L) ↦{fullShare} sT) ∗ T))
    (h2 : iprop((segB.view.loc (thr d L) ↦{fullShare} sT) ∗ T) ⊢ H) : LSrc d L H segB sT := (lsrc_seg sT).mono h1 h2
theorem lsrc_log2 {H T : sProp (MM F)} {lT : S512.Idx → Elt F .f32} (h1 : H ⊢ iprop((logB.view.loc (thr d L) ↦{fullShare} lT) ∗ T))
    (h2 : iprop((logB.view.loc (thr d L) ↦{fullShare} lT) ∗ T) ⊢ H) : LSrc d L H logB lT := (lsrc_log lT).mono h1 h2

theorem B2_seg {sT : sProp (MM F)} {lT : S512.Idx → Elt F .f32} : LSrc d L (B2 d L ιwm O W0 f0 cand seg sT lT) segB (segTile L seg) :=
  lsrc_seg2 d L (by unfold B2; exact BIBase.Entails.rfl) (by unfold B2; exact BIBase.Entails.rfl)
theorem B2_log {sT : sProp (MM F)} {lT : S512.Idx → Elt F .f32} : LSrc d L (B2 d L ιwm O W0 f0 cand seg sT lT) logB lT :=
  lsrc_log2 (T := iprop((segB.view.loc (thr d L) ↦{fullShare} segTile L seg) ∗ MayWaits (thr d L) (default : HIx 1) O ∗ OWs d L O W0 ∗ Kept d L ιwm f0 cand ∗ sT)) d L (by unfold B2; iintro ⟨H1, H2, H3⟩; iframe H2 H1 H3) (by unfold B2; iintro ⟨H1, H2, H3⟩; iframe H2 H1 H3)

/-- The buffer of the segments' maxima, and what is held besides it. -/
theorem B2_max {lT : S512.Idx → Elt F .f32} : ∃ T : sProp (MM F), ∀ mv : S16.Idx → Elt F .f32,
    (B2 d L ιwm O W0 f0 cand seg (Rest d L mv sv cv lG mG sG cG) lT ⊢ iprop((mB.view.loc (thr d L) ↦{fullShare} mv) ∗ T))
      ∧ (iprop((mB.view.loc (thr d L) ↦{fullShare} mv) ∗ T) ⊢ B2 d L ιwm O W0 f0 cand seg (Rest d L mv sv cv lG mG sG cG) lT) := by
  refine ⟨iprop(((segB.view.loc (thr d L) ↦{fullShare} segTile L seg) ∗ (logB.view.loc (thr d L) ↦{fullShare} lT) ∗ MayWaits (thr d L) (default : HIx 1) O ∗ OWs d L O W0 ∗ Kept d L ιwm f0 cand)
    ∗ (sB.view.loc (thr d L) ↦{fullShare} sv) ∗ (cntB.view.loc (thr d L) ↦{fullShare} cv) ∗ Sems d L ∗ Outs d L lG mG sG cG), fun mv => ⟨?_, ?_⟩⟩
  · unfold B2 Rest
    iintro ⟨H1, H2, H3, H4, H5, H6, H7⟩
    isplitl [H6]; · iexact H6
    iframe H1 H2 H3 H4 H5 H7
  · unfold B2 Rest
    iintro ⟨H6, ⟨H1, H2, H3, H4, H5⟩, H7⟩
    iframe H1 H2 H3 H4 H5 H6 H7

theorem reads_gatherM {mv : S16.Idx → Elt F .f32} : Src d L (mB.view.loc (thr d L) ↦{fullShare} mv : sProp (MM F)) mB mv (fun _ => True) := by
  constructor
  intro idxs h hl _
  refine Reads.of_eq (Reads.gather (f := mv) ?_) ?_
  · iintro H
    isplitl [H]; · iexact H
    iintro H; iexact H
  · rw [show mB.view.readAt (Elt F) (LoadRect.whole S16) mv = mv from Memref.readAt_whole (Elt F) cc0_scratch4 mv]

/-- A tile's whole program. -/
theorem steps_tile (hs : ∀ j, ((segTile L seg j : BitVec 32)).toNat < 16) :
    Steps (F := F) d L (B0 d L ιwm O W0 fg fb f0 cand seg s0 l0 q (Rest d L mv sv cv lG mG sG cG))
      (cc0__sc_body L gV (Memref.isWhole_whole _) candV (Memref.isWhole_whole _) segV (Memref.isWhole_whole _) logV (Memref.isWhole_whole _) mV (Memref.isWhole_whole _) sV (Memref.isWhole_whole _) cntV (Memref.isWhole_whole _) gB (Memref.isWhole_whole _) cB (Memref.isWhole_whole _) segB (Memref.isWhole_whole _) logB (Memref.isWhole_whole _)
      mB (Memref.isWhole_whole _) sB (Memref.isWhole_whole _) cntB (Memref.isWhole_whole _) cc0_scratch7 cc0_scratch8 cc0_scratch9 cc0_scratch10 cc0_scoped0 cc0_scoped1 cc0_scoped2 cc0_scoped3 cc0_scoped4 cc0_scoped5) ⟨⟩
      (B5 d L O W0 lG mG sG cG (tileScore fg (landOf L cand) hs)
        (tileMax lanes (segTile L seg) (tileScore fg (landOf L cand) hs))
        (tileSum lanes (segTile L seg) (tileScore fg (landOf L cand) hs) (tileMax lanes (segTile L seg) (tileScore fg (landOf L cand) hs)) hs)
        (tileCnt lanes (segTile L seg))) := by
  rw [cc0__sc_body_eq_skeleton]
  delta cc0__sc_body_skel
  obtain ⟨T, hT⟩ := B2_max (F := F) d L ιwm O W0 f0 cand seg lG mG sG cG sv cv (lT := tileScore fg (landOf L cand) hs)
  refine Steps.bind (steps_all gV (Memref.isWhole_whole _) candV (Memref.isWhole_whole _) segV (Memref.isWhole_whole _) logV (Memref.isWhole_whole _) mV (Memref.isWhole_whole _) sV (Memref.isWhole_whole _) cntV (Memref.isWhole_whole _) gB (Memref.isWhole_whole _) cB (Memref.isWhole_whole _) segB (Memref.isWhole_whole _) logB (Memref.isWhole_whole _)
      mB (Memref.isWhole_whole _) sB (Memref.isWhole_whole _) cntB (Memref.isWhole_whole _) cc0_scratch7 cc0_scratch8 cc0_scratch9 cc0_scratch10 cc0_scoped0 cc0_scoped1 cc0_scoped2 cc0_scoped3 cc0_scoped4 cc0_scoped5 hs (mv := tileMax lanes (segTile L seg) (tileScore fg (landOf L cand) hs)) (steps_64 d L ιwm O W0 fg fb f0 cand seg s0 l0 q _) (steps_65 d L ιwm O W0 fg f0 cand seg s0 l0 q _ hs) (B2_log d L ιwm O W0 f0 cand seg) (B2_seg d L ιwm O W0 f0 cand seg) (m0 := mB.view.readAt (Elt F) (Rect.unit (s := S16) ![0] S16.size inb_S16_S16_0).toLoadRect mv) ?hmL
    (H2 := B2 d L ιwm O W0 f0 cand seg (Rest d L (tileMax lanes (segTile L seg) (tileScore fg (landOf L cand) hs)) sv cv lG mG sG cG) (tileScore fg (landOf L cand) hs)) ?hmS (B2_log d L ιwm O W0 f0 cand seg) (B2_seg d L ιwm O W0 f0 cand seg)
    ?sM (fun a b c e g hc hg => steps_109 d L ιwm O W0 f0 cand seg lG mG sG cG (tileMax lanes (segTile L seg) (tileScore fg (landOf L cand) hs)) sv cv (tileScore fg (landOf L cand) hs) hc hg) (steps_tail d L ιwm O W0 f0 cand lG mG sG cG _ _ _ _)) (steps_last d L ιwm O W0 f0 cand lG mG sG cG _ _ _ _)
  case hmL => exact (reads_self d L).mono (hT _).1 (hT _).2
  case hmS => exact Steps.conseq (Steps.frame (T := T) (steps_put d L (Memref.write_access_unit_zero_univ (Elt F) cc0_scratch4 off0 inb_S16_S16_0 mv _))) (hT _).1 (hT _).2
  case sM => exact (reads_gatherM d L).mono (hT _).1 (hT _).2

end Cert.Proof
-- ==== Proof.Spread.lean ====
/-
  How the tiles share the arrays: which elements of the results each tile writes, that these parts cover the results and
  do not meet, the results as one array over all tiles, and shares of what every tile reads.
-/
module

public import proofs.«01_k».proof.Proof.Finish

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open Idealize.SL.BI.BIBase Idealize.SL.BI.Laws Idealize.SL.ProofMode Idealize.SL.Sem

variable {F : FTy → Type} [FloatOps F]

/-! ## Tiles by number -/

/-- The tile of SparseCore `c` and subcore `s`. -/
def coordsV (c : Fin 2) (s : Fin 16) : grid0.Coords :=
  fun | 0 => c | 1 => s | ⟨_ + 2, h⟩ => absurd h (Nat.not_lt.2 (Nat.le_add_left _ _))

/-- A tile's number. -/
def wid (L : grid0.Coords) : ℕ := 2 * (L 1).val + (L 0).val

theorem wid_lt (L : grid0.Coords) : wid L < 32 := by
  have h0 : (L 0).val < 2 := (L 0).isLt
  have h1 : (L 1).val < 16 := (L 1).isLt
  unfold wid; omega

/-- The tile of number `w`. -/
def tileOf (w : ℕ) : grid0.Coords := coordsV ⟨w % 2, Nat.mod_lt _ (by decide)⟩ ⟨w / 2 % 16, Nat.mod_lt _ (by decide)⟩

theorem tileOf_wid (L : grid0.Coords) : tileOf (wid L) = L := by
  have h0 : (L 0).val < 2 := (L 0).isLt
  have h1 : (L 1).val < 16 := (L 1).isLt
  funext a
  match a with
  | 0 => apply Fin.ext; show wid L % 2 = (L 0).val; unfold wid; omega
  | 1 => apply Fin.ext; show wid L / 2 % 16 = (L 1).val; unfold wid; omega

theorem wid_coordsV (c : Fin 2) (s : Fin 16) : wid (coordsV c s) = 2 * s.val + c.val := rfl

theorem base_wid (L : grid0.Coords) : base L = 512 * wid L := by unfold base wid; omega

/-! ## The parts of the results -/

theorem mem_logK (L : grid0.Coords) (x : S16384.Idx) : x ∈ (logK L).view.set ↔ (x 0).val / 512 = wid L := by
  show x ∈ ((View.whole (main_v2_0_scv : Ref sig .scVector)).slice (Rect.unit (s := S16384) (k0_off2 L) S512.size (k0_off2_inb L))).set ↔ _
  rw [View.set_slice_whole]
  refine (Rect.mem_set_unit (s := S16384)).trans ?_
  have e : k0_off2 L 0 = 512 * wid L := by rw [← base_wid, k0_off2_eq]; rfl
  constructor
  · intro h
    have h1 : k0_off2 L 0 ≤ (x 0).val ∧ (x 0).val < k0_off2 L 0 + 512 := h 0
    omega
  · intro h a
    match a with
    | 0 => show k0_off2 L 0 ≤ (x 0).val ∧ (x 0).val < k0_off2 L 0 + 512; omega

theorem mem_row (L : grid0.Coords) (x : S32x16.Idx) :
    x ∈ (Rect.unit (s := S32x16) (k0_off18 L) S1x16.size (k0_off18_inb L)).set ↔ (x 0).val = wid L := by
  refine (Rect.mem_set_unit (s := S32x16)).trans ?_
  have e : k0_off18 L 0 = wid L := by rw [k0_off18_eq]; rfl
  have e1 : k0_off18 L 1 = 0 := by rw [k0_off18_eq]; rfl
  constructor
  · intro h
    have h1 : k0_off18 L 0 ≤ (x 0).val ∧ (x 0).val < k0_off18 L 0 + 1 := h 0
    omega
  · intro h a
    match a with
    | 0 => show k0_off18 L 0 ≤ (x 0).val ∧ (x 0).val < k0_off18 L 0 + 1; omega
    | 1 =>
      have h1 : (x 1).val < 16 := (x 1).isLt
      show k0_off18 L 1 ≤ (x 1).val ∧ (x 1).val < k0_off18 L 1 + 16; omega

theorem mem_mK (L : grid0.Coords) (x : S32x16.Idx) : x ∈ (mK L).view.set ↔ (x 0).val = wid L := by
  show x ∈ (((View.whole (main_v2_1_scv : Ref sig .scVector)).slice (Rect.unit (s := S32x16) (k0_off18 L) S1x16.size (k0_off18_inb L))).reshape S16 squeezes_S1x16_S16.numel_eq).set ↔ _
  rw [View.set_reshape, View.set_slice_whole]
  exact mem_row L x
theorem mem_sK (L : grid0.Coords) (x : S32x16.Idx) : x ∈ (sK L).view.set ↔ (x 0).val = wid L := by
  show x ∈ (((View.whole (main_v2_2_scv : Ref sig .scVector)).slice (Rect.unit (s := S32x16) (k0_off18 L) S1x16.size (k0_off18_inb L))).reshape S16 squeezes_S1x16_S16.numel_eq).set ↔ _
  rw [View.set_reshape, View.set_slice_whole]
  exact mem_row L x
theorem mem_cntK (L : grid0.Coords) (x : S32x16.Idx) : x ∈ (cntK L).view.set ↔ (x 0).val = wid L := by
  show x ∈ (((View.whole (main_v2_3_scv : Ref sig .scVector)).slice (Rect.unit (s := S32x16) (k0_off18 L) S1x16.size (k0_off18_inb L))).reshape S16 squeezes_S1x16_S16.numel_eq).set ↔ _
  rw [View.set_reshape, View.set_slice_whole]
  exact mem_row L x

/-- A full array is its parts, one for each tile, where each element `x` is in the part of the tile numbered `n x`. -/
theorem parts (ℓ : Loc nD τ sig) (f : Buf (Elt F) ℓ) (P : grid0.Coords → Finset (Idx ℓ)) (n : Idx ℓ → ℕ) (hn : ∀ x, n x < 32) (hP : ∀ L x, x ∈ P L ↔ n x = wid L) :
    (ℓ ↦{fullShare} f : sProp (MM F)) = bigSep Finset.univ fun c : Fin 2 => bigSep Finset.univ fun i : Fin 16 => ℓ ↦[P (coordsV c i)]{fullShare} f := by
  rw [← bigSep_univ_prod (fun p : Fin 2 × Fin 16 => (ℓ ↦[P (coordsV p.1 p.2)]{fullShare} f : sProp (MM F)))]
  rw [← pointsTo_biUnion Finset.univ (ℓ := ℓ) (fun p : Fin 2 × Fin 16 => P (coordsV p.1 p.2))]
  · congr 1
    ext x
    simp only [Finset.mem_univ, Finset.mem_biUnion, true_and, true_iff]
    refine ⟨(⟨n x % 2, Nat.mod_lt _ (by decide)⟩, ⟨n x / 2, by have := hn x; omega⟩), (hP _ _).mpr ?_⟩
    rw [wid_coordsV]; show n x = 2 * (n x / 2) + n x % 2; omega
  · intro p _ p' _ hne
    refine Finset.disjoint_left.mpr fun x hx hx' => hne ?_
    have e := ((hP _ _).mp hx).symm.trans ((hP _ _).mp hx')
    rw [wid_coordsV, wid_coordsV] at e
    have := p.1.isLt; have := p'.1.isLt
    exact Prod.ext (Fin.ext (by omega)) (Fin.ext (by omega))

/-! ## Shares -/

/-- A share splits into as many as there are members of a finite set. -/
theorem exists_shares {I : Type} [DecidableEq I] (s : Finset I) : ∀ q : PosShare TreeShare, ∃ sh : I → PosShare TreeShare,
    ∀ (ℓ : Loc nD τ sig) (f : Buf (Elt F) ℓ), (ℓ ↦{q} f : sProp (MM F)) ⊢ bigSep s fun i => ℓ ↦{sh i} f := by
  induction s using Finset.induction_on with
  | empty => exact fun q => ⟨fun _ => q, fun ℓ f => by rw [bigSep_empty]; iintro -; iempintro⟩
  | insert a s ha ih =>
    intro q
    obtain ⟨sh, h⟩ := ih q.right
    refine ⟨fun i => if i = a then q.left else sh i, fun ℓ f => ?_⟩
    rw [SparseCore.bigSep_insert' ha]; beta_reduce
    rw [if_pos rfl, bigSep_congr (Ψ := fun i => (ℓ ↦{sh i} f : sProp (MM F))) fun i hi => by rw [if_neg (show ¬ i = a from fun e => ha (e ▸ hi))]]
    exact (pointsTo_share (PosShare.mem_left_op_right q)).1.trans (sep_mono_right (h ℓ f))

/-- Tile `(c, i)`'s share of what all tiles read. -/
def shr : Fin 2 × Fin 16 → PosShare TreeShare := Classical.choose (exists_shares (F := F) (Finset.univ : Finset (Fin 2 × Fin 16)) fullShare.right)

/-- The share of the tile with coordinates `L`. -/
def shrL (L : grid0.Coords) : PosShare TreeShare := shr (F := F) (L 0, L 1)

theorem split_shares (ℓ : Loc nD τ sig) (f : Buf (Elt F) ℓ) :
    (ℓ ↦{fullShare} f : sProp (MM F)) ⊢ iprop((ℓ ↦{fullShare.left} f) ∗ bigSep Finset.univ fun c : Fin 2 => bigSep Finset.univ fun i : Fin 16 => ℓ ↦{shrL (F := F) (coordsV c i)} f) := by
  refine (pointsTo_share (PosShare.mem_left_op_right fullShare)).1.trans (sep_mono_right ?_)
  refine (Classical.choose_spec (exists_shares (F := F) (Finset.univ : Finset (Fin 2 × Fin 16)) fullShare.right) ℓ f).trans ?_
  rw [bigSep_univ_prod]
  exact Entails.of_eq rfl

/-! ## The results over all tiles -/

variable (fg : S2048.Idx → Elt F .f32) (cand : S16384x128.Idx → Elt F .f32) (seg : S16384.Idx → Elt F .i32)
variable (hs : ∀ i, (seg i : BitVec 32).toNat < 16)

include hs in
theorem segTile_lt (L : grid0.Coords) (j : S512.Idx) : (segTile (F := F) L seg j : BitVec 32).toNat < 16 := hs _

/-- Tile `L`'s scores, maxima, sums and counts. -/
def scoreT (L : grid0.Coords) : S512.Idx → Elt F .f32 := tileScore fg (landOf L cand) (segTile_lt seg hs L)
def maxT (L : grid0.Coords) : S16.Idx → Elt F .f32 := tileMax lanes (segTile L seg) (scoreT fg cand seg hs L)
def sumT (L : grid0.Coords) : S16.Idx → Elt F .f32 := tileSum lanes (segTile L seg) (scoreT fg cand seg hs L) (maxT fg cand seg hs L) (segTile_lt seg hs L)
def cntT (L : grid0.Coords) : S16.Idx → Elt F .f32 := tileCnt lanes (segTile L seg)

/-- An array of 16384 made of each tile's 512. -/
def overTiles (f : grid0.Coords → S512.Idx → Elt F .f32) (x : S16384.Idx) : Elt F .f32 :=
  f (tileOf ((x 0).val / 512)) (fun a => match a with | 0 => ⟨(x 0).val % 512, Nat.mod_lt _ (by decide)⟩)

/-- An array of 32 × 16 made of each tile's row. -/
def rowTiles (f : grid0.Coords → S16.Idx → Elt F .f32) (x : S32x16.Idx) : Elt F .f32 :=
  f (tileOf (x 0).val) (fun a => match a with | 0 => x 1)

theorem overTiles_emb (f : grid0.Coords → S512.Idx → Elt F .f32) (L : grid0.Coords) (j : S512.Idx) : overTiles f ((logK L).view.emb j) = f L j := by
  have h0 : (j 0).val < 512 := (j 0).isLt
  have e : ((logK L).view.emb j 0).val = 512 * wid L + (j 0).val := by
    show k0_off2 L 0 + 1 * (j 0).val = _
    rw [← base_wid, k0_off2_eq, Nat.one_mul]; rfl
  unfold overTiles
  rw [show ((logK L).view.emb j 0).val / 512 = wid L by omega, tileOf_wid]
  congr 1
  funext a
  match a with
  | 0 => apply Fin.ext; show ((logK L).view.emb j 0).val % 512 = _; omega

theorem unsqueeze (j : S16.Idx) : Shape.reshapeEquiv squeezes_S1x16_S16.numel_eq j = (fun a => match a with | 0 => (0 : Fin 1) | 1 => j 0 : S1x16.Idx) := by
  refine (Shape.reshapeEquiv_cons_one (n := 1) (d := ![16]) squeezes_S1x16_S16.numel_eq j).trans ?_
  funext a
  match a with
  | 0 => rfl
  | 1 => rfl

theorem rowTiles_emb (f : grid0.Coords → S16.Idx → Elt F .f32) (L : grid0.Coords) (j : S16.Idx) :
    rowTiles f ((Rect.unit (s := S32x16) (k0_off18 L) S1x16.size (k0_off18_inb L)).emb (Shape.reshapeEquiv squeezes_S1x16_S16.numel_eq j)) = f L j := by
  rw [unsqueeze]
  unfold rowTiles
  rw [show (((Rect.unit (s := S32x16) (k0_off18 L) S1x16.size (k0_off18_inb L)).emb (fun a => match a with | 0 => (0 : Fin 1) | 1 => j 0 : S1x16.Idx)) 0).val = wid L by
    show k0_off18 L 0 + 1 * 0 = _; rw [k0_off18_eq]; rfl, tileOf_wid]
  congr 1
  funext a
  match a with
  | 0 => apply Fin.ext; show k0_off18 L 1 + 1 * (j 0).val = (j 0).val; rw [k0_off18_eq]; show 0 + 1 * (j 0).val = _; omega

/-- What a tile wrote is its part of the results over all tiles. -/
theorem outs_eq (d : Dev nD) (L : grid0.Coords) (lG : S16384.Idx → Elt F .f32) (mG sG cG : S32x16.Idx → Elt F .f32)
    (f : grid0.Coords → S512.Idx → Elt F .f32) (g h k : grid0.Coords → S16.Idx → Elt F .f32) :
    Outs (F := F) d L (logW L lG (f L)) (mW L mG (g L)) (sW L sG (h L)) (cW L cG (k L)) = Outs d L (overTiles f) (rowTiles g) (rowTiles h) (rowTiles k) := by
  unfold Outs
  rw [pointsTo_congr (ℓ := (logK L).view.loc (thr d L)) (f := logW L lG (f L)) (g := overTiles f) (fun x hx => by
      obtain ⟨j, -, rfl⟩ := Finset.mem_map.mp hx
      rw [overTiles_emb]; exact (View.write_emb_of_mem _ _ (Finset.mem_univ _)).trans (cast_eq _ _)),
    pointsTo_congr (ℓ := (mK L).view.loc (thr d L)) (f := mW L mG (g L)) (g := rowTiles g) (fun x hx => by
      obtain ⟨j, -, rfl⟩ := Finset.mem_map.mp hx
      exact ((View.write_emb_of_mem _ _ (Finset.mem_univ _)).trans (cast_eq _ _)).trans (rowTiles_emb g L j).symm),
    pointsTo_congr (ℓ := (sK L).view.loc (thr d L)) (f := sW L sG (h L)) (g := rowTiles h) (fun x hx => by
      obtain ⟨j, -, rfl⟩ := Finset.mem_map.mp hx
      exact ((View.write_emb_of_mem _ _ (Finset.mem_univ _)).trans (cast_eq _ _)).trans (rowTiles_emb h L j).symm),
    pointsTo_congr (ℓ := (cntK L).view.loc (thr d L)) (f := cW L cG (k L)) (g := rowTiles k) (fun x hx => by
      obtain ⟨j, -, rfl⟩ := Finset.mem_map.mp hx
      exact ((View.write_emb_of_mem _ _ (Finset.mem_univ _)).trans (cast_eq _ _)).trans (rowTiles_emb k L j).symm)]

end Cert.Proof

end
-- ==== Proof.Merge.lean ====
module
public import proofs.«01_k».proof.Proof.Common
public import Idealize.ShloMosaic.Lib.Pipeline.Regions
@[expose] public section

/-! # The TensorCore's merge

The region that merges the tiles' partial results: its body's run, and the region over the thread state. -/

noncomputable section
namespace Cert.Proof
open Cert.KernelIdeal Cert.KernelIdeal.Gen
open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-! ## The body -/

/-- What the merge leaves, of the scores, the segments, the tiles' maxima, sums and counts, and the targets. -/
def mergeOut (lg : S128x128.Idx → Elt F .f32) (sg : S128x128.Idx → Elt F .i32) (m s cnt : S32x16.Idx → Elt F .f32) (tgt : S1x16.Idx → Elt F .i32) :
    S1x16.Idx → Elt F .f32 :=
  k1_pay1 (k1_pay3 m) (k1_pay4 m s) (iota .tc S16x16 32 [1] iota_S16x16_d1_w32) (k1_pay8 (F := F) sg) (k1_pay9 lg)
    (k1_pay10 (F := F) (k1_pay5 (F := F) cnt tgt) 128#32 (k1_pay6 (F := F) cnt tgt) (k1_pay7 (F := F) cnt tgt) 0#32) (k1_pay11 (F := F) (k1_pay5 (F := F) cnt tgt)) (constant S16x128 .f32 0x00000000#32)

variable (d : Dev nD)

/-- A staging buffer of the merge held whole. -/
abbrev ptT {sp : Space} {S : Shape} {e : EltTy} (M : Memref sig .tc sp S e) (f : Buf (Elt F) (M.view.loc (T d : Thread nD τ))) : sProp (MM F) :=
  M.view.loc (T d : Thread nD τ) ↦{fullShare} f

theorem merge_body (lg : S128x128.Idx → Elt F .f32) (sg : S128x128.Idx → Elt F .i32) (m s cnt : S32x16.Idx → Elt F .f32) (tgt : S1x16.Idx → Elt F .i32)
    (o : S1x16.Idx → Elt F .f32) (Q : PUnit → sProp (MM F)) :
    iprop((ptT d (stage1_0 0) lg ∗ ptT d (stage1_1 0) sg ∗ ptT d (stage1_2 0) m ∗ ptT d (stage1_3 0) s ∗ ptT d (stage1_4 0) cnt ∗ ptT d (stage1_5 0) tgt ∗ ptT d (stage1_6 0) o)
        ∗ (iprop(ptT d (stage1_0 0) lg ∗ ptT d (stage1_1 0) sg ∗ ptT d (stage1_2 0) m ∗ ptT d (stage1_3 0) s ∗ ptT d (stage1_4 0) cnt ∗ ptT d (stage1_5 0) tgt
          ∗ ptT d (stage1_6 0) (mergeOut lg sg m s cnt tgt)) -∗ Q ⟨⟩))
      ⊢ wp Idealize.ShloMosaic.frame (wpE (defs₀ (F := F)) 𝒱₀ (T d) none) Set.univ (bodyAt1 (F := F) t1_0) Q := by
  iintro ⟨⟨H0, H1, H2, H3, H4, H5, H6⟩, Hk⟩
  sl_exec
  have h0 : (![0, 0] : Fin 2 → ℕ) = fun _ => 0 := by decide
  have e6 : ∀ w : S1x16.Idx → Elt F .f32, (stage1_6 0).view.writes (Elt F) o [⟨Rect.unit ![0, 0] S1x16.size inb_S1x16_S1x16_0_0, w⟩] = w :=
    fun w => Memref.write_access_unit_zero_univ (Elt F) cc1_stg6_0 h0 inb_S1x16_S1x16_0_0 o w
  have e2 : merge_body.sl.r (F := F) m = k1_pay3 m := congrArg k1_pay3 (Memref.readAt_unit_zero (Elt F) cc1_stg2_0 h0 inb_S32x16_S32x16_0_0 m)
  have e3 : merge_body.sl.r_1 (F := F) m s = k1_pay4 m s := congrArg₂ k1_pay4 (Memref.readAt_unit_zero (Elt F) cc1_stg2_0 h0 inb_S32x16_S32x16_0_0 m)
    (Memref.readAt_unit_zero (Elt F) cc1_stg3_0 h0 inb_S32x16_S32x16_0_0 s)
  have e : k1_pay1 (merge_body.sl.r (F := F) m) (merge_body.sl.r_1 m s) merge_body.sl.v17 (merge_body.sl.r_5 (F := F) sg)
        (merge_body.sl.r_6 lg) (merge_body.sl.r_7 cnt tgt) (merge_body.sl.r_8 cnt tgt) merge_body.sl.cst_26 = mergeOut lg sg m s cnt tgt := by
    have a1 := Memref.readAt_unit_zero (Elt F) cc1_stg1_0 h0 inb_S128x128_S128x128_0_0 sg
    have a0 := Memref.readAt_unit_zero (Elt F) cc1_stg0_0 h0 inb_S128x128_S128x128_0_0 lg
    have a4 := Memref.readAt_unit_zero (Elt F) cc1_stg4_0 h0 inb_S32x16_S32x16_0_0 cnt
    have a5 := Memref.readAt_unit_zero (Elt F) cc1_stg5_0 h0 inb_S1x16_S1x16_0_0 tgt
    rw [e2, e3]
    unfold mergeOut
    have b1 : merge_body.sl.r_5 (F := F) sg = k1_pay8 (F := F) sg := congrArg (k1_pay8 (F := F)) a1
    have b0 : merge_body.sl.r_6 (F := F) lg = k1_pay9 lg := congrArg k1_pay9 a0
    have c2 : merge_body.sl.r_2 (F := F) cnt tgt = k1_pay5 (F := F) cnt tgt := congrArg₂ (k1_pay5 (F := F)) a4 a5
    have c3 : merge_body.sl.r_3 (F := F) cnt tgt = k1_pay6 (F := F) cnt tgt := congrArg₂ (k1_pay6 (F := F)) a4 a5
    have c4 : merge_body.sl.r_4 (F := F) cnt tgt = k1_pay7 (F := F) cnt tgt := congrArg₂ (k1_pay7 (F := F)) a4 a5
    rw [b1, b0]
    delta merge_body.sl.r_7 merge_body.sl.r_8
    rw [c2, c3, c4]
    rfl
  rw [e6, e]
  sl_step
  iapply Hk
  isplitl [H0]; · iexact H0
  isplitl [H1]; · iexact H1
  isplitl [H2]; · iexact H2
  isplitl [H3]; · iexact H3
  isplitl [H4]; · iexact H4
  isplitl [H5]; · iexact H5
  iexact H6

/-! ## The region -/

variable (lg : S128x128.Idx → Elt F .f32) (sg : S128x128.Idx → Elt F .i32) (m s cnt : S32x16.Idx → Elt F .f32) (tgt : S1x16.Idx → Elt F .i32)
  (o : S1x16.Idx → Elt F .f32)

abbrev Φm : sProp (MM F) := Pipeline.scopedRest (Ix := HIx 1) (Name := ℕ) (U := UU F) (Lvl := ℕ) (Val := Elt F) spec1 d

/-- What the region records of its own waits and the waits before it. -/
def recM : Set (SemLoc sig × HIx 1) := {p | (K (F := F)).lev (T d, p.1) p.2 ≤ 8}

/-- The merge's proof data: the arrays as they stand at the entry, the result's staging buffer at `mergeOut` after the body. -/
def datM : Dat τ (Elt F) (HIx 1) ℕ (UU F) ℕ cfg1 d where
  A w := match w with
    | ⟨0, _⟩ => lg
    | ⟨1, _⟩ => sg
    | ⟨2, _⟩ => m
    | ⟨3, _⟩ => s
    | ⟨4, _⟩ => cnt
    | ⟨5, _⟩ => tgt
    | ⟨6, _⟩ => o
  after w _ := match w with
    | ⟨0, _⟩ => lg
    | ⟨1, _⟩ => sg
    | ⟨2, _⟩ => m
    | ⟨3, _⟩ => s
    | ⟨4, _⟩ => cnt
    | ⟨5, _⟩ => tgt
    | ⟨6, _⟩ => mergeOut lg sg m s cnt tgt
  Φ _ := Φm d
  q _ := fullShare
  owed _ := 0
  recorded _ := recM (F := F) d

local notation "DM" => datM (F := F) d lg sg m s cnt tgt o

theorem before_0 (x : (cfg1.win 0).block.Idx → Elt F (cfg1.win 0).elt) : (DM).before 0 t1_0 x = lg := by
  unfold Dat.before; rw [if_pos (fetch1_0 _)]; exact Memref.read_access_unit_zero (Elt F) main_v3 (off := fun a => win1_0.index t1_0 a * main_v3.ty.shape.size a) (by decide) (by decide) lg
theorem before_1 (x : (cfg1.win 1).block.Idx → Elt F (cfg1.win 1).elt) : (DM).before 1 t1_0 x = sg := by
  unfold Dat.before; rw [if_pos (fetch1_1 _)]; exact Memref.read_access_unit_zero (Elt F) main_v4 (off := fun a => win1_1.index t1_0 a * main_v4.ty.shape.size a) (by decide) (by decide) sg
theorem before_2 (x : (cfg1.win 2).block.Idx → Elt F (cfg1.win 2).elt) : (DM).before 2 t1_0 x = m := by
  unfold Dat.before; rw [if_pos (fetch1_2 _)]; exact Memref.read_access_unit_zero (Elt F) main_v2_1 (off := fun a => win1_2.index t1_0 a * main_v2_1.ty.shape.size a) (by decide) (by decide) m
theorem before_3 (x : (cfg1.win 3).block.Idx → Elt F (cfg1.win 3).elt) : (DM).before 3 t1_0 x = s := by
  unfold Dat.before; rw [if_pos (fetch1_3 _)]; exact Memref.read_access_unit_zero (Elt F) main_v2_2 (off := fun a => win1_3.index t1_0 a * main_v2_2.ty.shape.size a) (by decide) (by decide) s
theorem before_4 (x : (cfg1.win 4).block.Idx → Elt F (cfg1.win 4).elt) : (DM).before 4 t1_0 x = cnt := by
  unfold Dat.before; rw [if_pos (fetch1_4 _)]; exact Memref.read_access_unit_zero (Elt F) main_v2_3 (off := fun a => win1_4.index t1_0 a * main_v2_3.ty.shape.size a) (by decide) (by decide) cnt
theorem before_5 (x : (cfg1.win 5).block.Idx → Elt F (cfg1.win 5).elt) : (DM).before 5 t1_0 x = tgt := by
  unfold Dat.before; rw [if_pos (fetch1_5 _)]; exact Memref.read_access_unit_zero (Elt F) main_v0 (off := fun a => win1_5.index t1_0 a * main_v0.ty.shape.size a) (by decide) (by decide) tgt

theorem body_obligation : BodyObligation (DM) (defs₀ (F := F)) 𝒱₀ (default : HIx 1) Set.univ := fun t => by
  obtain rfl := fin_N1 t
  rw [bigSep_W1, bigSep_W1]
  simp only [owns_whole_eq]
  rw [show (DM).Φ t1_0.castSucc = Φm d from rfl, show (DM).Φ t1_0.succ = Φm d from rfl,
    show (DM).owesAt (default : HIx 1) t1_0.succ = (DM).owesAt (default : HIx 1) t1_0.castSucc from rfl]
  iintro ⟨HΦ, Howes, ⟨%x0, %f0, %h0, H0⟩, ⟨%x1, %f1, %h1, H1⟩, ⟨%x2, %f2, %h2, H2⟩, ⟨%x3, %f3, %h3, H3⟩, ⟨%x4, %f4, %h4, H4⟩, ⟨%x5, %f5, %h5, H5⟩, ⟨%x6, %f6, -, H6⟩⟩
  rw [before_0] at h0
  rw [before_1] at h1
  rw [before_2] at h2
  rw [before_3] at h3
  rw [before_4] at h4
  rw [before_5] at h5
  subst h0 h1 h2 h3 h4 h5
  iapply (merge_body d f0 f1 f2 f3 f4 f5 f6 _)
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  iintro ⟨H0, H1, H2, H3, H4, H5, H6⟩
  isplitl [HΦ]; · iexact HΦ
  isplitl [Howes]; · iexact Howes
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  isplitl [H5]; · iexists _; isplitr; swap; (· iexact H5); ipureintro; rfl
  iexists _; isplitr; swap; (· iexact H6); ipureintro; rfl

/-- The result's array after the region. -/
theorem arrAt_6 : (DM).arrAt 6 cfg1.N = mergeOut lg sg m s cnt tgt := by
  have hw : ((cfg1.win 6).blk t1_0).view.read (Elt F) ((DM).arrAt 6 cfg1.N) = mergeOut lg sg m s cnt tgt := by
    rw [show cfg1.N = t1_0.val + 1 from rfl, (DM).arrAt_succ (6 : Fin 7) t1_0, flush1_6, if_pos rfl]
    exact (View.read_write_univ _ _).trans rfl
  exact (Memref.read_access_unit_zero (Elt F) main_v5 (by decide) (by decide) _).symm.trans hw

/-- The six arrays the merge reads. -/
def ArrsIn : sProp (MM F) :=
  iprop(((T d : Thread nD τ).loc main_v3 ↦{fullShare} lg) ∗ ((T d : Thread nD τ).loc main_v4 ↦{fullShare} sg) ∗ ((T d : Thread nD τ).loc main_v2_1 ↦{fullShare} m)
    ∗ ((T d : Thread nD τ).loc main_v2_2 ↦{fullShare} s) ∗ ((T d : Thread nD τ).loc main_v2_3 ↦{fullShare} cnt) ∗ ((T d : Thread nD τ).loc main_v0 ↦{fullShare} tgt))

theorem arr_set_univ (w : Fin 7) : (cfg1.win w).arr.view.set = Finset.univ := Memref.IsWhole.set_eq_univ (arr_whole1 w)
theorem share_full (w : Fin 7) : (DM).share w = fullShare := by unfold Dat.share; split <;> rfl

theorem arrays_eq (G : (w : Fin cfg1.W) → Buf (Elt F) ((cfg1.win w).arr.view.loc (d.tc : Thread nD τ))) :
    ((DM).arrays G : sProp (MM F))
      = iprop(((T d : Thread nD τ).loc main_v3 ↦{fullShare} G 0) ∗ ((T d : Thread nD τ).loc main_v4 ↦{fullShare} G 1) ∗ ((T d : Thread nD τ).loc main_v2_1 ↦{fullShare} G 2)
        ∗ ((T d : Thread nD τ).loc main_v2_2 ↦{fullShare} G 3) ∗ ((T d : Thread nD τ).loc main_v2_3 ↦{fullShare} G 4) ∗ ((T d : Thread nD τ).loc main_v0 ↦{fullShare} G 5)
        ∗ ((T d : Thread nD τ).loc main_v5 ↦{fullShare} G 6)) := by
  have h : ∀ w : Fin 7, ((cfg1.win w).arr.view.loc (d.tc : Thread nD τ) ↦[(cfg1.win w).arr.view.set]{(DM).share w} G w : sProp (MM F))
      = ((cfg1.win w).arr.view.loc (d.tc : Thread nD τ) ↦{fullShare} G w) := fun w => by rw [arr_set_univ, share_full]
  refine (bigSep_congr (s := (Finset.univ : Finset (Fin 7))) fun w _ => h w).trans ?_
  rw [bigSep_W1]

theorem arrAt_in (w : Fin 7) (h : w ≠ 6) (t : ℕ) : (DM).arrAt w t = (DM).A w :=
  (DM).arrAt_in w (by revert h; revert w; decide) t

theorem arrays_exit : ((DM).arrays (fun w => (DM).arrAt w cfg1.N) : sProp (MM F))
    ⊢ iprop(ArrsIn d lg sg m s cnt tgt ∗ ((T d : Thread nD τ).loc main_v5 ↦{fullShare} mergeOut lg sg m s cnt tgt)) := by
  rw [arrays_eq, arrAt_6, arrAt_in d lg sg m s cnt tgt o 0 (by decide), arrAt_in d lg sg m s cnt tgt o 1 (by decide), arrAt_in d lg sg m s cnt tgt o 2 (by decide),
    arrAt_in d lg sg m s cnt tgt o 3 (by decide), arrAt_in d lg sg m s cnt tgt o 4 (by decide), arrAt_in d lg sg m s cnt tgt o 5 (by decide)]
  unfold ArrsIn
  iintro ⟨H0, H1, H2, H3, H4, H5, H6⟩
  isplitr [H6]; swap; · iexact H6
  isplitl [H0]; · iexact H0
  isplitl [H1]; · iexact H1
  isplitl [H2]; · iexact H2
  isplitl [H3]; · iexact H3
  isplitl [H4]; · iexact H4
  iexact H5

/-! ## The region over the thread state -/

abbrev admP : (p : Fin 1) → (pcfgs (F := F) p).Adm := fun p => (cfgs p).toPCfg_adm

/-- The proof data of the one pipeline, on every device. -/
def pdatsM : (p : Fin 1) → (c : Dev nD) → Dat τ (Elt F) (HIx 1) ℕ (UU F) ℕ (Pipeline.pin (pcfgs (F := F)) admP p) c
  | ⟨0, _⟩ => fun c => datM c lg sg m s cnt tgt o

/-- The TensorCore owing nothing, its waits so far at the handshakes' levels. -/
def OwT : sProp (MM F) := iprop(∃ W, ⌜∀ p ∈ W, (K (F := F)).lev (T d, p.1) p.2 ≤ 8⌝ ∗ owes (T d : Thread nD τ) (0 : CellTallies nD τ sig (HIx 1)) W)

set_option backward.isDefEq.respectTransparency.types false in
/-- The merge's region. -/
def regM : Pipeline.RegionSeg (pcfgs (F := F)) admP (pdatsM lg sg m s cnt tgt o) (default : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation c lg sg m s cnt tgt o).loose
  hwaits := Pipeline.hwaits_of_owed_zero _ _ _ _ (K (F := F)).L (K (F := F)).lev 0 fun _ _ => rfl
  pre c := iprop((ArrsIn c lg sg m s cnt tgt ∗ ((T c : Thread nD τ).loc main_v5 ↦{fullShare} o)) ∗ OwT c)
  post c := iprop((ArrsIn c lg sg m s cnt tgt ∗ ((T c : Thread nD τ).loc main_v5 ↦{fullShare} mergeOut lg sg m s cnt tgt)) ∗ OwT c)
  X _ := BI.emp
  Y _ := BI.emp
  Z _ := BI.emp
  hentry c := by
    rw [Pipeline.ownSems0_none]
    iintro ⟨⟨⟨Hin, H6⟩, HO⟩, -, -⟩
    imodintro
    isplitl [Hin H6]
    · iapply (Entails.of_eq (arrays_eq c lg sg m s cnt tgt o _).symm)
      unfold ArrsIn
      icases Hin with ⟨H0, H1, H2, H3, H4, H5⟩
      isplitl [H0]; · iexact H0
      isplitl [H1]; · iexact H1
      isplitl [H2]; · iexact H2
      isplitl [H3]; · iexact H3
      isplitl [H4]; · iexact H4
      isplitl [H5]; · iexact H5
      iexact H6
    isplitr; · unfold Pipeline.prefHeld; rw [show (Finset.univ : Finset (Fin 0)) = ∅ from rfl, BI.bigSep_empty]; iempintro
    isplitl [HO]
    · unfold OwT
      icases HO with ⟨%W, %hW, HO⟩
      iexists W; isplitr; · ipureintro; exact fun p hp => Or.inl (hW p hp)
      iexact HO
    isplitr; · iempintro
    iempintro
  hin c := by
    rw [show (pdatsM lg sg m s cnt tgt o 0 c).Φ 0 = Φm c from rfl]
    iintro ⟨-, -, Hr⟩; iexact Hr
  hout c := by
    rw [Pipeline.ownSems0_none, show (pdatsM lg sg m s cnt tgt o 0 c).Φ (Fin.last _) = Φm c from rfl]
    iintro Hr
    isplitr; · iempintro
    isplitr; · iempintro
    iexact Hr
  hexit c := by
    refine BIBase.Entails.trans (sep_mono_left (arrays_exit c lg sg m s cnt tgt o)) ?_
    iintro ⟨Ha, HO, -, -⟩
    imodintro
    isplitl [Ha]; · iexact Ha
    icases HO with ⟨%W, %hW, HO⟩
    unfold OwT
    iexists W; isplitr; swap; · iexact HO
    ipureintro
    intro p hp
    rcases hW hp with h | ⟨w, s, h⟩
    · exact h
    · rw [h]; exact Nat.zero_le _

theorem cellOf_injP : Function.Injective (Pipeline.cellOf (nD := nD) (τ := τ) (Pipeline.pin (pcfgs (F := F)) admP)) := cellOf_inj

/-- The call of the merge's region, in the region's own signature. -/
abbrev callM : Prog (TpuEff nD τ sig (Elt F) (ΛP (F := F)) .tc) PUnit := Prog.lift (.customCall (Pipeline.entry 0) ())

theorem callM_lift : (Prog.lift (.customCall (SparseCore.inner (Pipeline.entry 0)) ()) : Prog (TpuEff nD τ sig (Elt F) (SparseCore.Sig (ΛP (F := F)) 1) .tc) PUnit)
    = SparseCore.liftProg (callM (F := F)) := rfl

/-- The merge's call, run: the six arrays it reads stand, the result is `mergeOut`. -/
theorem merge_run [∀ e, Nonempty (Elt F e)] {α : Type} (k : PUnit → Prog (TpuEff nD τ sig (Elt F) (SparseCore.Sig (ΛP (F := F)) 1) .tc) α) (Q : α → sProp (MM F)) :
    iprop((iprop(boundary (T d : Thread nD τ) ∗ (ArrsIn d lg sg m s cnt tgt ∗ ((T d : Thread nD τ).loc main_v5 ↦{fullShare} mergeOut lg sg m s cnt tgt)) ∗ OwT d)
          -∗ wp Idealize.ShloMosaic.frame (wpE ((K (F := F)).defs (D (F := F))) 𝒱₀.lift (T d) none) Set.univ (k ⟨⟩) Q)
        ∗ boundary (T d : Thread nD τ) ∗ ((ArrsIn d lg sg m s cnt tgt ∗ ((T d : Thread nD τ).loc main_v5 ↦{fullShare} o)) ∗ OwT d)
        ∗ levAts (K (F := F)).L (K (F := F)).lev
        ∗ Pipeline.cellsGhost (Pipeline.pin (pcfgs (F := F)) admP) EP 0 d ∗ Pipeline.toksInit (Pipeline.pin (pcfgs (F := F)) admP) EP 0 d)
      ⊢ wp Idealize.ShloMosaic.frame (wpE ((K (F := F)).defs (D (F := F))) 𝒱₀.lift (T d) none) Set.univ
          (Prog.lift (.customCall (SparseCore.inner (Pipeline.entry 0)) ()) >>= k) Q := by
  rw [wp_bind, callM_lift]
  refine BIBase.Entails.trans ?_ ((K (F := F)).wp_liftProg (D (F := F)) 𝒱₀.lift (T d) Set.univ none (callM (F := F)) _)
  refine BIBase.Entails.trans ?_ (Pipeline.RegionSeg.wp (pcfgs (F := F)) admP (pdatsM lg sg m s cnt tgt o) (default : HIx 1) cellOf_inj EP defs₀ 𝒱₀ (K (F := F)).L (K (F := F)).lev
    (regM lg sg m s cnt tgt o) d none (by rintro u ⟨⟩) _ _)
  refine sep_mono_left (wand_mono (Entails.of_eq rfl) ?_)
  rw [wp_ret]
  iintro H
  imodintro
  iexact H

end Cert.Proof
-- ==== Proof.Tiles.lean ====
/-
  The tiles' obligation to the launch: what each call of the SparseCores carries to a tile and back, a tile's run from
  what it is handed, and how the call's operands split into the tiles' parts.
-/
module

public import proofs.«01_k».proof.Proof.Spread
public import proofs.«01_k».proof.Proof.Merge

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay ownCells ownRefs ownSems0 ownBufs mem_ownCells mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

abbrev v₀ : 𝒱₀.lift.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The launch memory -/

variable (m : (ℓ : Loc nD τ sig) → Buf (Elt F) ℓ)

/-- What the proof asks of the launch memory: every segment number is below 16. -/
def PreOK : Prop := ∀ (d : Dev nD) (i : S16384.Idx), (m ((T d : Thread nD τ).loc main_arg2) i : BitVec 32).toNat < 16

abbrev segM (d : Dev nD) : S16384.Idx → Elt F .i32 := m ((T d : Thread nD τ).loc main_arg2)
abbrev candM (d : Dev nD) : S16384x128.Idx → Elt F .f32 := m ((T d : Thread nD τ).loc main_arg1)
/-- The sixteen vectors laid flat. -/
def flatM (d : Dev nD) : S2048.Idx → Elt F .f32 := fun i => shapeCast S2048 (m ((T d : Thread nD τ).loc main_arg0) : S16x128.Idx → Elt F .f32) shapeCasts_S16x128_S2048 i

variable (hpre : PreOK m)

/-- The scores, maxima, sums and counts over all tiles. -/
def logM (d : Dev nD) : S16384.Idx → Elt F .f32 := overTiles (scoreT (flatM m d) (candM m d) (segM m d) (hpre d))
def maxM (d : Dev nD) : S32x16.Idx → Elt F .f32 := rowTiles (maxT (flatM m d) (candM m d) (segM m d) (hpre d))
def sumM (d : Dev nD) : S32x16.Idx → Elt F .f32 := rowTiles (sumT (flatM m d) (candM m d) (segM m d) (hpre d))
def cntM (d : Dev nD) : S32x16.Idx → Elt F .f32 := rowTiles (cntT (F := F) (segM m d))

/-! ## What the calls carry -/

/-- What tile `L` is handed: shares of the vectors, the candidates and the segment numbers, and its parts of the results. -/
def goT (d : Dev nD) (L : grid0.Coords) : sProp 𝕄 :=
  iprop((gV.view.loc (thr d L) ↦{shrL (F := F) L} flatM m d) ∗ (candV.view.loc (thr d L) ↦{shrL (F := F) L} candM m d) ∗ (segV.view.loc (thr d L) ↦{shrL (F := F) L} segM m d)
    ∗ Outs d L (m ((T d : Thread nD τ).loc main_v2_0)) (m ((T d : Thread nD τ).loc main_v2_1)) (m ((T d : Thread nD τ).loc main_v2_2)) (m ((T d : Thread nD τ).loc main_v2_3)))

/-- What it gives back: its parts of the results, computed. -/
def tdT (d : Dev nD) (L : grid0.Coords) : sProp 𝕄 := Outs d L (logM m hpre d) (maxM m hpre d) (sumM m hpre d) (cntM m d)

theorem nCore_zero : (K (F := F)).nCore 0 = 2 := rfl
theorem nSub_zero : (K (F := F)).nSub 0 = 16 := rfl

/-- Tile `i` of SparseCore `c`. -/
abbrev tileAt (c : Fin ((K (F := F)).nCore 0)) (i : Fin ((K (F := F)).nSub 0)) : grid0.Coords := coordsV (Fin.cast nCore_zero c) (Fin.cast nSub_zero i)

/-- Write mode's invariant, at some name. -/
def wmSome : sProp 𝕄 := iprop(∃ ιwm : ℕ, wmInv (Ix := HIx 1) (Lvl := ℕ) wmE ιwm)

instance goT_storable (d : Dev nD) (L : grid0.Coords) : BI.Storable (upEmb : UEmb _ 𝕄) (goT m d L) := by unfold goT Outs; infer_instance
instance tdT_storable (d : Dev nD) (L : grid0.Coords) : BI.Storable (upEmb : UEmb _ 𝕄) (tdT m hpre d L) := by unfold tdT Outs; infer_instance

def P : (K (F := F)).Pay (nD := nD) (Val := Elt F) (Name := ℕ) (U := UU F) where
  st := fun q d c => match q with | 0 => bigSep Finset.univ fun i : Fin ((K (F := F)).nSub 0) => goT m d (tileAt c i)
  dn := fun q d c => match q with | 0 => bigSep Finset.univ fun i : Fin ((K (F := F)).nSub 0) => tdT m hpre d (tileAt c i)
  go := fun q d c i => match q with | 0 => goT m d (tileAt c i)
  td := fun q d c i => match q with | 0 => tdT m hpre d (tileAt c i)
  x := fun _ _ => wmSome

instance P_storable : (P m hpre).IsStorable where
  st q d c := match q with
    | 0 => (inferInstance : BI.Storable (upEmb : UEmb _ 𝕄) (bigSep Finset.univ fun i : Fin ((K (F := F)).nSub 0) => goT m d (tileAt c i)))
  dn q d c := match q with
    | 0 => (inferInstance : BI.Storable (upEmb : UEmb _ 𝕄) (bigSep Finset.univ fun i : Fin ((K (F := F)).nSub 0) => tdT m hpre d (tileAt c i)))
  go q d c i := match q with | 0 => (goT_storable m d (tileAt c i))
  td q d c i := match q with | 0 => (tdT_storable m hpre d (tileAt c i))

/-! ## The tile's own semaphores and scratch -/

/-- Some members taken out of a big conjunction, named through an injection. -/
theorem bigSep_take {I J : Type} [DecidableEq I] [DecidableEq J] {s : Finset I} {t : Finset J} {f : J → I} (hf : Set.InjOn f t) (ht : ∀ j ∈ t, f j ∈ s) {Φ : I → sProp 𝕄} :
    bigSep s Φ = iprop((bigSep t fun j => Φ (f j)) ∗ bigSep (s \ t.image f) Φ) := by
  rw [← SparseCore.bigSep_image_of_injOn hf Φ]
  exact SparseCore.bigSep_sdiff_split' (Finset.image_subset_iff.mpr ht)

/-- The ten semaphores of a tile's copies. -/
def tileSems : Finset (SemLoc sig) :=
  {.dma cc0_scratch7.sem, .dma cc0_scratch8.sem, .dma cc0_scratch9.sem, .dma cc0_scratch10.sem, .dma cc0_scoped0.sem, .dma cc0_scoped1.sem,
    .dma cc0_scoped2.sem, .dma cc0_scoped3.sem, .dma cc0_scoped4.sem, .dma cc0_scoped5.sem}

/-- The seven scratch buffers. -/
def tileRefs : Finset (Ref sig .scVector) := {cc0_scratch0, cc0_scratch1, cc0_scratch2, cc0_scratch3, cc0_scratch4, cc0_scratch5, cc0_scratch6}

theorem tileSems_scoped : ∀ x ∈ tileSems, x.isScoped .scVector = true := by decide

variable (d : Dev nD) (L : grid0.Coords)

/-- The tile's other semaphores and buffers. -/
def otherSems : sProp 𝕄 := bigSep (ownCells (thr d L) \ tileSems.image fun x => ((thr d L, x) : GSem nD τ sig)) fun g => semVal g 0
def otherBufs : sProp 𝕄 := bigSep (ownRefs (τ := τ) (sig := sig) (.scVector (cV L) (jV L)) \ tileRefs.image fun b => (Proc.scVector (cV L) (jV L)).devRef b)
  fun b => iprop(∃ f, ((d, b) : Loc nD τ sig) ↦{fullShare} f)

theorem ownSems0_V : (ownSems0 (thr d L) : sProp 𝕄)
    = iprop((semVal (thr d L, .dma cc0_scratch7.sem) 0 ∗ semVal (thr d L, .dma cc0_scratch8.sem) 0 ∗ semVal (thr d L, .dma cc0_scratch9.sem) 0 ∗ semVal (thr d L, .dma cc0_scratch10.sem) 0
        ∗ semVal (thr d L, .dma cc0_scoped0.sem) 0 ∗ semVal (thr d L, .dma cc0_scoped1.sem) 0 ∗ semVal (thr d L, .dma cc0_scoped2.sem) 0 ∗ semVal (thr d L, .dma cc0_scoped3.sem) 0
        ∗ semVal (thr d L, .dma cc0_scoped4.sem) 0 ∗ semVal (thr d L, .dma cc0_scoped5.sem) 0) ∗ otherSems d L) := by
  unfold SparseCore.Cfg.ownSems0 otherSems
  rw [bigSep_take (t := tileSems) (f := fun x => ((thr d L, x) : GSem nD τ sig)) (fun a _ b _ h => congrArg Prod.snd h)
    (fun x hx => mem_ownCells.mpr ⟨rfl, tileSems_scoped x hx⟩)]
  congr 1
  unfold tileSems
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

theorem ownBufs_V : (ownBufs (thr d L) : sProp 𝕄)
    = iprop(((∃ f, gB.view.loc (thr d L) ↦{fullShare} f) ∗ (∃ f, cB.view.loc (thr d L) ↦{fullShare} f) ∗ (∃ f, segB.view.loc (thr d L) ↦{fullShare} f)
        ∗ (∃ f, logB.view.loc (thr d L) ↦{fullShare} f) ∗ (∃ f, mB.view.loc (thr d L) ↦{fullShare} f) ∗ (∃ f, sB.view.loc (thr d L) ↦{fullShare} f)
        ∗ (∃ f, cntB.view.loc (thr d L) ↦{fullShare} f)) ∗ otherBufs d L) := by
  unfold SparseCore.Cfg.ownBufs otherBufs
  rw [bigSep_take (s := ownRefs (τ := τ) (sig := sig) (thr d L).2) (t := tileRefs) (f := fun b => (Proc.scVector (cV L) (jV L)).devRef b) (fun a _ b _ h => Proc.devRef_injective _ h)
    (fun x hx => mem_ownRefs_of_owner (p := Proc.scVector (cV L) (jV L)) (by
      unfold tileRefs at hx
      simp only [Finset.mem_insert, Finset.mem_singleton] at hx
      rcases hx with rfl | rfl | rfl | rfl | rfl | rfl | rfl <;> rfl))]
  congr 1
  unfold tileRefs
  rw [SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-! ## The tile's run -/

theorem tile_body (hF : (K (F := F)).Facts) (O : CellTallies nD τ sig (HIx 1)) (W : Waits sig (HIx 1)) (hO : ∀ g, O g none = 0) :
    iprop(levAts (K (F := F)).L (K (F := F)).lev ∗ wmSome ∗ goT m d L ∗ scopedBufs (thr d L) ∗ scopedSems0 (thr d L) ∗ owes (thr d L) O W)
      ⊢ wp Idealize.ShloMosaic.frame (wpE (defs₀ (F := F)) 𝒱₀ (thr d L) none) Set.univ
          (cc0__sc_body L gV (Memref.isWhole_whole _) candV (Memref.isWhole_whole _) segV (Memref.isWhole_whole _) logV (Memref.isWhole_whole _) mV (Memref.isWhole_whole _) sV (Memref.isWhole_whole _) cntV (Memref.isWhole_whole _)
            gB (Memref.isWhole_whole _) cB (Memref.isWhole_whole _) segB (Memref.isWhole_whole _) logB (Memref.isWhole_whole _) mB (Memref.isWhole_whole _) sB (Memref.isWhole_whole _) cntB (Memref.isWhole_whole _)
            cc0_scratch7 cc0_scratch8 cc0_scratch9 cc0_scratch10 cc0_scoped0 cc0_scoped1 cc0_scoped2 cc0_scoped3 cc0_scoped4 cc0_scoped5)
          fun _ => iprop(tdT m hpre d L ∗ scopedBufs (thr d L) ∗ scopedSems0 (thr d L) ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  unfold goT wmSome
  iintro ⟨#Hlv, ⟨%ιwm, #Hwm⟩, ⟨Hg, Hc, Hs, Ho⟩, ⟨⟨⟨%fb, Hgb⟩, ⟨%f0, Hcb⟩, ⟨%s0, Hsb⟩, ⟨%l0, Hlb⟩, ⟨%mv, Hmb⟩, ⟨%sv, Hub⟩, ⟨%cv, Hkb⟩⟩, Hbufs⟩,
    ⟨⟨H7, H8, H9, H10, Hr0, Hr1, Hr2, Hr3, Hr4, Hr5⟩, Hsems⟩, HO⟩
  ihave Hmw := (show levAts (K (F := F)).L (K (F := F)).lev ⊢ Transfers.MayWaits (thr d L) (default : HIx 1) O from
    (K (F := F)).mayWaits_none (thr := thr d L) hO) $$ Hlv
  iapply (steps_tile d L ιwm O W (flatM m d) fb f0 (candM m d) (segM m d) s0 l0 (shrL (F := F) L) (m ((T d : Thread nD τ).loc main_v2_0)) (m ((T d : Thread nD τ).loc main_v2_1))
    (m ((T d : Thread nD τ).loc main_v2_2)) (m ((T d : Thread nD τ).loc main_v2_3)) mv sv cv (segTile_lt (segM m d) (hpre d) L) _)
  unfold B0 Rest OWs Sems
  isplitl [Hmw HO H7 H8 H9 H10 Hr0 Hr1 Hr2 Hr3 Hr4 Hr5 Hg Hc Hs Ho Hgb Hcb Hsb Hlb Hmb Hub Hkb]
  · isplitl [Hmw]; · iexact Hmw
    isplitl [HO]
    · iexists W; isplitr
      · ipureintro; exact fun p hp => .inl hp
      · iexact HO
    isplitr; · iexact Hwm
    iframe H7 H8 H9 H10 Hr0 Hr1 Hg Hc Hs Hgb Hcb Hsb Hlb Hmb Hub Hkb Hr2 Hr3 Hr4 Hr5 Ho
  unfold B5 OWs Sems
  iintro ⟨⟨%W', %hW', HO⟩, ⟨H7, H8, H9, H10, Hr0, Hr1⟩, Hgb, Hcb, Hsb, Hlb, Hmb, Hub, Hkb, ⟨Hr2, Hr3, Hr4, Hr5⟩, Ho⟩
  isplitl [Ho]
  · unfold tdT logM maxM sumM cntM
    iapply (Entails.of_eq (outs_eq d L (m ((T d : Thread nD τ).loc main_v2_0)) (m ((T d : Thread nD τ).loc main_v2_1))
      (m ((T d : Thread nD τ).loc main_v2_2)) (m ((T d : Thread nD τ).loc main_v2_3)) (scoreT (flatM m d) (candM m d) (segM m d) (hpre d)) (maxT (flatM m d) (candM m d) (segM m d) (hpre d))
      (sumT (flatM m d) (candM m d) (segM m d) (hpre d)) (cntT (F := F) (segM m d))))
    iexact Ho
  isplitl [Hgb Hcb Hsb Hlb Hmb Hub Hkb Hbufs]
  · iframe Hgb Hcb Hsb Hlb Hmb Hub Hkb Hbufs
  isplitl [H7 H8 H9 H10 Hr0 Hr1 Hr2 Hr3 Hr4 Hr5 Hsems]
  · iframe H7 H8 H9 H10 Hr0 Hr1 Hr2 Hr3 Hr4 Hr5 Hsems
  iexists W'; isplitr
  · ipureintro; exact hW'
  · iexact HO

theorem defs₀_vector (c : Fin τ.nSC) (s : Fin τ.nSub) :
    defs₀ (F := F) (.scVector c s) 0 ()
      = SparseCore.onTile hcore0 hsub0 (fun c s => cc0__sc_body (coordsV c s) gV (Memref.isWhole_whole _) candV (Memref.isWhole_whole _) segV (Memref.isWhole_whole _) logV (Memref.isWhole_whole _) mV (Memref.isWhole_whole _) sV (Memref.isWhole_whole _) cntV (Memref.isWhole_whole _)
            gB (Memref.isWhole_whole _) cB (Memref.isWhole_whole _) segB (Memref.isWhole_whole _) logB (Memref.isWhole_whole _) mB (Memref.isWhole_whole _) sB (Memref.isWhole_whole _) cntB (Memref.isWhole_whole _)
            cc0_scratch7 cc0_scratch8 cc0_scratch9 cc0_scratch10 cc0_scoped0 cc0_scoped1 cc0_scoped2 cc0_scoped3 cc0_scoped4 cc0_scoped5) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe HA HB HC
  iexists W'; isplitr
  · ipureintro; exact fun p hp => (hW' p hp).imp_right Or.inl
  · iexact HO

set_option maxRecDepth 16384 in
theorem tileObl (hF : (K (F := F)).Facts) : (K (F := F)).TileObl (D (F := F)) 𝒱₀.lift (P m hpre) v₀ 0 := by
  intro d c i O W hO _ _
  simp only [show (P m hpre).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m hpre d (coordsV ⟨_, hci.1⟩ ⟨_, hci.2⟩) hF O W hO).trans (wp_mono Idealize.ShloMosaic.frame _ _ fun _ => obl_post)

theorem vecSplit : (K (F := F)).VecSplit' (P m hpre) 0 := by
  intro d c
  show (bigSep Finset.univ fun i : Fin ((K (F := F)).nSub 0) => goT m d (tileAt c i)) ⊢ |={Set.univ}=> iprop(
      (bigSep Finset.univ fun i : Fin ((K (F := F)).nSub 0) => goT m d (tileAt c i))
      ∗ ((bigSep Finset.univ fun i : Fin ((K (F := F)).nSub 0) => tdT m hpre d (tileAt c i))
          -∗ bigSep Finset.univ fun i : Fin ((K (F := F)).nSub 0) => tdT m hpre d (tileAt c i)))
  iintro H; imodintro
  isplitl [H]; · iexact H
  iintro H; iexact H

end Cert.Proof

end
-- ==== Proof.Run.lean ====
/-
  The kernel's whole run: what the proof sets up at the launch, @main on a TensorCore around the SparseCores' call and the
  merge, and what memory holds at the end.
-/
module

public import proofs.«01_k».proof.Proof.Tiles

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable (m : (ℓ : Loc nD τ sig) → Buf (Elt F) ℓ) (ρ : Dev nD → PrngReg) (hpre : PreOK m)

/-! ## A reshape of @main -/

include m in
theorem wp_reshape (d : Dev nD) {x y : Ref sig .tc} (h : x ≠ y) (he : x.ty.elt = y.ty.elt) (hn : x.ty.shape.ShapeCasts y.ty.shape)
    (hx : x.space ≠ .host ∧ (Proc.devRef (τ := τ) .tc x).isScoped = false) (hy : y.space ≠ .host ∧ (Proc.devRef (τ := τ) .tc y).isScoped = false)
    (q : PosShare TreeShare) (fx : x.ty.Contents (Elt F)) (fy : y.ty.Contents (Elt F)) (Q : PUnit → sProp 𝕄) :
    iprop(boundary (T d : Thread nD τ) ∗ ((T d : Thread nD τ).loc x ↦{q} fx) ∗ ((T d : Thread nD τ).loc y ↦{fullShare} fy)
        ∗ (iprop(boundary (T d : Thread nD τ) ∗ ((T d : Thread nD τ).loc x ↦{q} fx)
            ∗ ((T d : Thread nD τ).loc y ↦{fullShare} (fun i => he ▸ shapeCast y.ty.shape fx hn i : y.ty.Contents (Elt F)))) -∗ Q ⟨⟩))
      ⊢ wp Idealize.ShloMosaic.frame (wpE ((K (F := F)).defs (D (F := F))) 𝒱₀.lift (T d) none) Set.univ
          (hlo rfl (StableHlo.reshape x y he hn hx hy) (fun _ => .ret ⟨⟩)) Q := by
  have hne : Proc.devRef (τ := τ) .tc x ≠ Proc.devRef .tc y := fun e => h (Proc.devRef_injective _ e)
  let V : Valuation τ sig (Elt F) := Function.update (Function.update (fun b => m (d, b)) (Proc.devRef .tc y) fy) (Proc.devRef .tc x) fx
  have e1 : V (Proc.devRef .tc x) = fx := Function.update_self _ _ _
  have e2 : V (Proc.devRef .tc y) = fy := (Function.update_of_ne hne.symm _ _).trans (Function.update_self _ _ _)
  have hq : ∀ b ∈ (StableHlo.reshape (τ := τ) (Val := Elt F) x y he hn hx hy).writes, (fun b : DevRef τ sig => if b = Proc.devRef .tc y then fullShare else q) b = fullShare := by
    intro b hb
    rw [StableHlo.reshape_writes, Finset.mem_singleton] at hb
    exact if_pos hb
  have key := wp_hlo (𝒱₀.lift) (T d : Thread nD τ) none Set.univ (Γ := .empty) (defs := (K (F := F)).defs (D (F := F))) (hp := rfl) (op := StableHlo.reshape (τ := τ) (Val := Elt F) x y he hn hx hy)
    (k := fun _ => .ret ⟨⟩) (Q := Q) (q := fun b => if b = Proc.devRef .tc y then fullShare else q) (F := V) hq rfl
  rw [StableHlo.reshape_bufs, SparseCore.bigSep_insert' (by rw [Finset.mem_singleton]; exact hne), bigSep_singleton,
    SparseCore.bigSep_insert' (by rw [Finset.mem_singleton]; exact hne), bigSep_singleton] at key
  beta_reduce at key
  rw [if_neg hne, if_pos rfl, StableHlo.reshape_result_ne x y he hn hx hy V h, StableHlo.reshape_result x y he hn hx hy V, e1, e2, wp_ret] at key
  iintro ⟨Hb, Hx, Hy, HQ⟩
  iapply key $$ [Hb Hx Hy]
  · iframe Hb
    isplitl [Hx]; · iexact Hx
    iexact Hy
  iintro ⟨Hb, Hx, Hy⟩
  imodintro
  iapply HQ
  iframe Hb
  isplitl [Hx]; · iexact Hx
  iexact Hy

/-! ## The launch element of the ghost state -/

def u₀ : UU F := (initOf (K (F := F)).hsCells (K (F := F)).hsToks,
  (initOf (Pipeline.cells (Pipeline.pin (pcfgs (F := F)) admP) cellOf_injP) (Pipeline.launchToks (Pipeline.pin (pcfgs (F := F)) admP) cellOf_injP), (wm₀ nD τ sig (Elt F), 1)))

/-- What the merge's pipeline starts from on each device. -/
def G (d : Dev nD) : sProp 𝕄 :=
  iprop(Pipeline.cellsGhost (Pipeline.pin (pcfgs (F := F)) admP) EP 0 d ∗ Pipeline.toksInit (Pipeline.pin (pcfgs (F := F)) admP) EP 0 d)

instance wmSome_persistent : BI.Persistent (wmSome (F := F)) := by unfold wmSome; infer_instance

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m hpre).x q thr) := by
  unfold u₀
  iintro Hu
  ihave H := (ownU_pair (initOf (K (F := F)).hsCells (K (F := F)).hsToks)
    ((initOf (Pipeline.cells (Pipeline.pin (pcfgs (F := F)) admP) cellOf_injP) (Pipeline.launchToks (Pipeline.pin (pcfgs (F := F)) admP) cellOf_injP), (wm₀ nD τ sig (Elt F), 1)) :
      UPipe × (WmRA nD τ sig (Elt F) × Counters))) $$ Hu
  icases H with ⟨HH, H⟩
  ihave H := (own_pair_emb (embR (nD := nD) (τ := τ) (sig := sig) (Ix := HIx 1) (Val := Elt F) (Name := ℕ) (A := UH) (B := UPipe × (WmRA nD τ sig (Elt F) × Counters)) (Lvl := ℕ))
    (initOf (Pipeline.cells (Pipeline.pin (pcfgs (F := F)) admP) cellOf_injP) (Pipeline.launchToks (Pipeline.pin (pcfgs (F := F)) admP) cellOf_injP))
    ((wm₀ nD τ sig (Elt F), 1) : WmRA nD τ sig (Elt F) × Counters)) $$ H
  icases H with ⟨HP, H⟩
  ihave H := (own_pair_emb ((Emb.inr : Emb (WmRA nD τ sig (Elt F) × Counters) (UPipe × (WmRA nD τ sig (Elt F) × Counters))).trans
      (embR (nD := nD) (τ := τ) (sig := sig) (Ix := HIx 1) (Val := Elt F) (Name := ℕ) (A := UH) (B := UPipe × (WmRA nD τ sig (Elt F) × Counters)) (Lvl := ℕ)))
    (wm₀ nD τ sig (Elt F)) (1 : Counters)) $$ H
  icases H with ⟨HW, -⟩
  ihave HP' := (show BI.own (((Emb.inl : Emb UPipe (UPipe × (WmRA nD τ sig (Elt F) × Counters))).trans
      (embR (nD := nD) (τ := τ) (sig := sig) (Ix := HIx 1) (Val := Elt F) (Name := ℕ) (A := UH) (B := UPipe × (WmRA nD τ sig (Elt F) × Counters)) (Lvl := ℕ)))
      (initOf (Pipeline.cells (Pipeline.pin (pcfgs (F := F)) admP) cellOf_injP) (Pipeline.launchToks (Pipeline.pin (pcfgs (F := F)) admP) cellOf_injP)))
      ⊢ iprop(|==> ((bigSep Finset.univ fun c : Dev nD => bigSep Finset.univ fun p => Pipeline.cellsGhost (Pipeline.pin (pcfgs (F := F)) admP) (EP (F := F)) p c)
          ∗ (bigSep Finset.univ fun c : Dev nD => bigSep Finset.univ fun p => (Pipeline.toksInit (Pipeline.pin (pcfgs (F := F)) admP) EP p c : sProp 𝕄)))) from
    Pipeline.fund_ghost (Pipeline.pin (pcfgs (F := F)) admP) EP cellOf_injP) $$ HP
  ihave HW' := (show BI.own ((((Emb.inl : Emb (WmRA nD τ sig (Elt F)) (WmRA nD τ sig (Elt F) × Counters))).trans
      ((Emb.inr : Emb (WmRA nD τ sig (Elt F) × Counters) (UPipe × (WmRA nD τ sig (Elt F) × Counters))).trans
      (embR (nD := nD) (τ := τ) (sig := sig) (Ix := HIx 1) (Val := Elt F) (Name := ℕ) (A := UH) (B := UPipe × (WmRA nD τ sig (Elt F) × Counters)) (Lvl := ℕ))))
      (wm₀ nD τ sig (Elt F))) ⊢ iprop(|={Set.univ}=> ∃ ιwm : ℕ, ⌜ιwm ∉ (∅ : Finset ℕ)⌝ ∧ wmInv (Ix := HIx 1) (Lvl := ℕ) wmE ιwm) from
    wmInv_alloc (emb := wmE) ⟨m, fun _ => 0, fun _ => default⟩) $$ HW
  imod HP' with ⟨HC, HT⟩
  imod HW' with ⟨%ιwm, -, #Hwm⟩
  imodintro
  isplitl [HH]; · iexact HH
  isplitl [HC HT]
  · unfold G
    rw [bigSep_sep']
    isplitl [HC]
    · iapply (Entails.of_eq (bigSep_congr fun c _ => bigSep_univ_of_subsingleton (0 : Fin 1))) $$ HC
    · iapply (Entails.of_eq (bigSep_congr fun c _ => bigSep_univ_of_subsingleton (0 : Fin 1))) $$ HT
  iapply (show wmSome (F := F) ⊢ bigSep Finset.univ fun thr : Thread nD τ => bigSep Finset.univ fun q : Fin 1 => (P m hpre).x q thr from
    bigSep_intro_persistent fun _ _ => bigSep_intro_persistent fun _ _ => Entails.of_eq rfl)
  unfold wmSome
  iexists ιwm; iexact Hwm

end Cert.Proof

end
-- ==== Proof.Host.lean ====
/-
  @main on a TensorCore, and the kernel's run: it ends with the arguments as they were, every semaphore at zero, and the
  result at what the merge makes of the tiles' results.
-/
module

public import proofs.«01_k».proof.Proof.Run

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

variable (m : (ℓ : Loc nD τ sig) → Buf (Elt F) ℓ) (ρ : Dev nD → PrngReg) (hpre : PreOK m)

/-! ## What @main's arrays come to hold -/

abbrev at_ (d : Dev nD) (b : Ref sig .tc) : Buf (Elt F) ((T d : Thread nD τ).loc b) := m ((T d : Thread nD τ).loc b)

def tgtR (d : Dev nD) : S1x16.Idx → Elt F .i32 := fun i => shapeCast S1x16 (at_ m d main_arg3 : S16.Idx → Elt F .i32) shapeCasts_S16_S1x16 i
def logR (d : Dev nD) : S128x128.Idx → Elt F .f32 := fun i => shapeCast S128x128 (logM m hpre d) shapeCasts_S16384_S128x128 i
def segR (d : Dev nD) : S128x128.Idx → Elt F .i32 := fun i => shapeCast S128x128 (segM m d) shapeCasts_S16384_S128x128 i
/-- What the merge leaves. -/
def merged (d : Dev nD) : S1x16.Idx → Elt F .f32 := mergeOut (logR m hpre d) (segR m d) (maxM m hpre d) (sumM m hpre d) (cntM m d) (tgtR m d)
/-- The kernel's result. -/
def result (d : Dev nD) : S16.Idx → Elt F .f32 := fun i => shapeCast S16 (merged m hpre d) shapeCasts_S1x16_S16 i

/-! ## The SparseCores' call -/

theorem bigSep_tiles (d : Dev nD) (Φ : Fin 2 → Fin 16 → sProp 𝕄) :
    (bigSep Finset.univ fun c : Fin ((K (F := F)).nCore 0) => bigSep Finset.univ fun i : Fin ((K (F := F)).nSub 0) => Φ (Fin.cast nCore_zero c) (Fin.cast nSub_zero i))
      = bigSep Finset.univ fun c : Fin 2 => bigSep Finset.univ fun i : Fin 16 => Φ c i := rfl

/-- The tiles' parts of the results, together. -/
theorem outs_all (d : Dev nD) (lG : S16384.Idx → Elt F .f32) (mG sG cG : S32x16.Idx → Elt F .f32) :
    (bigSep Finset.univ fun c : Fin 2 => bigSep Finset.univ fun i : Fin 16 => Outs (F := F) d (coordsV c i) lG mG sG cG)
      = iprop(((T d : Thread nD τ).loc main_v2_0 ↦{fullShare} lG) ∗ ((T d : Thread nD τ).loc main_v2_1 ↦{fullShare} mG)
          ∗ ((T d : Thread nD τ).loc main_v2_2 ↦{fullShare} sG) ∗ ((T d : Thread nD τ).loc main_v2_3 ↦{fullShare} cG)) := by
  rw [parts ((T d : Thread nD τ).loc main_v2_0) lG (fun L => (logK L).view.set) (fun x : S16384.Idx => (x 0).val / 512) (fun x => by have h : (x 0).val < 16384 := (x 0).isLt; omega) mem_logK,
    parts ((T d : Thread nD τ).loc main_v2_1) mG (fun L => (mK L).view.set) (fun x : S32x16.Idx => (x 0).val) (fun x => (x 0).isLt) mem_mK,
    parts ((T d : Thread nD τ).loc main_v2_2) sG (fun L => (sK L).view.set) (fun x : S32x16.Idx => (x 0).val) (fun x => (x 0).isLt) mem_sK,
    parts ((T d : Thread nD τ).loc main_v2_3) cG (fun L => (cntK L).view.set) (fun x : S32x16.Idx => (x 0).val) (fun x => (x 0).isLt) mem_cntK]
  simp only [← bigSep_sep']
  rfl

theorem st0 (d : Dev nD) :
    iprop(((T d : Thread nD τ).loc main_v1 ↦{fullShare} flatM m d) ∗ ((T d : Thread nD τ).loc main_arg1 ↦{fullShare} candM m d) ∗ ((T d : Thread nD τ).loc main_arg2 ↦{fullShare} segM m d)
        ∗ ((T d : Thread nD τ).loc main_v2_0 ↦{fullShare} at_ m d main_v2_0) ∗ ((T d : Thread nD τ).loc main_v2_1 ↦{fullShare} at_ m d main_v2_1)
        ∗ ((T d : Thread nD τ).loc main_v2_2 ↦{fullShare} at_ m d main_v2_2) ∗ ((T d : Thread nD τ).loc main_v2_3 ↦{fullShare} at_ m d main_v2_3))
      ⊢ iprop((bigSep Finset.univ fun c : Fin ((K (F := F)).nCore 0) => (P m hpre).st 0 d c)
          ∗ ((T d : Thread nD τ).loc main_arg1 ↦{fullShare.left} candM m d) ∗ ((T d : Thread nD τ).loc main_arg2 ↦{fullShare.left} segM m d)) := by
  rw [← outs_all]
  refine BIBase.Entails.trans (BIClass.sep_mono (split_shares _ _) (BIClass.sep_mono (split_shares _ _) (sep_mono_left (split_shares _ _)))) ?_
  rw [show (bigSep Finset.univ fun c : Fin ((K (F := F)).nCore 0) => (P m hpre).st 0 d c)
      = bigSep Finset.univ fun c : Fin 2 => bigSep Finset.univ fun i : Fin 16 => goT m d (coordsV c i) from rfl]
  unfold goT
  simp only [bigSep_sep']
  iintro ⟨⟨-, Hg⟩, ⟨Hc, Hcs⟩, ⟨Hs, Hss⟩, Ho⟩
  isplitr [Hc Hs]
  · isplitl [Hg]; · iexact Hg
    isplitl [Hcs]; · iexact Hcs
    isplitl [Hss]; · iexact Hss
    iexact Ho
  · isplitl [Hc]; · iexact Hc
    iexact Hs

theorem dn0 (d : Dev nD) : (bigSep Finset.univ fun c : Fin ((K (F := F)).nCore 0) => (P m hpre).dn 0 d c)
    = iprop(((T d : Thread nD τ).loc main_v2_0 ↦{fullShare} logM m hpre d) ∗ ((T d : Thread nD τ).loc main_v2_1 ↦{fullShare} maxM m hpre d)
        ∗ ((T d : Thread nD τ).loc main_v2_2 ↦{fullShare} sumM m hpre d) ∗ ((T d : Thread nD τ).loc main_v2_3 ↦{fullShare} cntM m d)) := by
  rw [← outs_all]; rfl

/-! ## @main -/

theorem unscopedBufs_eq (d : Dev nD) (W : (b : Ref sig .tc) → Buf (Elt F) ((d.tc : Thread nD τ).loc b)) :
    (unscopedBufs d W : sProp 𝕄) = iprop(((T d : Thread nD τ).loc main_arg0 ↦{fullShare} W main_arg0) ∗ ((T d : Thread nD τ).loc main_arg1 ↦{fullShare} W main_arg1)
      ∗ ((T d : Thread nD τ).loc main_arg2 ↦{fullShare} W main_arg2) ∗ ((T d : Thread nD τ).loc main_arg3 ↦{fullShare} W main_arg3)
      ∗ ((T d : Thread nD τ).loc main_v0 ↦{fullShare} W main_v0) ∗ ((T d : Thread nD τ).loc main_v1 ↦{fullShare} W main_v1)
      ∗ ((T d : Thread nD τ).loc main_v2_0 ↦{fullShare} W main_v2_0) ∗ ((T d : Thread nD τ).loc main_v2_1 ↦{fullShare} W main_v2_1)
      ∗ ((T d : Thread nD τ).loc main_v2_2 ↦{fullShare} W main_v2_2) ∗ ((T d : Thread nD τ).loc main_v2_3 ↦{fullShare} W main_v2_3)
      ∗ ((T d : Thread nD τ).loc main_v3 ↦{fullShare} W main_v3) ∗ ((T d : Thread nD τ).loc main_v4 ↦{fullShare} W main_v4)
      ∗ ((T d : Thread nD τ).loc main_v5 ↦{fullShare} W main_v5) ∗ (T d : Thread nD τ).loc main_v6 ↦{fullShare} W main_v6) := by
  unfold unscopedBufs
  rw [show (Finset.univ.filter fun b : Ref sig .tc => ¬ b.isScoped)
      = {main_arg0, main_arg1, main_arg2, main_arg3, main_v0, main_v1, main_v2_0, main_v2_1, main_v2_2, main_v2_3, main_v3, main_v4, main_v5, main_v6} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

/-- What @main keeps to the end: the arguments and the result. -/
def FIN (d : Dev nD) : sProp 𝕄 :=
  iprop(((T d : Thread nD τ).loc main_arg0 ↦{fullShare} at_ m d main_arg0) ∗ ((T d : Thread nD τ).loc main_arg1 ↦{fullShare.left} at_ m d main_arg1)
    ∗ ((T d : Thread nD τ).loc main_arg2 ↦{fullShare.left} at_ m d main_arg2) ∗ ((T d : Thread nD τ).loc main_arg3 ↦{fullShare} at_ m d main_arg3)
    ∗ ((T d : Thread nD τ).loc main_v6 ↦{fullShare} result m hpre d))

theorem hmain [∀ e, Nonempty (Elt F e)] (κ : GSem nD τ sig → ℕ) (d : Dev nD) :
    iprop((K (F := F)).ctx EH (P m hpre) κ ∗ (K (F := F)).tcSt EH d 0 ∗ (K (F := F)).tcRes m ρ d ∗ G (F := F) d)
      ⊢ wp Idealize.ShloMosaic.frame (wpE ((K (F := F)).defs (D (F := F))) 𝒱₀.lift (T d) none) Set.univ (main d)
          fun _ => iprop((K (F := F)).tcSt EH d 1 ∗ FIN m hpre d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha0, Ha1, Ha2, Ha3, Hv0, Hv1, Hl, Hm, Hsm, Hk, Hv3, Hv4, Hv5, Hv6⟩, Hts, -⟩, HG⟩
  iapply (wp_reshape m d (x := main_arg3) (y := main_v0) (by decide) rfl shapeCasts_S16_S1x16 _ _ fullShare (at_ m d main_arg3) (at_ m d main_v0))
  isplitl [Hb]; · iexact Hb
  isplitl [Ha3]; · iexact Ha3
  isplitl [Hv0]; · iexact Hv0
  iintro ⟨Hb, Ha3, Hv0⟩
  iapply (wp_reshape m d (x := main_arg0) (y := main_v1) (by decide) rfl shapeCasts_S16x128_S2048 _ _ fullShare (at_ m d main_arg0) (at_ m d main_v1))
  isplitl [Hb]; · iexact Hb
  isplitl [Ha0]; · iexact Ha0
  isplitl [Hv1]; · iexact Hv1
  iintro ⟨Hb, Ha0, Hv1⟩
  ihave H := (st0 m hpre d) $$ [Hv1 Ha1 Ha2 Hl Hm Hsm Hk]
  · isplitl [Hv1]; · iexact Hv1
    isplitl [Ha1]; · iexact Ha1
    isplitl [Ha2]; · iexact Ha2
    isplitl [Hl]; · iexact Hl
    isplitl [Hm]; · iexact Hm
    isplitl [Hsm]; · iexact Hsm
    iexact Hk
  icases H with ⟨Hgo, Ha1, Ha2⟩
  iapply ((K (F := F)).wp_run (D (F := F)) 𝒱₀.lift (EH := EH) (P := P m hpre) κ d 0)
  isplitr; · iexact Hctx
  isplitl [Hst]; · iexact Hst
  isplitl [Hgo]; · iexact Hgo
  iintro ⟨Hst, Hdn⟩
  ihave Hdn' := (Entails.of_eq (dn0 m hpre d)) $$ Hdn
  icases Hdn' with ⟨Hl, Hm, Hsm, Hk⟩
  iapply (wp_reshape m d (x := main_v2_0) (y := main_v3) (by decide) rfl shapeCasts_S16384_S128x128 _ _ fullShare (logM m hpre d) (at_ m d main_v3))
  isplitl [Hb]; · iexact Hb
  isplitl [Hl]; · iexact Hl
  isplitl [Hv3]; · iexact Hv3
  iintro ⟨Hb, Hl, Hv3⟩
  iapply (wp_reshape m d (x := main_arg2) (y := main_v4) (by decide) rfl shapeCasts_S16384_S128x128 _ _ fullShare.left (segM m d) (at_ m d main_v4))
  isplitl [Hb]; · iexact Hb
  isplitl [Ha2]; · iexact Ha2
  isplitl [Hv4]; · iexact Hv4
  iintro ⟨Hb, Ha2, Hv4⟩
  unfold SparseCore.Cfg.tcSt
  icases Hst with ⟨⟨%W, %hW, HO⟩, Hrest⟩
  rw [show (K (F := F)).Otc d ((0 : Fin 1).val + 1) = 0 from (K (F := F)).Otc_end d (le_refl 1)]
  unfold G
  icases HG with ⟨HC, HT⟩
  ihave Hlev := (SparseCore.Cfg.ctx_levAts (K := K (F := F)) κ) $$ Hctx
  iapply (merge_run d (logR m hpre d) (segR m d) (maxM m hpre d) (sumM m hpre d) (cntM m d) (tgtR m d) (at_ m d main_v5) (fun u => .ret u) _)
  isplitr [Hb Hv3 Hv4 Hm Hsm Hk Hv0 Hv5 HO Hlev HC HT]
  · unfold ArrsIn OwT
    iintro ⟨Hb, ⟨-, Hv5⟩, ⟨%W', %hW', HO⟩⟩
    rw [wp_ret]
    imodintro
    iapply (wp_reshape m d (x := main_v5) (y := main_v6) (by decide) rfl shapeCasts_S1x16_S16 _ _ fullShare (merged m hpre d) (at_ m d main_v6))
    isplitl [Hb]; · iexact Hb
    isplitl [Hv5]; · iexact Hv5
    isplitl [Hv6]; · iexact Hv6
    iintro ⟨Hb, -, Hv6⟩
    imodintro
    isplitl [HO Hrest]
    · isplitl [HO]
      · iexists W'
        isplitr
        · ipureintro; exact hW'
        · rw [show (K (F := F)).Otc d 1 = 0 from (K (F := F)).Otc_end d (le_refl 1)]
          iexact HO
      · iexact Hrest
    isplitl [Ha0 Ha1 Ha2 Ha3 Hv6]
    · unfold FIN
      isplitl [Ha0]; · iexact Ha0
      isplitl [Ha1]; · iexact Ha1
      isplitl [Ha2]; · iexact Ha2
      isplitl [Ha3]; · iexact Ha3
      iexact Hv6
    isplitl [Hb] <;> iassumption
  · isplitl [Hb]; · iexact Hb
    isplitl [Hv3 Hv4 Hm Hsm Hk Hv0 Hv5 HO]
    · unfold ArrsIn OwT
      isplitl [Hv3 Hv4 Hm Hsm Hk Hv0 Hv5]
      · isplitl [Hv3 Hv4 Hm Hsm Hk Hv0]
        · isplitl [Hv3]; · iexact Hv3
          isplitl [Hv4]; · iexact Hv4
          isplitl [Hm]; · iexact Hm
          isplitl [Hsm]; · iexact Hsm
          isplitl [Hk]; · iexact Hk
          iexact Hv0
        · iexact Hv5
      · iexists W
        isplitr
        · ipureintro; exact hW
        · iexact HO
    isplitl [Hlev]; · iexact Hlev
    isplitl [HC]; · iexact HC
    iexact HT

/-! ## The run -/

def fq (d : Dev nD) (s' : Phys nD τ sig (Elt F)) : Prop :=
  s'.mem.mem ((T d : Thread nD τ).loc main_arg0) = at_ m d main_arg0 ∧ s'.mem.mem ((T d : Thread nD τ).loc main_arg1) = at_ m d main_arg1
    ∧ s'.mem.mem ((T d : Thread nD τ).loc main_arg2) = at_ m d main_arg2 ∧ s'.mem.mem ((T d : Thread nD τ).loc main_arg3) = at_ m d main_arg3
    ∧ s'.mem.mem ((T d : Thread nD τ).loc main_v6) = result m hpre d

/-- What is held is what memory holds, and the holding stays. -/
theorem held_agree (s' : Phys nD τ sig (Elt F)) (ℓ : Loc nD τ sig) (q : PosShare TreeShare) (f : Buf (Elt F) ℓ) :
    iprop(SI s' ∗ (ℓ ↦{q} f)) ⊢ (iprop(⌜s'.mem.mem ℓ = f⌝ ∗ SI s') : sProp 𝕄) := by
  iintro H
  ihave H := (persistent_entails_right (SI_pointsTo_agree (st := s') (ℓ := ℓ) (I := Finset.univ) (q := q) (f := f))) $$ H
  icases H with ⟨%h, HSI, -⟩
  isplitr
  · ipureintro; exact funext fun i => h i (Finset.mem_univ i)
  · iexact HSI

theorem hfin (d : Dev nD) (s' : Phys nD τ sig (Elt F)) : iprop(FIN m hpre d ∗ SI s') ⊢ (⌜fq m hpre d s'⌝ : sProp 𝕄) := by
  unfold FIN
  iintro ⟨⟨H0, H1, H2, H3, H6⟩, HSI⟩
  ihave H := (held_agree s' _ _ _) $$ [HSI H0]; · isplitl [HSI] <;> iassumption
  icases H with ⟨%h0, HSI⟩
  ihave H := (held_agree s' _ _ _) $$ [HSI H1]; · isplitl [HSI] <;> iassumption
  icases H with ⟨%h1, HSI⟩
  ihave H := (held_agree s' _ _ _) $$ [HSI H2]; · isplitl [HSI] <;> iassumption
  icases H with ⟨%h2, HSI⟩
  ihave H := (held_agree s' _ _ _) $$ [HSI H3]; · isplitl [HSI] <;> iassumption
  icases H with ⟨%h3, HSI⟩
  ihave H := (held_agree s' _ _ _) $$ [HSI H6]; · isplitl [HSI] <;> iassumption
  icases H with ⟨%h6, -⟩
  ipureintro; exact ⟨h0, h1, h2, h3, h6⟩

def QC : PUnit × MemSt nD τ sig (Elt F) → Prop := fun r =>
  (∀ d : Dev nD, r.2.mem ((T d : Thread nD τ).loc main_arg0) = at_ m d main_arg0 ∧ r.2.mem ((T d : Thread nD τ).loc main_arg1) = at_ m d main_arg1
    ∧ r.2.mem ((T d : Thread nD τ).loc main_arg2) = at_ m d main_arg2 ∧ r.2.mem ((T d : Thread nD τ).loc main_arg3) = at_ m d main_arg3
    ∧ r.2.mem ((T d : Thread nD τ).loc main_v6) = result m hpre d) ∧ r.2.sem = fun _ => 0

/-- The kernel's run. -/
theorem run_main [∀ e, Nonempty (Elt F e)] :
    θ_run (Cert.KernelIdeal.defs (F := F)) (Cert.KernelIdeal.threads (F := F)) ⟨m, fun _ => 0, ρ⟩ (QC m hpre) :=
  SparseCore.Cfg.θ_run_sc_quiescent (K := K (F := F)) (D := D (F := F)) (𝒱 := 𝒱₀.lift) (EH := EH) (P := P m hpre) (A := ∅) facts v₀
    (fun q hq => match q with | 0 => nomatch hq)
    (fun q _ => match q with | 0 => tileObl m hpre facts)
    (fun q _ => match q with | 0 => SparseCore.Cfg.VecSplit.of_plain (vecSplit m hpre))
    m ρ main (G (F := F)) (FIN m hpre) (u₀ (F := F)) (sep_elim_left.trans (hu₀ m hpre)) (hmain m ρ hpre) (fq m hpre) (hfin m hpre) (QC m hpre) (fun _ h hz => ⟨h, hz⟩)

end Cert.Proof

end
-- ==== Proof.Frames.lean ====
/-
  The precondition read at an index, and the claims that the programs run and leave their arguments as they were.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Gen.Pre_ids_in_range
public import proofs.«01_k».proof.Proof.Host
public import Idealize.ShloMosaic.Lib.ReduceAll

@[expose] public section

noncomputable section

namespace Cert.Proof

open Idealize.ShloMosaic Idealize.SL.Sem
open Idealize.ShloMosaic.SparseCore (T)

attribute [local instance] Cert.Kernel.Gen.facts Cert.KernelIdeal.Gen.facts Cert.ReferenceIdeal.Gen.facts Cert.Pre_ids_in_range.Gen.facts

variable {F : FTy → Type} [FloatOps F]

theorem bit_of_ne_zero {p : Bool} (h : BitVec.ofBool p = 1#1) : p = true := by
  cases p
  · exact absurd h (by decide)
  · rfl

instance : Subsingleton Cert.Pre_ids_in_range.S_.Idx := ⟨fun a b => funext fun k => k.elim0⟩

theorem and_ones {a b : BitVec 1} (h : IntOp.andi a b = 1#1) : a = 1#1 ∧ b = 1#1 := by
  revert h; revert a b; decide

/-- What the precondition says of the segment ids and of the target positions. -/
theorem pre_reads {a0 : FVec F Cert.Pre_ids_in_range.S16x128 .f32} {a1 : FVec F Cert.Pre_ids_in_range.S16384x128 .f32}
    {a2 : IVec Cert.Pre_ids_in_range.S16384 32} {a3 : IVec Cert.Pre_ids_in_range.S16 32}
    (h : ∀ j, Cert.Pre_ids_in_range.fn (F := F) a0 a1 a2 a3 j = 1#1) :
    (∀ i, (a2 i).toNat < 16) ∧ ∀ i, (a3 i).toNat < 16384 := by
  have e := h (Shape.Idx.first (by decide : 0 < Cert.Pre_ids_in_range.S_.numel))
  obtain ⟨e123, e4⟩ := and_ones e
  obtain ⟨e12, e3⟩ := and_ones e123
  obtain ⟨e1, e2⟩ := and_ones e12
  refine ⟨fun i => ?_, fun i => ?_⟩
  · have f1 := bit_of_ne_zero (Host.reduce_andi_all _ _ _ _ _ e1 i)
    have f2 := bit_of_ne_zero (Host.reduce_andi_all _ _ _ _ _ e2 i)
    simp only [BitVec.sle_eq_decide, BitVec.slt_eq_decide, decide_eq_true_eq, broadcastInDim, constantI] at f1 f2
    simp only [BitVec.toInt_eq_toNat_cond, BitVec.toNat_ofNat] at f1 f2
    omega
  · have f1 := bit_of_ne_zero (Host.reduce_andi_all _ _ _ _ _ e3 i)
    have f2 := bit_of_ne_zero (Host.reduce_andi_all _ _ _ _ _ e4 i)
    simp only [BitVec.sle_eq_decide, BitVec.slt_eq_decide, decide_eq_true_eq, broadcastInDim, constantI] at f1 f2
    simp only [BitVec.toInt_eq_toNat_cond, BitVec.toNat_ofNat] at f1 f2
    omega

/-- The ids of a run that meets the precondition lie in range. -/
theorem pre_ok (m : (ℓ : Loc Cert.KernelIdeal.nD Cert.KernelIdeal.τ Cert.KernelIdeal.sig) → Buf (Elt F) ℓ)
    (h : ∀ c : Dev Cert.KernelIdeal.nD, ∀ j, Cert.Pre_ids_in_range.fn (F := F)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) j = 1#1) : PreOK m :=
  fun d i => (pre_reads (h d)).1 i

/-- The two printed programs have the same bodies: each entry of the table is the same text. -/
theorem bodies_same : Cert.Kernel.defs₀ (F := Bits) = Cert.KernelIdeal.defs₀ (F := Bits) := by
  funext p l a
  match p, l, a with
  | .tc, 0, _ => rfl
  | .tc, 1, _ => rfl
  | .scScalar _, 0, _ => rfl
  | .scScalar _, 1, _ => rfl
  | .scVector _ _, 0, _ => rfl
  | .scVector _ _, 1, _ => rfl

theorem defs_same : Cert.Kernel.defs (F := Bits) = Cert.KernelIdeal.defs (F := Bits) :=
  congrArg (fun D => Cert.Kernel.sc.defs (Pipeline.defs Cert.Kernel.pcfgs D)) bodies_same

theorem frame_kernel : Cert.quiescent_Kernel := fun m ρ hp => by
  have h := run_main (F := Bits) m ρ (pre_ok m fun c j => congrFun (hp c) j)
  rw [defs_same]
  exact (θ_run Cert.KernelIdeal.defs Cert.KernelIdeal.threads _).mono
    (fun r (h : QC m _ r) => ⟨fun c => ⟨(h.1 c).1, (h.1 c).2.1, (h.1 c).2.2.1, (h.1 c).2.2.2.1⟩, h.2⟩) h

theorem frame_ideal : Cert.quiescent_KernelIdeal := fun m ρ hp =>
  (θ_run Cert.KernelIdeal.defs _ _).mono
    (fun _ h => ⟨fun c => ⟨(h.1 c).1, (h.1 c).2.1, (h.1 c).2.2.1, (h.1 c).2.2.2.1⟩, h.2⟩)
    (run_main (F := Ideal) m ρ (pre_ok m fun c j => congrFun (hp c) j))

theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Proof

end
-- ==== Proof.Spec.lean ====
/-
  Sums and maxima of extended reals taken in parts, and the law by which sums of exponentials, each taken against its own
  part's maximum, are put together against the maximum of all.
-/
module

public import Idealize.ShloMosaic.PureOps.Ideal
public import Idealize.ShloMosaic.Lib.IdealHost

@[expose] public section

noncomputable section

namespace Cert.Proof.Spec

open Idealize.ShloMosaic

/-! ## Ranges in equal parts -/

theorem sum_parts {α : Type} [AddCommMonoid α] (a n : ℕ) (f : ℕ → α) :
    ∑ k ∈ Finset.range n, ∑ l ∈ Finset.range a, f (a * k + l) = ∑ i ∈ Finset.range (a * n), f i := by
  induction n with
  | zero => simp
  | succ n ih => rw [Finset.sum_range_succ, ih, Nat.mul_succ, Finset.sum_range_add]

theorem sum_lanes {α : Type} [AddCommMonoid α] (a n : ℕ) (f : ℕ → α) :
    ∑ l ∈ Finset.range a, ∑ k ∈ Finset.range n, f (a * k + l) = ∑ i ∈ Finset.range (a * n), f i := by
  rw [Finset.sum_comm, sum_parts]

theorem sup_parts (a n : ℕ) (f : ℕ → EReal) :
    ((Finset.range n).sup fun k => (Finset.range a).sup fun l => f (a * k + l)) = (Finset.range (a * n)).sup f := by
  apply le_antisymm
  · refine Finset.sup_le fun k hk => Finset.sup_le fun l hl => Finset.le_sup (f := f) ?_
    rw [Finset.mem_range] at *
    calc a * k + l < a * k + a := by omega
      _ = a * (k + 1) := by ring
      _ ≤ a * n := Nat.mul_le_mul_left a hk
  · refine Finset.sup_le fun i hi => ?_
    rw [Finset.mem_range] at hi
    have ha : 0 < a := Nat.pos_of_ne_zero fun h => by simp [h] at hi
    have h1 : i / a < n := Nat.div_lt_of_lt_mul hi
    have h2 : i % a < a := Nat.mod_lt _ ha
    refine le_trans ?_ (Finset.le_sup (f := fun k => (Finset.range a).sup fun l => f (a * k + l)) (Finset.mem_range.2 h1))
    refine le_trans (le_of_eq ?_) (Finset.le_sup (f := fun l => f (a * (i / a) + l)) (Finset.mem_range.2 h2))
    rw [Nat.div_add_mod]

theorem sup_lanes (a n : ℕ) (f : ℕ → EReal) :
    ((Finset.range a).sup fun l => (Finset.range n).sup fun k => f (a * k + l)) = (Finset.range (a * n)).sup f := by
  rw [Finset.sup_comm, sup_parts]

theorem sup_step (n : ℕ) (f : ℕ → EReal) : (Finset.range (n + 1)).sup f = max ((Finset.range n).sup f) (f n) := by
  rw [Finset.range_add_one, Finset.sup_insert, sup_comm]

/-! ## Exponentials -/

theorem exp_nonneg (x : EReal) : 0 ≤ Ideal.exp x := by
  induction x with
  | bot => exact le_refl _
  | top => exact le_top
  | coe r => exact EReal.coe_nonneg.2 (Real.exp_pos r).le

theorem exp_bot : Ideal.exp ⊥ = 0 := rfl

/-- Against a part's maximum `m` and then the maximum `M` of all is against `M`. -/
theorem exp_twice {x m M : EReal} (h1 : x ≤ m) (h2 : m ≤ M) : Ideal.exp (x - m) * Ideal.exp (m - M) = Ideal.exp (x - M) := by
  induction M with
  | bot =>
    obtain rfl := le_bot_iff.1 h2
    obtain rfl := le_bot_iff.1 h1
    simp [exp_bot]
  | top =>
    have e (y : EReal) : Ideal.exp (y - ⊤) = 0 := by rw [EReal.sub_top, exp_bot]
    rw [e, e, mul_zero]
  | coe M =>
    induction m with
    | bot =>
      obtain rfl := le_bot_iff.1 h1
      simp [exp_bot]
    | top => exact absurd h2 (by simp)
    | coe m =>
      induction x with
      | bot => simp [exp_bot]
      | top => exact absurd h1 (by simp)
      | coe x =>
        rw [← EReal.coe_sub, ← EReal.coe_sub, ← EReal.coe_sub]
        show ((Real.exp (x - m) : ℝ) : EReal) * ((Real.exp (m - M) : ℝ) : EReal) = ((Real.exp (x - M) : ℝ) : EReal)
        rw [← EReal.coe_mul, ← Real.exp_add]
        congr 2; ring

theorem sum_mul {ι : Type} (s : Finset ι) (f : ι → EReal) (hf : ∀ i, 0 ≤ f i) (c : EReal) :
    (∑ i ∈ s, f i) * c = ∑ i ∈ s, f i * c := by
  classical
  induction s using Finset.induction_on with
  | empty => simp
  | insert a s ha ih =>
    rw [Finset.sum_insert ha, Finset.sum_insert ha, EReal.right_distrib_of_nonneg (hf a) (Finset.sum_nonneg fun i _ => hf i), ih]

/-- Of the numbers below `n`, those that `p` takes: the greatest `f`, and the sum of `f`'s exponentials less `M`. -/
def greatest (n : ℕ) (p : ℕ → Prop) [DecidablePred p] (f : ℕ → EReal) : EReal :=
  (Finset.range n).sup fun i => if p i then f i else ⊥
def expSum (n : ℕ) (p : ℕ → Prop) [DecidablePred p] (f : ℕ → EReal) (M : EReal) : EReal :=
  ∑ i ∈ Finset.range n, if p i then Ideal.exp (f i - M) else 0

theorem expSum_mul (n : ℕ) (p : ℕ → Prop) [DecidablePred p] (f : ℕ → EReal) {M : EReal} (hM : greatest n p f ≤ M) :
    expSum n p f (greatest n p f) * Ideal.exp (greatest n p f - M) = expSum n p f M := by
  unfold expSum
  rw [sum_mul _ _ (fun i => by split; exact exp_nonneg _; exact le_refl _)]
  refine Finset.sum_congr rfl fun i hi => ?_
  by_cases hp : p i
  · rw [if_pos hp, if_pos hp]
    refine exp_twice ?_ hM
    refine le_trans (le_of_eq (if_pos hp).symm) (Finset.le_sup (f := fun i => if p i then f i else ⊥) hi)
  · rw [if_neg hp, if_neg hp, zero_mul]

/-- The parts' maxima make the maximum of all. -/
theorem greatest_parts (a n : ℕ) (p : ℕ → Prop) [DecidablePred p] (f : ℕ → EReal) :
    ((Finset.range n).sup fun w => greatest a (fun i => p (a * w + i)) fun i => f (a * w + i)) = greatest (a * n) p f :=
  sup_parts a n fun i => if p i then f i else ⊥

/-- The parts' sums, each put against the maximum of all, make the sum of all. -/
theorem expSum_parts (a n : ℕ) (p : ℕ → Prop) [DecidablePred p] (f : ℕ → EReal) :
    (∑ w ∈ Finset.range n, expSum a (fun i => p (a * w + i)) (fun i => f (a * w + i)) (greatest a (fun i => p (a * w + i)) fun i => f (a * w + i))
      * Ideal.exp ((greatest a (fun i => p (a * w + i)) fun i => f (a * w + i)) - greatest (a * n) p f))
    = expSum (a * n) p f (greatest (a * n) p f) := by
  rw [Finset.sum_congr rfl fun w hw => expSum_mul a (fun i => p (a * w + i)) (fun i => f (a * w + i)) (M := greatest (a * n) p f) ?_]
  · exact sum_parts a n fun i => if p i then Ideal.exp (f i - greatest (a * n) p f) else 0
  · rw [← greatest_parts a n p f]
    exact Finset.le_sup (f := fun w => greatest a (fun i => p (a * w + i)) fun i => f (a * w + i)) hw

end Cert.Proof.Spec

end
-- ==== Proof.TileValue.lean ====
/-
  What a tile computes, over the extended reals: each score is the whole dot product, and each segment's three numbers are
  the maximum, the sum of exponentials and the count of its scores.
-/
module

public import proofs.«01_k».proof.Proof.Spec
public import proofs.«01_k».proof.Proof.Group
public import proofs.«01_k».proof.Proof.Tail
public import Idealize.ShloMosaic.Lib.ValueLayout

@[expose] public section

noncomputable section

namespace Cert.Proof

open Cert.KernelIdeal Cert.KernelIdeal.Gen
open Idealize.ShloMosaic

/-- Lane `l` as an index. -/
def ln (l : ℕ) : S16.Idx := fun a => match a with | 0 => ⟨l % 16, Nat.mod_lt _ (by decide)⟩

theorem ln_val (x : S16.Idx) : ln (x 0).val = x := funext fun a => match a with | 0 => Fin.ext (Nat.mod_eq_of_lt (x 0).isLt)

theorem lane_ln {α : Type} (v : S16.Idx → α) (k : ℕ) : lane v k = v (ln k) := lane_eq v k (ln k) rfl

theorem laneSum_eq (v : FVec Ideal S16 .f32) (n : ℕ) : laneSum v n = ∑ l ∈ Finset.range (n + 1), (v (ln l) : EReal) := by
  induction n with
  | zero => rw [Finset.sum_range_one]; exact lane_ln v 0
  | succ n ih =>
    rw [Finset.sum_range_succ, ← ih]
    show (laneSum v n : EReal) + lane v (n + 1) = _
    rw [lane_ln]

theorem laneMax_eq (v : FVec Ideal S16 .f32) (n : ℕ) : laneMax v n = (Finset.range (n + 1)).sup fun l => (v (ln l) : EReal) := by
  induction n with
  | zero => rw [Finset.range_one, Finset.sup_singleton]; exact lane_ln v 0
  | succ n ih =>
    rw [Spec.sup_step, ← ih]
    show max (laneMax v n : EReal) (lane v (n + 1)) = _
    rw [lane_ln]

/-- A select on the equality of two words. -/
theorem sel_word {α : Type} (a b : BitVec 32) (v w : α) : Scalar.select (IntOp.cmpi .eq a b) v w = if a = b then v else w := by
  by_cases h : a = b
  · rw [if_pos h]; subst h; unfold Scalar.select IntOp.cmpi; simp
  · rw [if_neg h]; unfold Scalar.select IntOp.cmpi
    rw [show (a == b) = false by simpa using h]; rfl

theorem word_eq {a : BitVec 32} {n : ℕ} (hn : n < 16) : a = BitVec.ofNat 32 n ↔ a.toNat = n := by
  constructor
  · rintro rfl; rw [BitVec.toNat_ofNat]; omega
  · intro h; apply BitVec.eq_of_toNat_eq; rw [h, BitVec.toNat_ofNat]; omega

variable {F : FTy → Type} [FloatOps F]

theorem selOver_eq (z : FVec F S16 .f32) (s : ℕ → F .f32) (x : S16.Idx) :
    ∀ n, n ≤ 16 → selOver z lanes s n x = if (x 0).val < n then s (x 0).val else z x
  | 0, _ => by rw [if_neg (by omega)]; rfl
  | n + 1, hn => by
    show Scalar.select (IntOp.cmpi .eq (lanes x) (BitVec.ofNat 32 n)) (s n) (selOver z lanes s n x) = _
    rw [sel_word, selOver_eq z s x n (by omega)]
    by_cases h : (x 0).val = n
    · rw [if_pos ((word_eq (by omega)).2 (by rw [lanes_toNat, h])), if_pos (by omega), h]
    · rw [if_neg (fun e => h (by rw [← lanes_toNat]; exact (word_eq (by omega)).1 e))]
      by_cases h2 : (x 0).val < n
      · rw [if_pos h2, if_pos (by omega)]
      · rw [if_neg h2, if_neg (by omega)]

theorem selRows_eq (s : ℕ → F .f32) (n : ℕ) : selRows lanes s n = selOver zeros lanes s n := by
  induction n with
  | zero => rfl
  | succ n ih => unfold selRows selOver; rw [ih]

theorem selOver_all (z : FVec F S16 .f32) (s : ℕ → F .f32) (x : S16.Idx) : selOver z lanes s 16 x = s (x 0).val := by
  rw [selOver_eq z s x 16 le_rfl]; exact if_pos (x 0).isLt

theorem inSeg_eq (sg : IVec S16 32) {b : ℕ} (hb : b < 16) (v w : FVec F S16 .f32) (x : S16.Idx) :
    inSeg sg b v w x = if (sg x).toNat = b then v x else w x := by
  show Scalar.select (IntOp.cmpi .eq (sg x) (BitVec.ofNat 32 b)) (v x) (w x) = _
  rw [sel_word]
  exact if_congr (word_eq hb) rfl rfl

theorem zero_val : Ideal.ofBits .f32 0x00000000#32 = 0 := Ideal.ofBits_zero_f32
theorem one_val : Ideal.ofBits .f32 0x3F800000#32 = 1 := Ideal.ofBits_one_f32
theorem neg_val : Ideal.ofBits .f32 0xFF800000#32 = ⊥ := by simp [Ideal.ofBits, Ideal.ieee]

/-! ## The three numbers of a segment -/

section Segment

variable (sT : S512.Idx → Elt Ideal .i32) (lT : S512.Idx → Elt Ideal .f32) (mv : S16.Idx → Elt Ideal .f32) (hs : ∀ j, (sT j).toNat < 16)

/-- The segment, and the score, of place `i`. -/
abbrev sgAt (i : ℕ) : ℕ := (sT (ix1 i) : BitVec 32).toNat
abbrev lgAt (i : ℕ) : EReal := lT (ix1 i)

theorem accMax_eq {b : ℕ} (hb : b < 16) (l : ℕ) (hl : l < 16) (n : ℕ) :
    accMax sT lT b n (ln l) = (Finset.range n).sup fun k => if sgAt sT (16 * k + l) = b then lgAt lT (16 * k + l) else ⊥ := by
  induction n with
  | zero => exact neg_val
  | succ n ih =>
    rw [Spec.sup_step, ← ih]
    show max (accMax sT lT b n (ln l) : EReal) (inSeg (at16 sT (16 * n)) b (at16 lT (16 * n)) negs (ln l)) = _
    rw [inSeg_eq _ hb]
    show max _ (if (sT (ix1 (16 * n + l % 16)) : BitVec 32).toNat = b then (lT (ix1 (16 * n + l % 16)) : EReal) else Ideal.ofBits .f32 0xFF800000#32) = _
    rw [neg_val, Nat.mod_eq_of_lt hl]

theorem accSum_eq {b : ℕ} (hb : b < 16) (l : ℕ) (hl : l < 16) (n : ℕ) :
    accSum sT lT mv hs b n (ln l) = ∑ k ∈ Finset.range n, if sgAt sT (16 * k + l) = b then Ideal.exp (lgAt lT (16 * k + l) - (mv (ln b) : EReal)) else 0 := by
  induction n with
  | zero => exact zero_val
  | succ n ih =>
    rw [Finset.sum_range_succ, ← ih]
    show (accSum sT lT mv hs b n (ln l) : EReal) + (inSeg (at16 sT (16 * n)) b (expAt sT lT mv hs n) zeros (ln l)) = _
    rw [inSeg_eq _ hb]
    show _ + (if (sT (ix1 (16 * n + l % 16)) : BitVec 32).toNat = b then (Ideal.exp ((lT (ix1 (16 * n + l % 16)) : EReal) - mv (idxAt _ _ (ln l))) : EReal)
      else Ideal.ofBits .f32 0x00000000#32) = _
    rw [zero_val]
    refine congrArg (HAdd.hAdd _) ?_
    have hl' := Nat.mod_eq_of_lt hl
    by_cases h : sgAt sT (16 * n + l) = b
    · rw [if_pos h, if_pos (by rw [hl']; exact h), hl']
      refine congrArg (fun i => Ideal.exp (lgAt lT (16 * n + l) - (mv i : EReal))) ?_
      funext a
      match a with
      | 0 =>
        apply Fin.ext
        show (sT (ix1 (16 * n + l % 16)) : BitVec 32).toNat = b % 16
        rw [hl', Nat.mod_eq_of_lt hb]; exact h
    · rw [if_neg h, if_neg (by rw [hl']; exact h)]

theorem accCnt_eq {b : ℕ} (hb : b < 16) (l : ℕ) (hl : l < 16) (n : ℕ) :
    accCnt (F := Ideal) sT b n (ln l) = ∑ k ∈ Finset.range n, if sgAt sT (16 * k + l) = b then (1 : EReal) else 0 := by
  induction n with
  | zero => exact zero_val
  | succ n ih =>
    rw [Finset.sum_range_succ, ← ih]
    show (accCnt (F := Ideal) sT b n (ln l) : EReal) + (inSeg (F := Ideal) (at16 sT (16 * n)) b ones zeros (ln l)) = _
    rw [inSeg_eq _ hb]
    show _ + (if (sT (ix1 (16 * n + l % 16)) : BitVec 32).toNat = b then Ideal.ofBits .f32 0x3F800000#32 else Ideal.ofBits .f32 0x00000000#32) = _
    rw [zero_val, one_val, Nat.mod_eq_of_lt hl]

theorem tileMax_val (x : S16.Idx) :
    tileMax lanes sT lT x = Spec.greatest 512 (fun i => sgAt sT i = (x 0).val) (lgAt lT) := by
  unfold tileMax
  rw [selOver_all, laneMax_eq]
  refine Eq.trans (Finset.sup_congr rfl fun l hl => accMax_eq sT lT (x 0).isLt l (Finset.mem_range.1 hl) 32) ?_
  exact Spec.sup_lanes 16 32 fun i => if sgAt sT i = (x 0).val then lgAt lT i else ⊥

theorem tileSum_val (x : S16.Idx) :
    tileSum lanes sT lT mv hs x = Spec.expSum 512 (fun i => sgAt sT i = (x 0).val) (lgAt lT) (mv x) := by
  unfold tileSum
  rw [selOver_all, laneSum_eq]
  refine Eq.trans (Finset.sum_congr rfl fun l hl => accSum_eq sT lT mv hs (x 0).isLt l (Finset.mem_range.1 hl) 32) ?_
  rw [ln_val]
  exact Spec.sum_lanes 16 32 fun i => if sgAt sT i = (x 0).val then Ideal.exp (lgAt lT i - (mv x : EReal)) else 0

theorem tileCnt_val (x : S16.Idx) :
    tileCnt (F := Ideal) lanes sT x = ∑ i ∈ Finset.range 512, if sgAt sT i = (x 0).val then (1 : EReal) else 0 := by
  unfold tileCnt
  rw [selOver_all, laneSum_eq]
  refine Eq.trans (Finset.sum_congr rfl fun l hl => accCnt_eq sT (x 0).isLt l (Finset.mem_range.1 hl) 32) ?_
  exact Spec.sum_lanes 16 32 fun i => if sgAt sT i = (x 0).val then (1 : EReal) else 0

end Segment

/-! ## A score -/

section Score

variable (fg : S2048.Idx → Elt Ideal .f32) (land : S512x128.Idx → Elt Ideal .f32)

/-- The users' table, flat, at `n`. -/
def gAt (n : ℕ) : EReal := fg fun a => match a with | 0 => ⟨n % 2048, Nat.mod_lt _ (by decide)⟩

/-- The product of component `k` of row `r` with the component of the user whose vector starts at `o`. -/
def prodAt (r o k : ℕ) : EReal := land (ix r k) * gAt fg (o + k)

theorem bterm_eq {row user : IVec S16 32} (hr : ∀ x, (row x).toNat < 512) (hv : ∀ x, (user x).toNat ≤ 1920) {k : ℕ} (hk : k < 128) (x : S16.Idx) :
    bterm (F := Ideal) fg land hr hv (Fin.ofNat 128 k) x = prodAt fg land (row x).toNat (user x).toNat k := by
  have e1 : (Fin.ofNat 128 k).val = k := Nat.mod_eq_of_lt hk
  show (land (idxAt _ _ x) : EReal) * fg (idxAt _ _ x) = _
  unfold prodAt gAt
  congr 1
  · congr 1
    funext a
    match a with
    | 0 => exact Fin.ext (Nat.mod_eq_of_lt (hr x)).symm
    | 1 =>
      apply Fin.ext
      show (BitVec.ofNat 32 (Fin.ofNat 128 k).val).toNat = k % 128
      rw [BitVec.toNat_ofNat, e1]; omega
  · congr 1
    funext a
    match a with
    | 0 =>
      apply Fin.ext
      have := hv x
      show (user x + BitVec.ofNat 32 (Fin.ofNat 128 k).val).toNat = ((user x).toNat + k) % 2048
      rw [BitVec.toNat_add, BitVec.toNat_ofNat, e1]; omega

theorem bacc_eq {row user : IVec S16 32} (hr : ∀ x, (row x).toNat < 512) (hv : ∀ x, (user x).toNat ≤ 1920) {c : ℕ} (hc : c < 4) (x : S16.Idx) :
    ∀ n, n < 32 → bacc (F := Ideal) fg land hr hv c n x = ∑ k ∈ Finset.range (n + 1), prodAt fg land (row x).toNat (user x).toNat (4 * k + c)
  | 0, _ => by
    rw [Finset.sum_range_one]
    show Ideal.ofBits .f32 0x00000000#32 + bterm (F := Ideal) fg land hr hv (Fin.ofNat 128 c) x = _
    rw [zero_val, zero_add, bterm_eq fg land hr hv (by omega), Nat.mul_zero, Nat.zero_add]
  | n + 1, hn => by
    rw [Finset.sum_range_succ, ← bacc_eq hr hv hc x n (by omega)]
    show (bacc (F := Ideal) fg land hr hv c n x : EReal) + bterm (F := Ideal) fg land hr hv (Fin.ofNat 128 (c + 4 * (n + 1))) x = _
    rw [bterm_eq fg land hr hv (by omega), Nat.add_comm c]

theorem rterm_eq {lo : BitVec 32} (hlo : lo.toNat ≤ 1920) (t u : ℕ) (k : Fin 8) (x : S16.Idx) :
    rterm (F := Ideal) fg land hlo comps_lt t u k x = prodAt fg land (16 * t + u) lo.toNat (16 * k.val + (x 0).val) := by
  have hx : (x 0).val < 16 := (x 0).isLt
  have hk := k.isLt
  show (shapeCast S16 (rowAt land (16 * t + u) (16 * k.val)) shapeCasts_S1x16_S16 x : EReal) * fg (idxAt _ _ x) = _
  unfold prodAt gAt
  congr 1
  · refine (shapeCast_apply (rowAt land (16 * t + u) (16 * k.val)) shapeCasts_S1x16_S16 x (ValueIdx.ix2 (0 : Fin 1) (x 0) : S1x16.Idx) ?_).trans rfl
    rw [Shape.rowMajor_val_two, Shape.rowMajor_val_one]
    show 0 * 16 + (x 0).val = (x 0).val
    omega
  · congr 1
    funext a
    match a with
    | 0 =>
      apply Fin.ext
      show (lo + (lanes x + BitVec.ofNat 32 (16 * k.val))).toNat = (lo.toNat + (16 * k.val + (x 0).val)) % 2048
      rw [BitVec.toNat_add, BitVec.toNat_add, BitVec.toNat_ofNat, lanes_toNat]; omega

theorem rowProd_eq {lo : BitVec 32} (hlo : lo.toNat ≤ 1920) (t u : ℕ) (x : S16.Idx) :
    rowProd (F := Ideal) fg land hlo comps_lt t u x = ∑ k ∈ Finset.range 8, prodAt fg land (16 * t + u) lo.toNat (16 * k + (x 0).val) := by
  have r := fun k => rterm_eq fg land hlo t u k x
  show ((((Ideal.ofBits .f32 0x00000000#32 + rterm (F := Ideal) fg land hlo comps_lt t u 0 x) + rterm (F := Ideal) fg land hlo comps_lt t u 2 x)
    + rterm (F := Ideal) fg land hlo comps_lt t u 4 x) + rterm (F := Ideal) fg land hlo comps_lt t u 6 x : EReal)
    + ((((Ideal.ofBits .f32 0x00000000#32 + rterm (F := Ideal) fg land hlo comps_lt t u 1 x) + rterm (F := Ideal) fg land hlo comps_lt t u 3 x)
    + rterm (F := Ideal) fg land hlo comps_lt t u 5 x) + rterm (F := Ideal) fg land hlo comps_lt t u 7 x) = _
  rw [r 0, r 1, r 2, r 3, r 4, r 5, r 6, r 7, zero_val]
  simp only [Finset.sum_range_succ, Finset.sum_range_zero, zero_add]
  show _ = _
  generalize prodAt fg land (16 * t + u) lo.toNat = p
  show p (16 * 0 + _) + p (16 * 2 + _) + p (16 * 4 + _) + p (16 * 6 + _) + (p (16 * 1 + _) + p (16 * 3 + _) + p (16 * 5 + _) + p (16 * 7 + _)) = _
  abel

theorem tileScore_val {sT : S512.Idx → Elt Ideal .i32} (hs : ∀ j, (sT j : BitVec 32).toNat < 16) (i : ℕ) (hi : i < 512) :
    tileScore (F := Ideal) fg land hs (ix1 i) = ∑ k ∈ Finset.range 128, prodAt fg land i (128 * sgAt sT i) k := by
  have h0 : ((ix1 i : S512.Idx) 0).val = i := Nat.mod_eq_of_lt hi
  have ht : i / 16 < 32 := by omega
  have key : ∀ (t : ℕ) (ht : t < 32) (x : S16.Idx), grpVal (F := Ideal) fg land hs t ht x
      = ∑ k ∈ Finset.range 128, prodAt fg land (16 * t + (x 0).val) (128 * sgAt sT (16 * t + (x 0).val)) k := by
    intro t ht x
    have hx : (x 0).val < 16 := (x 0).isLt
    have hf : (firstOf (at16 sT (16 * t)) x).toNat = 128 * sgAt sT (16 * t + (x 0).val) := by
      have := hs (ix1 (16 * t + (x 0).val))
      show ((sT (ix1 (16 * t + (x 0).val)) : BitVec 32) * 128#32).toNat = 128 * (sT (ix1 (16 * t + (x 0).val)) : BitVec 32).toNat
      rw [BitVec.toNat_mul]; simp only [BitVec.toNat_ofNat]; omega
    unfold grpVal
    split
    · rename_i h
      rw [selRows_eq, selOver_all, laneSum_eq]
      have e := eq_loOf h x
      refine Eq.trans (Finset.sum_congr rfl fun l hl => rowProd_eq fg land _ t (x 0).val (ln l)) ?_
      have e2 : (loOf (at16 sT (16 * t))).toNat = 128 * sgAt sT (16 * t + (x 0).val) := by rw [← e, hf]
      rw [e2, ← Spec.sum_lanes 16 8]
      refine Finset.sum_congr rfl fun l hl => Finset.sum_congr rfl fun k _ => ?_
      rw [show ((ln l : S16.Idx) 0).val = l from Nat.mod_eq_of_lt (Finset.mem_range.1 hl)]
    · have b := fun c (hc : c < 4) => bacc_eq fg land (rowsOf_lt ht) (firstOf_le (sv := at16 sT (16 * t)) fun x => hs _) hc x 31 (by omega)
      have b0 := b 0 (by omega); have b1 := b 1 (by omega); have b2 := b 2 (by omega); have b3 := b 3 (by omega)
      rw [hf, rowsOf_toNat ht] at b0 b1 b2 b3
      show ((bacc (F := Ideal) fg land _ _ 0 31 x + bacc (F := Ideal) fg land _ _ 1 31 x : EReal)
        + (bacc (F := Ideal) fg land _ _ 2 31 x + bacc (F := Ideal) fg land _ _ 3 31 x)) = _
      rw [b0, b1, b2, b3, ← Spec.sum_lanes 4 32]
      simp only [Finset.sum_range_succ (n := 3), Finset.sum_range_succ (n := 2), Finset.sum_range_succ (n := 1), Finset.sum_range_one]
      rw [add_assoc, add_assoc, add_assoc]
  have hj : i = 16 * (i / 16) + i % 16 := (Nat.div_add_mod i 16).symm
  have k := key (i / 16) ht (Shape.ofLane (d := ![16]) (⟨i % 16, Nat.mod_lt _ (by decide)⟩ : Fin 16))
  have hk : ((Shape.ofLane (d := ![16]) (⟨i % 16, Nat.mod_lt _ (by decide)⟩ : Fin 16) : S16.Idx) 0).val = i % 16 := rfl
  rw [hk, ← hj] at k
  rw [← k]
  unfold tileScore
  simp only [h0]

end Score

end Cert.Proof

end
-- ==== Proof.Join.lean ====
/-
  What the 32 tiles leave together, in exact arithmetic: the score of every candidate, and for each tile and segment the
  largest score, the sum of the exponentials and the number of candidates, all as functions of the candidate's number.
-/
module

public import proofs.«01_k».proof.Proof.TileValue
public import proofs.«01_k».proof.Proof.Tiles

@[expose] public section

noncomputable section

namespace Cert.Proof

open Cert.KernelIdeal Cert.KernelIdeal.Gen
open Idealize.ShloMosaic

variable (fg : S2048.Idx → Elt Ideal .f32) (cand : S16384x128.Idx → Elt Ideal .f32) (seg : S16384.Idx → Elt Ideal .i32)

/-- Candidate `i` as an index. -/
def cix (i : ℕ) : S16384.Idx := fun a => match a with | 0 => ⟨i % 16384, Nat.mod_lt _ (by decide)⟩

theorem cix_val (x : S16384.Idx) : cix (x 0).val = x := funext fun a => match a with | 0 => Fin.ext (Nat.mod_eq_of_lt (x 0).isLt)

/-- The segment of candidate `i`. -/
def segOf (i : ℕ) : ℕ := (seg (cix i) : BitVec 32).toNat

/-- The score of candidate `i`: its vector times the vector of its segment's user. -/
def scoreOf (i : ℕ) : EReal := ∑ k ∈ Finset.range 128, (cand (ixc i k) : EReal) * gAt fg (128 * segOf seg i + k)

theorem wid_tileOf {w : ℕ} (hw : w < 32) : wid (tileOf w) = w := by
  have h : wid (tileOf w) = 2 * (w / 2 % 16) + w % 2 := rfl
  omega

theorem sgAt_tile {w : ℕ} (hw : w < 32) {i : ℕ} (hi : i < 512) : sgAt (segTile (F := Ideal) (tileOf w) seg) i = segOf seg (512 * w + i) := by
  have hv : ((ix1 i : S512.Idx) 0).val = i := Nat.mod_eq_of_lt hi
  have e : segTile (F := Ideal) (tileOf w) seg (ix1 i) = seg (cix (base (tileOf w) + ((ix1 i : S512.Idx) 0).val)) :=
    congrArg seg (funext fun a => match a with | 0 => rfl)
  unfold sgAt segOf
  rw [e, base_wid, wid_tileOf hw, hv]

variable (hs : ∀ i, (seg i : BitVec 32).toNat < 16)

theorem scoreT_val {w : ℕ} (hw : w < 32) {i : ℕ} (hi : i < 512) :
    scoreT (F := Ideal) fg cand seg hs (tileOf w) (ix1 i) = scoreOf fg cand seg (512 * w + i) := by
  unfold scoreT
  rw [tileScore_val fg _ _ i hi]
  unfold scoreOf
  refine Finset.sum_congr rfl fun k hk => ?_
  have hk' := Finset.mem_range.1 hk
  unfold prodAt landOf
  rw [sgAt_tile seg hw hi, base_wid, wid_tileOf hw]
  have e0 : ((ix i k : S512x128.Idx) 0).val = i := Nat.mod_eq_of_lt hi
  have e1 : ((ix i k : S512x128.Idx) 1).val = k := Nat.mod_eq_of_lt hk'
  rw [e0, e1]

theorem log_val (i : ℕ) (hi : i < 16384) : overTiles (scoreT (F := Ideal) fg cand seg hs) (cix i) = scoreOf fg cand seg i := by
  have e : ((cix i) 0).val = i := Nat.mod_eq_of_lt hi
  have h := scoreT_val fg cand seg hs (w := i / 512) (by omega) (i := i % 512) (Nat.mod_lt _ (by decide))
  rw [Nat.div_add_mod] at h
  have e' : overTiles (scoreT (F := Ideal) fg cand seg hs) (cix i) = scoreT (F := Ideal) fg cand seg hs (tileOf (((cix i) 0).val / 512)) (ix1 ((cix i) 0).val) :=
    congrArg (scoreT (F := Ideal) fg cand seg hs (tileOf (((cix i) 0).val / 512))) (funext fun a => match a with | 0 => rfl)
  rw [← h, e', e]
  refine congrArg _ (funext fun a => match a with | 0 => Fin.ext ?_)
  show i % 512 = i % 512 % 512
  omega

/-- Place `(w, b)` of a 32 × 16 table. -/
def wix (w b : ℕ) : S32x16.Idx := fun a => match a with
  | 0 => ⟨w % 32, Nat.mod_lt _ (by decide)⟩
  | 1 => ⟨b % 16, Nat.mod_lt _ (by decide)⟩

theorem row_val (f : grid0.Coords → S16.Idx → Elt Ideal .f32) {w b : ℕ} (hw : w < 32) : rowTiles f (wix w b) = f (tileOf w) (ln b) := by
  have e : ((wix w b) 0).val = w := Nat.mod_eq_of_lt hw
  have e' : rowTiles f (wix w b) = f (tileOf ((wix w b) 0).val) (ln b) :=
    congrArg (f (tileOf ((wix w b) 0).val)) (funext fun a => match a with | 0 => rfl)
  rw [e', e]

theorem greatest_congr {n : ℕ} {p q : ℕ → Prop} [DecidablePred p] [DecidablePred q] {f g : ℕ → EReal} (hp : ∀ i, i < n → (p i ↔ q i)) (hf : ∀ i, i < n → f i = g i) :
    Spec.greatest n p f = Spec.greatest n q g := by
  unfold Spec.greatest
  refine Finset.sup_congr rfl fun i hi => ?_
  have hi' := Finset.mem_range.1 hi
  simp only [hp i hi', hf i hi']

theorem expSum_congr {n : ℕ} {p q : ℕ → Prop} [DecidablePred p] [DecidablePred q] {f g : ℕ → EReal} (M : EReal) (hp : ∀ i, i < n → (p i ↔ q i)) (hf : ∀ i, i < n → f i = g i) :
    Spec.expSum n p f M = Spec.expSum n q g M := by
  unfold Spec.expSum
  refine Finset.sum_congr rfl fun i hi => ?_
  have hi' := Finset.mem_range.1 hi
  simp only [hp i hi', hf i hi']

theorem max_val {w b : ℕ} (hw : w < 32) (hb : b < 16) :
    rowTiles (maxT (F := Ideal) fg cand seg hs) (wix w b)
      = Spec.greatest 512 (fun i => segOf seg (512 * w + i) = b) (fun i => scoreOf fg cand seg (512 * w + i)) := by
  rw [row_val _ hw]
  unfold maxT
  rw [tileMax_val]
  refine greatest_congr (fun i hi => ?_) fun i hi => scoreT_val fg cand seg hs hw hi
  rw [sgAt_tile seg hw hi, show ((ln b) 0).val = b from Nat.mod_eq_of_lt hb]

theorem sum_val {w b : ℕ} (hw : w < 32) (hb : b < 16) :
    rowTiles (sumT (F := Ideal) fg cand seg hs) (wix w b)
      = Spec.expSum 512 (fun i => segOf seg (512 * w + i) = b) (fun i => scoreOf fg cand seg (512 * w + i))
          (Spec.greatest 512 (fun i => segOf seg (512 * w + i) = b) (fun i => scoreOf fg cand seg (512 * w + i))) := by
  rw [row_val _ hw]
  unfold sumT
  rw [tileSum_val]
  rw [← max_val fg cand seg hs hw hb, row_val _ hw]
  refine expSum_congr _ (fun i hi => ?_) fun i hi => scoreT_val fg cand seg hs hw hi
  rw [sgAt_tile seg hw hi, show ((ln b) 0).val = b from Nat.mod_eq_of_lt hb]

theorem cnt_val {w b : ℕ} (hw : w < 32) (hb : b < 16) :
    rowTiles (cntT (F := Ideal) seg) (wix w b) = ∑ i ∈ Finset.range 512, if segOf seg (512 * w + i) = b then (1 : EReal) else 0 := by
  rw [row_val _ hw]
  unfold cntT
  rw [tileCnt_val]
  refine Finset.sum_congr rfl fun i hi => ?_
  rw [sgAt_tile seg hw (Finset.mem_range.1 hi), show ((ln b) 0).val = b from Nat.mod_eq_of_lt hb]

/-! ## What the result is made of -/

/-- The largest score of segment `b`. -/
def topOf (b : ℕ) : EReal := Spec.greatest 16384 (fun i => segOf seg i = b) (scoreOf fg cand seg)

/-- The sum of the exponentials of segment `b`. -/
def massOf (b : ℕ) : EReal := Spec.expSum 16384 (fun i => segOf seg i = b) (scoreOf fg cand seg) (topOf fg cand seg b)

/-- How many candidates segment `b` has. -/
def countOf (b : ℕ) : ℕ := ∑ i ∈ Finset.range 16384, if segOf seg i = b then 1 else 0

/-- How many candidates the segments before `b` have. -/
def startOf (b : ℕ) : ℕ := ∑ c ∈ Finset.range b, countOf seg c

/-- The candidate segment `b`'s answer is read at: `t` places after the segment's start, held to the last candidate. -/
def pickOf (b t : ℕ) : ℕ := min (startOf seg b + t) 16383

/-- The answer for segment `b` and the target `t`. -/
def answer (b t : ℕ) : EReal :=
  scoreOf fg cand seg (pickOf seg b t) - topOf fg cand seg (segOf seg (pickOf seg b t)) - Ideal.log (massOf fg cand seg (segOf seg (pickOf seg b t)))

theorem top_join {b : ℕ} (hb : b < 16) :
    ((Finset.range 32).sup fun w => (rowTiles (maxT (F := Ideal) fg cand seg hs) (wix w b) : EReal)) = topOf fg cand seg b := by
  unfold topOf
  rw [← Spec.greatest_parts 512 32 (fun i => segOf seg i = b) (scoreOf fg cand seg)]
  exact Finset.sup_congr rfl fun w hw => max_val fg cand seg hs (Finset.mem_range.1 hw) hb

theorem mass_join {b : ℕ} (hb : b < 16) :
    (∑ w ∈ Finset.range 32, (rowTiles (sumT (F := Ideal) fg cand seg hs) (wix w b) : EReal)
      * Ideal.exp ((rowTiles (maxT (F := Ideal) fg cand seg hs) (wix w b) : EReal) - topOf fg cand seg b)) = massOf fg cand seg b := by
  unfold massOf topOf
  rw [← Spec.expSum_parts 512 32 (fun i => segOf seg i = b) (scoreOf fg cand seg)]
  refine Finset.sum_congr rfl fun w hw => ?_
  rw [sum_val fg cand seg hs (Finset.mem_range.1 hw) hb, max_val fg cand seg hs (Finset.mem_range.1 hw) hb]

theorem size_join {b : ℕ} (hb : b < 16) :
    (∑ w ∈ Finset.range 32, (rowTiles (cntT (F := Ideal) seg) (wix w b) : EReal)) = ((countOf seg b : ℕ) : EReal) := by
  unfold countOf
  rw [show (16384 : ℕ) = 512 * 32 from rfl, ← Spec.sum_parts 512 32 (fun i => if segOf seg i = b then 1 else 0)]
  push_cast
  refine Finset.sum_congr rfl fun w hw => ?_
  rw [cnt_val seg (Finset.mem_range.1 hw) hb]

theorem start_le (b : ℕ) (hb : b ≤ 16) : startOf seg b ≤ 16384 := by
  unfold startOf countOf
  rw [Finset.sum_comm]
  calc _ ≤ ∑ i ∈ Finset.range 16384, 1 := Finset.sum_le_sum fun i _ => by
            rw [Finset.sum_ite_eq (Finset.range b) (segOf seg i) fun _ => 1]; split <;> omega
       _ = 16384 := by simp

theorem size_le (b : ℕ) : countOf seg b ≤ 16384 := by
  unfold countOf
  calc _ ≤ ∑ i ∈ Finset.range 16384, 1 := Finset.sum_le_sum fun i _ => by split <;> omega
       _ = 16384 := by simp

end Cert.Proof
-- ==== Proof.MergeValue.lean ====
/-
  What the merge on the TensorCore computes, in exact arithmetic, of any tables of scores, segments, maxima, sums and counts:
  for each segment the score at the place the counts point to, less the maximum over the tiles and the logarithm of the
  rescaled sum of the segment found there.
-/
module

public import proofs.«01_k».proof.Proof.Join
public import Idealize.ShloMosaic.Lib.MatmulPlain
public import Idealize.ShloMosaic.Lib.ValueLayoutCasts
public import Idealize.ShloMosaic.Lib.WordSum
public import Idealize.ShloMosaic.Lib.WordCmp
public import Idealize.ShloMosaic.Lib.Affine
public import Idealize.ShloMosaic.Lib.Pointwise.Reduce
public import Idealize.ShloMosaic.Lib.Pointwise.Reshape

@[expose] public section

noncomputable section

namespace Cert.Proof

open Cert.KernelIdeal Cert.KernelIdeal.Gen
open Idealize.ShloMosaic

/-! ## Sums and maxima along an axis -/

theorem rows_sum (v : FVec Ideal S32x16 .f32) (x : S16.Idx) :
    multiReduction .add [0] S16 v 0x00000000#32 reduces_S32x16_S16 (.inl rfl) rfl x = ∑ w ∈ Finset.range 32, (v (wix w (x 0).val) : EReal) := by
  show Ideal.reduceAdd reduces_S32x16_S16 v x = _
  rw [Ideal.reduceAdd_r2_a0, Finset.sum_range]
  refine Finset.sum_congr rfl fun k _ => congrArg v (funext fun a => match a with | 0 => Fin.ext ?_ | 1 => Fin.ext ?_)
  · exact (Nat.mod_eq_of_lt k.isLt).symm
  · exact (Nat.mod_eq_of_lt (x 0).isLt).symm

theorem rows_max (v : FVec Ideal S32x16 .f32) (x : S16.Idx) :
    multiReduction .maximumf [0] S16 v 0xFF800000#32 reduces_S32x16_S16 (.inl rfl) rfl x = (Finset.range 32).sup fun w => (v (wix w (x 0).val) : EReal) := by
  refine (multiReduction_maximumf_eq_fold v _ reduces_S32x16_S16 (.inl rfl) rfl x).trans ?_
  rw [Shape.Reduces.fold_fiber_r2_a0]
  show (Finset.univ : Finset (Fin 32)).fold max (Ideal.ofBits .f32 0xFF800000#32) _ = _
  rw [neg_val]
  show (Finset.univ : Finset (Fin 32)).sup _ = _
  refine le_antisymm (Finset.sup_le fun k _ => ?_) (Finset.sup_le fun w hw => ?_)
  · refine le_trans (le_of_eq ?_) (Finset.le_sup (f := fun w => (v (wix w (x 0).val) : EReal)) (Finset.mem_range.2 k.isLt))
    refine congrArg v (funext fun a => match a with | 0 => Fin.ext ?_ | 1 => Fin.ext ?_)
    · exact (Nat.mod_eq_of_lt k.isLt).symm
    · exact (Nat.mod_eq_of_lt (x 0).isLt).symm
  · have hw' := Finset.mem_range.1 hw
    refine le_trans (le_of_eq ?_) (Finset.le_sup (Finset.mem_univ (⟨w, hw'⟩ : Fin 32)))
    refine congrArg v (funext fun a => match a with | 0 => Fin.ext ?_ | 1 => Fin.ext ?_)
    · exact Nat.mod_eq_of_lt hw'
    · exact Nat.mod_eq_of_lt (x 0).isLt

theorem cols_sum (v : FVec Ideal S16x128 .f32) (b : Fin 16) :
    multiReduction .add [1] S16 v 0x00000000#32 reduces_S16x128_S16 (.inl rfl) rfl (ValueIdx.ix1 b : S16.Idx) = ∑ c : Fin 128, (v (ValueIdx.ix2 b c) : EReal) := by
  show Ideal.reduceAdd reduces_S16x128_S16 v _ = _
  rw [Ideal.reduceAdd_r2_a1]
  exact Finset.sum_congr rfl fun k _ => congrArg v (funext fun a => match a with | 0 => rfl | 1 => rfl)

theorem cols_sum16 (v : FVec Ideal S16x16 .f32) (b : Fin 16) :
    multiReduction .add [1] S16 v 0x00000000#32 reduces_S16x16_S16 (.inl rfl) rfl (ValueIdx.ix1 b : S16.Idx) = ∑ c : Fin 16, (v (ValueIdx.ix2 b c) : EReal) := by
  show Ideal.reduceAdd reduces_S16x16_S16 v _ = _
  rw [Ideal.reduceAdd_r2_a1]
  exact Finset.sum_congr rfl fun k _ => congrArg v (funext fun a => match a with | 0 => rfl | 1 => rfl)

theorem cols_word (v : IVec S16x16 32) (b : Fin 16) (h : ∑ c : Fin 16, (v (ValueIdx.ix2 b c)).toNat < 2 ^ 32) :
    (multiReductionI .add [1] S16 v 0#32 reduces_S16x16_S16 rfl (ValueIdx.ix1 b : S16.Idx)).toNat = ∑ c : Fin 16, (v (ValueIdx.ix2 b c)).toNat := by
  have e : ∑ i ∈ Finset.univ.filter (fun i => reduces_S16x16_S16.drop i = (ValueIdx.ix1 b : S16.Idx)), (v i).toNat = ∑ c : Fin 16, (v (ValueIdx.ix2 b c)).toNat := by
    refine (Shape.Reduces.sum_fiber_r2_a1 reduces_S16x16_S16 (ValueIdx.ix1 b : S16.Idx) fun i => (v i).toNat).trans ?_
    exact Finset.sum_congr rfl fun k _ => congrArg (fun i => (v i).toNat) (funext fun a => match a with | 0 => rfl | 1 => rfl)
  exact (WordSum.toNat_multiReductionI_add v reduces_S16x16_S16 rfl (ValueIdx.ix1 b : S16.Idx) (by rw [e]; exact h)).trans e

/-! ## Words -/

theorem word_of_nat {n : ℕ} (hn : n < 2 ^ 31) : Ideal.fptosi 32 ((n : ℕ) : EReal) = BitVec.ofNat 32 n := by
  have e : ((n : ℕ) : EReal) = (((n : ℕ) : ℝ) : EReal) := rfl
  have h : Ideal.toIntClamped (-(2 ^ (32 - 1) : Nat)) ((2 ^ (32 - 1) : Nat) - 1) ((n : ℕ) : EReal) = (n : Int) := by
    rw [e]
    show max _ (min _ (if (0 : ℝ) ≤ ((n : ℕ) : ℝ) then ⌊((n : ℕ) : ℝ)⌋ else ⌈((n : ℕ) : ℝ)⌉)) = _
    rw [if_pos (Nat.cast_nonneg n), Int.floor_natCast]
    rw [min_eq_right (by push_cast; omega), max_eq_right (by push_cast; omega)]
  unfold Ideal.fptosi
  rw [h]
  exact BitVec.ofInt_natCast 32 n

theorem toNat_divsi (u : ArithUnit) {x : BitVec 32} (hx : 2 * x.toNat < 2 ^ 32) : (IntOp.divsi u x 128#32).toNat = x.toNat / 128 := by
  have hm : x.msb = false := by rw [BitVec.msb_eq_false_iff_two_mul_lt]; exact hx
  have h1 : IntOp.divsi u x 128#32 = x.sdiv 128#32 := if_neg (IntOp.not_corner_of_pos (by decide))
  rw [h1, BitVec.sdiv_eq, hm, show (128#32 : BitVec 32).msb = false by decide]
  show (x / 128#32).toNat = _
  rw [BitVec.toNat_udiv]
  rfl

theorem toNat_remsi128 (u : ArithUnit) {x : BitVec 32} (hx : 2 * x.toNat < 2 ^ 32) : (IntOp.remsi u x 128#32).toNat = x.toNat % 128 :=
  IntOp.toNat_remsi u hx 128 (by decide) (by decide)

/-- The one-hot entry: one where the word is the place. -/
theorem hot_val (a b : BitVec 32) : (FloatOps.sitofp .f32 ((IntOp.cmpi .eq a b).setWidth 32) : Ideal .f32) = if a = b then (1 : EReal) else 0 := by
  show ((((IntOp.cmpi .eq a b).setWidth 32).toInt : ℝ) : EReal) = _
  rw [WordCmp.cmpi_eq_eq]
  by_cases h : a = b
  · rw [if_pos h, decide_eq_true h, show ((BitVec.ofBool true).setWidth 32).toInt = 1 by decide]; simp
  · rw [if_neg h, decide_eq_false h, show ((BitVec.ofBool false).setWidth 32).toInt = 0 by decide]; simp

theorem toInt_small {x : BitVec 32} (hx : x.toNat < 2 ^ 31) : x.toInt = (x.toNat : Int) := BitVec.toInt_eq_toNat_of_lt (by omega)

/-- A small word's quotient by 128, as the merge computes it: the correction for signs never applies. -/
theorem quot_word {w : BitVec 32} (hw : w.toNat < 16384) :
    Scalar.select (IntOp.andi (IntOp.cmpi .ne (IntOp.subi ((IntOp.cmpi .sgt w 0#32).setWidth 32) ((IntOp.cmpi .slt w 0#32).setWidth 32))
        (Scalar.subi (Scalar.extui (Scalar.cmpi .sgt 128#32 0#32)) (Scalar.extui (Scalar.cmpi .slt 128#32 0#32))))
      (IntOp.cmpi .ne (IntOp.remsi .vector w 128#32) 0#32)) (IntOp.subi (IntOp.divsi .vector w 128#32) 1#32) (IntOp.divsi .vector w 128#32)
      = BitVec.ofNat 32 (w.toNat / 128) := by
  have hd : IntOp.divsi .vector w 128#32 = BitVec.ofNat 32 (w.toNat / 128) := by
    apply BitVec.eq_of_toNat_eq
    rw [toNat_divsi .vector (by omega), BitVec.toNat_ofNat]; omega
  have hr := toNat_remsi128 .vector (x := w) (by omega)
  have hI := toInt_small (x := w) (by omega)
  have hc : IntOp.andi (IntOp.cmpi .ne (IntOp.subi ((IntOp.cmpi .sgt w 0#32).setWidth 32) ((IntOp.cmpi .slt w 0#32).setWidth 32))
        (Scalar.subi (Scalar.extui (Scalar.cmpi .sgt 128#32 0#32)) (Scalar.extui (Scalar.cmpi .slt 128#32 0#32))))
      (IntOp.cmpi .ne (IntOp.remsi .vector w 128#32) 0#32) = 0#1 := by
    by_cases h : w.toNat % 128 = 0
    · have e : IntOp.remsi .vector w 128#32 = 0#32 := BitVec.eq_of_toNat_eq (by rw [hr, h]; rfl)
      rw [e, show IntOp.cmpi .ne (0#32 : BitVec 32) 0#32 = 0#1 by decide]
      generalize IntOp.cmpi .ne _ _ = c
      revert c; decide
    · have e1 : IntOp.cmpi .sgt w 0#32 = 1#1 := by
        rw [WordCmp.cmpi_sgt_eq, decide_eq_true (by rw [hI, BitVec.toInt_zero]; omega)]; rfl
      have e2 : IntOp.cmpi .slt w 0#32 = 0#1 := by
        rw [WordCmp.cmpi_slt_eq, decide_eq_false (by rw [hI, BitVec.toInt_zero]; omega)]; rfl
      rw [e1, e2]
      generalize IntOp.cmpi .ne (IntOp.remsi .vector w 128#32) 0#32 = c
      revert c; decide
  rw [hc, hd]
  rfl

/-- A small word's remainder by 128, as the merge computes it. -/
theorem rem_word {w : BitVec 32} (hw : w.toNat < 16384) :
    Scalar.select (IntOp.andi (IntOp.xori (IntOp.cmpi .slt (IntOp.remsi .vector w 128#32) 0#32) (Scalar.cmpi .slt 128#32 0#32))
      (IntOp.cmpi .ne (IntOp.remsi .vector w 128#32) 0#32)) (IntOp.addi (IntOp.remsi .vector w 128#32) 128#32) (IntOp.remsi .vector w 128#32)
      = BitVec.ofNat 32 (w.toNat % 128) := by
  have hr := toNat_remsi128 .vector (x := w) (by omega)
  have he : IntOp.remsi .vector w 128#32 = BitVec.ofNat 32 (w.toNat % 128) := by
    apply BitVec.eq_of_toNat_eq
    rw [hr, BitVec.toNat_ofNat]; omega
  have hI := toInt_small (x := IntOp.remsi .vector w 128#32) (by omega)
  have e2 : IntOp.cmpi .slt (IntOp.remsi .vector w 128#32) 0#32 = 0#1 := by
    rw [WordCmp.cmpi_slt_eq, decide_eq_false (by rw [hI, BitVec.toInt_zero]; omega)]; rfl
  have hc : IntOp.andi (IntOp.xori (IntOp.cmpi .slt (IntOp.remsi .vector w 128#32) 0#32) (Scalar.cmpi .slt 128#32 0#32))
      (IntOp.cmpi .ne (IntOp.remsi .vector w 128#32) 0#32) = 0#1 := by
    rw [e2]
    generalize IntOp.cmpi .ne (IntOp.remsi .vector w 128#32) 0#32 = c
    revert c; decide
  rw [hc, he]
  rfl

theorem col_spread {α : Type} (v : S16.Idx → α) (b : Fin 16) (c : Fin 128) :
    broadcastTo S16x128 (shapeCast S16x1 v shapeCasts_S16_S16x1) broadcasts_S16x1_S16x128 (ValueIdx.ix2 b c) = v (ValueIdx.ix1 b) := by
  refine (broadcastTo_apply _ broadcasts_S16x1_S16x128 (ValueIdx.ix2 b c) (ValueIdx.ix2 b (0 : Fin 1)) fun ax => ?_).trans (ValueIdx.shapeCast_a_a1_apply v shapeCasts_S16_S16x1 b 0)
  match ax with
  | 0 => rfl
  | 1 => rfl

theorem col_spread16 {α : Type} (v : S16.Idx → α) (b : Fin 16) (c : Fin 16) :
    broadcastTo S16x16 (shapeCast S16x1 v shapeCasts_S16_S16x1) broadcasts_S16x1_S16x16 (ValueIdx.ix2 b c) = v (ValueIdx.ix1 b) := by
  refine (broadcastTo_apply _ broadcasts_S16x1_S16x16 (ValueIdx.ix2 b c) (ValueIdx.ix2 b (0 : Fin 1)) fun ax => ?_).trans (ValueIdx.shapeCast_a_a1_apply v shapeCasts_S16_S16x1 b 0)
  match ax with
  | 0 => rfl
  | 1 => rfl

theorem row_spread16 {α : Type} (v : S16.Idx → α) (b : Fin 16) (c : Fin 16) :
    broadcastTo S16x16 (shapeCast S1x16 (shapeCast S1x16 v shapeCasts_S16_S1x16) shapeCasts_S1x16_S1x16) broadcasts_S1x16_S16x16 (ValueIdx.ix2 b c) = v (ValueIdx.ix1 c) := by
  rw [shapeCast_id]
  exact (ValueIdx.broadcastTo_1b_ab_apply _ broadcasts_S1x16_S16x16 b c).trans (ValueIdx.shapeCast_a_1a_apply v shapeCasts_S16_S1x16 0 c)

theorem row_spread32 {α : Type} (v : S16.Idx → α) (w : Fin 32) (c : Fin 16) :
    broadcastTo S32x16 (shapeCast S1x16 v shapeCasts_S16_S1x16) broadcasts_S1x16_S32x16 (ValueIdx.ix2 w c) = v (ValueIdx.ix1 c) :=
  (ValueIdx.broadcastTo_1b_ab_apply _ broadcasts_S1x16_S32x16 w c).trans (ValueIdx.shapeCast_a_1a_apply v shapeCasts_S16_S1x16 0 c)

theorem lane_word (b : Fin 16) (c : Fin 128) : (iota .tc S16x128 32 [1] iota_S16x128_d1_w32 : IVec S16x128 32) (ValueIdx.ix2 b c) = BitVec.ofNat 32 c.val := by
  show BitVec.ofNat 32 (0 * 128 + c.val) = _
  rw [Nat.zero_mul, Nat.zero_add]

theorem lane_word16 (b : Fin 16) (c : Fin 16) : (iota .tc S16x16 32 [1] iota_S16x16_d1_w32 : IVec S16x16 32) (ValueIdx.ix2 b c) = BitVec.ofNat 32 c.val := by
  show BitVec.ofNat 32 (0 * 16 + c.val) = _
  rw [Nat.zero_mul, Nat.zero_add]

theorem sub_word16 (b : Fin 16) (c : Fin 16) : (iota .tc S16x16 32 [0] iota_S16x16_d0_w32 : IVec S16x16 32) (ValueIdx.ix2 b c) = BitVec.ofNat 32 b.val := by
  show BitVec.ofNat 32 (0 * 16 + b.val) = _
  rw [Nat.zero_mul, Nat.zero_add]

theorem ofNat_eq_iff {a b : ℕ} (ha : a < 2 ^ 32) (hb : b < 2 ^ 32) : BitVec.ofNat 32 a = BitVec.ofNat 32 b ↔ a = b := by
  constructor
  · intro h
    have := congrArg BitVec.toNat h
    rw [BitVec.toNat_ofNat, BitVec.toNat_ofNat] at this
    omega
  · rintro rfl; rfl

theorem clamp_word {s g : BitVec 32} {S : ℕ} (hs : s.toNat = S) (hS : S ≤ 16384) (hg : g.toNat < 16384) :
    (IntOp.minsi 16383#32 (IntOp.maxsi 0#32 (IntOp.addi s g)) : BitVec 32).toNat = min (S + g.toNat) 16383 := by
  obtain ⟨t, h0⟩ : ∃ t : BitVec 32, IntOp.addi s g = t := ⟨_, rfl⟩
  have ht : t.toNat = S + g.toNat := by
    rw [← h0]
    show (s + g).toNat = _
    rw [BitVec.toNat_add, hs]
    omega
  have hI := toInt_small (x := t) (by omega)
  have h1 : IntOp.maxsi 0#32 t = t := by
    unfold IntOp.maxsi
    rw [BitVec.slt_eq_decide, BitVec.toInt_zero, hI]
    by_cases h : ((t.toNat : Int) < 0)
    · omega
    · rw [decide_eq_false h]; rfl
  rw [h0, h1]
  unfold IntOp.minsi
  rw [BitVec.slt_eq_decide, hI, show (16383#32 : BitVec 32).toInt = 16383 by decide]
  by_cases h : ((16383 : Int) < (t.toNat : Int))
  · rw [decide_eq_true h]
    show (16383#32 : BitVec 32).toNat = _
    rw [show (16383#32 : BitVec 32).toNat = 16383 by decide]; omega
  · rw [decide_eq_false h]
    show t.toNat = _
    omega

section Merge

variable (cnt : S32x16.Idx → Elt Ideal .f32) (tgt : S1x16.Idx → Elt Ideal .i32)

/-- The one-hot row of the quotient. -/
theorem hotQ_val (b : Fin 16) (c : Fin 128) (hp : (k1_pay5 (F := Ideal) cnt tgt (ValueIdx.ix1 b) : BitVec 32).toNat < 16384) :
    (k1_pay10 (F := Ideal) (k1_pay5 (F := Ideal) cnt tgt) 128#32 (k1_pay6 (F := Ideal) cnt tgt) (k1_pay7 (F := Ideal) cnt tgt) 0#32 (ValueIdx.ix2 b c) : EReal)
      = if c.val = (k1_pay5 (F := Ideal) cnt tgt (ValueIdx.ix1 b) : BitVec 32).toNat / 128 then 1 else 0 := by
  show (FloatOps.sitofp .f32 ((IntOp.cmpi .eq ((iota .tc S16x128 32 [1] iota_S16x128_d1_w32 : IVec S16x128 32) (ValueIdx.ix2 b c))
    (broadcastTo S16x128 (shapeCast S16x1 _ shapeCasts_S16_S16x1) broadcasts_S16x1_S16x128 (ValueIdx.ix2 b c))).setWidth 32) : Ideal .f32) = _
  rw [hot_val, lane_word, col_spread]
  refine if_congr (Iff.trans (Eq.congr_right (quot_word hp)) (ofNat_eq_iff ?_ ?_)) rfl rfl
  · have := c.isLt; omega
  · omega

/-- The one-hot row of the remainder. -/
theorem hotR_val (b : Fin 16) (c : Fin 128) (hp : (k1_pay5 (F := Ideal) cnt tgt (ValueIdx.ix1 b) : BitVec 32).toNat < 16384) :
    (k1_pay11 (F := Ideal) (k1_pay5 (F := Ideal) cnt tgt) (ValueIdx.ix2 b c) : EReal)
      = if c.val = (k1_pay5 (F := Ideal) cnt tgt (ValueIdx.ix1 b) : BitVec 32).toNat % 128 then 1 else 0 := by
  show (FloatOps.sitofp .f32 ((IntOp.cmpi .eq ((iota .tc S16x128 32 [1] iota_S16x128_d1_w32 : IVec S16x128 32) (ValueIdx.ix2 b c))
    (broadcastTo S16x128 (shapeCast S16x1 _ shapeCasts_S16_S16x1) broadcasts_S16x1_S16x128 (ValueIdx.ix2 b c))).setWidth 32) : Ideal .f32) = _
  rw [hot_val, lane_word, col_spread]
  refine if_congr (Iff.trans (Eq.congr_right (rem_word hp)) (ofNat_eq_iff ?_ ?_)) rfl rfl
  · have := c.isLt; omega
  · omega

variable (n : ℕ → ℕ) (hn : ∀ b, b < 16 → (∑ w ∈ Finset.range 32, (cnt (wix w b) : EReal)) = ((n b : ℕ) : EReal))
  (hle : ∀ b, b ≤ 16 → ∑ c ∈ Finset.range b, n c ≤ 16384) (ht : ∀ i, (tgt i : BitVec 32).toNat < 16384)

include hn hle ht in
/-- The place segment `b`'s answer is read at: how many candidates come before and the target, held to the last place. -/
theorem place_val (b : Fin 16) : (k1_pay5 (F := Ideal) cnt tgt (ValueIdx.ix1 b) : BitVec 32).toNat = min (∑ c ∈ Finset.range b.val, n c + (tgt (ValueIdx.ix2 (0 : Fin 1) b) : BitVec 32).toNat) 16383 := by
  have hb := b.isLt
  have hone : ∀ c, c < 16 → n c ≤ 16384 := fun c hc => le_trans (Finset.single_le_sum (f := n) (fun _ _ => Nat.zero_le _) (Finset.mem_range.2 hc)) (hle 16 le_rfl)
  -- one count as a word
  have hw : ∀ c : Fin 16, (fptosi 32 (multiReduction (F := Ideal) .add [0] S16 (shapeCast S32x16 cnt shapeCasts_S32x16_S32x16 : FVec Ideal S32x16 .f32) 0x00000000#32 reduces_S32x16_S16 (.inl rfl) rfl) : IVec S16 32) (ValueIdx.ix1 c)
      = BitVec.ofNat 32 (n c.val) := by
    intro c
    show Ideal.fptosi 32 (multiReduction (F := Ideal) .add [0] S16 (shapeCast S32x16 cnt shapeCasts_S32x16_S32x16 : FVec Ideal S32x16 .f32) 0x00000000#32 reduces_S32x16_S16 (.inl rfl) rfl (ValueIdx.ix1 c)) = _
    rw [shapeCast_id]
    refine (congrArg (Ideal.fptosi 32) ((rows_sum cnt (ValueIdx.ix1 c)).trans (hn c.val c.isLt))).trans (word_of_nat ?_)
    have := hone c.val c.isLt
    omega
  -- the sum of the counts before
  have hv : ∀ c : Fin 16, (select (cmpi .slt (iota .tc S16x16 32 [1] iota_S16x16_d1_w32 : IVec S16x16 32) (iota .tc S16x16 32 [0] iota_S16x16_d0_w32))
      (broadcastTo S16x16 (shapeCast S1x16 (shapeCast S1x16 (fptosi 32 (multiReduction (F := Ideal) .add [0] S16 (shapeCast S32x16 cnt shapeCasts_S32x16_S32x16 : FVec Ideal S32x16 .f32) 0x00000000#32 reduces_S32x16_S16 (.inl rfl) rfl) : IVec S16 32) shapeCasts_S16_S1x16) shapeCasts_S1x16_S1x16) broadcasts_S1x16_S16x16)
      (broadcast S16x16 0#32) (ValueIdx.ix2 b c) : BitVec 32).toNat = if c.val < b.val then n c.val else 0 := by
    intro c
    have hc := c.isLt
    have h1 := hone c.val hc
    show (Scalar.select (IntOp.cmpi .slt ((iota .tc S16x16 32 [1] iota_S16x16_d1_w32 : IVec S16x16 32) (ValueIdx.ix2 b c)) ((iota .tc S16x16 32 [0] iota_S16x16_d0_w32 : IVec S16x16 32) (ValueIdx.ix2 b c)))
      (broadcastTo S16x16 _ broadcasts_S1x16_S16x16 (ValueIdx.ix2 b c)) 0#32 : BitVec 32).toNat = _
    rw [lane_word16, sub_word16, row_spread16, hw, WordCmp.cmpi_slt_ofNat (by omega) (by omega)]
    by_cases h : c.val < b.val
    · rw [if_pos h, decide_eq_true h]
      show (BitVec.ofNat 32 (n c.val)).toNat = _
      rw [BitVec.toNat_ofNat]; omega
    · rw [if_neg h, decide_eq_false h]; rfl
  have hs : ∑ c : Fin 16, (if c.val < b.val then n c.val else 0) = ∑ c ∈ Finset.range b.val, n c := by
    rw [← Finset.sum_range (fun c => if c < b.val then n c else 0), ← Finset.sum_filter]
    congr 1
    ext c
    simp only [Finset.mem_filter, Finset.mem_range]
    omega
  have hS := hle b.val (by omega)
  have hm := cols_word (select (cmpi .slt (iota .tc S16x16 32 [1] iota_S16x16_d1_w32 : IVec S16x16 32) (iota .tc S16x16 32 [0] iota_S16x16_d0_w32))
      (broadcastTo S16x16 (shapeCast S1x16 (shapeCast S1x16 (fptosi 32 (multiReduction (F := Ideal) .add [0] S16 (shapeCast S32x16 cnt shapeCasts_S32x16_S32x16 : FVec Ideal S32x16 .f32) 0x00000000#32 reduces_S32x16_S16 (.inl rfl) rfl) : IVec S16 32) shapeCasts_S16_S1x16) shapeCasts_S1x16_S1x16) broadcasts_S1x16_S16x16)
      (broadcast S16x16 0#32)) b (by rw [Finset.sum_congr rfl fun c _ => hv c, hs]; omega)
  rw [Finset.sum_congr rfl fun c _ => hv c, hs] at hm
  show (IntOp.minsi 16383#32 (IntOp.maxsi 0#32 (IntOp.addi _ (shapeCast S16 tgt shapeCasts_S1x16_S16 (ValueIdx.ix1 b)))) : BitVec 32).toNat = _
  rw [ValueIdx.shapeCast_1a_a_apply]
  exact clamp_word hm hS (ht _)

/-- Place `p` of a table of 16384 laid out 128 × 128. -/
def qix (p : ℕ) : S128x128.Idx := ValueIdx.ix2 ⟨p / 128 % 128, Nat.mod_lt _ (by decide)⟩ ⟨p % 128, Nat.mod_lt _ (by decide)⟩

/-- The row a one-hot row picks, at column `c`. -/
theorem pick_row (prec : Option ContractPrecision) (h : FVec Ideal S16x128 .f32) (t : FVec Ideal S128x128 .f32) (b : Fin 16) (c q : Fin 128)
    (hh : ∀ k : Fin 128, (h (ValueIdx.ix2 b k) : EReal) = if k.val = q.val then 1 else 0) :
    (matmul dot_S16x128_S128x128_S16x128_1_0_0_1_n_n prec h t (constant S16x128 .f32 0x00000000#32) (ValueIdx.ix2 b c) : EReal) = t (ValueIdx.ix2 q c) := by
  refine (Ideal.matmul_plain_apply (M := 16) (K := 128) (N := 128) prec h t (constant S16x128 .f32 0x00000000#32) b c).trans ?_
  show Ideal.ofBits .f32 0x00000000#32 + _ = _
  rw [zero_val, zero_add, Finset.sum_eq_single q]
  · rw [hh, if_pos rfl, one_mul]
  · intro k _ hk
    rw [hh, if_neg fun e => hk (Fin.ext e), zero_mul]
  · intro h; exact absurd (Finset.mem_univ q) h

/-- The column a one-hot row picks. -/
theorem pick_col (h v : FVec Ideal S16x128 .f32) (b : Fin 16) (q : Fin 128)
    (hh : ∀ k : Fin 128, (h (ValueIdx.ix2 b k) : EReal) = if k.val = q.val then 1 else 0) :
    (multiReduction .add [1] S16 (mulf v h) 0x00000000#32 reduces_S16x128_S16 (.inl rfl) rfl (ValueIdx.ix1 b : S16.Idx) : EReal) = v (ValueIdx.ix2 b q) := by
  rw [cols_sum, Finset.sum_eq_single q]
  · show (v (ValueIdx.ix2 b q) : EReal) * h (ValueIdx.ix2 b q) = _
    rw [hh, if_pos rfl, mul_one]
  · intro k _ hk
    show (v (ValueIdx.ix2 b k) : EReal) * h (ValueIdx.ix2 b k) = _
    rw [hh, if_neg fun e => hk (Fin.ext e), mul_zero]
  · intro h; exact absurd (Finset.mem_univ q) h

/-- The entry of a row of 16 at the segment a word names. -/
theorem pick_seg (M : FVec Ideal S16 .f32) (w : IVec S16 32) (b q : Fin 16) (hw : w (ValueIdx.ix1 b) = BitVec.ofNat 32 q.val) :
    (multiReduction .add [1] S16 (select (cmpi .eq (iota .tc S16x16 32 [1] iota_S16x16_d1_w32 : IVec S16x16 32) (broadcastTo S16x16 (shapeCast S16x1 w shapeCasts_S16_S16x1) broadcasts_S16x1_S16x16))
      (broadcastTo S16x16 (shapeCast S1x16 (shapeCast S1x16 M shapeCasts_S16_S1x16) shapeCasts_S1x16_S1x16) broadcasts_S1x16_S16x16)
      (broadcast S16x16 (Scalar.ofBits .f32 0x00000000#32) : FVec Ideal S16x16 .f32)) 0x00000000#32 reduces_S16x16_S16 (.inl rfl) rfl (ValueIdx.ix1 b : S16.Idx) : EReal) = M (ValueIdx.ix1 q) := by
  have hv : ∀ c : Fin 16, (select (cmpi .eq (iota .tc S16x16 32 [1] iota_S16x16_d1_w32 : IVec S16x16 32) (broadcastTo S16x16 (shapeCast S16x1 w shapeCasts_S16_S16x1) broadcasts_S16x1_S16x16))
      (broadcastTo S16x16 (shapeCast S1x16 (shapeCast S1x16 M shapeCasts_S16_S1x16) shapeCasts_S1x16_S1x16) broadcasts_S1x16_S16x16)
      (broadcast S16x16 (Scalar.ofBits .f32 0x00000000#32) : FVec Ideal S16x16 .f32) (ValueIdx.ix2 b c) : EReal) = if c.val = q.val then M (ValueIdx.ix1 c) else 0 := by
    intro c
    have hc := c.isLt
    have hq := q.isLt
    show (Scalar.select (IntOp.cmpi .eq ((iota .tc S16x16 32 [1] iota_S16x16_d1_w32 : IVec S16x16 32) (ValueIdx.ix2 b c))
      (broadcastTo S16x16 (shapeCast S16x1 w shapeCasts_S16_S16x1) broadcasts_S16x1_S16x16 (ValueIdx.ix2 b c)))
      (broadcastTo S16x16 _ broadcasts_S1x16_S16x16 (ValueIdx.ix2 b c)) (Ideal.ofBits .f32 0x00000000#32) : EReal) = _
    rw [sel_word, lane_word16, col_spread16, row_spread16, hw, zero_val]
    exact if_congr (ofNat_eq_iff (by omega) (by omega)) rfl rfl
  rw [cols_sum16, Finset.sum_congr rfl fun c _ => hv c, Finset.sum_eq_single q]
  · exact if_pos rfl
  · intro k _ hk; exact if_neg fun e => hk (Fin.ext e)
  · intro h; exact absurd (Finset.mem_univ q) h

variable (lg : S128x128.Idx → Elt Ideal .f32) (sg : S128x128.Idx → Elt Ideal .i32) (m s : S32x16.Idx → Elt Ideal .f32)

theorem top_val (b : Fin 16) : (k1_pay3 (F := Ideal) m (ValueIdx.ix1 b) : EReal) = (Finset.range 32).sup fun w => (m (wix w b.val) : EReal) := by
  unfold k1_pay3 k1_pay2
  rw [shapeCast_id]
  exact rows_max m (ValueIdx.ix1 b)

theorem mass_val (b : Fin 16) : (k1_pay4 (F := Ideal) m s (ValueIdx.ix1 b) : EReal)
    = Ideal.log (∑ w ∈ Finset.range 32, (s (wix w b.val) : EReal) * Ideal.exp ((m (wix w b.val) : EReal) - (Finset.range 32).sup fun w => (m (wix w b.val) : EReal))) := by
  unfold k1_pay4 k1_pay2
  rw [shapeCast_id, shapeCast_id]
  show Ideal.log (multiReduction (F := Ideal) .add [0] S16 _ 0x00000000#32 reduces_S32x16_S16 (.inl rfl) rfl (ValueIdx.ix1 b) : EReal) = _
  rw [rows_sum]
  refine congrArg Ideal.log (Finset.sum_congr rfl fun w hw => ?_)
  have hw' := Finset.mem_range.1 hw
  have e : (wix w ((ValueIdx.ix1 b : S16.Idx) 0).val : S32x16.Idx) = ValueIdx.ix2 (⟨w, hw'⟩ : Fin 32) b :=
    funext fun a => match a with | 0 => Fin.ext (Nat.mod_eq_of_lt hw') | 1 => Fin.ext (Nat.mod_eq_of_lt b.isLt)
  rw [← top_val m b]
  show (s (wix w ((ValueIdx.ix1 b : S16.Idx) 0).val) : EReal) * Ideal.exp ((m (wix w ((ValueIdx.ix1 b : S16.Idx) 0).val) : EReal)
    - broadcastTo S32x16 (shapeCast S1x16 (k1_pay3 (F := Ideal) m) shapeCasts_S16_S1x16) broadcasts_S1x16_S32x16 (wix w ((ValueIdx.ix1 b : S16.Idx) 0).val)) = _
  have r : broadcastTo S32x16 (shapeCast S1x16 (k1_pay3 (F := Ideal) m) shapeCasts_S16_S1x16) broadcasts_S1x16_S32x16 (wix w ((ValueIdx.ix1 b : S16.Idx) 0).val) = k1_pay3 (F := Ideal) m (ValueIdx.ix1 b) :=
    (congrArg _ e).trans (row_spread32 _ _ _)
  rw [r]

include hn hle ht in
/-- What the merge leaves for segment `b`. -/
theorem merge_val (hsg : ∀ i, (sg i : BitVec 32).toNat < 16) (b : Fin 16) (p q : ℕ) (hp : p = min (∑ c ∈ Finset.range b.val, n c + (tgt (ValueIdx.ix2 (0 : Fin 1) b) : BitVec 32).toNat) 16383) (hq : q = (sg (qix p) : BitVec 32).toNat) :
    (mergeOut (F := Ideal) lg sg m s cnt tgt (ValueIdx.ix2 (0 : Fin 1) b) : EReal)
      = lg (qix p) - ((Finset.range 32).sup fun w => (m (wix w q) : EReal))
        - Ideal.log (∑ w ∈ Finset.range 32, (s (wix w q) : EReal) * Ideal.exp ((m (wix w q) : EReal) - (Finset.range 32).sup fun w => (m (wix w q) : EReal))) := by
  have hpl := place_val cnt tgt n hn hle ht b
  rw [← hp] at hpl
  have hp' : p < 16384 := by omega
  have hq' : q < 16 := hq ▸ hsg _
  have hQ : ∀ k : Fin 128, (k1_pay10 (F := Ideal) (k1_pay5 (F := Ideal) cnt tgt) 128#32 (k1_pay6 (F := Ideal) cnt tgt) (k1_pay7 (F := Ideal) cnt tgt) 0#32 (ValueIdx.ix2 b k) : EReal)
      = if k.val = (⟨p / 128 % 128, Nat.mod_lt _ (by decide)⟩ : Fin 128).val then 1 else 0 := fun k => by
    rw [hotQ_val cnt tgt b k (by omega), hpl]
    refine if_congr ?_ rfl rfl
    show k.val = p / 128 ↔ k.val = p / 128 % 128
    omega
  have hR : ∀ k : Fin 128, (k1_pay11 (F := Ideal) (k1_pay5 (F := Ideal) cnt tgt) (ValueIdx.ix2 b k) : EReal)
      = if k.val = (⟨p % 128, Nat.mod_lt _ (by decide)⟩ : Fin 128).val then 1 else 0 := fun k => by
    rw [hotR_val cnt tgt b k (by omega), hpl]
  unfold mergeOut k1_pay1 k1_pay8 k1_pay9
  rw [shapeCast_id, shapeCast_id]
  refine (ValueIdx.shapeCast_a_1a_apply _ shapeCasts_S16_S1x16 (0 : Fin 1) b).trans ?_
  have hseg : (fptosi 32 (multiReduction (F := Ideal) .add [1] S16 (mulf (matmul dot_S16x128_S128x128_S16x128_1_0_0_1_n_n none
      (k1_pay10 (F := Ideal) (k1_pay5 (F := Ideal) cnt tgt) 128#32 (k1_pay6 (F := Ideal) cnt tgt) (k1_pay7 (F := Ideal) cnt tgt) 0#32) (sitofp .f32 (sg : IVec S128x128 32)) (constant S16x128 .f32 0x00000000#32))
      (k1_pay11 (F := Ideal) (k1_pay5 (F := Ideal) cnt tgt))) 0x00000000#32 reduces_S16x128_S16 (.inl rfl) rfl) : IVec S16 32) (ValueIdx.ix1 b) = BitVec.ofNat 32 (⟨q, hq'⟩ : Fin 16).val := by
    show Ideal.fptosi 32 (multiReduction (F := Ideal) .add [1] S16 _ 0x00000000#32 reduces_S16x128_S16 (.inl rfl) rfl (ValueIdx.ix1 b) : EReal) = _
    rw [pick_col _ _ b _ hR, pick_row _ _ _ b _ _ hQ]
    show Ideal.fptosi 32 ((((sg (qix p) : BitVec 32).toInt : ℝ) : EReal)) = _
    rw [toInt_small (by rw [← hq]; omega), ← hq]
    exact word_of_nat (by omega)
  show ((multiReduction (F := Ideal) .add [1] S16 _ 0x00000000#32 reduces_S16x128_S16 (.inl rfl) rfl (ValueIdx.ix1 b) : EReal)
    - multiReduction (F := Ideal) .add [1] S16 _ 0x00000000#32 reduces_S16x16_S16 (.inl rfl) rfl (ValueIdx.ix1 b))
    - multiReduction (F := Ideal) .add [1] S16 _ 0x00000000#32 reduces_S16x16_S16 (.inl rfl) rfl (ValueIdx.ix1 b) = _
  rw [pick_col _ _ b _ hR, pick_row _ _ _ b _ _ hQ, pick_seg _ _ b _ hseg, pick_seg _ _ b _ hseg, top_val, mass_val]
  rfl

end Merge

end Cert.Proof
-- ==== Proof.RefValue.lean ====
/-
  What the reference computes, in exact arithmetic, when the segment numbers are below 16 and the targets below 16384: piece by
  piece the scores, each segment's largest score, its sum of exponentials, its number of candidates, where it starts, and
  the answer.
-/
module

public import proofs.«01_k».proof.Proof.Join
public import proofs.«01_k».proof.Proof.Gen.ReferenceIdeal
public import proofs.«01_k».proof.Proof.Gen.ReferenceIdeal.Run
public import Idealize.ShloMosaic.Lib.Routing.Ops
public import Idealize.ShloMosaic.Lib.Routing.OpsOne
public import Idealize.ShloMosaic.Lib.Routing.OpsPair
public import Idealize.ShloMosaic.Lib.Routing.OpsSet
public import Idealize.ShloMosaic.Lib.ReduceAll
public import Idealize.ShloMosaic.Lib.KernelVsHost
public import Idealize.ShloMosaic.Lib.ValueIdxRank1
public import Idealize.ShloMosaic.Lib.Pointwise.Reduce
public import Idealize.ShloMosaic.Lib.Pointwise.Index

@[expose] public section

noncomputable section

namespace Cert.Proof.RefSide

open Cert.ReferenceIdeal
open Cert.ReferenceIdeal.Facts₀ Cert.ReferenceIdeal.Facts
open Idealize.ShloMosaic

variable (A0 : S16x128.Idx → Elt Ideal .f32) (A1 : S16384x128.Idx → Elt Ideal .f32) (A2 : IVec S16384 32) (A3 : IVec S16 32)

/-! ## The pieces, as the reference writes them -/

/-- A vector of 16384 as a column of indices. -/
abbrev col {α : Type} (v : S16384.Idx → α) : S16384x1.Idx → α := broadcastInDim S16384x1 ![0] bcast_S16384_S16384x1_0 v
/-- A vector of 16 as a column of indices. -/
abbrev col16 {α : Type} (v : S16.Idx → α) : S16x1.Idx → α := broadcastInDim S16x1 ![0] bcast_S16_S16x1_0 v
abbrev all16384 (w : BitVec 32) : IVec S16384 32 := broadcastInDim S16384 ![] bcast_S_S16384 (constantI S_ 32 w)
abbrev all16 (w : BitVec 32) : IVec S16 32 := broadcastInDim S16 ![] bcast_S_S16 (constantI S_ 32 w)

/-- Every row's index is in the table. -/
def inTable (ix : IVec S16384x1 32) : IVec S16384 1 :=
  Host.reduce IntOp.andi (andi (cmpi .sge ix (broadcastInDim S16384x1 ![] bcast_S_S16384x1 (constantI S_ 32 0#32)))
    (cmpi .sle ix (broadcastInDim S16384x1 ![0, 1] bcast_S1x1_S16384x1_0_1 (broadcastInDim S1x1 ![1] bcast_S1_S1x1_1 (constantI S1 32 15#32)))))
    (constantI S_ 1 1#1) reducesTo_S16384x1_S16384_d1 h_S_

/-- The scores. -/
def scores : FVec Ideal S16384 .f32 :=
  Host.reduceAdd (mulf (select (broadcastInDim S16384x128 ![0] bcast_S16384_S16384x128_0 (inTable (col A2)))
    (Host.gather gather_S16x128_S16384x1_S16384x128_1_0_n_n_0_1_1128 A0 (col A2))
    (broadcastInDim S16384x128 ![] bcast_S_S16384x128 (constant S_ .f32 0x7FC00000#32))) A1) (constant S_ .f32 0x00000000#32) reducesTo_S16384x128_S16384_d1 h_S_

/-- Each segment's largest score. -/
def tops (lg : FVec Ideal S16384 .f32) : FVec Ideal S16 .f32 :=
  Host.reduce FloatOps.maximumf (select (cmpi .eq (broadcastInDim S16x16384 ![0, 1] bcast_S1x16384_S16x16384_0_1 (broadcastInDim S1x16384 ![1] bcast_S16384_S1x16384_1 A2))
      (broadcastInDim S16x16384 ![0, 1] bcast_S16x1_S16x16384_0_1 (col16 (iotaInDim S16 32 0))))
    (broadcastInDim S16x16384 ![0, 1] bcast_S1x16384_S16x16384_0_1 (broadcastInDim S1x16384 ![1] bcast_S16384_S1x16384_1 lg))
    (broadcastInDim S16x16384 ![] bcast_S_S16x16384 (id (constant S_ .f32 0xFF800000#32)))) (constant S_ .f32 0xFF800000#32) reducesTo_S16x16384_S16_d1 h_S_

/-- Each segment's sum of exponentials. -/
def masses (v : FVec Ideal S16384 .f32) : FVec Ideal S16 .f32 :=
  Host.scatterAdd scatter_S16_S16384x1_S16384_n_0_0_1 (broadcastInDim S16 ![] bcast_S_S16 (constant S_ .f32 0x00000000#32)) (col A2) (Host.exp v)

/-- Each segment's number of candidates. -/
def counts : IVec S16 32 := Host.scatter scatter_S16_S16384x1_S16384_n_0_0_1 IntOp.addi (all16 0#32) (col A2) (all16384 1#32)

/-- Where each segment starts, and the target after it. -/
def places : IVec S16 32 :=
  addi (subi (Host.reduceWindow IntOp.addi ![16] ![1] ![15] ![0] (counts A2) (broadcastInDim S_ ![] bcast_S_S_ (constantI S_ 32 0#32)) reduceWindows_S16_S16_w16s1p15_0 h_S_) (counts A2)) A3

/-- The whole. -/
def whole : FVec Ideal S16 .f32 :=
  Host.gather gather_S16384_S16x1_S16_n_0_n_n_0_1_1
    (subf (subf (scores A0 A1 A2) (Host.gather gather_S16_S16384x1_S16384_n_0_n_n_0_1_1 (tops A2 (scores A0 A1 A2)) (col A2)))
      (Host.gather gather_S16_S16384x1_S16384_n_0_n_n_0_1_1 (Host.log (masses A2 (subf (scores A0 A1 A2)
        (Host.gather gather_S16_S16384x1_S16384_n_0_n_n_0_1_1 (tops A2 (scores A0 A1 A2)) (col A2))))) (col A2)))
    (col16 (select (cmpi .slt (places A2 A3) (all16 0#32)) (addi (places A2 A3) (all16 16384#32)) (places A2 A3)))

/-! ## Indices that need no mending -/

theorem wrap_id (v : IVec S16384 32) (hv : ∀ i, (v i).toNat < 16) : select (cmpi .slt v (all16384 0#32)) (addi v (all16384 16#32)) v = v := by
  funext i
  have h := hv i
  show Scalar.select (IntOp.cmpi .slt (v i) 0#32) _ (v i) = v i
  rw [WordCmp.cmpi_slt_eq, decide_eq_false (by rw [BitVec.toInt_eq_toNat_of_lt (by omega), BitVec.toInt_zero]; omega)]
  rfl

theorem clip_id (v : IVec S16384 32) (hv : ∀ i, (v i).toNat < 16) : maxsi (broadcastInDim S16384 ![] bcast_S_S16384 (id (constantI S_ 32 0#32))) v = v := by
  funext i
  have h := hv i
  show IntOp.maxsi 0#32 (v i) = v i
  unfold IntOp.maxsi
  rw [BitVec.slt_eq_decide, BitVec.toInt_zero, decide_eq_false (by rw [BitVec.toInt_eq_toNat_of_lt (by omega)]; omega)]
  rfl

theorem res_eq (m : (ℓ : Loc nD τ sig) → Buf (Elt Ideal) ℓ) (c : Dev nD)
    (hv : ∀ i, (m ((c.tc : Thread nD τ).loc main_arg2) i : BitVec 32).toNat < 16) :
    Cert.ReferenceIdeal.Value.res_main_v52 m c
      = whole (m ((c.tc : Thread nD τ).loc main_arg0)) (m ((c.tc : Thread nD τ).loc main_arg1)) (m ((c.tc : Thread nD τ).loc main_arg2)) (m ((c.tc : Thread nD τ).loc main_arg3)) := by
  unfold Cert.ReferenceIdeal.Value.res_main_v52
  rw [clip_id (m ((c.tc : Thread nD τ).loc main_arg2)) hv, wrap_id (m ((c.tc : Thread nD τ).loc main_arg2)) hv]
  rfl

/-! ## Reading the pieces -/

theorem col_at {α : Type} (v : S16384.Idx → α) (i : Fin 16384) : col v (ValueIdx.ix2 i (0 : Fin 1)) = v (ValueIdx.ix1 i) :=
  broadcastInDim_apply _ _ _ _ _ fun a => match a with | 0 => rfl

theorem col16_at {α : Type} (v : S16.Idx → α) (i : Fin 16) : col16 v (ValueIdx.ix2 i (0 : Fin 1)) = v (ValueIdx.ix1 i) :=
  broadcastInDim_apply _ _ _ _ _ fun a => match a with | 0 => rfl

theorem across_at {α : Type} (v : S16384.Idx → α) (b : Fin 16) (i : Fin 16384) :
    broadcastInDim S16x16384 ![0, 1] bcast_S1x16384_S16x16384_0_1 (broadcastInDim S1x16384 ![1] bcast_S16384_S1x16384_1 v) (ValueIdx.ix2 b i) = v (ValueIdx.ix1 i) :=
  (broadcastInDim_apply _ _ _ (ValueIdx.ix2 b i) (ValueIdx.ix2 (0 : Fin 1) i) fun a => match a with | 0 => rfl | 1 => rfl).trans
    (broadcastInDim_apply _ _ _ _ _ fun a => match a with | 0 => rfl)

theorem down_at {α : Type} (v : S16.Idx → α) (b : Fin 16) (i : Fin 16384) :
    broadcastInDim S16x16384 ![0, 1] bcast_S16x1_S16x16384_0_1 (col16 v) (ValueIdx.ix2 b i) = v (ValueIdx.ix1 b) :=
  (broadcastInDim_apply _ _ _ (ValueIdx.ix2 b i) (ValueIdx.ix2 b (0 : Fin 1)) fun a => match a with | 0 => rfl | 1 => rfl).trans (col16_at v b)

theorem mask_at {α : Type} (v : S16384.Idx → α) (i : Fin 16384) (k : Fin 128) :
    broadcastInDim S16384x128 ![0] bcast_S16384_S16384x128_0 v (ValueIdx.ix2 i k) = v (ValueIdx.ix1 i) :=
  broadcastInDim_apply _ _ _ _ _ fun a => match a with | 0 => rfl

variable (hv : ∀ i, (A2 i).toNat < 16)

theorem inTable_one (ix : IVec S16384x1 32) (h : ∀ i, (ix i).toNat < 16) (j : S16384.Idx) : inTable ix j = 1#1 := by
  unfold inTable
  refine Host.reduce_andi_one _ _ _ _ _ rfl fun i => ?_
  have hi := h i
  show IntOp.andi (IntOp.cmpi .sge (ix i) 0#32) (IntOp.cmpi .sle (ix i) 15#32) = 1#1
  have hI : (ix i).toInt = ((ix i).toNat : Int) := BitVec.toInt_eq_toNat_of_lt (by omega)
  rw [WordCmp.cmpi_sge_eq, WordCmp.cmpi_sle_eq, decide_eq_true (by rw [hI, BitVec.toInt_zero]; omega),
    decide_eq_true (by rw [hI, show (15#32 : BitVec 32).toInt = 15 by decide]; omega)]
  rfl

include hv in
/-- The score of candidate `i`. -/
theorem scores_at (i : Fin 16384) :
    (scores A0 A1 A2 (ValueIdx.ix1 i) : EReal) = ∑ k : Fin 128, (A0 (ValueIdx.ix2 ⟨(A2 (ValueIdx.ix1 i)).toNat, hv _⟩ k) : EReal) * A1 (ValueIdx.ix2 i k) := by
  unfold scores
  rw [ValueIdx.hostReduceAdd_apply, Ideal.hostReduceAdd_r2_a1]
  show Ideal.ofBits .f32 0x00000000#32 + _ = _
  rw [zero_val, zero_add]
  refine Finset.sum_congr rfl fun k _ => ?_
  show (Scalar.select (broadcastInDim S16384x128 ![0] bcast_S16384_S16384x128_0 (inTable (col A2)) (ValueIdx.ix2 i k))
    (Host.gather gather_S16x128_S16384x1_S16384x128_1_0_n_n_0_1_1128 A0 (col A2) (ValueIdx.ix2 i k)) _ : EReal) * A1 (ValueIdx.ix2 i k) = _
  rw [mask_at, inTable_one (col A2) (fun j => hv _)]
  have g := Routing.gather_row gather_S16x128_S16384x1_S16384x128_1_0_n_n_0_1_1128 rfl rfl rfl rfl rfl A0 (col A2) i k
    ⟨(A2 (ValueIdx.ix1 i)).toNat, hv _⟩ (by rw [col_at]; simp) (by decide)
  rw [g]
  rfl

theorem gather16_at {α : Type} (M : S16.Idx → α) (i : Fin 16384) :
    Host.gather gather_S16_S16384x1_S16384_n_0_n_n_0_1_1 M (col A2) (ValueIdx.ix1 i) = M (ValueIdx.ix1 ⟨(A2 (ValueIdx.ix1 i)).toNat, hv _⟩) :=
  Routing.gather_take1 gather_S16_S16384x1_S16384_n_0_n_n_0_1_1 rfl rfl rfl rfl M (col A2) i ⟨(A2 (ValueIdx.ix1 i)).toNat, hv _⟩
    (by rw [col_at]; simp) (by decide)

theorem reduces_wide : S16x16384.Reduces [1] S16 := by decide

theorem top_fold (x : FVec Ideal S16x16384 .f32) (b : Fin 16) :
    Host.reduce (FloatOps.maximumf (F := Ideal) (φ := .f32)) x (constant (F := Ideal) S_ .f32 0xFF800000#32) reducesTo_S16x16384_S16_d1 h_S_ (ValueIdx.ix1 b)
      = (Finset.univ : Finset (Fin 16384)).sup fun i => (x (ValueIdx.ix2 b i) : EReal) := by
  refine (congrFun (hostReduce_maximumf_eq_multiReduction x 0xFF800000#32 reducesTo_S16x16384_S16_d1 h_S_ reduces_wide (.inl rfl) rfl) (ValueIdx.ix1 b)).trans ?_
  refine (multiReduction_maximumf_eq_fold x 0xFF800000#32 reduces_wide (.inl rfl) rfl (ValueIdx.ix1 b)).trans ?_
  rw [Shape.Reduces.fold_fiber_r2_a1]
  show (Finset.univ : Finset (Fin 16384)).fold max (Ideal.ofBits .f32 0xFF800000#32) _ = _
  rw [neg_val]
  rfl

/-- Segment `b`'s largest score. -/
theorem tops_at (lg : FVec Ideal S16384 .f32) (b : Fin 16) :
    (tops A2 lg (ValueIdx.ix1 b) : EReal) = (Finset.univ : Finset (Fin 16384)).sup fun i => if (A2 (ValueIdx.ix1 i)).toNat = b.val then (lg (ValueIdx.ix1 i) : EReal) else ⊥ := by
  unfold tops
  rw [top_fold]
  refine Finset.sup_congr rfl fun i _ => ?_
  show (Scalar.select (IntOp.cmpi .eq (broadcastInDim S16x16384 ![0, 1] bcast_S1x16384_S16x16384_0_1 (broadcastInDim S1x16384 ![1] bcast_S16384_S1x16384_1 A2) (ValueIdx.ix2 b i))
      (broadcastInDim S16x16384 ![0, 1] bcast_S16x1_S16x16384_0_1 (col16 (iotaInDim S16 32 0)) (ValueIdx.ix2 b i)))
    (broadcastInDim S16x16384 ![0, 1] bcast_S1x16384_S16x16384_0_1 (broadcastInDim S1x16384 ![1] bcast_S16384_S1x16384_1 lg) (ValueIdx.ix2 b i))
    (Ideal.ofBits .f32 0xFF800000#32) : EReal) = _
  rw [across_at, across_at, down_at, sel_word, neg_val]
  exact if_congr (word_eq b.isLt) rfl rfl

/-! ## Where the updates land -/

theorem lands (ix : IVec S16384x1 32) (i : Fin 16384) (b : Fin 16) :
    scatter_S16_S16384x1_S16384_n_0_0_1.resultIdx? (ValueIdx.ix1 i) ix = some (ValueIdx.ix1 b) ↔ (ix (ValueIdx.ix2 i (0 : Fin 1))).toInt = (b.val : Int) := by
  rw [Routing.resultIdx?_ix1]
  have h1 : scatter_S16_S16384x1_S16384_n_0_0_1.window (ValueIdx.ix1 i) 0 = 0 := rfl
  have h2 : scatter_S16_S16384x1_S16384_n_0_0_1.start (ValueIdx.ix1 i) ix 0 = (ix (ValueIdx.ix2 i (0 : Fin 1))).toInt := by
    show (ix _).toInt = _
    refine congrArg (fun j => (ix j).toInt) (funext fun a => match a with | 0 => rfl | 1 => rfl)
  rw [h1, h2]
  simp

theorem lands_col (i : Fin 16384) (b : Fin 16) :
    scatter_S16_S16384x1_S16384_n_0_0_1.resultIdx? (ValueIdx.ix1 i) (col A2) = some (ValueIdx.ix1 b) ↔ (A2 (ValueIdx.ix1 i)).toNat = b.val := by
  rw [lands, col_at, BitVec.toInt_eq_toNat_cond]
  have h := (A2 (ValueIdx.ix1 i)).isLt
  have hb := b.isLt
  split <;> omega

/-- Segment `b`'s sum of exponentials. -/
theorem masses_at (v : FVec Ideal S16384 .f32) (b : Fin 16) :
    (masses A2 v (ValueIdx.ix1 b) : EReal) = ∑ i : Fin 16384, if (A2 (ValueIdx.ix1 i)).toNat = b.val then Ideal.exp (v (ValueIdx.ix1 i)) else 0 := by
  show (Ideal.ofBits .f32 0x00000000#32 : EReal) + ∑ j ∈ Finset.univ.filter (fun j => scatter_S16_S16384x1_S16384_n_0_0_1.resultIdx? j (col A2) = some (ValueIdx.ix1 b)), (Ideal.exp (v j) : EReal) = _
  rw [zero_val, zero_add, Finset.sum_filter, Idealize.ShloMosaic.sum_idx1]
  exact Finset.sum_congr rfl fun i _ => if_congr (lands_col A2 i b) rfl rfl

theorem foldl_ones {ι : Type} (P : ι → Prop) [DecidablePred P] (l : List ι) (z : BitVec 32) :
    l.foldl (fun a n => if P n then IntOp.addi a 1#32 else a) z = z + BitVec.ofNat 32 (l.map fun n => if P n then 1 else 0).sum := by
  induction l generalizing z with
  | nil => exact (BitVec.add_zero z).symm
  | cons n l ih =>
    rw [List.foldl_cons, ih, List.map_cons, List.sum_cons, BitVec.ofNat_add, ← BitVec.add_assoc]
    congr 1
    split
    · rfl
    · exact (BitVec.add_zero z).symm

/-- Segment `b`'s number of candidates. -/
theorem counts_at (b : Fin 16) : counts A2 (ValueIdx.ix1 b) = BitVec.ofNat 32 (∑ i : Fin 16384, if (A2 (ValueIdx.ix1 i)).toNat = b.val then 1 else 0) := by
  unfold counts
  rw [Routing.scatter_at]
  show (List.finRange S16384.numel).foldl (fun a n => if scatter_S16_S16384x1_S16384_n_0_0_1.resultIdx? (S16384.rowMajor.symm n) (col A2) = some (ValueIdx.ix1 b) then IntOp.addi a 1#32 else a) 0#32 = _
  rw [foldl_ones, BitVec.zero_add, ← Fin.sum_univ_def,
    Equiv.sum_comp S16384.rowMajor.symm (fun j => if scatter_S16_S16384x1_S16384_n_0_0_1.resultIdx? j (col A2) = some (ValueIdx.ix1 b) then 1 else 0), Idealize.ShloMosaic.sum_idx1]
  exact congrArg (BitVec.ofNat 32) (Finset.sum_congr rfl fun i _ => if_congr (lands_col A2 i b) rfl rfl)

theorem countOf_eq (b : ℕ) : (∑ i : Fin 16384, if (A2 (ValueIdx.ix1 i)).toNat = b then 1 else 0) = countOf A2 b := by
  unfold countOf
  rw [Finset.sum_range]
  refine Finset.sum_congr rfl fun i _ => ?_
  unfold segOf
  rw [show cix i.val = (ValueIdx.ix1 i : S16384.Idx) from cix_val (ValueIdx.ix1 i)]

theorem counts_nat (b : Fin 16) : (counts A2 (ValueIdx.ix1 b)).toNat = countOf A2 b.val := by
  rw [counts_at, countOf_eq, BitVec.toNat_ofNat]
  have := size_le A2 b.val
  omega

variable (ht : ∀ i, (A3 i).toNat < 16384)

include ht in
/-- Where segment `b` starts, and its target after that. -/
theorem places_nat (b : Fin 16) : (places A2 A3 (ValueIdx.ix1 b)).toNat = startOf A2 b.val + (A3 (ValueIdx.ix1 b)).toNat := by
  unfold places
  show (IntOp.addi (IntOp.subi (Host.reduceWindow IntOp.addi ![16] ![1] ![15] ![0] (counts A2) (broadcastInDim S_ ![] bcast_S_S_ (constantI S_ 32 0#32)) reduceWindows_S16_S16_w16s1p15_0 h_S_ (ValueIdx.ix1 b))
    (counts A2 (ValueIdx.ix1 b))) (A3 (ValueIdx.ix1 b))).toNat = _
  rw [Routing.cumsum_vec (N := 16) (Nm1 := 15) rfl (counts A2) _ rfl reduceWindows_S16_S16_w16s1p15_0 h_S_ b]
  show (((∑ i : Fin 16, if i ≤ b then counts A2 (ValueIdx.ix1 i) else 0) - counts A2 (ValueIdx.ix1 b)) + A3 (ValueIdx.ix1 b)).toNat = _
  rw [Routing.prefix_sub_last (fun i : Fin 16 => counts A2 (ValueIdx.ix1 i)) b]
  have e : ∀ i : Fin 16, (if i < b then counts A2 (ValueIdx.ix1 i) else 0 : BitVec 32).toNat = if i.val < b.val then countOf A2 i.val else 0 := fun i => by
    by_cases h : i < b
    · rw [if_pos h, if_pos (show i.val < b.val from h)]; exact counts_nat A2 i
    · rw [if_neg h, if_neg (show ¬ i.val < b.val from h)]; rfl
  have hs : (∑ i : Fin 16, if i.val < b.val then countOf A2 i.val else 0) = startOf A2 b.val := by
    unfold startOf
    have hb := b.isLt
    rw [← Finset.sum_range (fun c => if c < b.val then countOf A2 c else 0), ← Finset.sum_filter]
    congr 1
    ext c
    simp only [Finset.mem_filter, Finset.mem_range]
    omega
  have hl := start_le A2 b.val (by have := b.isLt; omega)
  have hw := WordSum.toNat_sum Finset.univ (fun i : Fin 16 => if i < b then counts A2 (ValueIdx.ix1 i) else 0)
    (by rw [Finset.sum_congr rfl fun i _ => e i, hs]; omega)
  rw [Finset.sum_congr rfl fun i _ => e i, hs] at hw
  have hg := ht (ValueIdx.ix1 b)
  rw [BitVec.toNat_add, hw]
  omega

/-! ## The whole -/

variable (fg : Cert.KernelIdeal.S2048.Idx → Elt Ideal .f32) (hfg : ∀ (b : Fin 16) (k : Fin 128), gAt fg (128 * b.val + k.val) = A0 (ValueIdx.ix2 b k))

theorem seg_at (i : Fin 16384) : segOf A2 i.val = (A2 (ValueIdx.ix1 i)).toNat := by
  unfold segOf
  rw [show cix i.val = (ValueIdx.ix1 i : S16384.Idx) from cix_val (ValueIdx.ix1 i)]

include hv hfg in
theorem scores_spec (i : Fin 16384) : (scores A0 A1 A2 (ValueIdx.ix1 i) : EReal) = scoreOf fg A1 A2 i.val := by
  rw [scores_at A0 A1 A2 hv]
  unfold scoreOf
  rw [Finset.sum_range]
  refine Finset.sum_congr rfl fun k _ => ?_
  rw [seg_at, hfg ⟨(A2 (ValueIdx.ix1 i)).toNat, hv _⟩ k, mul_comm]
  refine congrArg (fun j => (A1 j : EReal) * _) (funext fun a => match a with | 0 => Fin.ext ?_ | 1 => Fin.ext ?_)
  · exact (Nat.mod_eq_of_lt i.isLt).symm
  · exact (Nat.mod_eq_of_lt k.isLt).symm

include hv hfg in
theorem tops_spec (b : Fin 16) : (tops A2 (scores A0 A1 A2) (ValueIdx.ix1 b) : EReal) = topOf fg A1 A2 b.val := by
  rw [tops_at]
  unfold topOf Spec.greatest
  refine le_antisymm (Finset.sup_le fun i _ => ?_) (Finset.sup_le fun n hn => ?_)
  · refine le_trans (le_of_eq ?_) (Finset.le_sup (f := fun i => if segOf A2 i = b.val then scoreOf fg A1 A2 i else ⊥) (Finset.mem_range.2 i.isLt))
    rw [scores_spec A0 A1 A2 hv fg hfg]
    show _ = if segOf A2 i.val = b.val then scoreOf fg A1 A2 i.val else ⊥
    rw [seg_at]
  · have hn' := Finset.mem_range.1 hn
    refine le_trans (le_of_eq ?_) (Finset.le_sup (Finset.mem_univ (⟨n, hn'⟩ : Fin 16384)))
    rw [scores_spec A0 A1 A2 hv fg hfg, ← seg_at]

include hv hfg in
/-- The answer for segment `b`. -/
theorem whole_at (ht : ∀ i, (A3 i).toNat < 16384) (b : Fin 16) :
    (whole A0 A1 A2 A3 (ValueIdx.ix1 b) : EReal) = answer fg A1 A2 b.val (A3 (ValueIdx.ix1 b)).toNat := by
  have hb := b.isLt
  have hpl := places_nat A2 A3 ht b
  have hst := start_le A2 b.val (by omega)
  have hg := ht (ValueIdx.ix1 b)
  have hI : (places A2 A3 (ValueIdx.ix1 b)).toInt = ((startOf A2 b.val + (A3 (ValueIdx.ix1 b)).toNat : ℕ) : Int) := by
    rw [BitVec.toInt_eq_toNat_of_lt (by omega), hpl]
  have hp : pickOf A2 b.val (A3 (ValueIdx.ix1 b)).toNat < 16384 := by unfold pickOf; omega
  have hsel : select (cmpi .slt (places A2 A3) (all16 0#32)) (addi (places A2 A3) (all16 16384#32)) (places A2 A3) (ValueIdx.ix1 b) = places A2 A3 (ValueIdx.ix1 b) := by
    show Scalar.select (IntOp.cmpi .slt (places A2 A3 (ValueIdx.ix1 b)) 0#32) _ _ = _
    rw [WordCmp.cmpi_slt_eq, decide_eq_false (by rw [hI, BitVec.toInt_zero]; omega)]
    rfl
  -- the take at the segment's place
  have htake : ∀ x : FVec Ideal S16384 .f32, Host.gather gather_S16384_S16x1_S16_n_0_n_n_0_1_1 x
      (col16 (select (cmpi .slt (places A2 A3) (all16 0#32)) (addi (places A2 A3) (all16 16384#32)) (places A2 A3))) (ValueIdx.ix1 b) = x (ValueIdx.ix1 ⟨pickOf A2 b.val (A3 (ValueIdx.ix1 b)).toNat, hp⟩) := by
    intro x
    refine (congrArg (Host.gather gather_S16384_S16x1_S16_n_0_n_n_0_1_1 x _) (Routing.ofFin_eq_ix1 b).symm).trans ?_
    refine (StableHlo.Predicate.gather_take gather_S16384_S16x1_S16_n_0_n_n_0_1_1 rfl rfl rfl rfl x _ b (by decide)).trans ?_
    rw [Routing.ofFin_eq_ix1]
    refine congrArg (fun k => x (ValueIdx.ix1 k)) (Fin.ext ?_)
    show min (col16 (α := BitVec 32) _ (StableHlo.Predicate.ixP b)).toInt.toNat (16384 - 1) = pickOf A2 b.val (A3 (ValueIdx.ix1 b)).toNat
    rw [Routing.ixP_eq_ix2, col16_at, hsel, hI]
    unfold pickOf
    omega
  unfold whole
  rw [htake]
  obtain ⟨p, hpd⟩ : ∃ p : Fin 16384, p = ⟨pickOf A2 b.val (A3 (ValueIdx.ix1 b)).toNat, hp⟩ := ⟨_, rfl⟩
  have hpv : pickOf A2 b.val (A3 (ValueIdx.ix1 b)).toNat = p.val := by rw [hpd]
  rw [← hpd]
  have hsc := scores_spec A0 A1 A2 hv fg hfg
  have htp := tops_spec A0 A1 A2 hv fg hfg
  have hdiff : ∀ i : Fin 16384, (subf (scores A0 A1 A2) (Host.gather gather_S16_S16384x1_S16384_n_0_n_n_0_1_1 (tops A2 (scores A0 A1 A2)) (col A2)) (ValueIdx.ix1 i) : EReal)
      = scoreOf fg A1 A2 i.val - topOf fg A1 A2 (segOf A2 i.val) := by
    intro i
    show (scores A0 A1 A2 (ValueIdx.ix1 i) : EReal) - Host.gather gather_S16_S16384x1_S16384_n_0_n_n_0_1_1 (tops A2 (scores A0 A1 A2)) (col A2) (ValueIdx.ix1 i) = _
    rw [gather16_at A2 hv, hsc, htp, seg_at]
  clear htake hsel hI hpl hst hg
  generalize (subf (scores A0 A1 A2) (Host.gather gather_S16_S16384x1_S16384_n_0_n_n_0_1_1 (tops A2 (scores A0 A1 A2)) (col A2)) : FVec Ideal S16384 .f32) = D at hdiff ⊢
  show (D (ValueIdx.ix1 p) : EReal) - Host.gather gather_S16_S16384x1_S16384_n_0_n_n_0_1_1 (Host.log (masses A2 D)) (col A2) (ValueIdx.ix1 p) = _
  unfold answer
  rw [hpv]
  refine congrArg₂ (fun x y : EReal => x - y) (hdiff p) ?_
  have hlog : ∀ (x : FVec Ideal S16 .f32) (j : S16.Idx), (Host.log x j : EReal) = Ideal.log (x j) := fun _ _ => rfl
  rw [gather16_at A2 hv, hlog, masses_at]
  refine congrArg Ideal.log ?_
  unfold massOf Spec.expSum
  rw [Finset.sum_range]
  refine Finset.sum_congr rfl fun i _ => ?_
  rw [hdiff, seg_at, seg_at]
  show _ = if segOf A2 i.val = (A2 (ValueIdx.ix1 p)).toNat then _ else _
  rw [seg_at]
  by_cases h : (A2 (ValueIdx.ix1 i)).toNat = (A2 (ValueIdx.ix1 p)).toNat
  · rw [if_pos h, if_pos h, h]
  · rw [if_neg h, if_neg h]

end Cert.Proof.RefSide
-- ==== Proof.Algebraic.lean ====
/-
  The kernel and the reference compute the same values in exact arithmetic: both leave, for each segment, the answer that the
  candidates' scores give.
-/
module

public import proofs.«01_k».proof.Proof.Frames
public import proofs.«01_k».proof.Proof.MergeValue
public import proofs.«01_k».proof.Proof.RefValue
public import Idealize.ShloMosaic.Lib.ValueLayout

@[expose] public section

noncomputable section

namespace Cert.Proof

open Idealize.ShloMosaic Idealize.SL.Sem
open Idealize.ShloMosaic.SparseCore (T)

attribute [local instance] Cert.Kernel.Gen.facts Cert.KernelIdeal.Gen.facts Cert.ReferenceIdeal.Gen.facts Cert.Pre_ids_in_range.Gen.facts

/-! ## The kernel's side -/

section Kernel

open Cert.KernelIdeal Cert.KernelIdeal.Gen

theorem square_at {α : Type} (x : S16384.Idx → α) {p : ℕ} (hp : p < 16384) :
    shapeCast S128x128 x shapeCasts_S16384_S128x128 (qix p) = x (cix p) :=
  shapeCast_apply x _ _ _ (by
    rw [Shape.rowMajor_val_two, Shape.rowMajor_val_one]
    show p % 16384 = p / 128 % 128 * 128 + p % 128
    omega)

theorem flat_at (x : S16x128.Idx → Elt Ideal .f32) (b : Fin 16) (k : Fin 128) :
    gAt (fun i => shapeCast S2048 x shapeCasts_S16x128_S2048 i) (128 * b.val + k.val) = x (ValueIdx.ix2 b k) :=
  shapeCast_apply x _ _ _ (by
    rw [Shape.rowMajor_val_two, Shape.rowMajor_val_one]
    show b.val * 128 + k.val = (128 * b.val + k.val) % 2048
    omega)

variable (m : (ℓ : Loc nD τ sig) → Buf (Elt Ideal) ℓ) (hpre : PreOK m) (d : Dev nD)

/-- What the kernel leaves for segment `b`. -/
theorem result_val (ht : ∀ i : S16.Idx, ((at_ m d main_arg3 : S16.Idx → BitVec 32) i).toNat < 16384) (b : Fin 16) :
    (result m hpre d (ValueIdx.ix1 b) : EReal) = answer (flatM m d) (candM m d) (segM m d) b.val ((at_ m d main_arg3 : S16.Idx → BitVec 32) (ValueIdx.ix1 b)).toNat := by
  have hb := b.isLt
  obtain ⟨t, hT0⟩ : ∃ t, t = ((at_ m d main_arg3 : S16.Idx → BitVec 32) (ValueIdx.ix1 b)).toNat := ⟨_, rfl⟩
  have ht' : (tgtR m d (ValueIdx.ix2 (0 : Fin 1) b) : BitVec 32).toNat = t :=
    (congrArg BitVec.toNat (ValueIdx.shapeCast_a_1a_apply (at_ m d main_arg3 : S16.Idx → BitVec 32) shapeCasts_S16_S1x16 (0 : Fin 1) b)).trans hT0.symm
  rw [← hT0]
  have hs := hpre d
  have hp : pickOf (segM m d) b.val t < 16384 := by unfold pickOf; omega
  have hq : segOf (segM m d) (pickOf (segM m d) b.val t) = (segR m d (qix (pickOf (segM m d) b.val t)) : BitVec 32).toNat := by
    unfold segOf segR
    rw [square_at (segM m d) hp]
  have hq' : segOf (segM m d) (pickOf (segM m d) b.val t) < 16 := hs _
  have h := merge_val (cntM m d) (tgtR m d) (countOf (segM m d)) (fun c hc => size_join (segM m d) hc) (start_le (segM m d))
    (fun i => ht _) (logR m hpre d) (segR m d) (maxM m hpre d) (sumM m hpre d) (fun i => hs _) b _ _ (by rw [ht']; rfl) hq
  have e : (result m hpre d (ValueIdx.ix1 b) : EReal) = merged m hpre d (ValueIdx.ix2 (0 : Fin 1) b) :=
    ValueIdx.shapeCast_1a_a_apply (merged m hpre d) shapeCasts_S1x16_S16 b
  refine (e.trans h).trans ?_
  have hT := top_join (flatM m d) (candM m d) (segM m d) hs hq'
  have hM := mass_join (flatM m d) (candM m d) (segM m d) hs hq'
  unfold answer
  rw [← hT] at hM
  have hL : (logR m hpre d (qix (pickOf (segM m d) b.val t)) : EReal) = scoreOf (flatM m d) (candM m d) (segM m d) (pickOf (segM m d) b.val t) := by
    unfold logR
    rw [square_at (logM m hpre d) hp]
    exact log_val (flatM m d) (candM m d) (segM m d) hs _ hp
  exact congrArg₂ (fun x y : EReal => x - y) (congrArg₂ (fun x y : EReal => x - y) hL hT) (congrArg Ideal.log hM)

end Kernel

/-- The reference runs and leaves its arguments as they were, from inputs in range as from any. -/
theorem frame_reference_pre : Cert.quiescent_ReferenceIdeal_pre_ids_in_range := fun m ρ _ => frame_reference m ρ trivial

/-- The kernel and the reference end with equal results. -/
theorem algebraic : Cert.algebraic_KernelIdeal_ReferenceIdeal := fun m g m' g' hp ha => by
  have hpre : PreOK m := pre_ok m fun c j => congrFun (hp c) j
  refine ⟨fun c => result m hpre c, ?_, ?_⟩
  · exact (θ_run Cert.KernelIdeal.defs _ _).mono
      (fun _ h c => ⟨(h.1 c).2.2.2.2, (h.1 c).1, (h.1 c).2.1, (h.1 c).2.2.1, (h.1 c).2.2.2.1⟩)
      (run_main (F := Ideal) m g hpre)
  · refine (θ_run Cert.ReferenceIdeal.defs _ _).mono (fun r h c => ⟨(h c).1.trans ?_, (h c).2⟩)
      (Cert.ReferenceIdeal.Value.run (F := Ideal) m' g')
    obtain ⟨h0, h1, h2, h3⟩ := ha c
    have hz := (pre_reads fun j => congrFun (hp c) j).2
    refine (RefSide.res_eq m' c (by rw [h2]; exact hpre c)).trans ?_
    rw [h0, h1, h2, h3]
    funext i
    rw [ValueIdx.eq_ix1 i]
    exact (RefSide.whole_at _ _ _ _ (hpre c) (flatM m c) (fun b k => flat_at _ b k) hz (i 0)).trans (result_val m hpre c hz (i 0)).symm

end Cert.Proof

end
-- ==== Proof.lean ====
/-
  The claim: the kernel and the reference run and leave their arguments as they were, the kernel read over the extended
  reals is the kernel's own text, and over the extended reals the kernel and the reference end with equal results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_ids_in_range
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_ids_in_range.Gen.facts,
    frame_kernel, frame_ideal, frame_reference, frame_reference_pre, trivial, algebraic⟩

end Cert.Proof

end
